-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Experts [hPre_in_range : Cert.Pre_in_range.Facts] (m : (ℓ : Loc Cert.Experts.nD Cert.Experts.τ Cert.Experts.sig) → Buf (Elt Bits) ℓ) : Prop :=
  ∀ c : Dev Cert.Experts.nD,
    (Cert.Pre_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_in_range : Cert.Pre_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_BlocksIdeal (m : (ℓ : Loc Cert.BlocksIdeal.nD Cert.BlocksIdeal.τ Cert.BlocksIdeal.sig) → Buf (Elt Ideal) ℓ) : Prop :=
  True

def Pre_BlocksIdeal_in_range [hPre_in_range : Cert.Pre_in_range.Facts] (m : (ℓ : Loc Cert.BlocksIdeal.nD Cert.BlocksIdeal.τ Cert.BlocksIdeal.sig) → Buf (Elt Ideal) ℓ) : Prop :=
  ∀ c : Dev Cert.BlocksIdeal.nD,
    (Cert.Pre_in_range.fn (F := Ideal) (m ((c.tc : Thread Cert.BlocksIdeal.nD Cert.BlocksIdeal.τ).loc Cert.BlocksIdeal.main_arg0)) (m ((c.tc : Thread Cert.BlocksIdeal.nD Cert.BlocksIdeal.τ).loc Cert.BlocksIdeal.main_arg1)) (m ((c.tc : Thread Cert.BlocksIdeal.nD Cert.BlocksIdeal.τ).loc Cert.BlocksIdeal.main_arg2)) (m ((c.tc : Thread Cert.BlocksIdeal.nD Cert.BlocksIdeal.τ).loc Cert.BlocksIdeal.main_arg3)) (m ((c.tc : Thread Cert.BlocksIdeal.nD Cert.BlocksIdeal.τ).loc Cert.BlocksIdeal.main_arg4)) (m ((c.tc : Thread Cert.BlocksIdeal.nD Cert.BlocksIdeal.τ).loc Cert.BlocksIdeal.main_arg5)) (m ((c.tc : Thread Cert.BlocksIdeal.nD Cert.BlocksIdeal.τ).loc Cert.BlocksIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Experts [hExperts : Cert.Experts.Facts] [hPre_in_range : Cert.Pre_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_BlocksIdeal [hBlocksIdeal : Cert.BlocksIdeal.Facts] : Prop :=
  ∀ (m : (ℓ : Loc Cert.BlocksIdeal.nD Cert.BlocksIdeal.τ Cert.BlocksIdeal.sig) → Buf (Elt Ideal) ℓ) (g : Dev Cert.BlocksIdeal.nD → PrngReg), Pre_BlocksIdeal m →
    θ_run (Cert.BlocksIdeal.defs (F := Ideal)) (onTc (τ := Cert.BlocksIdeal.τ) (Cert.BlocksIdeal.main (F := Ideal))) ⟨m, fun _ => 0, g⟩ (fun r => (∀ c : Dev Cert.BlocksIdeal.nD,
      r.2.mem ((c.tc : Thread Cert.BlocksIdeal.nD Cert.BlocksIdeal.τ).loc Cert.BlocksIdeal.main_arg0) = m ((c.tc : Thread Cert.BlocksIdeal.nD Cert.BlocksIdeal.τ).loc Cert.BlocksIdeal.main_arg0)
      ∧ r.2.mem ((c.tc : Thread Cert.BlocksIdeal.nD Cert.BlocksIdeal.τ).loc Cert.BlocksIdeal.main_arg1) = m ((c.tc : Thread Cert.BlocksIdeal.nD Cert.BlocksIdeal.τ).loc Cert.BlocksIdeal.main_arg1)
      ∧ r.2.mem ((c.tc : Thread Cert.BlocksIdeal.nD Cert.BlocksIdeal.τ).loc Cert.BlocksIdeal.main_arg2) = m ((c.tc : Thread Cert.BlocksIdeal.nD Cert.BlocksIdeal.τ).loc Cert.BlocksIdeal.main_arg2)
      ∧ r.2.mem ((c.tc : Thread Cert.BlocksIdeal.nD Cert.BlocksIdeal.τ).loc Cert.BlocksIdeal.main_arg3) = m ((c.tc : Thread Cert.BlocksIdeal.nD Cert.BlocksIdeal.τ).loc Cert.BlocksIdeal.main_arg3)
      ∧ r.2.mem ((c.tc : Thread Cert.BlocksIdeal.nD Cert.BlocksIdeal.τ).loc Cert.BlocksIdeal.main_arg4) = m ((c.tc : Thread Cert.BlocksIdeal.nD Cert.BlocksIdeal.τ).loc Cert.BlocksIdeal.main_arg4)
      ∧ r.2.mem ((c.tc : Thread Cert.BlocksIdeal.nD Cert.BlocksIdeal.τ).loc Cert.BlocksIdeal.main_arg5) = m ((c.tc : Thread Cert.BlocksIdeal.nD Cert.BlocksIdeal.τ).loc Cert.BlocksIdeal.main_arg5)
      ∧ r.2.mem ((c.tc : Thread Cert.BlocksIdeal.nD Cert.BlocksIdeal.τ).loc Cert.BlocksIdeal.main_arg6) = m ((c.tc : Thread Cert.BlocksIdeal.nD Cert.BlocksIdeal.τ).loc Cert.BlocksIdeal.main_arg6))
      ∧ r.2.sem = fun _ => 0)

def quiescent_BlocksIdeal_pre_in_range [hBlocksIdeal : Cert.BlocksIdeal.Facts] [hPre_in_range : Cert.Pre_in_range.Facts] : Prop :=
  ∀ (m : (ℓ : Loc Cert.BlocksIdeal.nD Cert.BlocksIdeal.τ Cert.BlocksIdeal.sig) → Buf (Elt Ideal) ℓ) (g : Dev Cert.BlocksIdeal.nD → PrngReg), Pre_BlocksIdeal_in_range m →
    θ_run (Cert.BlocksIdeal.defs (F := Ideal)) (onTc (τ := Cert.BlocksIdeal.τ) (Cert.BlocksIdeal.main (F := Ideal))) ⟨m, fun _ => 0, g⟩ (fun r => (∀ c : Dev Cert.BlocksIdeal.nD,
      r.2.mem ((c.tc : Thread Cert.BlocksIdeal.nD Cert.BlocksIdeal.τ).loc Cert.BlocksIdeal.main_arg0) = m ((c.tc : Thread Cert.BlocksIdeal.nD Cert.BlocksIdeal.τ).loc Cert.BlocksIdeal.main_arg0)
      ∧ r.2.mem ((c.tc : Thread Cert.BlocksIdeal.nD Cert.BlocksIdeal.τ).loc Cert.BlocksIdeal.main_arg1) = m ((c.tc : Thread Cert.BlocksIdeal.nD Cert.BlocksIdeal.τ).loc Cert.BlocksIdeal.main_arg1)
      ∧ r.2.mem ((c.tc : Thread Cert.BlocksIdeal.nD Cert.BlocksIdeal.τ).loc Cert.BlocksIdeal.main_arg2) = m ((c.tc : Thread Cert.BlocksIdeal.nD Cert.BlocksIdeal.τ).loc Cert.BlocksIdeal.main_arg2)
      ∧ r.2.mem ((c.tc : Thread Cert.BlocksIdeal.nD Cert.BlocksIdeal.τ).loc Cert.BlocksIdeal.main_arg3) = m ((c.tc : Thread Cert.BlocksIdeal.nD Cert.BlocksIdeal.τ).loc Cert.BlocksIdeal.main_arg3)
      ∧ r.2.mem ((c.tc : Thread Cert.BlocksIdeal.nD Cert.BlocksIdeal.τ).loc Cert.BlocksIdeal.main_arg4) = m ((c.tc : Thread Cert.BlocksIdeal.nD Cert.BlocksIdeal.τ).loc Cert.BlocksIdeal.main_arg4)
      ∧ r.2.mem ((c.tc : Thread Cert.BlocksIdeal.nD Cert.BlocksIdeal.τ).loc Cert.BlocksIdeal.main_arg5) = m ((c.tc : Thread Cert.BlocksIdeal.nD Cert.BlocksIdeal.τ).loc Cert.BlocksIdeal.main_arg5)
      ∧ r.2.mem ((c.tc : Thread Cert.BlocksIdeal.nD Cert.BlocksIdeal.τ).loc Cert.BlocksIdeal.main_arg6) = m ((c.tc : Thread Cert.BlocksIdeal.nD Cert.BlocksIdeal.τ).loc Cert.BlocksIdeal.main_arg6))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v221) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Experts_ExpertsIdeal : Prop :=
  True

def algebraic_ExpertsIdeal_BlocksIdeal [hExpertsIdeal : Cert.ExpertsIdeal.Facts] [hBlocksIdeal : Cert.BlocksIdeal.Facts] [hPre_in_range : Cert.Pre_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.BlocksIdeal.nD Cert.BlocksIdeal.τ Cert.BlocksIdeal.sig) → Buf (Elt Ideal) ℓ) (g' : Dev Cert.BlocksIdeal.nD → PrngReg), Pre_ExpertsIdeal m →
    (∀ c : Dev Cert.ExpertsIdeal.nD,
      m' ((c.tc : Thread Cert.BlocksIdeal.nD Cert.BlocksIdeal.τ).loc Cert.BlocksIdeal.main_arg0) = m ((c.tc : Thread Cert.ExpertsIdeal.nD Cert.ExpertsIdeal.τ).loc Cert.ExpertsIdeal.main_arg0)
      ∧ m' ((c.tc : Thread Cert.BlocksIdeal.nD Cert.BlocksIdeal.τ).loc Cert.BlocksIdeal.main_arg1) = m ((c.tc : Thread Cert.ExpertsIdeal.nD Cert.ExpertsIdeal.τ).loc Cert.ExpertsIdeal.main_arg1)
      ∧ m' ((c.tc : Thread Cert.BlocksIdeal.nD Cert.BlocksIdeal.τ).loc Cert.BlocksIdeal.main_arg2) = m ((c.tc : Thread Cert.ExpertsIdeal.nD Cert.ExpertsIdeal.τ).loc Cert.ExpertsIdeal.main_arg2)
      ∧ m' ((c.tc : Thread Cert.BlocksIdeal.nD Cert.BlocksIdeal.τ).loc Cert.BlocksIdeal.main_arg3) = m ((c.tc : Thread Cert.ExpertsIdeal.nD Cert.ExpertsIdeal.τ).loc Cert.ExpertsIdeal.main_arg3)
      ∧ m' ((c.tc : Thread Cert.BlocksIdeal.nD Cert.BlocksIdeal.τ).loc Cert.BlocksIdeal.main_arg4) = m ((c.tc : Thread Cert.ExpertsIdeal.nD Cert.ExpertsIdeal.τ).loc Cert.ExpertsIdeal.main_arg4)
      ∧ m' ((c.tc : Thread Cert.BlocksIdeal.nD Cert.BlocksIdeal.τ).loc Cert.BlocksIdeal.main_arg5) = m ((c.tc : Thread Cert.ExpertsIdeal.nD Cert.ExpertsIdeal.τ).loc Cert.ExpertsIdeal.main_arg5)
      ∧ m' ((c.tc : Thread Cert.BlocksIdeal.nD Cert.BlocksIdeal.τ).loc Cert.BlocksIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v2)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v2) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.BlocksIdeal.defs (F := Ideal)) (onTc (τ := Cert.BlocksIdeal.τ) (Cert.BlocksIdeal.main (F := Ideal))) ⟨m', fun _ => 0, g'⟩ (fun r => ∀ c : Dev Cert.BlocksIdeal.nD,
          r.2.mem ((c.tc : Thread Cert.BlocksIdeal.nD Cert.BlocksIdeal.τ).loc Cert.BlocksIdeal.main_v60) = v0 c
          ∧ r.2.mem ((c.tc : Thread Cert.BlocksIdeal.nD Cert.BlocksIdeal.τ).loc Cert.BlocksIdeal.main_arg0) = m' ((c.tc : Thread Cert.BlocksIdeal.nD Cert.BlocksIdeal.τ).loc Cert.BlocksIdeal.main_arg0)
          ∧ r.2.mem ((c.tc : Thread Cert.BlocksIdeal.nD Cert.BlocksIdeal.τ).loc Cert.BlocksIdeal.main_arg1) = m' ((c.tc : Thread Cert.BlocksIdeal.nD Cert.BlocksIdeal.τ).loc Cert.BlocksIdeal.main_arg1)
          ∧ r.2.mem ((c.tc : Thread Cert.BlocksIdeal.nD Cert.BlocksIdeal.τ).loc Cert.BlocksIdeal.main_arg2) = m' ((c.tc : Thread Cert.BlocksIdeal.nD Cert.BlocksIdeal.τ).loc Cert.BlocksIdeal.main_arg2)
          ∧ r.2.mem ((c.tc : Thread Cert.BlocksIdeal.nD Cert.BlocksIdeal.τ).loc Cert.BlocksIdeal.main_arg3) = m' ((c.tc : Thread Cert.BlocksIdeal.nD Cert.BlocksIdeal.τ).loc Cert.BlocksIdeal.main_arg3)
          ∧ r.2.mem ((c.tc : Thread Cert.BlocksIdeal.nD Cert.BlocksIdeal.τ).loc Cert.BlocksIdeal.main_arg4) = m' ((c.tc : Thread Cert.BlocksIdeal.nD Cert.BlocksIdeal.τ).loc Cert.BlocksIdeal.main_arg4)
          ∧ r.2.mem ((c.tc : Thread Cert.BlocksIdeal.nD Cert.BlocksIdeal.τ).loc Cert.BlocksIdeal.main_arg5) = m' ((c.tc : Thread Cert.BlocksIdeal.nD Cert.BlocksIdeal.τ).loc Cert.BlocksIdeal.main_arg5)
          ∧ r.2.mem ((c.tc : Thread Cert.BlocksIdeal.nD Cert.BlocksIdeal.τ).loc Cert.BlocksIdeal.main_arg6) = m' ((c.tc : Thread Cert.BlocksIdeal.nD Cert.BlocksIdeal.τ).loc Cert.BlocksIdeal.main_arg6))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hBlocksIdeal : Cert.BlocksIdeal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Experts (hExperts := hExperts) (hPre_in_range := hPre_in_range)
    ∧ quiescent_ExpertsIdeal (hExpertsIdeal := hExpertsIdeal) (hPre_in_range := hPre_in_range)
    ∧ quiescent_BlocksIdeal (hBlocksIdeal := hBlocksIdeal)
    ∧ quiescent_BlocksIdeal_pre_in_range (hBlocksIdeal := hBlocksIdeal) (hPre_in_range := hPre_in_range)
    ∧ preserves_Kernel_KernelIdeal
    ∧ algebraic_KernelIdeal_ReferenceIdeal_pre_finite (hKernelIdeal := hKernelIdeal) (hReferenceIdeal := hReferenceIdeal) (hPre_finite := hPre_finite)
    ∧ preserves_Experts_ExpertsIdeal
    ∧ algebraic_ExpertsIdeal_BlocksIdeal (hExpertsIdeal := hExpertsIdeal) (hBlocksIdeal := hBlocksIdeal) (hPre_in_range := hPre_in_range)
-- ==== Pre_finite.lean ====
abbrev S4x8192x8x64 : Shape := ⟨4, ![4, 8192, 8, 64]⟩
abbrev S4x511x2x64 : Shape := ⟨4, ![4, 511, 2, 64]⟩
abbrev S4x8192x2x64 : Shape := ⟨4, ![4, 8192, 2, 64]⟩
abbrev S4x8192x24 : Shape := ⟨3, ![4, 8192, 24]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x511x2x64 : S_.BroadcastsInDim S4x511x2x64 (![] : Fin 0 → Fin S4x511x2x64.rank)
  reducesTo_S4x511x2x64_S_d0_1_2_3 : S4x511x2x64.ReducesTo [0, 1, 2, 3] S_
  bcast_S_S4x8192x2x64 : S_.BroadcastsInDim S4x8192x2x64 (![] : Fin 0 → Fin S4x8192x2x64.rank)
  reducesTo_S4x8192x2x64_S_d0_1_2_3 : S4x8192x2x64.ReducesTo [0, 1, 2, 3] S_

variable [Facts]

def fn_part1 {F : FTy → Type} [FloatOps F] (main_v13 : IVec S_ 1) (main_v16 : IVec S4x8192x2x64 1) : IVec S_ 1 :=
  let main_c_5 : IVec S_ 1 := constantI S_ 1 1#1
  let main_v17 : IVec S_ 1 := (fun x v => Host.reduce IntOp.andi x v reducesTo_S4x8192x2x64_S_d0_1_2_3 h_S_) main_v16 main_c_5
  let main_v18 : IVec S_ 1 := andi main_v13 main_v17
  main_v18

def fn {F : FTy → Type} [FloatOps F] (main_arg0 : FVec F S4x8192x8x64 .f32) (main_arg1 : FVec F S4x511x2x64 .f32) (main_arg2 : FVec F S4x511x2x64 .f32) (main_arg3 : FVec F S4x8192x2x64 .f32) (main_arg4 : FVec F S4x8192x2x64 .f32) (main_arg5 : FVec F S4x8192x2x64 .f32) (main_arg6 : FVec F S4x8192x2x64 .f32) (main_arg7 : FVec F S4x8192x24 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x511x2x64 .f32 := Host.absf main_arg1
  let main_cst_0 : FVec F S_ .f32 := constant S_ .f32 0x7F800000#32
  let main_v5 : FVec F S4x511x2x64 .f32 := broadcastInDim S4x511x2x64 ![] bcast_S_S4x511x2x64 main_cst_0
  let main_v6 : IVec S4x511x2x64 1 := cmpf .olt main_v4 main_v5
  let main_c_1 : IVec S_ 1 := constantI S_ 1 1#1
  let main_v7 : IVec S_ 1 := (fun x v => Host.reduce IntOp.andi x v reducesTo_S4x511x2x64_S_d0_1_2_3 h_S_) main_v6 main_c_1
  let main_v8 : IVec S_ 1 := andi main_v3 main_v7
  let main_v9 : FVec F S4x8192x2x64 .f32 := Host.absf main_arg3
  let main_cst_2 : FVec F S_ .f32 := constant S_ .f32 0x7F800000#32
  let main_v10 : FVec F S4x8192x2x64 .f32 := broadcastInDim S4x8192x2x64 ![] bcast_S_S4x8192x2x64 main_cst_2
  let main_v11 : IVec S4x8192x2x64 1 := cmpf .olt main_v9 main_v10
  let main_c_3 : IVec S_ 1 := constantI S_ 1 1#1
  let main_v12 : IVec S_ 1 := (fun x v => Host.reduce IntOp.andi x v reducesTo_S4x8192x2x64_S_d0_1_2_3 h_S_) main_v11 main_c_3
  let main_v13 : IVec S_ 1 := andi main_v8 main_v12
  let main_v14 : FVec F S4x8192x2x64 .f32 := Host.absf main_arg5
  let main_cst_4 : FVec F S_ .f32 := constant S_ .f32 0x7F800000#32
  let main_v15 : FVec F S4x8192x2x64 .f32 := broadcastInDim S4x8192x2x64 ![] bcast_S_S4x8192x2x64 main_cst_4
  let main_v16 : IVec S4x8192x2x64 1 := cmpf .olt main_v14 main_v15
  fn_part1 (F := F) main_v13 main_v16
-- ==== Pre_in_range.lean ====
abbrev S288 : Shape := ⟨1, ![288]⟩
abbrev S1 : Shape := ⟨1, ![1]⟩
abbrev S147456x1024 : Shape := ⟨2, ![147456, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel

variable [Facts]

def fn {F : FTy → Type} [FloatOps F] (main_arg0 : IVec S288 32) (main_arg1 : IVec S1 32) (main_arg2 : FVec F S147456x1024 .f32) (main_arg3 : FVec F S32x1024x2048 .f32) (main_arg4 : FVec F S32x2048 .f32) (main_arg5 : FVec F S32x1024x1024 .f32) (main_arg6 : FVec F S32x1024 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  main_v5
-- ==== Kernel.lean ====
abbrev S4x8192x8x64 : Shape := ⟨4, ![4, 8192, 8, 64]⟩
abbrev S4x511x2x64 : Shape := ⟨4, ![4, 511, 2, 64]⟩
abbrev S4x8192x2x64 : Shape := ⟨4, ![4, 8192, 2, 64]⟩
abbrev S4x8192x24 : Shape := ⟨3, ![4, 8192, 24]⟩
abbrev S4x8192x512 : Shape := ⟨3, ![4, 8192, 512]⟩
abbrev S4x512x8192 : Shape := ⟨3, ![4, 512, 8192]⟩
abbrev S4x8192x128 : Shape := ⟨3, ![4, 8192, 128]⟩
abbrev S4x8192x256 : Shape := ⟨3, ![4, 8192, 256]⟩
abbrev S4x256x8192 : Shape := ⟨3, ![4, 256, 8192]⟩
abbrev S_ : Shape := ⟨0, ![]⟩
abbrev S4x512x2x64 : Shape := ⟨4, ![4, 512, 2, 64]⟩
abbrev S4x2x512x64 : Shape := ⟨4, ![4, 2, 512, 64]⟩
abbrev S4x2x64x512 : Shape := ⟨4, ![4, 2, 64, 512]⟩
abbrev S4x128x8192 : Shape := ⟨3, ![4, 128, 8192]⟩
abbrev S512 : Shape := ⟨1, ![512]⟩
abbrev S1x512 : Shape := ⟨2, ![1, 512]⟩
abbrev S128 : Shape := ⟨1, ![128]⟩
abbrev S128x1 : Shape := ⟨2, ![128, 1]⟩
abbrev S128x512 : Shape := ⟨2, ![128, 512]⟩
abbrev S1x512x256 : Shape := ⟨3, ![1, 512, 256]⟩
abbrev S1x8192x256 : Shape := ⟨3, ![1, 8192, 256]⟩
abbrev S1x256x8192 : Shape := ⟨3, ![1, 256, 8192]⟩
abbrev S1x2x512x64 : Shape := ⟨4, ![1, 2, 512, 64]⟩
abbrev S1x2x64x512 : Shape := ⟨4, ![1, 2, 64, 512]⟩
abbrev S1x128x256 : Shape := ⟨3, ![1, 128, 256]⟩
abbrev S1x256 : Shape := ⟨2, ![1, 256]⟩
abbrev S1x1024 : Shape := ⟨2, ![1, 1024]⟩
abbrev S128x256 : Shape := ⟨2, ![128, 256]⟩
abbrev S512x1 : Shape := ⟨2, ![512, 1]⟩
abbrev S512x1024 : Shape := ⟨2, ![512, 1024]⟩
abbrev S64x1024 : Shape := ⟨2, ![64, 1024]⟩
abbrev S1x64x256 : Shape := ⟨3, ![1, 64, 256]⟩
abbrev S64x256 : Shape := ⟨2, ![64, 256]⟩
abbrev S128x1024 : Shape := ⟨2, ![128, 1024]⟩
abbrev S1x1x512x64 : Shape := ⟨4, ![1, 1, 512, 64]⟩
abbrev S512x64 : Shape := ⟨2, ![512, 64]⟩
abbrev S1024 : Shape := ⟨1, ![1024]⟩
abbrev S1x1x64x512 : Shape := ⟨4, ![1, 1, 64, 512]⟩
abbrev S64x512 : Shape := ⟨2, ![64, 512]⟩
abbrev S512x256 : Shape := ⟨2, ![512, 256]⟩
abbrev S1x1x384x64 : Shape := ⟨4, ![1, 1, 384, 64]⟩
abbrev S384x64 : Shape := ⟨2, ![384, 64]⟩
abbrev S384x1024 : Shape := ⟨2, ![384, 1024]⟩
abbrev S1x1x64x384 : Shape := ⟨4, ![1, 1, 64, 384]⟩
abbrev S64x384 : Shape := ⟨2, ![64, 384]⟩
abbrev S384x256 : Shape := ⟨2, ![384, 256]⟩
abbrev S128x384 : Shape := ⟨2, ![128, 384]⟩
abbrev S1x1x256x64 : Shape := ⟨4, ![1, 1, 256, 64]⟩
abbrev S256x64 : Shape := ⟨2, ![256, 64]⟩
abbrev S256x1024 : Shape := ⟨2, ![256, 1024]⟩
abbrev S1x1x64x256 : Shape := ⟨4, ![1, 1, 64, 256]⟩
abbrev S256x256 : Shape := ⟨2, ![256, 256]⟩
abbrev S1x1x128x64 : Shape := ⟨4, ![1, 1, 128, 64]⟩
abbrev S128x64 : Shape := ⟨2, ![128, 64]⟩
abbrev S1x1x64x128 : Shape := ⟨4, ![1, 1, 64, 128]⟩
abbrev S64x128 : Shape := ⟨2, ![64, 128]⟩
abbrev S128x128 : Shape := ⟨2, ![128, 128]⟩
abbrev S128x2048 : Shape := ⟨2, ![128, 2048]⟩
abbrev S80x1024 : Shape := ⟨2, ![80, 1024]⟩
abbrev S16x512 : Shape := ⟨2, ![16, 512]⟩
abbrev S1x512x128 : Shape := ⟨3, ![1, 512, 128]⟩
abbrev S512x128 : Shape := ⟨2, ![512, 128]⟩
abbrev S1x64x512 : Shape := ⟨3, ![1, 64, 512]⟩
abbrev S80x512 : Shape := ⟨2, ![80, 512]⟩
abbrev S80x2048 : Shape := ⟨2, ![80, 2048]⟩
abbrev S64x2048 : Shape := ⟨2, ![64, 2048]⟩
abbrev S1x2048 : Shape := ⟨2, ![1, 2048]⟩
abbrev S768x1 : Shape := ⟨2, ![768, 1]⟩
abbrev S768x256 : Shape := ⟨2, ![768, 256]⟩
abbrev S16x768 : Shape := ⟨2, ![16, 768]⟩
abbrev S1x768x128 : Shape := ⟨3, ![1, 768, 128]⟩
abbrev S768x128 : Shape := ⟨2, ![768, 128]⟩
abbrev S1x64x768 : Shape := ⟨3, ![1, 64, 768]⟩
abbrev S64x768 : Shape := ⟨2, ![64, 768]⟩
abbrev S80x768 : Shape := ⟨2, ![80, 768]⟩
abbrev S768x1024 : Shape := ⟨2, ![768, 1024]⟩

abbrev nBuf : Space → Nat
  | .hbm => 65
  | .vmem => 15
  | .smem => 0
  | _ => 0

abbrev bufTy : (tb : Table) → Fin (tcTables nBuf tb) → BufTy
  | .hbm, ⟨0, _⟩ => ⟨S4x8192x8x64, .f32⟩
  | .hbm, ⟨1, _⟩ => ⟨S4x511x2x64, .f32⟩
  | .hbm, ⟨2, _⟩ => ⟨S4x511x2x64, .f32⟩
  | .hbm, ⟨3, _⟩ => ⟨S4x8192x2x64, .f32⟩
  | .hbm, ⟨4, _⟩ => ⟨S4x8192x2x64, .f32⟩
  | .hbm, ⟨5, _⟩ => ⟨S4x8192x2x64, .f32⟩
  | .hbm, ⟨6, _⟩ => ⟨S4x8192x2x64, .f32⟩
  | .hbm, ⟨7, _⟩ => ⟨S4x8192x24, .f32⟩
  | .hbm, ⟨8, _⟩ => ⟨S4x8192x512, .f32⟩
  | .hbm, ⟨9, _⟩ => ⟨S4x512x8192, .f32⟩
  | .hbm, ⟨10, _⟩ => ⟨S4x8192x128, .f32⟩
  | .hbm, ⟨11, _⟩ => ⟨S4x8192x128, .f32⟩
  | .hbm, ⟨12, _⟩ => ⟨S4x8192x256, .f32⟩
  | .hbm, ⟨13, _⟩ => ⟨S4x8192x256, .bf16⟩
  | .hbm, ⟨14, _⟩ => ⟨S4x8192x128, .f32⟩
  | .hbm, ⟨15, _⟩ => ⟨S4x8192x128, .f32⟩
  | .hbm, ⟨16, _⟩ => ⟨S4x8192x256, .f32⟩
  | .hbm, ⟨17, _⟩ => ⟨S4x256x8192, .f32⟩
  | .hbm, ⟨18, _⟩ => ⟨S4x256x8192, .bf16⟩
  | .hbm, ⟨19, _⟩ => ⟨S_, .i32⟩
  | .hbm, ⟨20, _⟩ => ⟨S_, .f32⟩
  | .hbm, ⟨21, _⟩ => ⟨S4x512x2x64, .f32⟩
  | .hbm, ⟨22, _⟩ => ⟨S4x2x512x64, .f32⟩
  | .hbm, ⟨23, _⟩ => ⟨S4x2x512x64, .bf16⟩
  | .hbm, ⟨24, _⟩ => ⟨S_, .i32⟩
  | .hbm, ⟨25, _⟩ => ⟨S_, .f32⟩
  | .hbm, ⟨26, _⟩ => ⟨S4x512x2x64, .f32⟩
  | .hbm, ⟨27, _⟩ => ⟨S4x2x64x512, .f32⟩
  | .hbm, ⟨28, _⟩ => ⟨S4x2x64x512, .bf16⟩
  | .hbm, ⟨29, _⟩ => ⟨S_, .i32⟩
  | .hbm, ⟨30, _⟩ => ⟨S_, .f32⟩
  | .hbm, ⟨31, _⟩ => ⟨S4x8192x128, .f32⟩
  | .hbm, ⟨32, _⟩ => ⟨S4x128x8192, .f32⟩
  | .hbm, ⟨33, _⟩ => ⟨S512, .i32⟩
  | .hbm, ⟨34, _⟩ => ⟨S1x512, .i32⟩
  | .hbm, ⟨35, _⟩ => ⟨S_, .i32⟩
  | .hbm, ⟨36, _⟩ => ⟨S1x512, .i32⟩
  | .hbm, ⟨37, _⟩ => ⟨S1x512, .i32⟩
  | .hbm, ⟨38, _⟩ => ⟨S128, .i32⟩
  | .hbm, ⟨39, _⟩ => ⟨S128x1, .i32⟩
  | .hbm, ⟨40, _⟩ => ⟨S_, .i32⟩
  | .hbm, ⟨41, _⟩ => ⟨S128x1, .i32⟩
  | .hbm, ⟨42, _⟩ => ⟨S128x1, .i32⟩
  | .hbm, ⟨43, _⟩ => ⟨S_, .i32⟩
  | .hbm, ⟨44, _⟩ => ⟨S1x512, .i32⟩
  | .hbm, ⟨45, _⟩ => ⟨S1x512, .i32⟩
  | .hbm, ⟨46, _⟩ => ⟨S_, .i32⟩
  | .hbm, ⟨47, _⟩ => ⟨S128x1, .i32⟩
  | .hbm, ⟨48, _⟩ => ⟨S128x1, .i32⟩
  | .hbm, ⟨49, _⟩ => ⟨S128x512, .i32⟩
  | .hbm, ⟨50, _⟩ => ⟨S128x512, .i32⟩
  | .hbm, ⟨51, _⟩ => ⟨S128x512, .i32⟩
  | .hbm, ⟨52, _⟩ => ⟨S128x512, .i32⟩
  | .hbm, ⟨53, _⟩ => ⟨S128x512, .i32⟩
  | .hbm, ⟨54, _⟩ => ⟨S128x512, .i32⟩
  | .hbm, ⟨55, _⟩ => ⟨S128x512, .i32⟩
  | .hbm, ⟨56, _⟩ => ⟨S_, .i32⟩
  | .hbm, ⟨57, _⟩ => ⟨S128x512, .i32⟩
  | .hbm, ⟨58, _⟩ => ⟨S128x512, .i32⟩
  | .hbm, ⟨59, _⟩ => ⟨S128x512, .f32⟩
  | .hbm, ⟨60, _⟩ => ⟨S_, .f32⟩
  | .hbm, ⟨61, _⟩ => ⟨S128x512, .f32⟩
  | .hbm, ⟨62, _⟩ => ⟨S128x512, .f32⟩
  | .hbm, ⟨63, _⟩ => ⟨S128x512, .bf16⟩
  | .hbm, ⟨64, _⟩ => ⟨S4x512x8192, .f32⟩
  | .local _ .vmem, ⟨0, _⟩ => ⟨S1x512x256, .f32⟩
  | .local _ .vmem, ⟨1, _⟩ => ⟨S1x512x256, .f32⟩
  | .local _ .vmem, ⟨2, _⟩ => ⟨S1x8192x256, .bf16⟩
  | .local _ .vmem, ⟨3, _⟩ => ⟨S1x8192x256, .bf16⟩
  | .local _ .vmem, ⟨4, _⟩ => ⟨S1x256x8192, .bf16⟩
  | .local _ .vmem, ⟨5, _⟩ => ⟨S1x256x8192, .bf16⟩
  | .local _ .vmem, ⟨6, _⟩ => ⟨S1x2x512x64, .bf16⟩
  | .local _ .vmem, ⟨7, _⟩ => ⟨S1x2x512x64, .bf16⟩
  | .local _ .vmem, ⟨8, _⟩ => ⟨S1x2x64x512, .bf16⟩
  | .local _ .vmem, ⟨9, _⟩ => ⟨S1x2x64x512, .bf16⟩
  | .local _ .vmem, ⟨10, _⟩ => ⟨S128x512, .bf16⟩
  | .local _ .vmem, ⟨11, _⟩ => ⟨S1x128x256, .f32⟩
  | .local _ .vmem, ⟨12, _⟩ => ⟨S1x128x256, .f32⟩
  | .local _ .vmem, ⟨13, _⟩ => ⟨S1x512x256, .f32⟩
  | .local _ .vmem, ⟨14, _⟩ => ⟨S1x512x256, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_0 : Ref sig .tc := ⟨.hbm, 24, rfl⟩
abbrev main_call1_v0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_call2_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_3 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![4, 32], ![false, false]⟩

@[reducible] def k0_t1_loop (i : grid0.Coords) : Scf.Loop 32 :=
  let c0_i32_139 : BitVec 32 := 0#32
  let arg1 : BitVec 32 := BitVec.ofNat 32 (i 1).val
  let c256_i32 : BitVec 32 := 256#32
  let v0 : BitVec 32 := Scalar.muli arg1 c256_i32
  let c1_i32_132 : BitVec 32 := 1#32
  let v364 : BitVec 32 := Scalar.addi v0 c1_i32_132
  let c0_i32_133 : BitVec 32 := 0#32
  let v366 : BitVec 1 := Scalar.cmpi .sgt v364 c0_i32_133
  let v367 : BitVec 32 := Scalar.extui v366
  let c0_i32_134 : BitVec 32 := 0#32
  let v368 : BitVec 1 := Scalar.cmpi .slt v364 c0_i32_134
  let v369 : BitVec 32 := Scalar.extui v368
  let v370 : BitVec 32 := Scalar.subi v367 v369
  let c512_i32 : BitVec 32 := 512#32
  let c0_i32_135 : BitVec 32 := 0#32
  let v371 : BitVec 1 := Scalar.cmpi .sgt c512_i32 c0_i32_135
  let v372 : BitVec 32 := Scalar.extui v371
  let c0_i32_136 : BitVec 32 := 0#32
  let v373 : BitVec 1 := Scalar.cmpi .slt c512_i32 c0_i32_136
  let v374 : BitVec 32 := Scalar.extui v373
  let v375 : BitVec 32 := Scalar.subi v372 v374
  let v376 : BitVec 1 := Scalar.cmpi .ne v370 v375
  let v377 : BitVec 32 := Scalar.remsi v364 c512_i32
  let c0_i32_137 : BitVec 32 := 0#32
  let v378 : BitVec 1 := Scalar.cmpi .ne v377 c0_i32_137
  let v379 : BitVec 1 := Scalar.andi v376 v378
  let v365 : BitVec 32 := Scalar.divsi v364 c512_i32
  let c1_i32_138 : BitVec 32 := 1#32
  let v380 : BitVec 32 := Scalar.subi v365 c1_i32_138
  let v381 : BitVec 32 := Scalar.select v379 v380 v365
  let v382 : BitVec 32 := Scalar.subi v381 c0_i32_139
  let c1_i32_140 : BitVec 32 := 1#32
  let v384 : BitVec 32 := Scalar.divsi v382 c1_i32_140
  let v385 : BitVec 32 := Scalar.muli v384 c1_i32_140
  let v386 : BitVec 32 := Scalar.addi c0_i32_139 v385
  let c1_i32_141 : BitVec 32 := 1#32
  ⟨c0_i32_139, v386, c1_i32_141⟩
def k0_mult1 (i : grid0.Coords) (k0_t1 : Fin (k0_t1_loop i).trips) : BitVec 32 :=
  let c0_i32_139 : BitVec 32 := 0#32
  let c1_i32_141 : BitVec 32 := 1#32
  let arg10 : BitVec 32 := Scf.iv c0_i32_139 c1_i32_141 k0_t1
  let c512_i32_204 : BitVec 32 := 512#32
  let v669 : BitVec 32 := Scalar.muli arg10 c512_i32_204
  v669
def k0_off1 (i : grid0.Coords) (k0_t1 : Fin (k0_t1_loop i).trips) : Fin 3 → Nat :=
  let c0_207 : Index := 0#32
  let c0_i32_139 : BitVec 32 := 0#32
  let c1_i32_141 : BitVec 32 := 1#32
  let arg10 : BitVec 32 := Scf.iv c0_i32_139 c1_i32_141 k0_t1
  let c512_i32_204 : BitVec 32 := 512#32
  let v669 : BitVec 32 := Scalar.muli arg10 c512_i32_204
  let v670 : BitVec 32 := v669
  let v673 : Index := Scalar.indexCast v670
  let c0_208 : Index := 0#32
  ![0, v673.toNat, 0]
def k0_off2 (i : grid0.Coords) (k0_t1 : Fin (k0_t1_loop i).trips) : Fin 3 → Nat :=
  let c0_210 : Index := 0#32
  let c0_211 : Index := 0#32
  let c0_i32_139 : BitVec 32 := 0#32
  let c1_i32_141 : BitVec 32 := 1#32
  let arg10 : BitVec 32 := Scf.iv c0_i32_139 c1_i32_141 k0_t1
  let c512_i32_204 : BitVec 32 := 512#32
  let v669 : BitVec 32 := Scalar.muli arg10 c512_i32_204
  let v670 : BitVec 32 := v669
  let v687 : Index := Scalar.indexCast v670
  ![0, 0, v687.toNat]
def k0_off3 (i : grid0.Coords) (k0_t1 : Fin (k0_t1_loop i).trips) : Fin 3 → Nat :=
  let c0_212 : Index := 0#32
  let c64_213 : Index := 64#32
  let c0_i32_139 : BitVec 32 := 0#32
  let c1_i32_141 : BitVec 32 := 1#32
  let arg10 : BitVec 32 := Scf.iv c0_i32_139 c1_i32_141 k0_t1
  let c512_i32_204 : BitVec 32 := 512#32
  let v669 : BitVec 32 := Scalar.muli arg10 c512_i32_204
  let v670 : BitVec 32 := v669
  let v691 : Index := Scalar.indexCast v670
  ![0, 64, v691.toNat]
@[reducible] def k0_t2_loop (i : grid0.Coords) : Scf.Loop 32 :=
  let c0_i32_139 : BitVec 32 := 0#32
  let arg1 : BitVec 32 := BitVec.ofNat 32 (i 1).val
  let c256_i32 : BitVec 32 := 256#32
  let v0 : BitVec 32 := Scalar.muli arg1 c256_i32
  let c1_i32_132 : BitVec 32 := 1#32
  let v364 : BitVec 32 := Scalar.addi v0 c1_i32_132
  let c0_i32_133 : BitVec 32 := 0#32
  let v366 : BitVec 1 := Scalar.cmpi .sgt v364 c0_i32_133
  let v367 : BitVec 32 := Scalar.extui v366
  let c0_i32_134 : BitVec 32 := 0#32
  let v368 : BitVec 1 := Scalar.cmpi .slt v364 c0_i32_134
  let v369 : BitVec 32 := Scalar.extui v368
  let v370 : BitVec 32 := Scalar.subi v367 v369
  let c512_i32 : BitVec 32 := 512#32
  let c0_i32_135 : BitVec 32 := 0#32
  let v371 : BitVec 1 := Scalar.cmpi .sgt c512_i32 c0_i32_135
  let v372 : BitVec 32 := Scalar.extui v371
  let c0_i32_136 : BitVec 32 := 0#32
  let v373 : BitVec 1 := Scalar.cmpi .slt c512_i32 c0_i32_136
  let v374 : BitVec 32 := Scalar.extui v373
  let v375 : BitVec 32 := Scalar.subi v372 v374
  let v376 : BitVec 1 := Scalar.cmpi .ne v370 v375
  let v377 : BitVec 32 := Scalar.remsi v364 c512_i32
  let c0_i32_137 : BitVec 32 := 0#32
  let v378 : BitVec 1 := Scalar.cmpi .ne v377 c0_i32_137
  let v379 : BitVec 1 := Scalar.andi v376 v378
  let v365 : BitVec 32 := Scalar.divsi v364 c512_i32
  let c1_i32_138 : BitVec 32 := 1#32
  let v380 : BitVec 32 := Scalar.subi v365 c1_i32_138
  let v381 : BitVec 32 := Scalar.select v379 v380 v365
  let v382 : BitVec 32 := Scalar.subi v381 c0_i32_139
  let c1_i32_140 : BitVec 32 := 1#32
  let v384 : BitVec 32 := Scalar.divsi v382 c1_i32_140
  let v385 : BitVec 32 := Scalar.muli v384 c1_i32_140
  let v386 : BitVec 32 := Scalar.addi c0_i32_139 v385
  let v383 : BitVec 32 := Scalar.addi c0_i32_139 v382
  let c1_i32_142 : BitVec 32 := 1#32
  ⟨v386, v383, c1_i32_142⟩
def k0_mult2 (i : grid0.Coords) (k0_t2 : Fin (k0_t2_loop i).trips) : BitVec 32 :=
  let c0_i32_139 : BitVec 32 := 0#32
  let arg1 : BitVec 32 := BitVec.ofNat 32 (i 1).val
  let c256_i32 : BitVec 32 := 256#32
  let v0 : BitVec 32 := Scalar.muli arg1 c256_i32
  let c1_i32_132 : BitVec 32 := 1#32
  let v364 : BitVec 32 := Scalar.addi v0 c1_i32_132
  let c0_i32_133 : BitVec 32 := 0#32
  let v366 : BitVec 1 := Scalar.cmpi .sgt v364 c0_i32_133
  let v367 : BitVec 32 := Scalar.extui v366
  let c0_i32_134 : BitVec 32 := 0#32
  let v368 : BitVec 1 := Scalar.cmpi .slt v364 c0_i32_134
  let v369 : BitVec 32 := Scalar.extui v368
  let v370 : BitVec 32 := Scalar.subi v367 v369
  let c512_i32 : BitVec 32 := 512#32
  let c0_i32_135 : BitVec 32 := 0#32
  let v371 : BitVec 1 := Scalar.cmpi .sgt c512_i32 c0_i32_135
  let v372 : BitVec 32 := Scalar.extui v371
  let c0_i32_136 : BitVec 32 := 0#32
  let v373 : BitVec 1 := Scalar.cmpi .slt c512_i32 c0_i32_136
  let v374 : BitVec 32 := Scalar.extui v373
  let v375 : BitVec 32 := Scalar.subi v372 v374
  let v376 : BitVec 1 := Scalar.cmpi .ne v370 v375
  let v377 : BitVec 32 := Scalar.remsi v364 c512_i32
  let c0_i32_137 : BitVec 32 := 0#32
  let v378 : BitVec 1 := Scalar.cmpi .ne v377 c0_i32_137
  let v379 : BitVec 1 := Scalar.andi v376 v378
  let v365 : BitVec 32 := Scalar.divsi v364 c512_i32
  let c1_i32_138 : BitVec 32 := 1#32
  let v380 : BitVec 32 := Scalar.subi v365 c1_i32_138
  let v381 : BitVec 32 := Scalar.select v379 v380 v365
  let v382 : BitVec 32 := Scalar.subi v381 c0_i32_139
  let c1_i32_140 : BitVec 32 := 1#32
  let v384 : BitVec 32 := Scalar.divsi v382 c1_i32_140
  let v385 : BitVec 32 := Scalar.muli v384 c1_i32_140
  let v386 : BitVec 32 := Scalar.addi c0_i32_139 v385
  let c1_i32_142 : BitVec 32 := 1#32
  let arg10 : BitVec 32 := Scf.iv v386 c1_i32_142 k0_t2
  let c512_i32_204 : BitVec 32 := 512#32
  let v669 : BitVec 32 := Scalar.muli arg10 c512_i32_204
  v669
def k0_off4 (i : grid0.Coords) (k0_t2 : Fin (k0_t2_loop i).trips) : Fin 3 → Nat :=
  let c0_207 : Index := 0#32
  let c0_i32_139 : BitVec 32 := 0#32
  let arg1 : BitVec 32 := BitVec.ofNat 32 (i 1).val
  let c256_i32 : BitVec 32 := 256#32
  let v0 : BitVec 32 := Scalar.muli arg1 c256_i32
  let c1_i32_132 : BitVec 32 := 1#32
  let v364 : BitVec 32 := Scalar.addi v0 c1_i32_132
  let c0_i32_133 : BitVec 32 := 0#32
  let v366 : BitVec 1 := Scalar.cmpi .sgt v364 c0_i32_133
  let v367 : BitVec 32 := Scalar.extui v366
  let c0_i32_134 : BitVec 32 := 0#32
  let v368 : BitVec 1 := Scalar.cmpi .slt v364 c0_i32_134
  let v369 : BitVec 32 := Scalar.extui v368
  let v370 : BitVec 32 := Scalar.subi v367 v369
  let c512_i32 : BitVec 32 := 512#32
  let c0_i32_135 : BitVec 32 := 0#32
  let v371 : BitVec 1 := Scalar.cmpi .sgt c512_i32 c0_i32_135
  let v372 : BitVec 32 := Scalar.extui v371
  let c0_i32_136 : BitVec 32 := 0#32
  let v373 : BitVec 1 := Scalar.cmpi .slt c512_i32 c0_i32_136
  let v374 : BitVec 32 := Scalar.extui v373
  let v375 : BitVec 32 := Scalar.subi v372 v374
  let v376 : BitVec 1 := Scalar.cmpi .ne v370 v375
  let v377 : BitVec 32 := Scalar.remsi v364 c512_i32
  let c0_i32_137 : BitVec 32 := 0#32
  let v378 : BitVec 1 := Scalar.cmpi .ne v377 c0_i32_137
  let v379 : BitVec 1 := Scalar.andi v376 v378
  let v365 : BitVec 32 := Scalar.divsi v364 c512_i32
  let c1_i32_138 : BitVec 32 := 1#32
  let v380 : BitVec 32 := Scalar.subi v365 c1_i32_138
  let v381 : BitVec 32 := Scalar.select v379 v380 v365
  let v382 : BitVec 32 := Scalar.subi v381 c0_i32_139
  let c1_i32_140 : BitVec 32 := 1#32
  let v384 : BitVec 32 := Scalar.divsi v382 c1_i32_140
  let v385 : BitVec 32 := Scalar.muli v384 c1_i32_140
  let v386 : BitVec 32 := Scalar.addi c0_i32_139 v385
  let c1_i32_142 : BitVec 32 := 1#32
  let arg10 : BitVec 32 := Scf.iv v386 c1_i32_142 k0_t2
  let c512_i32_204 : BitVec 32 := 512#32
  let v669 : BitVec 32 := Scalar.muli arg10 c512_i32_204
  let v670 : BitVec 32 := v669
  let v673 : Index := Scalar.indexCast v670
  let c0_208 : Index := 0#32
  ![0, v673.toNat, 0]
def k0_off5 (i : grid0.Coords) (k0_t2 : Fin (k0_t2_loop i).trips) : Fin 3 → Nat :=
  let c0_210 : Index := 0#32
  let c0_211 : Index := 0#32
  let c0_i32_139 : BitVec 32 := 0#32
  let arg1 : BitVec 32 := BitVec.ofNat 32 (i 1).val
  let c256_i32 : BitVec 32 := 256#32
  let v0 : BitVec 32 := Scalar.muli arg1 c256_i32
  let c1_i32_132 : BitVec 32 := 1#32
  let v364 : BitVec 32 := Scalar.addi v0 c1_i32_132
  let c0_i32_133 : BitVec 32 := 0#32
  let v366 : BitVec 1 := Scalar.cmpi .sgt v364 c0_i32_133
  let v367 : BitVec 32 := Scalar.extui v366
  let c0_i32_134 : BitVec 32 := 0#32
  let v368 : BitVec 1 := Scalar.cmpi .slt v364 c0_i32_134
  let v369 : BitVec 32 := Scalar.extui v368
  let v370 : BitVec 32 := Scalar.subi v367 v369
  let c512_i32 : BitVec 32 := 512#32
  let c0_i32_135 : BitVec 32 := 0#32
  let v371 : BitVec 1 := Scalar.cmpi .sgt c512_i32 c0_i32_135
  let v372 : BitVec 32 := Scalar.extui v371
  let c0_i32_136 : BitVec 32 := 0#32
  let v373 : BitVec 1 := Scalar.cmpi .slt c512_i32 c0_i32_136
  let v374 : BitVec 32 := Scalar.extui v373
  let v375 : BitVec 32 := Scalar.subi v372 v374
  let v376 : BitVec 1 := Scalar.cmpi .ne v370 v375
  let v377 : BitVec 32 := Scalar.remsi v364 c512_i32
  let c0_i32_137 : BitVec 32 := 0#32
  let v378 : BitVec 1 := Scalar.cmpi .ne v377 c0_i32_137
  let v379 : BitVec 1 := Scalar.andi v376 v378
  let v365 : BitVec 32 := Scalar.divsi v364 c512_i32
  let c1_i32_138 : BitVec 32 := 1#32
  let v380 : BitVec 32 := Scalar.subi v365 c1_i32_138
  let v381 : BitVec 32 := Scalar.select v379 v380 v365
  let v382 : BitVec 32 := Scalar.subi v381 c0_i32_139
  let c1_i32_140 : BitVec 32 := 1#32
  let v384 : BitVec 32 := Scalar.divsi v382 c1_i32_140
  let v385 : BitVec 32 := Scalar.muli v384 c1_i32_140
  let v386 : BitVec 32 := Scalar.addi c0_i32_139 v385
  let c1_i32_142 : BitVec 32 := 1#32
  let arg10 : BitVec 32 := Scf.iv v386 c1_i32_142 k0_t2
  let c512_i32_204 : BitVec 32 := 512#32
  let v669 : BitVec 32 := Scalar.muli arg10 c512_i32_204
  let v670 : BitVec 32 := v669
  let v687 : Index := Scalar.indexCast v670
  ![0, 0, v687.toNat]
def k0_off6 (i : grid0.Coords) (k0_t2 : Fin (k0_t2_loop i).trips) : Fin 3 → Nat :=
  let c0_212 : Index := 0#32
  let c64_213 : Index := 64#32
  let c0_i32_139 : BitVec 32 := 0#32
  let arg1 : BitVec 32 := BitVec.ofNat 32 (i 1).val
  let c256_i32 : BitVec 32 := 256#32
  let v0 : BitVec 32 := Scalar.muli arg1 c256_i32
  let c1_i32_132 : BitVec 32 := 1#32
  let v364 : BitVec 32 := Scalar.addi v0 c1_i32_132
  let c0_i32_133 : BitVec 32 := 0#32
  let v366 : BitVec 1 := Scalar.cmpi .sgt v364 c0_i32_133
  let v367 : BitVec 32 := Scalar.extui v366
  let c0_i32_134 : BitVec 32 := 0#32
  let v368 : BitVec 1 := Scalar.cmpi .slt v364 c0_i32_134
  let v369 : BitVec 32 := Scalar.extui v368
  let v370 : BitVec 32 := Scalar.subi v367 v369
  let c512_i32 : BitVec 32 := 512#32
  let c0_i32_135 : BitVec 32 := 0#32
  let v371 : BitVec 1 := Scalar.cmpi .sgt c512_i32 c0_i32_135
  let v372 : BitVec 32 := Scalar.extui v371
  let c0_i32_136 : BitVec 32 := 0#32
  let v373 : BitVec 1 := Scalar.cmpi .slt c512_i32 c0_i32_136
  let v374 : BitVec 32 := Scalar.extui v373
  let v375 : BitVec 32 := Scalar.subi v372 v374
  let v376 : BitVec 1 := Scalar.cmpi .ne v370 v375
  let v377 : BitVec 32 := Scalar.remsi v364 c512_i32
  let c0_i32_137 : BitVec 32 := 0#32
  let v378 : BitVec 1 := Scalar.cmpi .ne v377 c0_i32_137
  let v379 : BitVec 1 := Scalar.andi v376 v378
  let v365 : BitVec 32 := Scalar.divsi v364 c512_i32
  let c1_i32_138 : BitVec 32 := 1#32
  let v380 : BitVec 32 := Scalar.subi v365 c1_i32_138
  let v381 : BitVec 32 := Scalar.select v379 v380 v365
  let v382 : BitVec 32 := Scalar.subi v381 c0_i32_139
  let c1_i32_140 : BitVec 32 := 1#32
  let v384 : BitVec 32 := Scalar.divsi v382 c1_i32_140
  let v385 : BitVec 32 := Scalar.muli v384 c1_i32_140
  let v386 : BitVec 32 := Scalar.addi c0_i32_139 v385
  let c1_i32_142 : BitVec 32 := 1#32
  let arg10 : BitVec 32 := Scf.iv v386 c1_i32_142 k0_t2
  let c512_i32_204 : BitVec 32 := 512#32
  let v669 : BitVec 32 := Scalar.muli arg10 c512_i32_204
  let v670 : BitVec 32 := v669
  let v691 : Index := Scalar.indexCast v670
  ![0, 64, v691.toNat]
def k0_mult3 (i : grid0.Coords) : BitVec 32 :=
  let arg1 : BitVec 32 := BitVec.ofNat 32 (i 1).val
  let c256_i32 : BitVec 32 := 256#32
  let v0 : BitVec 32 := Scalar.muli arg1 c256_i32
  let c1_i32_132 : BitVec 32 := 1#32
  let v364 : BitVec 32 := Scalar.addi v0 c1_i32_132
  let c0_i32_133 : BitVec 32 := 0#32
  let v366 : BitVec 1 := Scalar.cmpi .sgt v364 c0_i32_133
  let v367 : BitVec 32 := Scalar.extui v366
  let c0_i32_134 : BitVec 32 := 0#32
  let v368 : BitVec 1 := Scalar.cmpi .slt v364 c0_i32_134
  let v369 : BitVec 32 := Scalar.extui v368
  let v370 : BitVec 32 := Scalar.subi v367 v369
  let c512_i32 : BitVec 32 := 512#32
  let c0_i32_135 : BitVec 32 := 0#32
  let v371 : BitVec 1 := Scalar.cmpi .sgt c512_i32 c0_i32_135
  let v372 : BitVec 32 := Scalar.extui v371
  let c0_i32_136 : BitVec 32 := 0#32
  let v373 : BitVec 1 := Scalar.cmpi .slt c512_i32 c0_i32_136
  let v374 : BitVec 32 := Scalar.extui v373
  let v375 : BitVec 32 := Scalar.subi v372 v374
  let v376 : BitVec 1 := Scalar.cmpi .ne v370 v375
  let v377 : BitVec 32 := Scalar.remsi v364 c512_i32
  let c0_i32_137 : BitVec 32 := 0#32
  let v378 : BitVec 1 := Scalar.cmpi .ne v377 c0_i32_137
  let v379 : BitVec 1 := Scalar.andi v376 v378
  let v365 : BitVec 32 := Scalar.divsi v364 c512_i32
  let c1_i32_138 : BitVec 32 := 1#32
  let v380 : BitVec 32 := Scalar.subi v365 c1_i32_138
  let v381 : BitVec 32 := Scalar.select v379 v380 v365
  let c512_i32_143 : BitVec 32 := 512#32
  let v389 : BitVec 32 := Scalar.muli v381 c512_i32_143
  v389
def k0_off7 (i : grid0.Coords) : Fin 3 → Nat :=
  let c0_147 : Index := 0#32
  let arg1 : BitVec 32 := BitVec.ofNat 32 (i 1).val
  let c256_i32 : BitVec 32 := 256#32
  let v0 : BitVec 32 := Scalar.muli arg1 c256_i32
  let c1_i32_132 : BitVec 32 := 1#32
  let v364 : BitVec 32 := Scalar.addi v0 c1_i32_132
  let c0_i32_133 : BitVec 32 := 0#32
  let v366 : BitVec 1 := Scalar.cmpi .sgt v364 c0_i32_133
  let v367 : BitVec 32 := Scalar.extui v366
  let c0_i32_134 : BitVec 32 := 0#32
  let v368 : BitVec 1 := Scalar.cmpi .slt v364 c0_i32_134
  let v369 : BitVec 32 := Scalar.extui v368
  let v370 : BitVec 32 := Scalar.subi v367 v369
  let c512_i32 : BitVec 32 := 512#32
  let c0_i32_135 : BitVec 32 := 0#32
  let v371 : BitVec 1 := Scalar.cmpi .sgt c512_i32 c0_i32_135
  let v372 : BitVec 32 := Scalar.extui v371
  let c0_i32_136 : BitVec 32 := 0#32
  let v373 : BitVec 1 := Scalar.cmpi .slt c512_i32 c0_i32_136
  let v374 : BitVec 32 := Scalar.extui v373
  let v375 : BitVec 32 := Scalar.subi v372 v374
  let v376 : BitVec 1 := Scalar.cmpi .ne v370 v375
  let v377 : BitVec 32 := Scalar.remsi v364 c512_i32
  let c0_i32_137 : BitVec 32 := 0#32
  let v378 : BitVec 1 := Scalar.cmpi .ne v377 c0_i32_137
  let v379 : BitVec 1 := Scalar.andi v376 v378
  let v365 : BitVec 32 := Scalar.divsi v364 c512_i32
  let c1_i32_138 : BitVec 32 := 1#32
  let v380 : BitVec 32 := Scalar.subi v365 c1_i32_138
  let v381 : BitVec 32 := Scalar.select v379 v380 v365
  let c512_i32_143 : BitVec 32 := 512#32
  let v389 : BitVec 32 := Scalar.muli v381 c512_i32_143
  let v390 : BitVec 32 := v389
  let v402 : Index := Scalar.indexCast v390
  let c0_148 : Index := 0#32
  ![0, v402.toNat, 0]
def k0_off8 (i : grid0.Coords) : Fin 3 → Nat :=
  let c0_150 : Index := 0#32
  let c0_151 : Index := 0#32
  let arg1 : BitVec 32 := BitVec.ofNat 32 (i 1).val
  let c256_i32 : BitVec 32 := 256#32
  let v0 : BitVec 32 := Scalar.muli arg1 c256_i32
  let c1_i32_132 : BitVec 32 := 1#32
  let v364 : BitVec 32 := Scalar.addi v0 c1_i32_132
  let c0_i32_133 : BitVec 32 := 0#32
  let v366 : BitVec 1 := Scalar.cmpi .sgt v364 c0_i32_133
  let v367 : BitVec 32 := Scalar.extui v366
  let c0_i32_134 : BitVec 32 := 0#32
  let v368 : BitVec 1 := Scalar.cmpi .slt v364 c0_i32_134
  let v369 : BitVec 32 := Scalar.extui v368
  let v370 : BitVec 32 := Scalar.subi v367 v369
  let c512_i32 : BitVec 32 := 512#32
  let c0_i32_135 : BitVec 32 := 0#32
  let v371 : BitVec 1 := Scalar.cmpi .sgt c512_i32 c0_i32_135
  let v372 : BitVec 32 := Scalar.extui v371
  let c0_i32_136 : BitVec 32 := 0#32
  let v373 : BitVec 1 := Scalar.cmpi .slt c512_i32 c0_i32_136
  let v374 : BitVec 32 := Scalar.extui v373
  let v375 : BitVec 32 := Scalar.subi v372 v374
  let v376 : BitVec 1 := Scalar.cmpi .ne v370 v375
  let v377 : BitVec 32 := Scalar.remsi v364 c512_i32
  let c0_i32_137 : BitVec 32 := 0#32
  let v378 : BitVec 1 := Scalar.cmpi .ne v377 c0_i32_137
  let v379 : BitVec 1 := Scalar.andi v376 v378
  let v365 : BitVec 32 := Scalar.divsi v364 c512_i32
  let c1_i32_138 : BitVec 32 := 1#32
  let v380 : BitVec 32 := Scalar.subi v365 c1_i32_138
  let v381 : BitVec 32 := Scalar.select v379 v380 v365
  let c512_i32_143 : BitVec 32 := 512#32
  let v389 : BitVec 32 := Scalar.muli v381 c512_i32_143
  let v390 : BitVec 32 := v389
  let v416 : Index := Scalar.indexCast v390
  ![0, 0, v416.toNat]
def k0_off9 (i : grid0.Coords) : Fin 3 → Nat :=
  let c0_152 : Index := 0#32
  let c64_153 : Index := 64#32
  let arg1 : BitVec 32 := BitVec.ofNat 32 (i 1).val
  let c256_i32 : BitVec 32 := 256#32
  let v0 : BitVec 32 := Scalar.muli arg1 c256_i32
  let c1_i32_132 : BitVec 32 := 1#32
  let v364 : BitVec 32 := Scalar.addi v0 c1_i32_132
  let c0_i32_133 : BitVec 32 := 0#32
  let v366 : BitVec 1 := Scalar.cmpi .sgt v364 c0_i32_133
  let v367 : BitVec 32 := Scalar.extui v366
  let c0_i32_134 : BitVec 32 := 0#32
  let v368 : BitVec 1 := Scalar.cmpi .slt v364 c0_i32_134
  let v369 : BitVec 32 := Scalar.extui v368
  let v370 : BitVec 32 := Scalar.subi v367 v369
  let c512_i32 : BitVec 32 := 512#32
  let c0_i32_135 : BitVec 32 := 0#32
  let v371 : BitVec 1 := Scalar.cmpi .sgt c512_i32 c0_i32_135
  let v372 : BitVec 32 := Scalar.extui v371
  let c0_i32_136 : BitVec 32 := 0#32
  let v373 : BitVec 1 := Scalar.cmpi .slt c512_i32 c0_i32_136
  let v374 : BitVec 32 := Scalar.extui v373
  let v375 : BitVec 32 := Scalar.subi v372 v374
  let v376 : BitVec 1 := Scalar.cmpi .ne v370 v375
  let v377 : BitVec 32 := Scalar.remsi v364 c512_i32
  let c0_i32_137 : BitVec 32 := 0#32
  let v378 : BitVec 1 := Scalar.cmpi .ne v377 c0_i32_137
  let v379 : BitVec 1 := Scalar.andi v376 v378
  let v365 : BitVec 32 := Scalar.divsi v364 c512_i32
  let c1_i32_138 : BitVec 32 := 1#32
  let v380 : BitVec 32 := Scalar.subi v365 c1_i32_138
  let v381 : BitVec 32 := Scalar.select v379 v380 v365
  let c512_i32_143 : BitVec 32 := 512#32
  let v389 : BitVec 32 := Scalar.muli v381 c512_i32_143
  let v390 : BitVec 32 := v389
  let v420 : Index := Scalar.indexCast v390
  ![0, 64, v420.toNat]
def k0_mult4 (i : grid0.Coords) : BitVec 32 :=
  let arg1 : BitVec 32 := BitVec.ofNat 32 (i 1).val
  let c2_i32 : BitVec 32 := 2#32
  let v463 : BitVec 32 := Scalar.subi arg1 c2_i32
  let c0_i32_161 : BitVec 32 := 0#32
  let v464 : BitVec 32 := Scalar.maxsi v463 c0_i32_161
  let c256_i32_162 : BitVec 32 := 256#32
  let v465 : BitVec 32 := Scalar.muli v464 c256_i32_162
  v465
def k0_off10 (i : grid0.Coords) : Fin 3 → Nat :=
  let c0_167 : Index := 0#32
  let arg1 : BitVec 32 := BitVec.ofNat 32 (i 1).val
  let c2_i32 : BitVec 32 := 2#32
  let v463 : BitVec 32 := Scalar.subi arg1 c2_i32
  let c0_i32_161 : BitVec 32 := 0#32
  let v464 : BitVec 32 := Scalar.maxsi v463 c0_i32_161
  let c256_i32_162 : BitVec 32 := 256#32
  let v465 : BitVec 32 := Scalar.muli v464 c256_i32_162
  let v466 : BitVec 32 := v465
  let v483 : Index := Scalar.indexCast v466
  let c128_168 : Index := 128#32
  ![0, v483.toNat, 128]
def k0_off11 (i : grid0.Coords) : Fin 3 → Nat :=
  let c0_169 : Index := 0#32
  let c128_170 : Index := 128#32
  let arg1 : BitVec 32 := BitVec.ofNat 32 (i 1).val
  let c2_i32 : BitVec 32 := 2#32
  let v463 : BitVec 32 := Scalar.subi arg1 c2_i32
  let c0_i32_161 : BitVec 32 := 0#32
  let v464 : BitVec 32 := Scalar.maxsi v463 c0_i32_161
  let c256_i32_162 : BitVec 32 := 256#32
  let v465 : BitVec 32 := Scalar.muli v464 c256_i32_162
  let v466 : BitVec 32 := v465
  let v486 : Index := Scalar.indexCast v466
  ![0, 128, v486.toNat]
def k0_off12 (i : grid0.Coords) : Fin 3 → Nat :=
  let c0_171 : Index := 0#32
  let c192_172 : Index := 192#32
  let arg1 : BitVec 32 := BitVec.ofNat 32 (i 1).val
  let c2_i32 : BitVec 32 := 2#32
  let v463 : BitVec 32 := Scalar.subi arg1 c2_i32
  let c0_i32_161 : BitVec 32 := 0#32
  let v464 : BitVec 32 := Scalar.maxsi v463 c0_i32_161
  let c256_i32_162 : BitVec 32 := 256#32
  let v465 : BitVec 32 := Scalar.muli v464 c256_i32_162
  let v466 : BitVec 32 := v465
  let v490 : Index := Scalar.indexCast v466
  ![0, 192, v490.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x8192 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x512x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x64x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | "qscale" => some (((1 / 8) * (Real.log 2)⁻¹ : ℝ) : EReal)
  | _ => none
-- ==== ReferenceIdeal.lean ====
abbrev S4x8192x8x64 : Shape := ⟨4, ![4, 8192, 8, 64]⟩
abbrev S4x511x2x64 : Shape := ⟨4, ![4, 511, 2, 64]⟩
abbrev S4x8192x2x64 : Shape := ⟨4, ![4, 8192, 2, 64]⟩
abbrev S4x8192x24 : Shape := ⟨3, ![4, 8192, 24]⟩
abbrev S511 : Shape := ⟨1, ![511]⟩
abbrev S511x1 : Shape := ⟨2, ![511, 1]⟩
abbrev S_ : Shape := ⟨0, ![]⟩
abbrev S128 : Shape := ⟨1, ![128]⟩
abbrev S1x128 : Shape := ⟨2, ![1, 128]⟩
abbrev S511x128 : Shape := ⟨2, ![511, 128]⟩
abbrev S4x128x64x2x64 : Shape := ⟨5, ![4, 128, 64, 2, 64]⟩
abbrev S4x2x128x64x64 : Shape := ⟨5, ![4, 2, 128, 64, 64]⟩
abbrev S4x8192x2x4x64 : Shape := ⟨5, ![4, 8192, 2, 4, 64]⟩
abbrev S4x2x4x8192x64 : Shape := ⟨5, ![4, 2, 4, 8192, 64]⟩
abbrev S4x8192x2x4x3 : Shape := ⟨5, ![4, 8192, 2, 4, 3]⟩
abbrev S4x2x4x8192x3 : Shape := ⟨5, ![4, 2, 4, 8192, 3]⟩
abbrev S8192 : Shape := ⟨1, ![8192]⟩
abbrev S4 : Shape := ⟨1, ![4]⟩
abbrev S4x1x1x1 : Shape := ⟨4, ![4, 1, 1, 1]⟩
abbrev S2 : Shape := ⟨1, ![2]⟩
abbrev S1x2x1x1 : Shape := ⟨4, ![1, 2, 1, 1]⟩
abbrev S4x2x4x8192x511 : Shape := ⟨5, ![4, 2, 4, 8192, 511]⟩
abbrev S1x511 : Shape := ⟨2, ![1, 511]⟩
abbrev S8192x1 : Shape := ⟨2, ![8192, 1]⟩
abbrev S8192x511 : Shape := ⟨2, ![8192, 511]⟩
abbrev S4x2x4x8192 : Shape := ⟨4, ![4, 2, 4, 8192]⟩
abbrev S4x2x4x8192x1 : Shape := ⟨5, ![4, 2, 4, 8192, 1]⟩
abbrev S4x2x8192x511 : Shape := ⟨4, ![4, 2, 8192, 511]⟩
abbrev S4x2x8192x128 : Shape := ⟨4, ![4, 2, 8192, 128]⟩
abbrev S8192x128 : Shape := ⟨2, ![8192, 128]⟩
abbrev S4x2x8192x16 : Shape := ⟨4, ![4, 2, 8192, 16]⟩
abbrev S4x2x8192x16x1 : Shape := ⟨5, ![4, 2, 8192, 16, 1]⟩
abbrev S4x2x8192x16x3 : Shape := ⟨5, ![4, 2, 8192, 16, 3]⟩
abbrev S4x2x8192x16x64x64 : Shape := ⟨6, ![4, 2, 8192, 16, 64, 64]⟩
abbrev S4x2x8192x1024x64 : Shape := ⟨5, ![4, 2, 8192, 1024, 64]⟩
abbrev S64 : Shape := ⟨1, ![64]⟩
abbrev S1x1x1x1x64 : Shape := ⟨5, ![1, 1, 1, 1, 64]⟩
abbrev S4x2x8192x16x64 : Shape := ⟨5, ![4, 2, 8192, 16, 64]⟩
abbrev S4x2x8192x1024 : Shape := ⟨4, ![4, 2, 8192, 1024]⟩
abbrev S1x1x8192x1 : Shape := ⟨4, ![1, 1, 8192, 1]⟩
abbrev S4x2x1x8192x1024 : Shape := ⟨5, ![4, 2, 1, 8192, 1024]⟩
abbrev S4x2x8192x1024x4 : Shape := ⟨5, ![4, 2, 8192, 1024, 4]⟩
abbrev S4x2x4x8192x1024 : Shape := ⟨5, ![4, 2, 4, 8192, 1024]⟩
abbrev S4x2x8192x64x4 : Shape := ⟨5, ![4, 2, 8192, 64, 4]⟩
abbrev S1x8192 : Shape := ⟨2, ![1, 8192]⟩
abbrev S8192x8192 : Shape := ⟨2, ![8192, 8192]⟩
abbrev S4x2x4x8192x8192 : Shape := ⟨5, ![4, 2, 4, 8192, 8192]⟩
abbrev S4x2x4x64x8192 : Shape := ⟨5, ![4, 2, 4, 64, 8192]⟩
abbrev S4x512x8192 : Shape := ⟨3, ![4, 512, 8192]⟩

abbrev nBuf : Space → Nat
  | .hbm => 314
  | .vmem => 0
  | .smem => 0
  | _ => 0

abbrev hbmTy0_0 (i : Nat) : BufTy := match i % 128 with
  | 0 => ⟨S4x8192x8x64, .f32⟩
  | 1 => ⟨S4x511x2x64, .f32⟩
  | 2 => ⟨S4x511x2x64, .f32⟩
  | 3 => ⟨S4x8192x2x64, .f32⟩
  | 4 => ⟨S4x8192x2x64, .f32⟩
  | 5 => ⟨S4x8192x2x64, .f32⟩
  | 6 => ⟨S4x8192x2x64, .f32⟩
  | 7 => ⟨S4x8192x24, .f32⟩
  | 8 => ⟨S511, .i32⟩
  | 9 => ⟨S511x1, .i32⟩
  | 10 => ⟨S_, .i32⟩
  | 11 => ⟨S511x1, .i32⟩
  | 12 => ⟨S511x1, .i32⟩
  | 13 => ⟨S128, .i32⟩
  | 14 => ⟨S1x128, .i32⟩
  | 15 => ⟨S_, .i32⟩
  | 16 => ⟨S1x128, .i32⟩
  | 17 => ⟨S1x128, .i32⟩
  | 18 => ⟨S_, .i32⟩
  | 19 => ⟨S511x1, .i32⟩
  | 20 => ⟨S511x1, .i32⟩
  | 21 => ⟨S_, .i32⟩
  | 22 => ⟨S1x128, .i32⟩
  | 23 => ⟨S1x128, .i32⟩
  | 24 => ⟨S511x128, .i32⟩
  | 25 => ⟨S511x128, .i32⟩
  | 26 => ⟨S511x128, .i32⟩
  | 27 => ⟨S511x128, .i32⟩
  | 28 => ⟨S511x128, .i32⟩
  | 29 => ⟨S511x128, .i32⟩
  | 30 => ⟨S511x128, .i32⟩
  | 31 => ⟨S_, .i32⟩
  | 32 => ⟨S511x128, .i32⟩
  | 33 => ⟨S511x128, .i32⟩
  | 34 => ⟨S511x128, .f32⟩
  | 35 => ⟨S_, .f32⟩
  | 36 => ⟨S511x128, .f32⟩
  | 37 => ⟨S511x128, .f32⟩
  | 38 => ⟨S4x128x64x2x64, .f32⟩
  | 39 => ⟨S4x2x128x64x64, .f32⟩
  | 40 => ⟨S4x128x64x2x64, .f32⟩
  | 41 => ⟨S4x2x128x64x64, .f32⟩
  | 42 => ⟨S4x8192x2x4x64, .f32⟩
  | 43 => ⟨S4x2x4x8192x64, .f32⟩
  | 44 => ⟨S4x8192x24, .f32⟩
  | 45 => ⟨S4x8192x24, .f32⟩
  | 46 => ⟨S_, .f32⟩
  | 47 => ⟨S4x8192x24, .f32⟩
  | 48 => ⟨S4x8192x24, .f32⟩
  | 49 => ⟨S_, .f32⟩
  | 50 => ⟨S4x8192x24, .f32⟩
  | 51 => ⟨S4x8192x24, .f32⟩
  | 52 => ⟨S4x8192x2x4x3, .f32⟩
  | 53 => ⟨S4x2x4x8192x3, .f32⟩
  | 54 => ⟨S8192, .i32⟩
  | 55 => ⟨S511, .i32⟩
  | 56 => ⟨S_, .i32⟩
  | 57 => ⟨S511, .i32⟩
  | 58 => ⟨S511, .i32⟩
  | 59 => ⟨S_, .i32⟩
  | 60 => ⟨S511, .i32⟩
  | 61 => ⟨S511, .i32⟩
  | 62 => ⟨S_, .i32⟩
  | 63 => ⟨S511, .i32⟩
  | 64 => ⟨S511, .i32⟩
  | 65 => ⟨S128, .i32⟩
  | 66 => ⟨S4, .i32⟩
  | 67 => ⟨S4x1x1x1, .i32⟩
  | 68 => ⟨S2, .i32⟩
  | 69 => ⟨S1x2x1x1, .i32⟩
  | 70 => ⟨S4x2x4x8192x511, .f32⟩
  | 71 => ⟨S_, .f32⟩
  | 72 => ⟨S4x2x4x8192x511, .f32⟩
  | 73 => ⟨S4x2x4x8192x511, .f32⟩
  | 74 => ⟨S1x511, .i32⟩
  | 75 => ⟨S8192x1, .i32⟩
  | 76 => ⟨S8192x511, .i32⟩
  | 77 => ⟨S8192x511, .i32⟩
  | 78 => ⟨S8192x511, .i1⟩
  | 79 => ⟨S_, .f32⟩
  | 80 => ⟨S_, .f32⟩
  | 81 => ⟨S4x2x4x8192x511, .i1⟩
  | 82 => ⟨S4x2x4x8192x511, .f32⟩
  | 83 => ⟨S4x2x4x8192x511, .f32⟩
  | 84 => ⟨S_, .f32⟩
  | 85 => ⟨S4x2x4x8192, .f32⟩
  | 86 => ⟨S_, .f32⟩
  | 87 => ⟨S4x2x4x8192, .f32⟩
  | 88 => ⟨S4x2x4x8192, .f32⟩
  | 89 => ⟨S4x2x4x8192x1, .f32⟩
  | 90 => ⟨S4x2x4x8192x511, .f32⟩
  | 91 => ⟨S4x2x4x8192x511, .f32⟩
  | 92 => ⟨S4x2x4x8192x511, .f32⟩
  | 93 => ⟨S_, .f32⟩
  | 94 => ⟨S4x2x4x8192, .f32⟩
  | 95 => ⟨S4x2x4x8192x1, .f32⟩
  | 96 => ⟨S4x2x4x8192x511, .f32⟩
  | 97 => ⟨S4x2x4x8192x511, .f32⟩
  | 98 => ⟨S_, .f32⟩
  | 99 => ⟨S_, .f32⟩
  | 100 => ⟨S4x2x4x8192x511, .i1⟩
  | 101 => ⟨S4x2x4x8192x511, .f32⟩
  | 102 => ⟨S4x2x4x8192x511, .f32⟩
  | 103 => ⟨S4x2x4x8192x64, .f32⟩
  | 104 => ⟨S_, .f32⟩
  | 105 => ⟨S4x2x8192x511, .f32⟩
  | 106 => ⟨S4x2x8192x128, .f32⟩
  | 107 => ⟨S_, .i32⟩
  | 108 => ⟨S_, .i32⟩
  | 109 => ⟨S8192, .i32⟩
  | 110 => ⟨S8192, .i32⟩
  | 111 => ⟨S8192, .i32⟩
  | 112 => ⟨S_, .i32⟩
  | 113 => ⟨S8192, .i32⟩
  | 114 => ⟨S8192, .i1⟩
  | 115 => ⟨S8192, .i32⟩
  | 116 => ⟨S8192, .i32⟩
  | 117 => ⟨S_, .i32⟩
  | 118 => ⟨S8192, .i32⟩
  | 119 => ⟨S8192, .i1⟩
  | 120 => ⟨S8192, .i1⟩
  | 121 => ⟨S_, .i32⟩
  | 122 => ⟨S8192, .i32⟩
  | 123 => ⟨S8192, .i32⟩
  | 124 => ⟨S8192, .i32⟩
  | 125 => ⟨S1x128, .i32⟩
  | 126 => ⟨S_, .i32⟩
  | 127 => ⟨S1x128, .i32⟩
  | _ => ⟨S4x8192x8x64, .f32⟩

abbrev hbmTy0_1 (i : Nat) : BufTy := match i % 128 with
  | 0 => ⟨S1x128, .i1⟩
  | 1 => ⟨S1x128, .i32⟩
  | 2 => ⟨S8192x1, .i32⟩
  | 3 => ⟨S8192x128, .i32⟩
  | 4 => ⟨S8192x128, .i32⟩
  | 5 => ⟨S8192x128, .i1⟩
  | 6 => ⟨S8192x128, .i1⟩
  | 7 => ⟨S8192x128, .i1⟩
  | 8 => ⟨S1x128, .i32⟩
  | 9 => ⟨S8192x1, .i32⟩
  | 10 => ⟨S_, .i32⟩
  | 11 => ⟨S8192x1, .i32⟩
  | 12 => ⟨S8192x1, .i32⟩
  | 13 => ⟨S8192x128, .i32⟩
  | 14 => ⟨S8192x128, .i32⟩
  | 15 => ⟨S8192x128, .i1⟩
  | 16 => ⟨S8192x128, .i1⟩
  | 17 => ⟨S1x128, .i32⟩
  | 18 => ⟨S_, .i32⟩
  | 19 => ⟨S1x128, .i32⟩
  | 20 => ⟨S1x128, .i32⟩
  | 21 => ⟨S8192x1, .i32⟩
  | 22 => ⟨S8192x128, .i32⟩
  | 23 => ⟨S8192x128, .i32⟩
  | 24 => ⟨S8192x128, .i1⟩
  | 25 => ⟨S_, .f32⟩
  | 26 => ⟨S_, .f32⟩
  | 27 => ⟨S4x2x8192x128, .i1⟩
  | 28 => ⟨S4x2x8192x128, .f32⟩
  | 29 => ⟨S4x2x8192x128, .f32⟩
  | 30 => ⟨S_, .f32⟩
  | 31 => ⟨S_, .f32⟩
  | 32 => ⟨S4x2x8192x128, .i1⟩
  | 33 => ⟨S4x2x8192x128, .f32⟩
  | 34 => ⟨S4x2x8192x128, .f32⟩
  | 35 => ⟨S4x2x8192x16, .f32⟩
  | 36 => ⟨S4x2x8192x16, .i32⟩
  | 37 => ⟨S_, .i32⟩
  | 38 => ⟨S4x1x1x1, .i32⟩
  | 39 => ⟨S4x1x1x1, .i1⟩
  | 40 => ⟨S_, .i32⟩
  | 41 => ⟨S4x1x1x1, .i32⟩
  | 42 => ⟨S4x1x1x1, .i32⟩
  | 43 => ⟨S4x1x1x1, .i32⟩
  | 44 => ⟨S_, .i32⟩
  | 45 => ⟨S1x2x1x1, .i32⟩
  | 46 => ⟨S1x2x1x1, .i1⟩
  | 47 => ⟨S_, .i32⟩
  | 48 => ⟨S1x2x1x1, .i32⟩
  | 49 => ⟨S1x2x1x1, .i32⟩
  | 50 => ⟨S1x2x1x1, .i32⟩
  | 51 => ⟨S_, .i32⟩
  | 52 => ⟨S4x2x8192x16, .i32⟩
  | 53 => ⟨S4x2x8192x16, .i1⟩
  | 54 => ⟨S_, .i32⟩
  | 55 => ⟨S4x2x8192x16, .i32⟩
  | 56 => ⟨S4x2x8192x16, .i32⟩
  | 57 => ⟨S4x2x8192x16, .i32⟩
  | 58 => ⟨S4x2x8192x16, .i32⟩
  | 59 => ⟨S4x2x8192x16, .i32⟩
  | 60 => ⟨S4x2x8192x16x1, .i32⟩
  | 61 => ⟨S4x2x8192x16x1, .i32⟩
  | 62 => ⟨S4x2x8192x16x1, .i32⟩
  | 63 => ⟨S4x2x8192x16x3, .i32⟩
  | 64 => ⟨S4x2x8192x16x64x64, .f32⟩
  | 65 => ⟨S4x2x8192x1024x64, .f32⟩
  | 66 => ⟨S_, .i32⟩
  | 67 => ⟨S4x1x1x1, .i32⟩
  | 68 => ⟨S4x1x1x1, .i1⟩
  | 69 => ⟨S_, .i32⟩
  | 70 => ⟨S4x1x1x1, .i32⟩
  | 71 => ⟨S4x1x1x1, .i32⟩
  | 72 => ⟨S4x1x1x1, .i32⟩
  | 73 => ⟨S_, .i32⟩
  | 74 => ⟨S1x2x1x1, .i32⟩
  | 75 => ⟨S1x2x1x1, .i1⟩
  | 76 => ⟨S_, .i32⟩
  | 77 => ⟨S1x2x1x1, .i32⟩
  | 78 => ⟨S1x2x1x1, .i32⟩
  | 79 => ⟨S1x2x1x1, .i32⟩
  | 80 => ⟨S_, .i32⟩
  | 81 => ⟨S4x2x8192x16, .i32⟩
  | 82 => ⟨S4x2x8192x16, .i1⟩
  | 83 => ⟨S_, .i32⟩
  | 84 => ⟨S4x2x8192x16, .i32⟩
  | 85 => ⟨S4x2x8192x16, .i32⟩
  | 86 => ⟨S4x2x8192x16, .i32⟩
  | 87 => ⟨S4x2x8192x16, .i32⟩
  | 88 => ⟨S4x2x8192x16, .i32⟩
  | 89 => ⟨S4x2x8192x16x1, .i32⟩
  | 90 => ⟨S4x2x8192x16x1, .i32⟩
  | 91 => ⟨S4x2x8192x16x1, .i32⟩
  | 92 => ⟨S4x2x8192x16x3, .i32⟩
  | 93 => ⟨S4x2x8192x16x64x64, .f32⟩
  | 94 => ⟨S4x2x8192x1024x64, .f32⟩
  | 95 => ⟨S4x2x8192x16x1, .i32⟩
  | 96 => ⟨S_, .i32⟩
  | 97 => ⟨S4x2x8192x16x1, .i32⟩
  | 98 => ⟨S4x2x8192x16x1, .i32⟩
  | 99 => ⟨S64, .i32⟩
  | 100 => ⟨S1x1x1x1x64, .i32⟩
  | 101 => ⟨S4x2x8192x16x64, .i32⟩
  | 102 => ⟨S4x2x8192x16x64, .i32⟩
  | 103 => ⟨S4x2x8192x16x64, .i32⟩
  | 104 => ⟨S4x2x8192x1024, .i32⟩
  | 105 => ⟨S1x1x8192x1, .i32⟩
  | 106 => ⟨S4x2x8192x1024, .i32⟩
  | 107 => ⟨S4x2x8192x1024, .i1⟩
  | 108 => ⟨S4x2x1x8192x1024, .i1⟩
  | 109 => ⟨S4x2x8192x1024x4, .f32⟩
  | 110 => ⟨S4x2x4x8192x1024, .f32⟩
  | 111 => ⟨S_, .f32⟩
  | 112 => ⟨S4x2x4x8192x1024, .f32⟩
  | 113 => ⟨S4x2x4x8192x1024, .f32⟩
  | 114 => ⟨S_, .f32⟩
  | 115 => ⟨S_, .f32⟩
  | 116 => ⟨S4x2x4x8192x1024, .i1⟩
  | 117 => ⟨S4x2x4x8192x1024, .f32⟩
  | 118 => ⟨S4x2x4x8192x1024, .f32⟩
  | 119 => ⟨S_, .f32⟩
  | 120 => ⟨S4x2x4x8192, .f32⟩
  | 121 => ⟨S_, .f32⟩
  | 122 => ⟨S4x2x4x8192, .f32⟩
  | 123 => ⟨S4x2x4x8192, .f32⟩
  | 124 => ⟨S4x2x4x8192x1, .f32⟩
  | 125 => ⟨S4x2x4x8192x1024, .f32⟩
  | 126 => ⟨S4x2x4x8192x1024, .f32⟩
  | 127 => ⟨S4x2x4x8192x1024, .f32⟩
  | _ => ⟨S4x8192x8x64, .f32⟩

abbrev hbmTy0_2 (i : Nat) : BufTy := match i % 128 with
  | 0 => ⟨S_, .f32⟩
  | 1 => ⟨S4x2x4x8192, .f32⟩
  | 2 => ⟨S4x2x4x8192x1, .f32⟩
  | 3 => ⟨S4x2x4x8192x1024, .f32⟩
  | 4 => ⟨S4x2x4x8192x1024, .f32⟩
  | 5 => ⟨S4x2x8192x64x4, .f32⟩
  | 6 => ⟨S4x2x4x8192x64, .f32⟩
  | 7 => ⟨S1x8192, .i32⟩
  | 8 => ⟨S8192x1, .i32⟩
  | 9 => ⟨S8192x8192, .i32⟩
  | 10 => ⟨S8192x8192, .i32⟩
  | 11 => ⟨S8192x8192, .i1⟩
  | 12 => ⟨S1x8192, .i32⟩
  | 13 => ⟨S8192x1, .i32⟩
  | 14 => ⟨S_, .i32⟩
  | 15 => ⟨S8192x1, .i32⟩
  | 16 => ⟨S8192x1, .i32⟩
  | 17 => ⟨S8192x8192, .i32⟩
  | 18 => ⟨S8192x8192, .i32⟩
  | 19 => ⟨S8192x8192, .i1⟩
  | 20 => ⟨S8192x8192, .i1⟩
  | 21 => ⟨S4x2x4x8192x8192, .f32⟩
  | 22 => ⟨S_, .f32⟩
  | 23 => ⟨S4x2x4x8192x8192, .f32⟩
  | 24 => ⟨S4x2x4x8192x8192, .f32⟩
  | 25 => ⟨S_, .f32⟩
  | 26 => ⟨S_, .f32⟩
  | 27 => ⟨S4x2x4x8192x8192, .i1⟩
  | 28 => ⟨S4x2x4x8192x8192, .f32⟩
  | 29 => ⟨S4x2x4x8192x8192, .f32⟩
  | 30 => ⟨S_, .f32⟩
  | 31 => ⟨S4x2x4x8192, .f32⟩
  | 32 => ⟨S_, .f32⟩
  | 33 => ⟨S4x2x4x8192, .f32⟩
  | 34 => ⟨S4x2x4x8192, .f32⟩
  | 35 => ⟨S4x2x4x8192x1, .f32⟩
  | 36 => ⟨S4x2x4x8192x8192, .f32⟩
  | 37 => ⟨S4x2x4x8192x8192, .f32⟩
  | 38 => ⟨S4x2x4x8192x8192, .f32⟩
  | 39 => ⟨S_, .f32⟩
  | 40 => ⟨S4x2x4x8192, .f32⟩
  | 41 => ⟨S4x2x4x8192x1, .f32⟩
  | 42 => ⟨S4x2x4x8192x8192, .f32⟩
  | 43 => ⟨S4x2x4x8192x8192, .f32⟩
  | 44 => ⟨S4x2x4x8192x64, .f32⟩
  | 45 => ⟨S4x2x4x8192x1, .f32⟩
  | 46 => ⟨S4x2x4x8192x64, .f32⟩
  | 47 => ⟨S4x2x4x8192x64, .f32⟩
  | 48 => ⟨S4x2x4x8192x1, .f32⟩
  | 49 => ⟨S4x2x4x8192x64, .f32⟩
  | 50 => ⟨S4x2x4x8192x64, .f32⟩
  | 51 => ⟨S4x2x4x8192x64, .f32⟩
  | 52 => ⟨S4x2x4x8192x1, .f32⟩
  | 53 => ⟨S4x2x4x8192x64, .f32⟩
  | 54 => ⟨S4x2x4x8192x64, .f32⟩
  | 55 => ⟨S4x2x4x8192x64, .f32⟩
  | 56 => ⟨S4x2x4x64x8192, .f32⟩
  | 57 => ⟨S4x512x8192, .f32⟩
  | _ => ⟨S4x8192x8x64, .f32⟩

abbrev hbmTy (i : Nat) : BufTy := match i / 128 with
  | 0 => hbmTy0_0 i
  | 1 => hbmTy0_1 i
  | 2 => hbmTy0_2 i
  | _ => ⟨S4x8192x8x64, .f32⟩

abbrev bufTy : (tb : Table) → Fin (tcTables nBuf tb) → BufTy
  | .hbm, ⟨i, _⟩ => hbmTy i
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_c_7 : Ref sig .tc := ⟨.hbm, 59, rfl⟩
abbrev main_v42 : Ref sig .tc := ⟨.hbm, 60, rfl⟩
abbrev main_v43 : Ref sig .tc := ⟨.hbm, 61, rfl⟩
abbrev main_c_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_10 : Ref sig .tc := ⟨.hbm, 79, rfl⟩
abbrev main_call0_v0 : Ref sig .tc := ⟨.hbm, 80, rfl⟩
abbrev main_call0_v1 : Ref sig .tc := ⟨.hbm, 81, rfl⟩
abbrev main_call0_v2 : Ref sig .tc := ⟨.hbm, 82, rfl⟩
abbrev main_v59 : Ref sig .tc := ⟨.hbm, 83, rfl⟩
abbrev main_cst_11 : Ref sig .tc := ⟨.hbm, 84, rfl⟩
abbrev main_v60 : Ref sig .tc := ⟨.hbm, 85, rfl⟩
abbrev main_cst_12 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_14 : Ref sig .tc := ⟨.hbm, 98, rfl⟩
abbrev main_call1_v0 : Ref sig .tc := ⟨.hbm, 99, rfl⟩
abbrev main_call1_v1 : Ref sig .tc := ⟨.hbm, 100, rfl⟩
abbrev main_call1_v2 : Ref sig .tc := ⟨.hbm, 101, rfl⟩
abbrev main_v71 : Ref sig .tc := ⟨.hbm, 102, rfl⟩
abbrev main_v72 : Ref sig .tc := ⟨.hbm, 103, rfl⟩
abbrev main_cst_15 : Ref sig .tc := ⟨.hbm, 104, rfl⟩
abbrev main_v73 : Ref sig .tc := ⟨.hbm, 105, rfl⟩
abbrev main_v74 : Ref sig .tc := ⟨.hbm, 106, rfl⟩
abbrev main_c_16 : Ref sig .tc := ⟨.hbm, 107, rfl⟩
abbrev main_call2_v0 : Ref sig .tc := ⟨.hbm, 108, rfl⟩
abbrev main_call2_v1 : Ref sig .tc := ⟨.hbm, 109, rfl⟩
abbrev main_call2_v2 : Ref sig .tc := ⟨.hbm, 110, rfl⟩
abbrev main_call2_v3 : Ref sig .tc := ⟨.hbm, 111, rfl⟩
abbrev main_call2_v4 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_c : Ref sig .tc := ⟨.hbm, 117, rfl⟩
abbrev main_call2_v9 : Ref sig .tc := ⟨.hbm, 118, rfl⟩
abbrev main_call2_v10 : Ref sig .tc := ⟨.hbm, 119, rfl⟩
abbrev main_call2_v11 : Ref sig .tc := ⟨.hbm, 120, rfl⟩
abbrev main_call2_c_0 : Ref sig .tc := ⟨.hbm, 121, rfl⟩
abbrev main_call2_v12 : Ref sig .tc := ⟨.hbm, 122, rfl⟩
abbrev main_call2_v13 : Ref sig .tc := ⟨.hbm, 123, rfl⟩
abbrev main_v75 : Ref sig .tc := ⟨.hbm, 124, rfl⟩
abbrev main_v76 : Ref sig .tc := ⟨.hbm, 125, rfl⟩
abbrev main_c_17 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_c_18 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_c_19 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_cst_20 : Ref sig .tc := ⟨.hbm, 153, rfl⟩
abbrev main_call3_v0 : Ref sig .tc := ⟨.hbm, 154, rfl⟩
abbrev main_call3_v1 : Ref sig .tc := ⟨.hbm, 155, rfl⟩
abbrev main_call3_v2 : Ref sig .tc := ⟨.hbm, 156, rfl⟩
abbrev main_v101 : Ref sig .tc := ⟨.hbm, 157, rfl⟩
abbrev main_cst_21 : Ref sig .tc := ⟨.hbm, 158, rfl⟩
abbrev main_call4_v0 : Ref sig .tc := ⟨.hbm, 159, rfl⟩
abbrev main_call4_v1 : Ref sig .tc := ⟨.hbm, 160, rfl⟩
abbrev main_call4_v2 : Ref sig .tc := ⟨.hbm, 161, rfl⟩
abbrev main_v102 : Ref sig .tc := ⟨.hbm, 162, rfl⟩
abbrev main_values : Ref sig .tc := ⟨.hbm, 163, rfl⟩
abbrev main_indices : Ref sig .tc := ⟨.hbm, 164, rfl⟩
abbrev main_c_22 : Ref sig .tc := ⟨.hbm, 165, rfl⟩
abbrev main_v103 : Ref sig .tc := ⟨.hbm, 166, rfl⟩
abbrev main_v104 : Ref sig .tc := ⟨.hbm, 167, rfl⟩
abbrev main_c_23 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_c_24 : Ref sig .tc := ⟨.hbm, 172, rfl⟩
abbrev main_v108 : Ref sig .tc := ⟨.hbm, 173, rfl⟩
abbrev main_v109 : Ref sig .tc := ⟨.hbm, 174, rfl⟩
abbrev main_c_25 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_c_26 : Ref sig .tc := ⟨.hbm, 179, rfl⟩
abbrev main_v113 : Ref sig .tc := ⟨.hbm, 180, rfl⟩
abbrev main_v114 : Ref sig .tc := ⟨.hbm, 181, rfl⟩
abbrev main_c_27 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_c_28 : Ref sig .tc := ⟨.hbm, 194, rfl⟩
abbrev main_v126 : Ref sig .tc := ⟨.hbm, 195, rfl⟩
abbrev main_v127 : Ref sig .tc := ⟨.hbm, 196, rfl⟩
abbrev main_c_29 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_c_30 : Ref sig .tc := ⟨.hbm, 201, rfl⟩
abbrev main_v131 : Ref sig .tc := ⟨.hbm, 202, rfl⟩
abbrev main_v132 : Ref sig .tc := ⟨.hbm, 203, rfl⟩
abbrev main_c_31 : Ref sig .tc := ⟨.hbm, 204, rfl⟩
abbrev main_v133 : Ref sig .tc := ⟨.hbm, 205, rfl⟩
abbrev main_v134 : Ref sig .tc := ⟨.hbm, 206, rfl⟩
abbrev main_v135 : Ref sig .tc := ⟨.hbm, 207, rfl⟩
abbrev main_c_32 : Ref sig .tc := ⟨.hbm, 208, rfl⟩
abbrev main_v136 : Ref sig .tc := ⟨.hbm, 209, rfl⟩
abbrev main_v137 : Ref sig .tc := ⟨.hbm, 210, rfl⟩
abbrev main_c_33 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_c_34 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_v153 : Ref sig .tc := ⟨.hbm, 228, rfl⟩
abbrev main_v154 : Ref sig .tc := ⟨.hbm, 229, rfl⟩
abbrev main_v155 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_v162 : Ref sig .tc := ⟨.hbm, 237, rfl⟩
abbrev main_v163 : Ref sig .tc := ⟨.hbm, 238, rfl⟩
abbrev main_cst_35 : Ref sig .tc := ⟨.hbm, 239, rfl⟩
abbrev main_v164 : Ref sig .tc := ⟨.hbm, 240, rfl⟩
abbrev main_v165 : Ref sig .tc := ⟨.hbm, 241, rfl⟩
abbrev main_cst_36 : Ref sig .tc := ⟨.hbm, 242, rfl⟩
abbrev main_call5_v0 : Ref sig .tc := ⟨.hbm, 243, rfl⟩
abbrev main_call5_v1 : Ref sig .tc := ⟨.hbm, 244, rfl⟩
abbrev main_call5_v2 : Ref sig .tc := ⟨.hbm, 245, rfl⟩
abbrev main_v166 : Ref sig .tc := ⟨.hbm, 246, rfl⟩
abbrev main_cst_37 : Ref sig .tc := ⟨.hbm, 247, rfl⟩
abbrev main_v167 : Ref sig .tc := ⟨.hbm, 248, rfl⟩
abbrev main_cst_38 : Ref sig .tc := ⟨.hbm, 249, rfl⟩
abbrev main_v168 : Ref sig .tc := ⟨.hbm, 250, rfl⟩
abbrev main_v169 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_cst_39 : Ref sig .tc := ⟨.hbm, 256, rfl⟩
abbrev main_v174 : Ref sig .tc := ⟨.hbm, 257, rfl⟩
abbrev main_v175 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_v180 : Ref sig .tc := ⟨.hbm, 263, rfl⟩
abbrev main_v181 : Ref sig .tc := ⟨.hbm, 264, rfl⟩
abbrev main_v182 : Ref sig .tc := ⟨.hbm, 265, rfl⟩
abbrev main_v183 : Ref sig .tc := ⟨.hbm, 266, rfl⟩
abbrev main_v184 : Ref sig .tc := ⟨.hbm, 267, rfl⟩
abbrev main_v185 : Ref sig .tc := ⟨.hbm, 268, rfl⟩
abbrev main_v186 : Ref sig .tc := ⟨.hbm, 269, rfl⟩
abbrev main_c_40 : Ref sig .tc := ⟨.hbm, 270, rfl⟩
abbrev main_v187 : Ref sig .tc := ⟨.hbm, 271, rfl⟩
abbrev main_v188 : Ref sig .tc := ⟨.hbm, 272, rfl⟩
abbrev main_v189 : Ref sig .tc := ⟨.hbm, 273, rfl⟩
abbrev main_v190 : Ref sig .tc := ⟨.hbm, 274, rfl⟩
abbrev main_v191 : Ref sig .tc := ⟨.hbm, 275, rfl⟩
abbrev main_v192 : Ref sig .tc := ⟨.hbm, 276, rfl⟩
abbrev main_v193 : Ref sig .tc := ⟨.hbm, 277, rfl⟩
abbrev main_cst_41 : Ref sig .tc := ⟨.hbm, 278, rfl⟩
abbrev main_v194 : Ref sig .tc := ⟨.hbm, 279, rfl⟩
abbrev main_v195 : Ref sig .tc := ⟨.hbm, 280, rfl⟩
abbrev main_cst_42 : Ref sig .tc := ⟨.hbm, 281, rfl⟩
abbrev main_call6_v0 : Ref sig .tc := ⟨.hbm, 282, rfl⟩
abbrev main_call6_v1 : Ref sig .tc := ⟨.hbm, 283, rfl⟩
abbrev main_call6_v2 : Ref sig .tc := ⟨.hbm, 284, rfl⟩
abbrev main_v196 : Ref sig .tc := ⟨.hbm, 285, rfl⟩
abbrev main_cst_43 : Ref sig .tc := ⟨.hbm, 286, rfl⟩
abbrev main_v197 : Ref sig .tc := ⟨.hbm, 287, rfl⟩
abbrev main_cst_44 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_cst_45 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_v212 : Ref sig .tc := ⟨.hbm, 304, rfl⟩
abbrev main_v213 : Ref sig .tc := ⟨.hbm, 305, rfl⟩
abbrev main_v214 : Ref sig .tc := ⟨.hbm, 306, rfl⟩
abbrev main_v215 : Ref sig .tc := ⟨.hbm, 307, rfl⟩
abbrev main_v216 : Ref sig .tc := ⟨.hbm, 308, rfl⟩
abbrev main_v217 : Ref sig .tc := ⟨.hbm, 309, rfl⟩
abbrev main_v218 : Ref sig .tc := ⟨.hbm, 310, rfl⟩
abbrev main_v219 : Ref sig .tc := ⟨.hbm, 311, rfl⟩
abbrev main_v220 : Ref sig .tc := ⟨.hbm, 312, rfl⟩
abbrev main_v221 : Ref sig .tc := ⟨.hbm, 313, rfl⟩

abbrev nD : Nat := 1
abbrev τ : Topo := Topo.v7x

variable {F : FTy → Type} [FloatOps F]
-- ==== Experts.lean ====
abbrev S288 : Shape := ⟨1, ![288]⟩
abbrev S1 : Shape := ⟨1, ![1]⟩
abbrev S147456x1024 : Shape := ⟨2, ![147456, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S32x1x2048 : Shape := ⟨3, ![32, 1, 2048]⟩
abbrev S32x1x1024 : Shape := ⟨3, ![32, 1, 1024]⟩
abbrev S512x1024 : Shape := ⟨2, ![512, 1024]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S1024x2048 : Shape := ⟨2, ![1024, 2048]⟩
abbrev S1024x1024 : Shape := ⟨2, ![1024, 1024]⟩
abbrev S512x2048 : Shape := ⟨2, ![512, 2048]⟩
abbrev S1x2048 : Shape := ⟨2, ![1, 2048]⟩
abbrev S1x1024 : Shape := ⟨2, ![1, 1024]⟩

abbrev nBuf : Space → Nat
  | .hbm => 8
  | .vmem => 14
  | .smem => 2
  | _ => 0

abbrev bufTy : (tb : Table) → Fin (tcTables nBuf tb) → BufTy
  | .hbm, ⟨0, _⟩ => ⟨S147456x1024, .f32⟩
  | .hbm, ⟨1, _⟩ => ⟨S32x1024x2048, .f32⟩
  | .hbm, ⟨2, _⟩ => ⟨S32x2048, .f32⟩
  | .hbm, ⟨3, _⟩ => ⟨S32x1024x1024, .f32⟩
  | .hbm, ⟨4, _⟩ => ⟨S32x1024, .f32⟩
  | .hbm, ⟨5, _⟩ => ⟨S32x1x2048, .f32⟩
  | .hbm, ⟨6, _⟩ => ⟨S32x1x1024, .f32⟩
  | .hbm, ⟨7, _⟩ => ⟨S147456x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S147456x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== BlocksIdeal.lean ====
abbrev S288 : Shape := ⟨1, ![288]⟩
abbrev S1 : Shape := ⟨1, ![1]⟩
abbrev S147456x1024 : Shape := ⟨2, ![147456, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288x512x1024 : Shape := ⟨3, ![288, 512, 1024]⟩
abbrev S_ : Shape := ⟨0, ![]⟩
abbrev S288x1 : Shape := ⟨2, ![288, 1]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S288x1x1 : Shape := ⟨3, ![288, 1, 1]⟩
abbrev S1x1x1 : Shape := ⟨3, ![1, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S147456x1024, .f32⟩
  | .hbm, ⟨3, _⟩ => ⟨S32x1024x2048, .f32⟩
  | .hbm, ⟨4, _⟩ => ⟨S32x2048, .f32⟩
  | .hbm, ⟨5, _⟩ => ⟨S32x1024x1024, .f32⟩
  | .hbm, ⟨6, _⟩ => ⟨S32x1024, .f32⟩
  | .hbm, ⟨7, _⟩ => ⟨S288x512x1024, .f32⟩
  | .hbm, ⟨8, _⟩ => ⟨S_, .i32⟩
  | .hbm, ⟨9, _⟩ => ⟨S288, .i32⟩
  | .hbm, ⟨10, _⟩ => ⟨S288, .i1⟩
  | .hbm, ⟨11, _⟩ => ⟨S_, .i32⟩
  | .hbm, ⟨12, _⟩ => ⟨S288, .i32⟩
  | .hbm, ⟨13, _⟩ => ⟨S288, .i32⟩
  | .hbm, ⟨14, _⟩ => ⟨S288, .i32⟩
  | .hbm, ⟨15, _⟩ => ⟨S288x1, .i32⟩
  | .hbm, ⟨16, _⟩ => ⟨S288x1024x2048, .f32⟩
  | .hbm, ⟨17, _⟩ => ⟨S288x512x2048, .f32⟩
  | .hbm, ⟨18, _⟩ => ⟨S_, .i32⟩
  | .hbm, ⟨19, _⟩ => ⟨S288, .i32⟩
  | .hbm, ⟨20, _⟩ => ⟨S288, .i1⟩
  | .hbm, ⟨21, _⟩ => ⟨S_, .i32⟩
  | .hbm, ⟨22, _⟩ => ⟨S288, .i32⟩
  | .hbm, ⟨23, _⟩ => ⟨S288, .i32⟩
  | .hbm, ⟨24, _⟩ => ⟨S288, .i32⟩
  | .hbm, ⟨25, _⟩ => ⟨S288x1, .i32⟩
  | .hbm, ⟨26, _⟩ => ⟨S288x2048, .f32⟩
  | .hbm, ⟨27, _⟩ => ⟨S288x1x2048, .f32⟩
  | .hbm, ⟨28, _⟩ => ⟨S288x512x2048, .f32⟩
  | .hbm, ⟨29, _⟩ => ⟨S288x512x2048, .f32⟩
  | .hbm, ⟨30, _⟩ => ⟨S288x512x1024, .f32⟩
  | .hbm, ⟨31, _⟩ => ⟨S288x512x1024, .f32⟩
  | .hbm, ⟨32, _⟩ => ⟨S_, .f32⟩
  | .hbm, ⟨33, _⟩ => ⟨S288x512x1024, .f32⟩
  | .hbm, ⟨34, _⟩ => ⟨S288x512x1024, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S288x512x1024, .f32⟩
  | .hbm, ⟨39, _⟩ => ⟨S288x512x1024, .f32⟩
  | .hbm, ⟨40, _⟩ => ⟨S_, .f32⟩
  | .hbm, ⟨41, _⟩ => ⟨S288x512x1024, .f32⟩
  | .hbm, ⟨42, _⟩ => ⟨S288x512x1024, .f32⟩
  | .hbm, ⟨43, _⟩ => ⟨S_, .f32⟩
  | .hbm, ⟨44, _⟩ => ⟨S288x512x1024, .f32⟩
  | .hbm, ⟨45, _⟩ => ⟨S288x512x1024, .f32⟩
  | .hbm, ⟨46, _⟩ => ⟨S288x512x1024, .f32⟩
  | .hbm, ⟨47, _⟩ => ⟨S288x512x1024, .f32⟩
  | .hbm, ⟨48, _⟩ => ⟨S_, .f32⟩
  | .hbm, ⟨49, _⟩ => ⟨S288x512x1024, .f32⟩
  | .hbm, ⟨50, _⟩ => ⟨S288x512x1024, .f32⟩
  | .hbm, ⟨51, _⟩ => ⟨S_, .f32⟩
  | .hbm, ⟨52, _⟩ => ⟨S288x512x1024, .f32⟩
  | .hbm, ⟨53, _⟩ => ⟨S288x512x1024, .f32⟩
  | .hbm, ⟨54, _⟩ => ⟨S288x512x1024, .f32⟩
  | .hbm, ⟨55, _⟩ => ⟨S_, .f32⟩
  | .hbm, ⟨56, _⟩ => ⟨S288x512x1024, .f32⟩
  | .hbm, ⟨57, _⟩ => ⟨S288x512x1024, .f32⟩
  | .hbm, ⟨58, _⟩ => ⟨S288x512x1024, .f32⟩
  | .hbm, ⟨59, _⟩ => ⟨S_, .i32⟩
  | .hbm, ⟨60, _⟩ => ⟨S288, .i32⟩
  | .hbm, ⟨61, _⟩ => ⟨S288, .i1⟩
  | .hbm, ⟨62, _⟩ => ⟨S_, .i32⟩
  | .hbm, ⟨63, _⟩ => ⟨S288, .i32⟩
  | .hbm, ⟨64, _⟩ => ⟨S288, .i32⟩
  | .hbm, ⟨65, _⟩ => ⟨S288, .i32⟩
  | .hbm, ⟨66, _⟩ => ⟨S288x1, .i32⟩
  | .hbm, ⟨67, _⟩ => ⟨S288x1024x1024, .f32⟩
  | .hbm, ⟨68, _⟩ => ⟨S288x512x1024, .f32⟩
  | .hbm, ⟨69, _⟩ => ⟨S_, .i32⟩
  | .hbm, ⟨70, _⟩ => ⟨S288, .i32⟩
  | .hbm, ⟨71, _⟩ => ⟨S288, .i1⟩
  | .hbm, ⟨72, _⟩ => ⟨S_, .i32⟩
  | .hbm, ⟨73, _⟩ => ⟨S288, .i32⟩
  | .hbm, ⟨74, _⟩ => ⟨S288, .i32⟩
  | .hbm, ⟨75, _⟩ => ⟨S288, .i32⟩
  | .hbm, ⟨76, _⟩ => ⟨S288x1, .i32⟩
  | .hbm, ⟨77, _⟩ => ⟨S288x1024, .f32⟩
  | .hbm, ⟨78, _⟩ => ⟨S288x1x1024, .f32⟩
  | .hbm, ⟨79, _⟩ => ⟨S288x512x1024, .f32⟩
  | .hbm, ⟨80, _⟩ => ⟨S288x512x1024, .f32⟩
  | .hbm, ⟨81, _⟩ => ⟨S288, .i32⟩
  | .hbm, ⟨82, _⟩ => ⟨S288x1x1, .i32⟩
  | .hbm, ⟨83, _⟩ => ⟨S1x1x1, .i32⟩
  | .hbm, ⟨84, _⟩ => ⟨S288x1x1, .i32⟩
  | .hbm, ⟨85, _⟩ => ⟨S288x1x1, .i1⟩
  | .hbm, ⟨86, _⟩ => ⟨S_, .f32⟩
  | .hbm, ⟨87, _⟩ => ⟨S_, .f32⟩
  | .hbm, ⟨88, _⟩ => ⟨S288x512x1024, .i1⟩
  | .hbm, ⟨89, _⟩ => ⟨S288x512x1024, .f32⟩
  | .hbm, ⟨90, _⟩ => ⟨S288x512x1024, .f32⟩
  | .hbm, ⟨91, _⟩ => ⟨S147456x1024, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_cst_7 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Proof.KernelIdealTier.lean ====
/-
The tier of a grid point: which branch of the switch its body takes, and the staging buffers its body is given.
-/
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The switch's index at a grid point, as the body computes it: the last query block's number of visible
compressed rows, less one, over 128, kept in 0..3. -/
abbrev tierW (i : grid0.Coords) : BitVec 32 :=
  let v0 : BitVec 32 := Scalar.muli (BitVec.ofNat 32 (i 1).val) 256#32
  let v60 : BitVec 32 := Scalar.addi v0 256#32
  let v61 : BitVec 32 := Scalar.subi v60 32#32
  let v62 : BitVec 32 := Scalar.divsi v61 16#32
  let v63 : BitVec 1 := Scalar.cmpi .sgt v61 0#32
  let v64 : BitVec 32 := Scalar.extui v63
  let v65 : BitVec 1 := Scalar.cmpi .slt v61 0#32
  let v66 : BitVec 32 := Scalar.extui v65
  let v67 : BitVec 32 := Scalar.subi v64 v66
  let v68 : BitVec 1 := Scalar.cmpi .sgt 16#32 0#32
  let v69 : BitVec 32 := Scalar.extui v68
  let v70 : BitVec 1 := Scalar.cmpi .slt 16#32 0#32
  let v71 : BitVec 32 := Scalar.extui v70
  let v72 : BitVec 32 := Scalar.subi v69 v71
  let v73 : BitVec 1 := Scalar.cmpi .ne v67 v72
  let v74 : BitVec 32 := Scalar.remsi v61 16#32
  let v75 : BitVec 1 := Scalar.cmpi .ne v74 0#32
  let v76 : BitVec 1 := Scalar.andi v73 v75
  let v77 : BitVec 32 := Scalar.subi v62 1#32
  let v78 : BitVec 32 := Scalar.select v76 v77 v62
  let v79 : BitVec 32 := Scalar.addi v78 1#32
  let v80 : BitVec 32 := Scalar.subi v79 1#32
  let v81 : BitVec 32 := Scalar.divsi v80 128#32
  let v82 : BitVec 1 := Scalar.cmpi .sgt v80 0#32
  let v83 : BitVec 32 := Scalar.extui v82
  let v84 : BitVec 1 := Scalar.cmpi .slt v80 0#32
  let v85 : BitVec 32 := Scalar.extui v84
  let v86 : BitVec 32 := Scalar.subi v83 v85
  let v87 : BitVec 1 := Scalar.cmpi .sgt 128#32 0#32
  let v88 : BitVec 32 := Scalar.extui v87
  let v89 : BitVec 1 := Scalar.cmpi .slt 128#32 0#32
  let v90 : BitVec 32 := Scalar.extui v89
  let v91 : BitVec 32 := Scalar.subi v88 v90
  let v92 : BitVec 1 := Scalar.cmpi .ne v86 v91
  let v93 : BitVec 32 := Scalar.remsi v80 128#32
  let v94 : BitVec 1 := Scalar.cmpi .ne v93 0#32
  let v95 : BitVec 1 := Scalar.andi v92 v94
  let v96 : BitVec 32 := Scalar.subi v81 1#32
  let v97 : BitVec 32 := Scalar.select v95 v96 v81
  let v98 : BitVec 32 := Scalar.maxsi 0#32 v97
  let v99 : BitVec 32 := Scalar.minsi 3#32 v98
  let v100 : BitVec 32 := Scalar.maxsi v99 0#32
  let v101 : BitVec 32 := Scalar.minsi v100 3#32
  v101

/-- The tier of a grid point: eight query blocks to a tier. -/
def tier (i : grid0.Coords) : ℕ := (i 1).val / 8

set_option maxRecDepth 65536 in
/-- The switch's index is the tier, at each of the 32 query blocks. -/
theorem tierW_eq (i : grid0.Coords) : tierW i = BitVec.ofNat 32 (tier i) := by
  have h : ∀ n : Fin 32, (fun k : ℕ =>
      let v0 : BitVec 32 := Scalar.muli (BitVec.ofNat 32 k) 256#32
      let v60 : BitVec 32 := Scalar.addi v0 256#32
      let v61 : BitVec 32 := Scalar.subi v60 32#32
      let v62 : BitVec 32 := Scalar.divsi v61 16#32
      let v63 : BitVec 1 := Scalar.cmpi .sgt v61 0#32
      let v64 : BitVec 32 := Scalar.extui v63
      let v65 : BitVec 1 := Scalar.cmpi .slt v61 0#32
      let v66 : BitVec 32 := Scalar.extui v65
      let v67 : BitVec 32 := Scalar.subi v64 v66
      let v68 : BitVec 1 := Scalar.cmpi .sgt 16#32 0#32
      let v69 : BitVec 32 := Scalar.extui v68
      let v70 : BitVec 1 := Scalar.cmpi .slt 16#32 0#32
      let v71 : BitVec 32 := Scalar.extui v70
      let v72 : BitVec 32 := Scalar.subi v69 v71
      let v73 : BitVec 1 := Scalar.cmpi .ne v67 v72
      let v74 : BitVec 32 := Scalar.remsi v61 16#32
      let v75 : BitVec 1 := Scalar.cmpi .ne v74 0#32
      let v76 : BitVec 1 := Scalar.andi v73 v75
      let v77 : BitVec 32 := Scalar.subi v62 1#32
      let v78 : BitVec 32 := Scalar.select v76 v77 v62
      let v79 : BitVec 32 := Scalar.addi v78 1#32
      let v80 : BitVec 32 := Scalar.subi v79 1#32
      let v81 : BitVec 32 := Scalar.divsi v80 128#32
      let v82 : BitVec 1 := Scalar.cmpi .sgt v80 0#32
      let v83 : BitVec 32 := Scalar.extui v82
      let v84 : BitVec 1 := Scalar.cmpi .slt v80 0#32
      let v85 : BitVec 32 := Scalar.extui v84
      let v86 : BitVec 32 := Scalar.subi v83 v85
      let v87 : BitVec 1 := Scalar.cmpi .sgt 128#32 0#32
      let v88 : BitVec 32 := Scalar.extui v87
      let v89 : BitVec 1 := Scalar.cmpi .slt 128#32 0#32
      let v90 : BitVec 32 := Scalar.extui v89
      let v91 : BitVec 32 := Scalar.subi v88 v90
      let v92 : BitVec 1 := Scalar.cmpi .ne v86 v91
      let v93 : BitVec 32 := Scalar.remsi v80 128#32
      let v94 : BitVec 1 := Scalar.cmpi .ne v93 0#32
      let v95 : BitVec 1 := Scalar.andi v92 v94
      let v96 : BitVec 32 := Scalar.subi v81 1#32
      let v97 : BitVec 32 := Scalar.select v95 v96 v81
      let v98 : BitVec 32 := Scalar.maxsi 0#32 v97
      let v99 : BitVec 32 := Scalar.minsi 3#32 v98
      let v100 : BitVec 32 := Scalar.maxsi v99 0#32
      let v101 : BitVec 32 := Scalar.minsi v100 3#32
      v101) n.val = BitVec.ofNat 32 (n.val / 8) := by decide +kernel
  exact h (i 1)

/-- The switch's first test, -/
theorem cond1 (i : grid0.Coords) : Scalar.cmpi .ne (tierW i) 0#32 = 1#1 ↔ 1 ≤ tier i := by
  rw [tierW_eq]
  have h : ∀ n : Fin 32, Scalar.cmpi .ne (BitVec.ofNat 32 (n.val / 8)) 0#32 = 1#1 ↔ 1 ≤ n.val / 8 := by decide +kernel
  exact h (i 1)
/-- its second, -/
theorem cond2 (i : grid0.Coords) (h1 : 1 ≤ tier i) : Scalar.cmpi .ne (Scalar.subi (tierW i) 1#32) 0#32 = 1#1 ↔ 2 ≤ tier i := by
  rw [tierW_eq]
  have h : ∀ n : Fin 32, 1 ≤ n.val / 8 → (Scalar.cmpi .ne (Scalar.subi (BitVec.ofNat 32 (n.val / 8)) 1#32) 0#32 = 1#1 ↔ 2 ≤ n.val / 8) := by decide +kernel
  exact h (i 1) h1
/-- its third. -/
theorem cond3 (i : grid0.Coords) (h1 : 2 ≤ tier i) : Scalar.cmpi .ne (Scalar.subi (Scalar.subi (tierW i) 1#32) 1#32) 0#32 = 1#1 ↔ 3 ≤ tier i := by
  rw [tierW_eq]
  have h : ∀ n : Fin 32, 2 ≤ n.val / 8 → (Scalar.cmpi .ne (Scalar.subi (Scalar.subi (BitVec.ofNat 32 (n.val / 8)) 1#32) 1#32) 0#32 = 1#1 ↔ 3 ≤ n.val / 8) := by decide +kernel
  exact h (i 1) h1
/-- No tier is above 3. -/
theorem tier_le (i : grid0.Coords) : tier i ≤ 3 := by
  have : (i 1).val < 32 := (i 1).isLt
  unfold tier; omega

/-- One staging buffer of output window 7, through which its contents are stated (`View.read_writes_of_cover`: the
    choice does not matter). -/
abbrev VO0_7 : View sig .tc .vmem S1x512x256 .f32 := (Memref.whole cc0_stg7_0 : Memref sig .tc .vmem S1x512x256 .f32).view
/-- Each window's current staging memref at point `t`, spelled as the pipeline passes it (`bodyAt0`), and its wholeness. -/
abbrev ms0_0 (t : Fin cfg0.N) : Memref sig .tc .vmem S1x512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x8192 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x2x512x64 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x64x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512x256 .f32 := win0_7.stage (cfg0.slots t 7)
abbrev hs0_7 (t : Fin cfg0.N) : (ms0_7 t).IsWhole := hstage0_7 ((cfg0.slots t 7).cast nbuf0_7)

end Cert.KernelIdeal.Own

end
-- ==== Proof.KernelIdealRunA.lean ====
/-
The run of the kernel body whose switch takes the branch of tier 0.
-/
module

public import proofs.«01_k».proof.Proof.KernelIdealTier

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- What the body's stores leave in the output's staging buffer when the switch takes the branch of tier 0, as pieces
(last first), with the run of the body on whole staging buffers: the inputs' buffers keep their contents. -/
noncomputable def runA (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (hc1 : ¬ Scalar.cmpi .ne (tierW i) 0#32 = 1#1)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) :
    { L7 : List (View.Piece (Elt F) S1x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0_nsa i arg2 harg2 arg3 harg3 arg4 harg4 arg5 harg5 arg6 harg6 arg7 harg7 arg8 harg8 arg9 harg9) K } := by
  refine ⟨?_, fun E K => ?run⟩
  case run =>
    simp only [cc0_nsa_eq_skeleton]; unfold cc0_nsa_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Own

end
-- ==== Proof.KernelIdealRunB.lean ====
/-
The run of the kernel body whose switch takes the branch of tier 1.
-/
module

public import proofs.«01_k».proof.Proof.KernelIdealRunA

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- What the body's stores leave in the output's staging buffer when the switch takes the branch of tier 1, as pieces
(last first), with the run of the body on whole staging buffers: the inputs' buffers keep their contents. -/
noncomputable def runB (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (hc1 : Scalar.cmpi .ne (tierW i) 0#32 = 1#1) (hc2 : ¬ Scalar.cmpi .ne (Scalar.subi (tierW i) 1#32) 0#32 = 1#1)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) :
    { L7 : List (View.Piece (Elt F) S1x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0_nsa i arg2 harg2 arg3 harg3 arg4 harg4 arg5 harg5 arg6 harg6 arg7 harg7 arg8 harg8 arg9 harg9) K } := by
  refine ⟨?_, fun E K => ?run⟩
  case run =>
    simp only [cc0_nsa_eq_skeleton]; unfold cc0_nsa_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Own

end
-- ==== Proof.KernelIdealRunC.lean ====
/-
The run of the kernel body whose switch takes the branch of tier 2.
-/
module

public import proofs.«01_k».proof.Proof.KernelIdealRunB

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- What the body's stores leave in the output's staging buffer when the switch takes the branch of tier 2, as pieces
(last first), with the run of the body on whole staging buffers: the inputs' buffers keep their contents. -/
noncomputable def runC (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (hc1 : Scalar.cmpi .ne (tierW i) 0#32 = 1#1) (hc2 : Scalar.cmpi .ne (Scalar.subi (tierW i) 1#32) 0#32 = 1#1) (hc3 : ¬ Scalar.cmpi .ne (Scalar.subi (Scalar.subi (tierW i) 1#32) 1#32) 0#32 = 1#1)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) :
    { L7 : List (View.Piece (Elt F) S1x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0_nsa i arg2 harg2 arg3 harg3 arg4 harg4 arg5 harg5 arg6 harg6 arg7 harg7 arg8 harg8 arg9 harg9) K } := by
  refine ⟨?_, fun E K => ?run⟩
  case run =>
    simp only [cc0_nsa_eq_skeleton]; unfold cc0_nsa_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Own

end
-- ==== Proof.KernelIdealRunD.lean ====
/-
The run of the kernel body whose switch takes the branch of tier 3.
-/
module

public import proofs.«01_k».proof.Proof.KernelIdealRunC

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- What the body's stores leave in the output's staging buffer when the switch takes the branch of tier 3, as pieces
(last first), with the run of the body on whole staging buffers: the inputs' buffers keep their contents. -/
noncomputable def runD (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (hc1 : Scalar.cmpi .ne (tierW i) 0#32 = 1#1) (hc2 : Scalar.cmpi .ne (Scalar.subi (tierW i) 1#32) 0#32 = 1#1) (hc3 : Scalar.cmpi .ne (Scalar.subi (Scalar.subi (tierW i) 1#32) 1#32) 0#32 = 1#1)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) :
    { L7 : List (View.Piece (Elt F) S1x512x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7)) -∗ K ⟨⟩))
          ⊢ wp frame (wpE (defs₀ (F := F)) Variants.none c none) E (cc0_nsa i arg2 harg2 arg3 harg3 arg4 harg4 arg5 harg5 arg6 harg6 arg7 harg7 arg8 harg8 arg9 harg9) K } := by
  refine ⟨?_, fun E K => ?run⟩
  case run =>
    simp only [cc0_nsa_eq_skeleton]; unfold cc0_nsa_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexists _; iexact H7

end Cert.KernelIdeal.Own

end
-- ==== Proof.KernelIdealFrame.lean ====
/-
The frame of the attention call: what a grid point leaves in the output block, the pipeline's data, the run, and the arguments it leaves as they were.
-/
module

public import proofs.«01_k».proof.Proof.KernelIdealRunD
public import Idealize.ShloMosaic.Lib.Claim

@[expose] public section

set_option maxRecDepth 16384

noncomputable section

namespace Cert.KernelIdeal.Own

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Tier 0's eight stores tile the output block. -/
theorem coverA (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (hc1 : ¬ Scalar.cmpi .ne (tierW i) 0#32 = 1#1)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) (y : S1x512x256.Idx) :
    ∃ pc ∈ (runA c i arg2 harg2 arg3 harg3 arg4 harg4 arg5 harg5 arg6 harg6 arg7 harg7 arg8 harg8 arg9 harg9 hc1 x0 x1 x2 x3 x4 x5 x6).1, y ∈ pc.1.set :=
  View.cover_of_tiledL (runA c i arg2 harg2 arg3 harg3 arg4 harg4 arg5 harg5 arg6 harg6 arg7 harg7 arg8 harg8 arg9 harg9 hc1 x0 x1 x2 x3 x4 x5 x6).1 S1x64x256.size (by sl_kernel_rfl) y

/-- Tier 1's eight stores tile the output block. -/
theorem coverB (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (hc1 : Scalar.cmpi .ne (tierW i) 0#32 = 1#1) (hc2 : ¬ Scalar.cmpi .ne (Scalar.subi (tierW i) 1#32) 0#32 = 1#1)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) (y : S1x512x256.Idx) :
    ∃ pc ∈ (runB c i arg2 harg2 arg3 harg3 arg4 harg4 arg5 harg5 arg6 harg6 arg7 harg7 arg8 harg8 arg9 harg9 hc1 hc2 x0 x1 x2 x3 x4 x5 x6).1, y ∈ pc.1.set :=
  View.cover_of_tiledL (runB c i arg2 harg2 arg3 harg3 arg4 harg4 arg5 harg5 arg6 harg6 arg7 harg7 arg8 harg8 arg9 harg9 hc1 hc2 x0 x1 x2 x3 x4 x5 x6).1 S1x64x256.size (by sl_kernel_rfl) y

/-- Tier 2's eight stores tile the output block. -/
theorem coverC (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (hc1 : Scalar.cmpi .ne (tierW i) 0#32 = 1#1) (hc2 : Scalar.cmpi .ne (Scalar.subi (tierW i) 1#32) 0#32 = 1#1) (hc3 : ¬ Scalar.cmpi .ne (Scalar.subi (Scalar.subi (tierW i) 1#32) 1#32) 0#32 = 1#1)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) (y : S1x512x256.Idx) :
    ∃ pc ∈ (runC c i arg2 harg2 arg3 harg3 arg4 harg4 arg5 harg5 arg6 harg6 arg7 harg7 arg8 harg8 arg9 harg9 hc1 hc2 hc3 x0 x1 x2 x3 x4 x5 x6).1, y ∈ pc.1.set :=
  View.cover_of_tiledL (runC c i arg2 harg2 arg3 harg3 arg4 harg4 arg5 harg5 arg6 harg6 arg7 harg7 arg8 harg8 arg9 harg9 hc1 hc2 hc3 x0 x1 x2 x3 x4 x5 x6).1 S1x64x256.size (by sl_kernel_rfl) y

/-- Tier 3's eight stores tile the output block. -/
theorem coverD (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (hc1 : Scalar.cmpi .ne (tierW i) 0#32 = 1#1) (hc2 : Scalar.cmpi .ne (Scalar.subi (tierW i) 1#32) 0#32 = 1#1) (hc3 : Scalar.cmpi .ne (Scalar.subi (Scalar.subi (tierW i) 1#32) 1#32) 0#32 = 1#1)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) (y : S1x512x256.Idx) :
    ∃ pc ∈ (runD c i arg2 harg2 arg3 harg3 arg4 harg4 arg5 harg5 arg6 harg6 arg7 harg7 arg8 harg8 arg9 harg9 hc1 hc2 hc3 x0 x1 x2 x3 x4 x5 x6).1, y ∈ pc.1.set :=
  View.cover_of_tiledL (runD c i arg2 harg2 arg3 harg3 arg4 harg4 arg5 harg5 arg6 harg6 arg7 harg7 arg8 harg8 arg9 harg9 hc1 hc2 hc3 x0 x1 x2 x3 x4 x5 x6).1 S1x64x256.size (by sl_kernel_rfl) y

/-- The pieces the body leaves at a grid point: those of its tier. -/
def pieces (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) : List (View.Piece (Elt F) S1x512x256 .f32) :=
  if hc1 : Scalar.cmpi .ne (tierW i) 0#32 = 1#1 then
    if hc2 : Scalar.cmpi .ne (Scalar.subi (tierW i) 1#32) 0#32 = 1#1 then
      if hc3 : Scalar.cmpi .ne (Scalar.subi (Scalar.subi (tierW i) 1#32) 1#32) 0#32 = 1#1 then
        (runD c i arg2 harg2 arg3 harg3 arg4 harg4 arg5 harg5 arg6 harg6 arg7 harg7 arg8 harg8 arg9 harg9 hc1 hc2 hc3 x0 x1 x2 x3 x4 x5 x6).1
      else (runC c i arg2 harg2 arg3 harg3 arg4 harg4 arg5 harg5 arg6 harg6 arg7 harg7 arg8 harg8 arg9 harg9 hc1 hc2 hc3 x0 x1 x2 x3 x4 x5 x6).1
    else (runB c i arg2 harg2 arg3 harg3 arg4 harg4 arg5 harg5 arg6 harg6 arg7 harg7 arg8 harg8 arg9 harg9 hc1 hc2 x0 x1 x2 x3 x4 x5 x6).1
  else (runA c i arg2 harg2 arg3 harg3 arg4 harg4 arg5 harg5 arg6 harg6 arg7 harg7 arg8 harg8 arg9 harg9 hc1 x0 x1 x2 x3 x4 x5 x6).1

/-- The pieces at a point of tier 0. -/
theorem piecesA (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) (hc1 : ¬ Scalar.cmpi .ne (tierW i) 0#32 = 1#1) :
    pieces c i arg2 harg2 arg3 harg3 arg4 harg4 arg5 harg5 arg6 harg6 arg7 harg7 arg8 harg8 arg9 harg9 x0 x1 x2 x3 x4 x5 x6 = (runA c i arg2 harg2 arg3 harg3 arg4 harg4 arg5 harg5 arg6 harg6 arg7 harg7 arg8 harg8 arg9 harg9 hc1 x0 x1 x2 x3 x4 x5 x6).1 := by
  unfold pieces; rw [dif_neg hc1]

/-- The pieces at a point of tier 1. -/
theorem piecesB (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) (hc1 : Scalar.cmpi .ne (tierW i) 0#32 = 1#1) (hc2 : ¬ Scalar.cmpi .ne (Scalar.subi (tierW i) 1#32) 0#32 = 1#1) :
    pieces c i arg2 harg2 arg3 harg3 arg4 harg4 arg5 harg5 arg6 harg6 arg7 harg7 arg8 harg8 arg9 harg9 x0 x1 x2 x3 x4 x5 x6 = (runB c i arg2 harg2 arg3 harg3 arg4 harg4 arg5 harg5 arg6 harg6 arg7 harg7 arg8 harg8 arg9 harg9 hc1 hc2 x0 x1 x2 x3 x4 x5 x6).1 := by
  unfold pieces; rw [dif_pos hc1, dif_neg hc2]

/-- The pieces at a point of tier 2. -/
theorem piecesC (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) (hc1 : Scalar.cmpi .ne (tierW i) 0#32 = 1#1) (hc2 : Scalar.cmpi .ne (Scalar.subi (tierW i) 1#32) 0#32 = 1#1) (hc3 : ¬ Scalar.cmpi .ne (Scalar.subi (Scalar.subi (tierW i) 1#32) 1#32) 0#32 = 1#1) :
    pieces c i arg2 harg2 arg3 harg3 arg4 harg4 arg5 harg5 arg6 harg6 arg7 harg7 arg8 harg8 arg9 harg9 x0 x1 x2 x3 x4 x5 x6 = (runC c i arg2 harg2 arg3 harg3 arg4 harg4 arg5 harg5 arg6 harg6 arg7 harg7 arg8 harg8 arg9 harg9 hc1 hc2 hc3 x0 x1 x2 x3 x4 x5 x6).1 := by
  unfold pieces; rw [dif_pos hc1, dif_pos hc2, dif_neg hc3]

/-- The pieces at a point of tier 3. -/
theorem piecesD (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) (hc1 : Scalar.cmpi .ne (tierW i) 0#32 = 1#1) (hc2 : Scalar.cmpi .ne (Scalar.subi (tierW i) 1#32) 0#32 = 1#1) (hc3 : Scalar.cmpi .ne (Scalar.subi (Scalar.subi (tierW i) 1#32) 1#32) 0#32 = 1#1) :
    pieces c i arg2 harg2 arg3 harg3 arg4 harg4 arg5 harg5 arg6 harg6 arg7 harg7 arg8 harg8 arg9 harg9 x0 x1 x2 x3 x4 x5 x6 = (runD c i arg2 harg2 arg3 harg3 arg4 harg4 arg5 harg5 arg6 harg6 arg7 harg7 arg8 harg8 arg9 harg9 hc1 hc2 hc3 x0 x1 x2 x3 x4 x5 x6).1 := by
  unfold pieces; rw [dif_pos hc1, dif_pos hc2, dif_pos hc3]

/-- They cover the output block. -/
theorem cover (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) (y : S1x512x256.Idx) :
    ∃ pc ∈ pieces c i arg2 harg2 arg3 harg3 arg4 harg4 arg5 harg5 arg6 harg6 arg7 harg7 arg8 harg8 arg9 harg9 x0 x1 x2 x3 x4 x5 x6, y ∈ pc.1.set := by
  unfold pieces
  by_cases hc1 : Scalar.cmpi .ne (tierW i) 0#32 = 1#1
  · rw [dif_pos hc1]
    by_cases hc2 : Scalar.cmpi .ne (Scalar.subi (tierW i) 1#32) 0#32 = 1#1
    · rw [dif_pos hc2]
      by_cases hc3 : Scalar.cmpi .ne (Scalar.subi (Scalar.subi (tierW i) 1#32) 1#32) 0#32 = 1#1
      · rw [dif_pos hc3]; exact coverD c i arg2 harg2 arg3 harg3 arg4 harg4 arg5 harg5 arg6 harg6 arg7 harg7 arg8 harg8 arg9 harg9 hc1 hc2 hc3 x0 x1 x2 x3 x4 x5 x6 y
      · rw [dif_neg hc3]; exact coverC c i arg2 harg2 arg3 harg3 arg4 harg4 arg5 harg5 arg6 harg6 arg7 harg7 arg8 harg8 arg9 harg9 hc1 hc2 hc3 x0 x1 x2 x3 x4 x5 x6 y
    · rw [dif_neg hc2]; exact coverB c i arg2 harg2 arg3 harg3 arg4 harg4 arg5 harg5 arg6 harg6 arg7 harg7 arg8 harg8 arg9 harg9 hc1 hc2 x0 x1 x2 x3 x4 x5 x6 y
  · rw [dif_neg hc1]; exact coverA c i arg2 harg2 arg3 harg3 arg4 harg4 arg5 harg5 arg6 harg6 arg7 harg7 arg8 harg8 arg9 harg9 hc1 x0 x1 x2 x3 x4 x5 x6 y

/-- The run of the body at any grid point: whichever branch the switch takes. -/
theorem runAny (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f (pieces c i arg2 harg2 arg3 harg3 arg4 harg4 arg5 harg5 arg6 harg6 arg7 harg7 arg8 harg8 arg9 harg9 x0 x1 x2 x3 x4 x5 x6))) -∗ K ⟨⟩))
          ⊢ wp frame (wpE (defs₀ (F := F)) Variants.none c none) E (cc0_nsa i arg2 harg2 arg3 harg3 arg4 harg4 arg5 harg5 arg6 harg6 arg7 harg7 arg8 harg8 arg9 harg9) K := by
  by_cases hc1 : Scalar.cmpi .ne (tierW i) 0#32 = 1#1
  · by_cases hc2 : Scalar.cmpi .ne (Scalar.subi (tierW i) 1#32) 0#32 = 1#1
    · by_cases hc3 : Scalar.cmpi .ne (Scalar.subi (Scalar.subi (tierW i) 1#32) 1#32) 0#32 = 1#1
      · rw [piecesD c i arg2 harg2 arg3 harg3 arg4 harg4 arg5 harg5 arg6 harg6 arg7 harg7 arg8 harg8 arg9 harg9 x0 x1 x2 x3 x4 x5 x6 hc1 hc2 hc3]; exact (runD c i arg2 harg2 arg3 harg3 arg4 harg4 arg5 harg5 arg6 harg6 arg7 harg7 arg8 harg8 arg9 harg9 hc1 hc2 hc3 x0 x1 x2 x3 x4 x5 x6).2
      · rw [piecesC c i arg2 harg2 arg3 harg3 arg4 harg4 arg5 harg5 arg6 harg6 arg7 harg7 arg8 harg8 arg9 harg9 x0 x1 x2 x3 x4 x5 x6 hc1 hc2 hc3]; exact (runC c i arg2 harg2 arg3 harg3 arg4 harg4 arg5 harg5 arg6 harg6 arg7 harg7 arg8 harg8 arg9 harg9 hc1 hc2 hc3 x0 x1 x2 x3 x4 x5 x6).2
    · rw [piecesB c i arg2 harg2 arg3 harg3 arg4 harg4 arg5 harg5 arg6 harg6 arg7 harg7 arg8 harg8 arg9 harg9 x0 x1 x2 x3 x4 x5 x6 hc1 hc2]; exact (runB c i arg2 harg2 arg3 harg3 arg4 harg4 arg5 harg5 arg6 harg6 arg7 harg7 arg8 harg8 arg9 harg9 hc1 hc2 x0 x1 x2 x3 x4 x5 x6).2
  · rw [piecesA c i arg2 harg2 arg3 harg3 arg4 harg4 arg5 harg5 arg6 harg6 arg7 harg7 arg8 harg8 arg9 harg9 x0 x1 x2 x3 x4 x5 x6 hc1]; exact (runA c i arg2 harg2 arg3 harg3 arg4 harg4 arg5 harg5 arg6 harg6 arg7 harg7 arg8 harg8 arg9 harg9 hc1 x0 x1 x2 x3 x4 x5 x6).2

/-- What the run leaves in output 7's staging buffer: its pieces read back. -/
def outBlock (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
    (x0 : Vec F S1x512x256 .f32) (x1 : Vec F S1x8192x256 .bf16) (x2 : Vec F S1x256x8192 .bf16) (x3 : Vec F S1x2x512x64 .bf16) (x4 : Vec F S1x2x64x512 .bf16) (x5 : Vec F S128x512 .bf16) (x6 : Vec F S1x128x256 .f32) : Vec F S1x512x256 .f32 :=
  VO0_7.read (Elt F) (VO0_7.writes (Elt F) VO0_7.junk (pieces c i arg2 harg2 arg3 harg3 arg4 harg4 arg5 harg5 arg6 harg6 arg7 harg7 arg8 harg8 arg9 harg9 x0 x1 x2 x3 x4 x5 x6))

/-! ## What the outputs hold after each point -/

/-- What the outputs' staging buffers hold after the body at point `t`: the run's contents at
    the point's memrefs and input blocks. -/
def outsAt0 (c : Dev nD) (t : Fin cfg0.N) : Vec F S1x512x256 .f32 :=
  outBlock c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 800000 in
/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  unfold outsAt0
  unfold outBlock
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (runAny c (grid0.coords t) _ _ _ _ _ _ _ _ _ _ _ _ _ _ _ _ (iblk m c 0 t) (iblk m c 1 t) (iblk m c 2 t) (iblk m c 3 t) (iblk m c 4 t) (iblk m c 5 t) (iblk m c 6 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover c _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- The launch: every execution ends with the arrays at what the pipeline's data say and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch, its arrays alone. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the run ends, every argument array as it was, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Own

end
-- ==== Proof.Frames.lean ====
/-
The frames of the kernel, of its idealization and of the reference, and the two named constants.
-/
module

public import proofs.«01_k».proof.Defs
public import proofs.«01_k».proof.Proof.KernelFrame
public import proofs.«01_k».proof.Proof.KernelIdealFrame
public import proofs.«01_k».proof.Proof.Gen.ReferenceIdeal
public import proofs.«01_k».proof.Proof.Gen.ReferenceIdeal.Run
public import Idealize.ShloMosaic.Lib.Quiescent

@[expose] public section

noncomputable section

namespace Cert.Attn

open Idealize.ShloMosaic Idealize.SL.Sem

/-- The kernel runs, leaves its arguments as they were and every counter at zero. -/
theorem frame_p : Cert.quiescent_Kernel (hKernel := Cert.Kernel.Gen.facts) := fun m ρ _ => Cert.Kernel.Own.frame m ρ

/-- So does its idealization. -/
theorem frame_pi : Cert.quiescent_KernelIdeal (hKernelIdeal := Cert.KernelIdeal.Gen.facts) := fun m ρ _ =>
  Cert.KernelIdeal.Own.frame m ρ

/-- So does the reference, which has no counters. -/
theorem frame_ri : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The two named constants: the score scale in base two, and the mask, named as minus infinity. -/
theorem preserves : Cert.preserves_Kernel_KernelIdeal :=
  ⟨IdealRules.named_const.statement Cert.KernelIdeal.κ "qscale" .f32 0x3E38AA3B#32 (((1 / 8) * (Real.log 2)⁻¹ : ℝ) : EReal) rfl,
   IdealRules.named_const.statement Cert.KernelIdeal.κ "mask" .f32 0xF149F2CA#32 ⊥ rfl⟩

end Cert.Attn

end
-- ==== Proof.Softmax.lean ====
/- Weights of a softmax over numbered keys, and the running form in which a kernel keeps its maximum and its sums. -/
module

public import Idealize.ShloMosaic.PureOps.Ideal
public import Idealize.ShloMosaic.Lib.Pointwise

@[expose] public section

noncomputable section

namespace Cert.Attn

open Idealize.ShloMosaic Finset

open Classical in
/-- The exponential of a key's score, nought where the key is masked. -/
def wt (P : ℕ → Prop) (σ : ℕ → ℝ) (k : ℕ) : ℝ := if P k then Real.exp (σ k) else 0

/-- The softmax weight of key `k` among the first `n` keys. -/
def soft (n : ℕ) (P : ℕ → Prop) (σ : ℕ → ℝ) (k : ℕ) : ℝ := wt P σ k / ∑ j ∈ range n, wt P σ j

/-- Attention over the first `n` keys: the values weighted by the softmax of the scores. -/
def attn (n : ℕ) (P : ℕ → Prop) (σ : ℕ → ℝ) (v : ℕ → EReal) : EReal :=
  ∑ k ∈ range n, (soft n P σ k : EReal) * v k

open Classical in
/-- A key's score in base two, −∞ where the key is masked. -/
def sc2 (P : ℕ → Prop) (σ : ℕ → ℝ) (k : ℕ) : EReal := if P k then ((σ k * (Real.log 2)⁻¹ : ℝ) : EReal) else ⊥

/-- An extended real that is a number or −∞. -/
def Low (x : EReal) : Prop := x = ⊥ ∨ ∃ r : ℝ, x = r

theorem low_iff (x : EReal) : Low x ↔ x ≠ ⊤ := by
  constructor
  · rintro (rfl | ⟨r, rfl⟩) <;> simp
  · intro h
    induction x with
    | bot => exact .inl rfl
    | top => exact absurd rfl h
    | coe r => exact .inr ⟨r, rfl⟩

theorem low_sc2 (P : ℕ → Prop) (σ : ℕ → ℝ) (k : ℕ) : Low (sc2 P σ k) := by
  unfold sc2; split
  · exact .inr ⟨_, rfl⟩
  · exact .inl rfl

theorem low_max {x y : EReal} (hx : Low x) (hy : Low y) : Low (max x y) := by
  rcases max_choice x y with h | h <;> rw [h] <;> assumption

theorem low_sup {ι : Type*} (A : Finset ι) (s : ι → EReal) (h : ∀ k ∈ A, Low (s k)) : Low (A.sup s) := by
  rw [low_iff]
  have : A.sup s < ⊤ := by
    rw [Finset.sup_lt_iff (by simp)]
    intro k hk
    exact lt_top_iff_ne_top.2 ((low_iff _).1 (h k hk))
  exact this.ne

/-- A difference of a score and a bound on it, under `2 ^ ·`, is a real number and not negative. -/
theorem exp2_sub_real {x m : EReal} (hx : Low x) (hm : Low m) :
    ∃ r : ℝ, 0 ≤ r ∧ Ideal.exp2 (x - m) = (r : EReal) ∨ (m = ⊥ ∧ x ≠ ⊥) := by
  rcases hx with rfl | ⟨a, rfl⟩
  · exact ⟨0, .inl ⟨le_refl _, by simp [Ideal.exp2_bot]⟩⟩
  · rcases hm with rfl | ⟨b, rfl⟩
    · exact ⟨0, .inr ⟨rfl, by simp⟩⟩
    · refine ⟨Real.rpow 2 (a - b), .inl ⟨Real.rpow_nonneg (by norm_num) _, ?_⟩⟩
      rw [← EReal.coe_sub, Ideal.exp2_coe]

theorem exp2_sub_of_le {x m : EReal} (hx : Low x) (hm : Low m) (h : x ≤ m) :
    ∃ r : ℝ, 0 ≤ r ∧ Ideal.exp2 (x - m) = (r : EReal) := by
  obtain ⟨r, hr | ⟨rfl, hx'⟩⟩ := exp2_sub_real hx hm
  · exact ⟨r, hr⟩
  · exact absurd (le_bot_iff.1 h) hx'

/-- Passing from one bound to a larger one. -/
theorem exp2_trans {x m m' : EReal} (hx : Low x) (hm : Low m) (hm' : Low m') (h : x ≤ m) (h' : m ≤ m') :
    Ideal.exp2 (m - m') * Ideal.exp2 (x - m) = Ideal.exp2 (x - m') := by
  rcases hx with rfl | ⟨a, rfl⟩
  · simp
  · rcases hm with rfl | ⟨b, rfl⟩
    · simp at h
    · rcases hm' with rfl | ⟨c, rfl⟩
      · simp at h'
      · rw [← EReal.coe_sub, ← EReal.coe_sub, ← EReal.coe_sub, Ideal.exp2_coe, Ideal.exp2_coe, Ideal.exp2_coe,
          ← EReal.coe_mul]
        congr 1
        show (2 : ℝ) ^ (b - c) * (2 : ℝ) ^ (a - b) = (2 : ℝ) ^ (a - c)
        rw [← Real.rpow_add (by norm_num)]
        congr 1; ring

/-- A real factor that is not negative passes into a sum of extended reals. -/
theorem real_mul_sum {ι : Type*} (A : Finset ι) (r : ℝ) (hr : 0 ≤ r) (f : ι → EReal) :
    (r : EReal) * ∑ k ∈ A, f k = ∑ k ∈ A, (r : EReal) * f k := by
  classical
  induction A using Finset.induction_on with
  | empty => simp
  | insert a A ha ih =>
    rw [Finset.sum_insert ha, Finset.sum_insert ha, ← ih]
    exact EReal.left_distrib_of_nonneg_of_ne_top (by exact_mod_cast hr) (EReal.coe_ne_top r) _ _

/-- What a kernel holds after the first `n` keys: the largest score, and the values weighted against it. -/
def IsFlash (n : ℕ) (s v : ℕ → EReal) (m acc : EReal) : Prop :=
  m = (range n).sup s ∧ acc = ∑ k ∈ range n, v k * Ideal.exp2 (s k - m)

theorem isFlash_zero (s v : ℕ → EReal) : IsFlash 0 s v ⊥ 0 := by simp [IsFlash]

theorem sup_range_add (n w : ℕ) (s : ℕ → EReal) :
    (range (n + w)).sup s = max ((range n).sup s) (univ.sup fun x : Fin w => s (n + x)) := by
  apply le_antisymm
  · refine Finset.sup_le fun k hk => ?_
    by_cases h : k < n
    · exact le_max_of_le_left (Finset.le_sup (f := s) (mem_range.2 h))
    · have hk' := mem_range.1 hk
      have := Finset.le_sup (f := fun x : Fin w => s (n + x)) (mem_univ (⟨k - n, by omega⟩ : Fin w))
      refine le_max_of_le_right (le_trans (le_of_eq ?_) this)
      show s k = s (n + (k - n)); congr 1; omega
  · refine max_le (Finset.sup_le fun k hk => ?_) (Finset.sup_le fun x _ => ?_)
    · exact Finset.le_sup (f := s) (mem_range.2 (by have := mem_range.1 hk; omega))
    · exact Finset.le_sup (f := s) (mem_range.2 (by have := x.isLt; omega))

/-- One tile of `w` further keys. -/
theorem isFlash_step (n w : ℕ) (s v : ℕ → EReal) (hs : ∀ k, Low (s k)) (m acc m' acc' : EReal)
    (h : IsFlash n s v m acc) (hm : m' = max m (univ.sup fun x : Fin w => s (n + x)))
    (hacc : acc' = Ideal.exp2 (m - m') * acc + ∑ x : Fin w, v (n + x) * Ideal.exp2 (s (n + x) - m')) :
    IsFlash (n + w) s v m' acc' := by
  obtain ⟨h1, h2⟩ := h
  have hlm : Low m := h1 ▸ low_sup _ _ fun k _ => hs k
  have hm2 : m' = (range (n + w)).sup s := by rw [hm, h1, sup_range_add]
  have hlm' : Low m' := hm2 ▸ low_sup _ _ fun k _ => hs k
  have hle : m ≤ m' := hm ▸ le_max_left _ _
  refine ⟨hm2, ?_⟩
  rw [Finset.sum_range_add, hacc, h2]
  congr 1
  · obtain ⟨r, hr, hr'⟩ := exp2_sub_of_le hlm hlm' hle
    rw [hr', real_mul_sum _ _ hr]
    refine Finset.sum_congr rfl fun k hk => ?_
    rw [← hr', mul_left_comm, exp2_trans (hs k) hlm hlm' (h1 ▸ Finset.le_sup hk) hle]
  · rw [Finset.sum_range]

theorem log2_pos : 0 < Real.log 2 := Real.log_pos (by norm_num)

theorem exp2_sc2 (P : ℕ → Prop) (σ : ℕ → ℝ) (k : ℕ) (b : ℝ) :
    Ideal.exp2 (sc2 P σ k - (b : EReal)) = ((wt P σ k * Real.rpow 2 (-b) : ℝ) : EReal) := by
  unfold sc2 wt
  split
  · rw [← EReal.coe_sub, Ideal.exp2_coe]
    congr 1
    show (2 : ℝ) ^ (σ k * (Real.log 2)⁻¹ - b) = Real.exp (σ k) * (2 : ℝ) ^ (-b)
    rw [sub_eq_add_neg, Real.rpow_add (by norm_num), Real.rpow_def_of_pos (by norm_num : (0 : ℝ) < 2)]
    congr 2
    have := log2_pos.ne'
    field_simp
  · simp

theorem wt_nonneg (P : ℕ → Prop) (σ : ℕ → ℝ) (k : ℕ) : 0 ≤ wt P σ k := by
  unfold wt; split
  · exact (Real.exp_pos _).le
  · exact le_refl _

theorem coe_sum {ι : Type*} (A : Finset ι) (f : ι → ℝ) : ((∑ k ∈ A, f k : ℝ) : EReal) = ∑ k ∈ A, (f k : EReal) := by
  classical
  induction A using Finset.induction_on with
  | empty => simp
  | insert a A ha ih => rw [Finset.sum_insert ha, Finset.sum_insert ha, EReal.coe_add, ih]

theorem sum_wt_pos (n : ℕ) (P : ℕ → Prop) (σ : ℕ → ℝ) (k : ℕ) (hk : k < n) (hP : P k) :
    0 < ∑ j ∈ range n, wt P σ j := by
  refine Finset.sum_pos' (fun j _ => wt_nonneg P σ j) ⟨k, mem_range.2 hk, ?_⟩
  unfold wt; rw [if_pos hP]; exact Real.exp_pos _

/-- The largest base-two score is a number once one key is not masked. -/
theorem sup_real (n : ℕ) (P : ℕ → Prop) (σ : ℕ → ℝ) (k : ℕ) (hk : k < n) (hP : P k) :
    ∃ b : ℝ, (range n).sup (sc2 P σ) = b := by
  rcases low_sup (range n) (sc2 P σ) fun k _ => low_sc2 P σ k with h | h
  · have := Finset.le_sup (f := sc2 P σ) (mem_range.2 hk)
    rw [h, le_bot_iff] at this
    unfold sc2 at this; rw [if_pos hP] at this
    exact absurd this (EReal.coe_ne_bot _)
  · exact h

theorem div_one_real (r : ℝ) (h : 0 < r) : Ideal.div 1 (r : EReal) = ((1 / r : ℝ) : EReal) := by
  rw [Ideal.div_coe h.ne', one_mul]

/-- The quotient of the two running sums is the attention. -/
theorem isFlash_final (n : ℕ) (P : ℕ → Prop) (σ : ℕ → ℝ) (v : ℕ → EReal) (m acc l : EReal)
    (h : IsFlash n (sc2 P σ) v m acc) (hl : IsFlash n (sc2 P σ) (fun _ => 1) m l)
    (k : ℕ) (hk : k < n) (hP : P k) : acc * Ideal.div 1 l = attn n P σ v := by
  obtain ⟨h1, h2⟩ := h
  obtain ⟨-, h4⟩ := hl
  obtain ⟨b, hb⟩ := sup_real n P σ k hk hP
  rw [hb] at h1
  subst h1
  have hb0 : 0 < Real.rpow 2 (-b) := Real.rpow_pos_of_pos (by norm_num) _
  have hW := sum_wt_pos n P σ k hk hP
  have hl' : l = ((( ∑ j ∈ range n, wt P σ j) * Real.rpow 2 (-b) : ℝ) : EReal) := by
    rw [h4, Finset.sum_mul, coe_sum]
    refine Finset.sum_congr rfl fun j _ => ?_
    rw [exp2_sc2, one_mul]
  rw [hl', div_one_real _ (mul_pos hW hb0), mul_comm, h2, real_mul_sum _ _ (by positivity), attn]
  refine Finset.sum_congr rfl fun j _ => ?_
  rw [exp2_sc2, mul_left_comm, ← EReal.coe_mul, mul_comm]
  congr 2
  unfold soft
  field_simp

/-- Keys past the last one that is not masked do not matter. -/
theorem attn_mono (n N : ℕ) (hn : n ≤ N) (P : ℕ → Prop) (σ : ℕ → ℝ) (v : ℕ → EReal)
    (h : ∀ k, k < N → P k → k < n) : attn n P σ v = attn N P σ v := by
  have hw : ∀ k ∈ range N, k ∉ range n → wt P σ k = 0 := by
    intro k hk hk'
    unfold wt; rw [if_neg]
    intro hP; exact hk' (mem_range.2 (h k (mem_range.1 hk) hP))
  have hs : ∑ j ∈ range n, wt P σ j = ∑ j ∈ range N, wt P σ j :=
    Finset.sum_subset (Finset.range_mono hn) hw
  unfold attn soft
  rw [hs]
  refine Finset.sum_subset (Finset.range_mono hn) fun k hk hk' => ?_
  rw [hw k hk hk']; simp

/-- A window of keys that holds every key that is not masked. -/
theorem attn_shift (a n N : ℕ) (hn : a + n ≤ N) (P : ℕ → Prop) (σ : ℕ → ℝ) (v : ℕ → EReal)
    (h : ∀ k, k < N → P k → a ≤ k ∧ k < a + n) :
    attn n (fun k => P (a + k)) (fun k => σ (a + k)) (fun k => v (a + k)) = attn N P σ v := by
  rw [← attn_mono (a + n) N hn P σ v fun k hk hP => (h k hk hP).2]
  have hw : ∀ k ∈ range a, wt P σ k = 0 := by
    intro k hk
    have := mem_range.1 hk
    unfold wt; rw [if_neg]
    intro hP; have := (h k (by omega) hP).1; omega
  have hwt : ∀ k, wt (fun k => P (a + k)) (fun k => σ (a + k)) k = wt P σ (a + k) := fun _ => rfl
  have hs : ∑ j ∈ range n, wt P σ (a + j) = ∑ j ∈ range (a + n), wt P σ j := by
    rw [Finset.sum_range_add, Finset.sum_eq_zero hw, zero_add]
  unfold attn soft
  simp only [hwt]
  rw [← hs, Finset.sum_range_add (fun k => ((wt P σ k / ∑ j ∈ range n, wt P σ (a + j) : ℝ) : EReal) * v k)]
  rw [Finset.sum_eq_zero (s := range a), zero_add]
  intro k hk; rw [hw k hk]; simp

theorem attn_congr (n : ℕ) (P P' : ℕ → Prop) (σ σ' : ℕ → ℝ) (v v' : ℕ → EReal)
    (hP : ∀ k < n, (P k ↔ P' k)) (hσ : ∀ k < n, P k → σ k = σ' k) (hv : ∀ k < n, P k → v k = v' k) :
    attn n P σ v = attn n P' σ' v' := by
  have hw : ∀ k ∈ range n, wt P σ k = wt P' σ' k := by
    intro k hk
    unfold wt
    by_cases h : P k
    · rw [if_pos h, if_pos ((hP k (mem_range.1 hk)).1 h), hσ k (mem_range.1 hk) h]
    · rw [if_neg h, if_neg fun h' => h ((hP k (mem_range.1 hk)).2 h')]
  unfold attn soft
  rw [Finset.sum_congr rfl hw]
  refine Finset.sum_congr rfl fun k hk => ?_
  rw [hw k hk]
  by_cases h : P k
  · rw [hv k (mem_range.1 hk) h]
  · have : wt P' σ' k = 0 := by
      unfold wt; rw [if_neg fun h' => h ((hP k (mem_range.1 hk)).2 h')]
    rw [this]; simp

/-- The compressed branch's weight, as the kernel computes it: exponentials against the largest score, times the
reciprocal of their sum, the sum kept from nought by a small number. -/
theorem cmp_weight (n : ℕ) (P : ℕ → Prop) (σ : ℕ → ℝ) (ε : ℝ) (hε : 0 < ε) (hε1 : ε ≤ 1) (m l : EReal)
    (hm : m = (range n).sup (sc2 P σ)) (e : ℕ → EReal)
    (he : ∀ k < n, P k → e k = Ideal.exp2 (sc2 P σ k - m)) (he' : ∀ k < n, ¬ P k → e k = 0)
    (hl : l = ∑ j ∈ range n, e j) (k : ℕ) (hk : k < n) :
    e k * Ideal.div 1 (max l (ε : EReal)) = (soft n P σ k : EReal) := by
  by_cases hex : ∃ j, j < n ∧ P j
  · obtain ⟨j, hj, hPj⟩ := hex
    obtain ⟨b, hb⟩ := sup_real n P σ j hj hPj
    rw [hb] at hm
    have hb0 : 0 < Real.rpow 2 (-b) := Real.rpow_pos_of_pos (by norm_num) _
    have hW := sum_wt_pos n P σ j hj hPj
    have hek : ∀ k < n, e k = ((wt P σ k * Real.rpow 2 (-b) : ℝ) : EReal) := by
      intro k hk
      by_cases h : P k
      · rw [he k hk h, hm, exp2_sc2]
      · rw [he' k hk h]; simp [wt, h]
    have hl' : l = ((( ∑ j ∈ range n, wt P σ j) * Real.rpow 2 (-b) : ℝ) : EReal) := by
      rw [hl, Finset.sum_mul, coe_sum]
      exact Finset.sum_congr rfl fun j hj => hek j (mem_range.1 hj)
    have h1 : 1 ≤ ( ∑ j ∈ range n, wt P σ j) * Real.rpow 2 (-b) := by
      obtain ⟨i, hi, hi'⟩ := Finset.exists_mem_eq_sup (range n) ⟨j, mem_range.2 hj⟩ (sc2 P σ)
      have hii : Ideal.exp2 (sc2 P σ i - (b : EReal)) = 1 := by
        rw [← hi', hb, ← EReal.coe_sub, Ideal.exp2_coe]
        simp
      rw [exp2_sc2] at hii
      have hi1 : wt P σ i * Real.rpow 2 (-b) = 1 := by exact_mod_cast hii
      rw [← hi1]
      refine mul_le_mul_of_nonneg_right ?_ hb0.le
      exact Finset.single_le_sum (f := wt P σ) (fun j _ => wt_nonneg P σ j) hi
    have hmax : max l (ε : EReal) = l := by
      rw [hl']; refine max_eq_left ?_
      exact_mod_cast hε1.trans h1
    rw [hmax, hl', div_one_real _ (mul_pos hW hb0), hek k hk, ← EReal.coe_mul]
    congr 1
    unfold soft
    field_simp
  · have : ¬ P k := fun h => hex ⟨k, hk, h⟩
    rw [he' k hk this]
    simp [soft, wt, this]

/-- The weight, as the reference computes it: exponentials of the score less the largest, over their sum. -/
theorem ref_weight (n : ℕ) (P : ℕ → Prop) (σ : ℕ → ℝ) (x : ℕ → EReal)
    (hx : ∀ k < n, P k → x k = (σ k : EReal)) (hx' : ∀ k < n, ¬ P k → x k = ⊥)
    (m : EReal) (hm : m = (range n).sup x) (j : ℕ) (hj : j < n) (hP : P j) (k : ℕ) (hk : k < n) :
    Ideal.div (Ideal.exp (x k - m)) (∑ i ∈ range n, Ideal.exp (x i - m)) = (soft n P σ k : EReal) := by
  have hlow : ∀ k ∈ range n, Low (x k) := by
    intro k hk
    by_cases h : P k
    · exact .inr ⟨_, hx k (mem_range.1 hk) h⟩
    · exact .inl (hx' k (mem_range.1 hk) h)
  obtain ⟨b, hb⟩ : ∃ b : ℝ, m = b := by
    rcases low_sup (range n) x hlow with h | h
    · have := Finset.le_sup (f := x) (mem_range.2 hj)
      rw [h, le_bot_iff, hx j hj hP] at this
      exact absurd this (by simp)
    · exact hm ▸ h
  have hW := sum_wt_pos n P σ j hj hP
  have hek : ∀ k < n, Ideal.exp (x k - m) = ((wt P σ k * Real.exp (-b) : ℝ) : EReal) := by
    intro k hk
    by_cases h : P k
    · rw [hx k hk h, hb, ← EReal.coe_sub, Ideal.exp_coe, sub_eq_add_neg, Real.exp_add]
      simp [wt, h]
    · rw [hx' k hk h]; simp [wt, h]
  have hsum : ∑ i ∈ range n, Ideal.exp (x i - m) = ((( ∑ j ∈ range n, wt P σ j) * Real.exp (-b) : ℝ) : EReal) := by
    rw [Finset.sum_mul, coe_sum]
    exact Finset.sum_congr rfl fun j hj => hek j (mem_range.1 hj)
  have hp := mul_pos hW (Real.exp_pos (-b))
  rw [hsum, Ideal.div_coe hp.ne', hek k hk, ← EReal.coe_mul]
  congr 1
  unfold soft
  have := (Real.exp_pos (-b)).ne'
  field_simp

end Cert.Attn
-- ==== Proof.TopK.lean ====
/- The sixteen largest of a list: the places of a stable sort, and the rounds of "take the first largest, strike it out". -/
module

public import Idealize.ShloMosaic.Lib.Pointwise
public import Idealize.ShloMosaic.Lib.SortPrefix

@[expose] public section

noncomputable section

namespace Cert.Attn

open Idealize.ShloMosaic Finset

variable {n : ℕ}

/-- Place `i` comes before place `j`: its value is larger, or equal and the place is earlier. -/
def Before (f : Fin n → EReal) (i j : Fin n) : Prop := f j < f i ∨ (f i = f j ∧ i < j)

open Classical in
/-- How many places come before `j`. -/
def rank (f : Fin n → EReal) (j : Fin n) : ℕ := (univ.filter fun i => Before f i j).card

theorem before_irrefl (f : Fin n → EReal) (i : Fin n) : ¬ Before f i i := by simp [Before]

theorem before_trans (f : Fin n → EReal) (i j k : Fin n) (h : Before f i j) (h' : Before f j k) : Before f i k := by
  rcases h with h | ⟨h, hl⟩ <;> rcases h' with h' | ⟨h', hl'⟩
  · exact .inl (h'.trans h)
  · exact .inl (h' ▸ h)
  · exact .inl (h ▸ h')
  · exact .inr ⟨h.trans h', hl.trans hl'⟩

theorem before_total (f : Fin n → EReal) (i j : Fin n) (h : i ≠ j) : Before f i j ∨ Before f j i := by
  rcases lt_trichotomy (f i) (f j) with h1 | h1 | h1
  · exact .inr (.inl h1)
  · rcases lt_or_gt_of_ne h with h2 | h2
    · exact .inl (.inr ⟨h1, h2⟩)
    · exact .inr (.inr ⟨h1.symm, h2⟩)
  · exact .inl (.inl h1)

theorem rank_lt (f : Fin n → EReal) (i j : Fin n) (h : Before f i j) : rank f i < rank f j := by
  classical
  unfold rank
  refine Finset.card_lt_card (Finset.ssubset_iff_subset_ne.2 ⟨?_, ?_⟩)
  · intro k hk
    have := (mem_filter.1 hk).2
    exact mem_filter.2 ⟨mem_univ _, before_trans f k i j this h⟩
  · intro he
    have : i ∈ univ.filter fun k => Before f k j := mem_filter.2 ⟨mem_univ _, h⟩
    rw [← he] at this
    exact before_irrefl f i (mem_filter.1 this).2

theorem before_iff (f : Fin n → EReal) (i j : Fin n) : Before f i j ↔ rank f i < rank f j := by
  refine ⟨rank_lt f i j, fun h => ?_⟩
  by_contra hn
  by_cases e : i = j
  · subst e; exact lt_irrefl _ h
  · rcases before_total f i j e with h' | h'
    · exact hn h'
    · exact absurd (rank_lt f j i h') (by omega)

theorem rank_inj (f : Fin n → EReal) (i j : Fin n) (h : rank f i = rank f j) : i = j := by
  by_contra e
  rcases before_total f i j e with h' | h'
  · have := rank_lt f i j h'; omega
  · have := rank_lt f j i h'; omega

theorem rank_bound (f : Fin n → EReal) (i : Fin n) : rank f i < n := by
  classical
  have : rank f i < (univ : Finset (Fin n)).card := by
    unfold rank
    refine Finset.card_lt_card (Finset.ssubset_iff_subset_ne.2 ⟨Finset.subset_univ _, fun h => ?_⟩)
    have h1 : i ∈ univ.filter fun k => Before f k i := by rw [h]; exact mem_univ i
    exact before_irrefl f i (mem_filter.1 h1).2
  simpa using this

/-! ### The stable sort -/

open Classical in
/-- `Before`, decided. -/
def beforeB (f : Fin n → EReal) (i j : Fin n) : Bool := decide (Before f i j)

open Classical in
theorem stableSort_eq (f : Fin n → EReal) (R : Fin n → Fin n → Bool) (hR : ∀ i j, R i j = true ↔ f j < f i)
    (l : List (Fin n)) (hl : l.Pairwise (· < ·)) : stableSort R l = stableSort (beforeB f) l := by
  induction l with
  | nil => rfl
  | cons a l ih =>
    rw [List.pairwise_cons] at hl
    unfold stableSort
    rw [ih hl.2]
    refine insertBefore_congr _ _ _ _ fun b hb => ?_
    have hab := hl.1 b ((perm_stableSort _ _).mem_iff.1 hb)
    rw [Bool.eq_iff_iff, hR]
    constructor
    · intro h; exact decide_eq_true (Or.inl h)
    · intro h
      rcases of_decide_eq_true h with h | ⟨-, h⟩
      · exact h
      · exact absurd hab (lt_asymm h)

theorem strictTotal (f : Fin n → EReal) : StrictTotalBefore (beforeB f) where
  irrefl a := by simp [beforeB, before_irrefl]
  trans a b c h h' := by
    simp only [beforeB, decide_eq_true_eq] at *
    exact before_trans f a b c h h'
  total a b h := by
    simp only [beforeB, decide_eq_true_eq]
    exact before_total f a b h

/-- The place that a stable sort by value, larger first, puts at `i` has exactly `i` places before it. -/
theorem rank_sortedFrom (f : Fin n → EReal) (R : Fin n → Fin n → Bool) (hR : ∀ i j, R i j = true ↔ f j < f i)
    (i : Fin n) : rank f (sortedFrom R i) = i := by
  have hp : sortPositions n R = sortPositions n (beforeB f) :=
    stableSort_eq f R hR _ (List.pairwise_lt_finRange n)
  have hs : sortedFrom R i = sortedFrom (beforeB f) i := by
    unfold sortedFrom
    simp only [List.get_eq_getElem, hp]
    rfl
  rw [hs]
  have hT := strictTotal f
  have hmono : StrictMono fun i : Fin n => (⟨rank f (sortedFrom (beforeB f) i), rank_bound f _⟩ : Fin n) := by
    intro i j hij
    have h := sortedFrom_noInversion (beforeB f) (beforeB f) (fun a b h => hT.asymm a b h) (fun _ _ h => h)
      hT.negTrans i j hij
    have hne : sortedFrom (beforeB f) i ≠ sortedFrom (beforeB f) j := fun e => hij.ne (sortedFrom_injective _ e)
    show rank f _ < rank f _
    rcases before_total f _ _ hne with h' | h'
    · exact rank_lt f _ _ h'
    · simp [beforeB, h'] at h
  exact congrArg Fin.val (le_antisymm (hmono.apply_le (x := i)) (hmono.le_apply (x := i)))

/-! ### The rounds -/

/-- The values after some rounds: those taken are struck out. -/
def struck (f : Fin n → EReal) (T : Fin n → Prop) (low : EReal) (g : Fin n → EReal) : Prop :=
  ∀ j, (T j → g j = low) ∧ (¬ T j → g j = f j)

/-- What is kept from round to round: of the places worth taking, those taken are the ones with fewer than `k` before. -/
def Rounds (f : Fin n → EReal) (low : EReal) (k : ℕ) (T : Fin n → Prop) (g : Fin n → EReal) : Prop :=
  struck f T low g ∧ ∀ j, low < f j → (T j ↔ rank f j < k)

theorem rounds_zero (f : Fin n → EReal) (low : EReal) (T : Fin n → Prop) (hT : ∀ j, ¬ T j) : Rounds f low 0 T f :=
  ⟨fun j => ⟨fun h => absurd h (hT j), fun _ => rfl⟩, fun j _ => ⟨fun h => absurd h (hT j), fun h => absurd h (by omega)⟩⟩

/-- One round: the first place that holds the largest value is taken and struck out. -/
theorem rounds_step (f : Fin n → EReal) (low : EReal) (k : ℕ) (T T' : Fin n → Prop) (g g' : Fin n → EReal)
    (h : Rounds f low k T g) (i : Fin n) (hi : ∀ j, g j ≤ g i) (hi' : ∀ j, g j = g i → i ≤ j)
    (hT : ∀ j, T' j ↔ T j ∨ j = i) (hg : ∀ j, g' j = if j = i then low else g j) : Rounds f low (k + 1) T' g' := by
  classical
  obtain ⟨hs, hr⟩ := h
  refine ⟨fun j => ⟨fun hj => ?_, fun hj => ?_⟩, ?_⟩
  · rw [hg]
    split
    · rfl
    · rename_i hne
      rcases (hT j).1 hj with h | h
      · exact (hs j).1 h
      · exact absurd h hne
  · rw [hT, not_or] at hj
    rw [hg, if_neg hj.2]; exact (hs j).2 hj.1
  · by_cases hall : ∀ j, low < f j → T j
    · intro j hj
      have := (hr j hj).1 (hall j hj)
      exact ⟨fun _ => by omega, fun _ => (hT j).2 (.inl (hall j hj))⟩
    · push Not at hall
      obtain ⟨v, hv, hvT⟩ := hall
      have hgv : g v = f v := (hs v).2 hvT
      have hlow : low < g i := lt_of_lt_of_le (hgv ▸ hv) (hi v)
      have hiT : ¬ T i := fun h => by rw [(hs i).1 h] at hlow; exact lt_irrefl _ hlow
      have hgi : g i = f i := (hs i).2 hiT
      rw [hgi] at hlow
      have hk : k ≤ rank f i := by
        by_contra hc
        exact hiT ((hr i hlow).2 (by omega))
      have hpre : ∀ j, Before f j i → rank f j < k := by
        intro j hj
        have hjl : low < f j := by
          rcases hj with h | ⟨h, -⟩
          · exact hlow.trans h
          · exact h ▸ hlow
        refine (hr j hjl).1 ?_
        by_contra hjT
        have hgj : g j = f j := (hs j).2 hjT
        rcases hj with h | ⟨h, hlt⟩
        · have := hi j; rw [hgj, hgi] at this; exact absurd h (not_lt.2 this)
        · have := hi' j (by rw [hgj, hgi, h]); exact absurd hlt (not_lt.2 this)
      have hk' : rank f i ≤ k := by
        have : (univ.filter fun j => Before f j i).card ≤ (range k).card :=
          Finset.card_le_card_of_injOn (rank f) (fun j hj => by
            have := hpre j (mem_filter.1 hj).2
            simpa using this) (fun a _ b _ hab => rank_inj f a b hab)
        simpa [rank] using this
      intro j hj
      rw [hT, hr j hj]
      constructor
      · rintro (h | rfl) <;> omega
      · intro h
        by_cases h' : rank f j < k
        · exact .inl h'
        · exact .inr (rank_inj f j i (by omega))

/-- A sum over the first `k` places of the sort is the sum over the places with fewer than `k` before them. -/
theorem sum_rank (f : Fin n → EReal) (k : ℕ) (hk : k ≤ n) (s : Fin k → Fin n) (hs : ∀ r, rank f (s r) = r)
    {M : Type*} [AddCommMonoid M] (G : Fin n → M) :
    ∑ r, G (s r) = ∑ j, if rank f j < k then G j else 0 := by
  classical
  rw [← Finset.sum_filter]
  refine Finset.sum_bij (fun r _ => s r) (fun r _ => mem_filter.2 ⟨mem_univ _, by rw [hs]; exact r.isLt⟩)
    (fun a _ b _ h => ?_) (fun j hj => ?_) (fun _ _ => rfl)
  · have := congrArg (rank f) h
    rw [hs, hs] at this
    exact Fin.ext this
  · have hj' := (mem_filter.1 hj).2
    exact ⟨⟨rank f j, hj'⟩, mem_univ _, rank_inj f _ _ (hs _)⟩

end Cert.Attn
-- ==== Proof.Spec.lean ====
/-
The attention as mathematics, over the extended reals, for one batch entry: scores, importances, the blocks chosen, and the gated sum of the
three branches.
-/
module

public import proofs.«01_k».proof.Proof.Softmax
public import proofs.«01_k».proof.Proof.TopK

@[expose] public section

set_option maxRecDepth 16384

noncomputable section

namespace Cert.Attn

open Idealize.ShloMosaic

/-- The scaled score of query `t` of head `h` against key `k`. -/
def score (q : ℕ → ℕ → ℕ → ℝ) (kf : ℕ → ℕ → ℝ) (h t k : ℕ) : ℝ := (∑ d ∈ Finset.range 64, q h d t * kf k d) * (1 / 8)

/-- Compressed row `k` is visible at time `t`: its last key is not later. -/
def Vis (t k : ℕ) : Prop := 16 * k + 31 ≤ t

/-- The part of compressed row `k` that lies in selection block `j`. -/
def part (j k : ℕ) : ℝ := ((min (16 * k + 32) (64 * j + 64) - max (16 * k) (64 * j) : ℕ) : ℝ) / 32

/-- The importance of block `j` for the queries of group `g` at time `t`. -/
def impt (q : ℕ → ℕ → ℕ → ℝ) (kc : ℕ → ℕ → ℕ → ℝ) (g t j : ℕ) : EReal :=
  if t < 64 * j then ⊥ else if j = 0 ∨ j = t / 64 ∨ j + 1 = t / 64 then Ideal.ofBits .f32 0x4E6E6B28#32 else
    ((∑ k ∈ Finset.range 512, part j k * (soft 512 (Vis t) (score q (kc g) (4 * g) t) k + soft 512 (Vis t) (score q (kc g) (4 * g + 1) t) k
      + soft 512 (Vis t) (score q (kc g) (4 * g + 2) t) k + soft 512 (Vis t) (score q (kc g) (4 * g + 3) t) k) : ℝ) : EReal)

/-- Block `j` is among the sixteen of largest importance, ties by number. -/
def Chosen (q : ℕ → ℕ → ℕ → ℝ) (kc : ℕ → ℕ → ℕ → ℝ) (g t j : ℕ) : Prop :=
  ∃ hj : j < 128, rank (fun j : Fin 128 => impt q kc g t j) ⟨j, hj⟩ < 16

/-- The compressed branch. -/
def outC (q : ℕ → ℕ → ℕ → ℝ) (kc : ℕ → ℕ → ℕ → ℝ) (vc : ℕ → ℕ → ℕ → EReal) (h d t : ℕ) : EReal :=
  attn 512 (Vis t) (score q (kc (h / 4)) h t) (vc (h / 4) d)

/-- The selected branch. -/
def outS (q : ℕ → ℕ → ℕ → ℝ) (kc ks : ℕ → ℕ → ℕ → ℝ) (vs : ℕ → ℕ → ℕ → EReal) (h d t : ℕ) : EReal :=
  attn 8192 (fun k => k ≤ t ∧ Chosen q kc (h / 4) t (k / 64)) (score q (ks (h / 4)) h t) (vs (h / 4) d)

/-- The window branch. -/
def outW (q : ℕ → ℕ → ℕ → ℝ) (kw : ℕ → ℕ → ℕ → ℝ) (vw : ℕ → ℕ → ℕ → EReal) (h d t : ℕ) : EReal :=
  attn 8192 (fun k => k ≤ t ∧ t < k + 512) (score q (kw (h / 4)) h t) (vw (h / 4) d)

/-- The gated sum of the three branches. -/
def outAll (q : ℕ → ℕ → ℕ → ℝ) (kc ks kw : ℕ → ℕ → ℕ → ℝ) (vc vs vw : ℕ → ℕ → ℕ → EReal) (gl : ℕ → ℕ → EReal) (h d t : ℕ) : EReal :=
  Ideal.logistic (gl (3 * h) t) * outC q kc vc h d t + Ideal.logistic (gl (3 * h + 1) t) * outS q kc ks vs h d t
    + Ideal.logistic (gl (3 * h + 2) t) * outW q kw vw h d t

end Cert.Attn
-- ==== Proof.Args.lean ====
/-
The attention's arguments as families of numbers, one batch entry at a time.
-/
module

public import proofs.«01_k».proof.Proof.Spec
public import proofs.«01_k».proof.Defs
public import proofs.«01_k».proof.Proof.Gen.Pre_finite
public import Idealize.ShloMosaic.Lib.ReduceAll
public import Idealize.ShloMosaic.Lib.Pointwise

@[expose] public section

set_option maxRecDepth 16384

noncomputable section

namespace Cert.Attn

open Idealize.ShloMosaic

/-- The queries of batch entry `b`: head, lane, time. -/
def qOf (A : (⟨4, ![4, 8192, 8, 64]⟩ : Shape).Idx → EReal) (b : Fin 4) (h d t : ℕ) : ℝ :=
  if H : t < 8192 ∧ h < 8 ∧ d < 64 then (A (ix4 b ⟨t, H.1⟩ ⟨h, H.2.1⟩ ⟨d, H.2.2⟩)).toReal else 0

/-- The compressed keys: group, row, lane. -/
def kcOf (A : (⟨4, ![4, 511, 2, 64]⟩ : Shape).Idx → EReal) (b : Fin 4) (g n d : ℕ) : ℝ :=
  if H : n < 511 ∧ g < 2 ∧ d < 64 then (A (ix4 b ⟨n, H.1⟩ ⟨g, H.2.1⟩ ⟨d, H.2.2⟩)).toReal else 0

/-- The compressed values: group, lane, row. -/
def vcOf (A : (⟨4, ![4, 511, 2, 64]⟩ : Shape).Idx → EReal) (b : Fin 4) (g d n : ℕ) : EReal :=
  if H : n < 511 ∧ g < 2 ∧ d < 64 then A (ix4 b ⟨n, H.1⟩ ⟨g, H.2.1⟩ ⟨d, H.2.2⟩) else 0

/-- The keys: group, row, lane. -/
def kOf (A : (⟨4, ![4, 8192, 2, 64]⟩ : Shape).Idx → EReal) (b : Fin 4) (g n d : ℕ) : ℝ :=
  if H : n < 8192 ∧ g < 2 ∧ d < 64 then (A (ix4 b ⟨n, H.1⟩ ⟨g, H.2.1⟩ ⟨d, H.2.2⟩)).toReal else 0

/-- The values: group, lane, row. -/
def vOf (A : (⟨4, ![4, 8192, 2, 64]⟩ : Shape).Idx → EReal) (b : Fin 4) (g d n : ℕ) : EReal :=
  if H : n < 8192 ∧ g < 2 ∧ d < 64 then A (ix4 b ⟨n, H.1⟩ ⟨g, H.2.1⟩ ⟨d, H.2.2⟩) else 0

/-- The gates before their logistic: gate row, time. -/
def glOf (A : (⟨3, ![4, 8192, 24]⟩ : Shape).Idx → EReal) (b : Fin 4) (c t : ℕ) : EReal :=
  if H : t < 8192 ∧ c < 24 then A (ix3 b ⟨t, H.1⟩ ⟨c, H.2⟩) else 0

/-- Every element of an array is a real number. -/
def Real' {s : Shape} (A : s.Idx → EReal) : Prop := ∀ i, ((A i).toReal : EReal) = A i

theorem qOf_eq (A : (⟨4, ![4, 8192, 8, 64]⟩ : Shape).Idx → EReal) (hA : Real' A) (b : Fin 4) (h : Fin 8) (d : Fin 64) (t : Fin 8192) :
    ((qOf A b h d t : ℝ) : EReal) = A (ix4 b t h d) := by
  rw [qOf, dif_pos ⟨t.2, h.2, d.2⟩]
  exact hA _

theorem kcOf_eq (A : (⟨4, ![4, 511, 2, 64]⟩ : Shape).Idx → EReal) (hA : Real' A) (b : Fin 4) (g : Fin 2) (n : Fin 511) (d : Fin 64) :
    ((kcOf A b g n d : ℝ) : EReal) = A (ix4 b n g d) := by
  rw [kcOf, dif_pos ⟨n.2, g.2, d.2⟩]
  exact hA _

theorem kOf_eq (A : (⟨4, ![4, 8192, 2, 64]⟩ : Shape).Idx → EReal) (hA : Real' A) (b : Fin 4) (g : Fin 2) (n : Fin 8192) (d : Fin 64) :
    ((kOf A b g n d : ℝ) : EReal) = A (ix4 b n g d) := by
  rw [kOf, dif_pos ⟨n.2, g.2, d.2⟩]
  exact hA _

theorem vcOf_eq (A : (⟨4, ![4, 511, 2, 64]⟩ : Shape).Idx → EReal) (b : Fin 4) (g : Fin 2) (n : Fin 511) (d : Fin 64) :
    vcOf A b g d n = A (ix4 b n g d) := by
  rw [vcOf, dif_pos ⟨n.2, g.2, d.2⟩]

theorem vOf_eq (A : (⟨4, ![4, 8192, 2, 64]⟩ : Shape).Idx → EReal) (b : Fin 4) (g : Fin 2) (n : Fin 8192) (d : Fin 64) :
    vOf A b g d n = A (ix4 b n g d) := by
  rw [vOf, dif_pos ⟨n.2, g.2, d.2⟩]

theorem glOf_eq (A : (⟨3, ![4, 8192, 24]⟩ : Shape).Idx → EReal) (b : Fin 4) (c : Fin 24) (t : Fin 8192) :
    glOf A b c t = A (ix3 b t c) := by
  rw [glOf, dif_pos ⟨t.2, c.2⟩]

/-- The attention's result from its arguments: batch entry, head and lane, time. -/
def resOf (A0 : (⟨4, ![4, 8192, 8, 64]⟩ : Shape).Idx → EReal) (A1 A2 : (⟨4, ![4, 511, 2, 64]⟩ : Shape).Idx → EReal)
    (A3 A4 A5 A6 : (⟨4, ![4, 8192, 2, 64]⟩ : Shape).Idx → EReal) (A7 : (⟨3, ![4, 8192, 24]⟩ : Shape).Idx → EReal)
    (i : (⟨3, ![4, 512, 8192]⟩ : Shape).Idx) : EReal :=
  outAll (qOf A0 (i 0)) (kcOf A1 (i 0)) (kOf A3 (i 0)) (kOf A5 (i 0)) (vcOf A2 (i 0)) (vOf A4 (i 0)) (vOf A6 (i 0)) (glOf A7 (i 0))
    ((i 1).val / 64) ((i 1).val % 64) (i 2).val

/-- A number whose size is below infinity is real. -/
theorem real_of_abs (x : EReal) (h : FloatOps.cmpf (F := Ideal) (φ := .f32) .olt (FloatOps.hostAbsf (F := Ideal) (φ := .f32) x) (FloatOps.ofBits (F := Ideal) .f32 0x7F800000#32) = 1#1) :
    ((x.toReal : ℝ) : EReal) = x := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have hlt : max x (-x) < ⊤ := by
    by_contra hc
    simp [Ideal.cmp, hc] at h'
  refine EReal.coe_toReal ?_ ?_
  · rintro rfl; simp at hlt
  · rintro rfl; simp at hlt

/-- What the precondition says: queries and keys are real. -/
theorem finite_real (A0 : (⟨4, ![4, 8192, 8, 64]⟩ : Shape).Idx → EReal) (A1 A2 : (⟨4, ![4, 511, 2, 64]⟩ : Shape).Idx → EReal)
    (A3 A4 A5 A6 : (⟨4, ![4, 8192, 2, 64]⟩ : Shape).Idx → EReal) (A7 : (⟨3, ![4, 8192, 24]⟩ : Shape).Idx → EReal) (z : (⟨0, ![]⟩ : Shape).Idx)
    (h : Cert.Pre_finite.fn (F := Ideal) A0 A1 A2 A3 A4 A5 A6 A7 z = 1#1) :
    Real' A0 ∧ Real' A1 ∧ Real' A3 ∧ Real' A5 := by
  dsimp only [Cert.Pre_finite.fn, Cert.Pre_finite.fn_part1] at h
  have hand : ∀ a b : BitVec 1, IntOp.andi a b = 1#1 → a = 1#1 ∧ b = 1#1 := by decide
  obtain ⟨h', h5⟩ := hand _ _ h
  obtain ⟨h'', h3⟩ := hand _ _ h'
  obtain ⟨h0, h1⟩ := hand _ _ h''
  refine ⟨fun i => ?_, fun i => ?_, fun i => ?_, fun i => ?_⟩
  · exact real_of_abs _ (Host.reduce_andi_all _ _ _ _ _ h0 i)
  · exact real_of_abs _ (Host.reduce_andi_all _ _ _ _ _ h1 i)
  · exact real_of_abs _ (Host.reduce_andi_all _ _ _ _ _ h3 i)
  · exact real_of_abs _ (Host.reduce_andi_all _ _ _ _ _ h5 i)

end Cert.Attn
-- ==== Proof.Words.lean ====
/- Index words: 32-bit words that hold small naturals, and the numbers the two programs' constants denote. -/
module

public import proofs.«01_k».proof.Proof.KernelIdealTier
public import proofs.«01_k».proof.Proof.Softmax

@[expose] public section

set_option maxRecDepth 16384

noncomputable section

namespace Cert.Attn

open Idealize.ShloMosaic

theorem toInt_ofNat (a : ℕ) (h : a < 2147483648) : (BitVec.ofNat 32 a).toInt = a := by
  rw [BitVec.toInt_eq_toNat_of_lt]
  · rw [BitVec.toNat_ofNat, Nat.mod_eq_of_lt (by omega)]
  · rw [BitVec.toNat_ofNat, Nat.mod_eq_of_lt (by omega)]; omega

theorem ofNat_inj (a b : ℕ) (ha : a < 4294967296) (hb : b < 4294967296) :
    BitVec.ofNat 32 a = BitVec.ofNat 32 b ↔ a = b := by
  constructor
  · intro h
    have := congrArg BitVec.toNat h
    rwa [BitVec.toNat_ofNat, BitVec.toNat_ofNat, Nat.mod_eq_of_lt (by omega), Nat.mod_eq_of_lt (by omega)] at this
  · rintro rfl; rfl

theorem add_ofNat (a b : ℕ) : IntOp.addi (BitVec.ofNat 32 a) (BitVec.ofNat 32 b) = BitVec.ofNat 32 (a + b) := by
  show BitVec.ofNat 32 a + BitVec.ofNat 32 b = _
  rw [BitVec.ofNat_add]

theorem mul_ofNat (a b : ℕ) : IntOp.muli (BitVec.ofNat 32 a) (BitVec.ofNat 32 b) = BitVec.ofNat 32 (a * b) := by
  show BitVec.ofNat 32 a * BitVec.ofNat 32 b = _
  rw [BitVec.ofNat_mul]

theorem smul_ofNat (a b : ℕ) : Scalar.muli (BitVec.ofNat 32 a) (BitVec.ofNat 32 b) = BitVec.ofNat 32 (a * b) :=
  mul_ofNat a b

theorem sub_ofNat (a b : ℕ) (h : b ≤ a) (ha : a < 4294967296) :
    IntOp.subi (BitVec.ofNat 32 a) (BitVec.ofNat 32 b) = BitVec.ofNat 32 (a - b) := by
  show BitVec.ofNat 32 a - BitVec.ofNat 32 b = _
  apply BitVec.eq_of_toNat_eq
  rw [BitVec.toNat_sub, BitVec.toNat_ofNat, BitVec.toNat_ofNat, BitVec.toNat_ofNat, Nat.mod_eq_of_lt (a := a) (by omega),
    Nat.mod_eq_of_lt (a := b) (by omega)]
  omega

theorem sle_ofNat (a b : ℕ) (ha : a < 2147483648) (hb : b < 2147483648) :
    IntOp.cmpi .sle (BitVec.ofNat 32 a) (BitVec.ofNat 32 b) = 1#1 ↔ a ≤ b := by
  have : IntOp.cmpi .sle (BitVec.ofNat 32 a) (BitVec.ofNat 32 b) = BitVec.ofBool (decide (a ≤ b)) := by
    show BitVec.ofBool ((BitVec.ofNat 32 a).sle (BitVec.ofNat 32 b)) = _
    congr 1
    rw [BitVec.sle_eq_decide, toInt_ofNat a ha, toInt_ofNat b hb]; simp
  rw [this]; by_cases h : a ≤ b <;> simp [h]

theorem sgt_ofNat (a b : ℕ) (ha : a < 2147483648) (hb : b < 2147483648) :
    IntOp.cmpi .sgt (BitVec.ofNat 32 a) (BitVec.ofNat 32 b) = 1#1 ↔ b < a := by
  have : IntOp.cmpi .sgt (BitVec.ofNat 32 a) (BitVec.ofNat 32 b) = BitVec.ofBool (decide (b < a)) := by
    show BitVec.ofBool ((BitVec.ofNat 32 b).slt (BitVec.ofNat 32 a)) = _
    congr 1
    rw [BitVec.slt_eq_decide, toInt_ofNat a ha, toInt_ofNat b hb]; simp
  rw [this]; by_cases h : b < a <;> simp [h]

theorem eq_word (a b : BitVec 32) : IntOp.cmpi .eq a b = 1#1 ↔ a = b := by
  have : IntOp.cmpi .eq a b = BitVec.ofBool (decide (a = b)) := by
    show BitVec.ofBool (a == b) = _
    congr 1
  rw [this]; by_cases h : a = b <;> simp [h]

theorem eq_ofNat (a b : ℕ) (ha : a < 4294967296) (hb : b < 4294967296) :
    IntOp.cmpi .eq (BitVec.ofNat 32 a) (BitVec.ofNat 32 b) = 1#1 ↔ a = b := by
  rw [eq_word, ofNat_inj a b ha hb]

theorem shr6_ofNat (a : ℕ) (ha : a < 4294967296) :
    IntOp.shrui .vector (BitVec.ofNat 32 a) 6#32 = BitVec.ofNat 32 (a / 64) := by
  show BitVec.ofNat 32 a >>> 6 = _
  apply BitVec.eq_of_toNat_eq
  rw [BitVec.toNat_ushiftRight, BitVec.toNat_ofNat, BitVec.toNat_ofNat, Nat.mod_eq_of_lt ha, Nat.shiftRight_eq_div_pow,
    Nat.mod_eq_of_lt (by omega)]

theorem eq_pred (k a : ℕ) (hk : k < 2147483648) (ha : a < 2147483648) :
    IntOp.cmpi .eq (BitVec.ofNat 32 k) (IntOp.subi (BitVec.ofNat 32 a) 1#32) = 1#1 ↔ k + 1 = a := by
  rw [eq_word]
  constructor
  · intro h
    have h2 := congrArg (fun x => IntOp.addi x 1#32) h
    have : IntOp.addi (IntOp.subi (BitVec.ofNat 32 a) 1#32) 1#32 = BitVec.ofNat 32 a := by
      show BitVec.ofNat 32 a - 1#32 + 1#32 = _
      exact BitVec.sub_add_cancel _ _
    simp only [this] at h2
    rw [show (1#32) = BitVec.ofNat 32 1 from rfl, add_ofNat, ofNat_inj _ _ (by omega) (by omega)] at h2
    exact h2
  · rintro rfl
    rw [show (1#32) = BitVec.ofNat 32 1 from rfl, sub_ofNat _ _ (by omega) (by omega)]
    congr 1

theorem ori_one (a b : BitVec 1) : IntOp.ori a b = 1#1 ↔ a = 1#1 ∨ b = 1#1 := by revert a b; decide

theorem andi_one (a b : BitVec 1) : IntOp.andi a b = 1#1 ↔ a = 1#1 ∧ b = 1#1 := by revert a b; decide

theorem sel_pos {α : Type} (b : BitVec 1) (x y : α) (h : b = 1#1) : Scalar.select b x y = x := by
  subst h; rfl

theorem sel_neg {α : Type} (b : BitVec 1) (x y : α) (h : ¬ b = 1#1) : Scalar.select b x y = y := by
  have : b = 0#1 := by revert h; revert b; decide
  subst this; rfl

/-! ### Constants -/

theorem lit_bot : Ideal.ofBits .f32 0xFF800000#32 = ⊥ := by
  simp [Ideal.ofBits, Ideal.ieee]

theorem lit_eps : ∃ ε : ℝ, 0 < ε ∧ ε ≤ 1 ∧ Ideal.ofBits .f32 0x0DA24260#32 = (ε : EReal) := by
  refine ⟨_, ?_, ?_, by simp [Ideal.ofBits, Ideal.ieee]; rfl⟩ <;> norm_num

theorem lit_low : ∃ r : ℝ, r < 0 ∧ Ideal.ofBits .f32 0xFF61B1E6#32 = (r : EReal) := by
  refine ⟨_, ?_, by simp [Ideal.ofBits, Ideal.ieee]; rfl⟩; norm_num

theorem lit_forced : ∃ r : ℝ, 0 < r ∧ Ideal.ofBits .f32 0x4E6E6B28#32 = (r : EReal) := by
  refine ⟨_, ?_, by simp [Ideal.ofBits, Ideal.ieee]; rfl⟩; norm_num

theorem lit_half : Ideal.ofBits .f32 0x3F000000#32 = ((1 / 2 : ℝ) : EReal) := by
  simp [Ideal.ofBits, Ideal.ieee]
  rw [← EReal.coe_mul]; norm_num

theorem lit_eighth : Ideal.ofBits .f32 0x3E000000#32 = ((1 / 8 : ℝ) : EReal) := by
  simp [Ideal.ofBits, Ideal.ieee]
  rw [← EReal.coe_mul]; norm_num

theorem mask_bot : Named.named (F := Ideal) (φ := .f32) Cert.KernelIdeal.κ "mask" 0xF149F2CA#32 = (⊥ : EReal) := by
  rfl

theorem qscale_val : Named.named (F := Ideal) (φ := .f32) Cert.KernelIdeal.κ "qscale" 0x3E38AA3B#32
    = (((1 / 8) * (Real.log 2)⁻¹ : ℝ) : EReal) := by
  rfl

end Cert.Attn
-- ==== Proof.SlcValue.lean ====
/- The selected attention of the kernel: the running maximum and sums over key tiles, read at an index. -/
module

public import proofs.«01_k».proof.Proof.Words
public import Idealize.ShloMosaic.Lib.Pointwise

@[expose] public section

set_option maxRecDepth 16384

noncomputable section

namespace Cert.Attn

open Idealize.ShloMosaic Cert.KernelIdeal Cert.KernelIdeal.Gen

theorem fold_univ_sup (w : ℕ) (f : Fin w → EReal) :
    Finset.fold max (Ideal.ofBits FTy.f32 4286578688#32) f Finset.univ = Finset.univ.sup f := by
  rw [lit_bot]; rfl

/-- One tile of the running softmax, in the form the kernel computes it. -/
theorem step_abs (n w : ℕ) (s V : ℕ → EReal) (hs : ∀ k, Low (s k)) (m acc : EReal) (h : IsFlash n s V m acc)
    (f v : Fin w → EReal) (hf : ∀ x, f x = s (n + x)) (hv : ∀ x, v x = V (n + x)) :
    IsFlash (n + w) s V (max m (Finset.fold max (Ideal.ofBits FTy.f32 4286578688#32) f Finset.univ))
      (Ideal.exp2 (m - max m (Finset.fold max (Ideal.ofBits FTy.f32 4286578688#32) f Finset.univ)) * acc
        + ∑ x, v x * Ideal.exp2 (f x - max m (Finset.fold max (Ideal.ofBits FTy.f32 4286578688#32) f Finset.univ))) := by
  have hf' : f = fun x : Fin w => s (n + x) := funext hf
  have hv' : v = fun x : Fin w => V (n + x) := funext hv
  subst hf'; subst hv'
  rw [fold_univ_sup]
  exact isFlash_step n w s V hs m acc _ _ h rfl rfl

theorem onehot (b : BitVec 1) :
    (FloatOps.sitofp (F := Ideal) FTy.f32 (BitVec.setWidth 32 b) : EReal) = if b = 1#1 then 1 else 0 := by
  have : b = 0#1 ∨ b = 1#1 := by revert b; decide
  rcases this with rfl | rfl
  · rw [if_neg (by decide)]; show (((BitVec.setWidth 32 0#1).toInt : ℝ) : EReal) = 0; simp
  · rw [if_pos rfl]; show (((BitVec.setWidth 32 1#1).toInt : ℝ) : EReal) = 1
    rw [show (BitVec.setWidth 32 1#1).toInt = 1 by decide]; simp

/-- A product with a row that is keys followed by a unit vector. -/
theorem aug_sum (A B : Fin 256 → EReal) (j : ℕ) (hj : j < 128) (kt qp : ℕ → EReal) (bs : ℕ → EReal)
    (hA : ∀ x : Fin 128, A ⟨x, by omega⟩ = kt x) (hA' : ∀ x : Fin 128, A ⟨128 + x, by omega⟩ = if (x : ℕ) = j then 1 else 0)
    (hB : ∀ x : Fin 128, B ⟨x, by omega⟩ = qp x) (hB' : ∀ x : Fin 128, B ⟨128 + x, by omega⟩ = bs x) :
    ∑ x, A x * B x = ∑ x : Fin 128, kt x * qp x + bs j := by
  have h := Fin.sum_univ_add (a := 128) (b := 128) (fun x : Fin (128 + 128) => A x * B x)
  refine h.trans ?_
  congr 1
  · apply Finset.sum_congr rfl
    intro x _
    exact congrArg₂ _ (hA x) (hB x)
  · have e : ∀ x : Fin 128, A (Fin.natAdd 128 x) * B (Fin.natAdd 128 x) = if (x : ℕ) = j then bs j else 0 := by
      intro x
      refine (congrArg₂ _ (hA' x) (hB' x)).trans ?_
      by_cases hx : (x : ℕ) = j
      · rw [if_pos hx, if_pos hx, one_mul, hx]
      · rw [if_neg hx, if_neg hx, zero_mul]
    rw [Finset.sum_congr rfl (fun x _ => e x)]
    rw [Finset.sum_eq_single (⟨j, hj⟩ : Fin 128)]
    · rw [if_pos rfl]
    · intro b _ hb; rw [if_neg]; exact fun e => hb (Fin.ext e)
    · intro hb; exact absurd (Finset.mem_univ _) hb

/-- A key is seen by a query if it is not later and its block is selected. -/
def Seen (T : ℕ → ℕ) (sel : ℕ → ℕ → Prop) (c k : ℕ) : Prop := k ≤ T c ∧ sel c (k / 64)

open Classical in
/-- The bias of a selection: nought or −∞. -/
def bias (p : Prop) : EReal := if p then 0 else ⊥

theorem bias_pos {p : Prop} (h : p) : bias p = 0 := if_pos h
theorem bias_neg {p : Prop} (h : ¬ p) : bias p = ⊥ := if_neg h

theorem sc2_bias (P : ℕ → Prop) (σ : ℕ → ℝ) (k : ℕ) :
    ((σ k * (Real.log 2)⁻¹ : ℝ) : EReal) + bias (P k) = sc2 P σ k := by
  unfold sc2
  by_cases h : P k
  · rw [bias_pos h, if_pos h, add_zero]
  · rw [bias_neg h, if_neg h, EReal.add_bot]

theorem bias_and (p q : Prop) : bias p + bias q = bias (p ∧ q) := by
  by_cases hp : p <;> by_cases hq : q
  · rw [bias_pos hp, bias_pos hq, bias_pos ⟨hp, hq⟩, add_zero]
  · rw [bias_pos hp, bias_neg hq, bias_neg (fun e => hq e.2), EReal.add_bot]
  · rw [bias_neg hp, bias_pos hq, bias_neg (fun e => hp e.1), EReal.bot_add]
  · rw [bias_neg hp, bias_neg (p := p ∧ q) (fun e => hp e.1), EReal.bot_add]

theorem iv_word (t a : ℕ) : Scalar.muli (Scf.iv 0#32 1#32 t) (BitVec.ofNat 32 a) = BitVec.ofNat 32 (t * a) := by
  have : Scf.iv 0#32 1#32 t = BitVec.ofNat 32 t := by unfold Scf.iv; simp
  rw [this, smul_ofNat]

theorem row52 (i : grid0.Coords) (t : Fin (k0_t1_loop i).trips) (ht : (t : ℕ) < 16) (kt : Vec Ideal S1x512x128 .bf16) (k : Fin 512) (x : Fin 128) :
    k0_pay52 (F := Ideal) i 0#32 1#32 t kt (ix2 k ⟨x, by omega⟩) = kt (ix3 0 k x)
    ∧ k0_pay52 (F := Ideal) i 0#32 1#32 t kt (ix2 k ⟨128 + x, by omega⟩) = if (x : ℕ) = (512 * t + k) / 64 then 1 else 0 := by
  constructor
  · pointwise [k0_pay52]
  · pointwise [k0_pay52]
    rw [onehot, shr6_ofNat _ (by omega), show (8#32) = BitVec.ofNat 32 8 from rfl,
      iv_word, add_ofNat]
    have : (IntOp.cmpi CmpIPredicate.eq (BitVec.ofNat 32 ↑x) (BitVec.ofNat 32 (↑t * 8 + ↑k / 64)) = 1#1)
        ↔ (x : ℕ) = (512 * t + k) / 64 := by
      rw [eq_ofNat _ _ (by omega) (by omega)]; omega
    exact if_congr this rfl rfl

theorem row137 (a : BitVec 32) (b : BitVec 1) (n : ℕ) (hn : n < 16) (h : Scalar.select b (Scalar.subi a 1#32) a = BitVec.ofNat 32 n)
    (kt : Vec Ideal S1x512x128 .bf16) (k : Fin 512) (x : Fin 128) :
    k0_pay137 (F := Ideal) a b kt (ix2 k ⟨x, by omega⟩) = kt (ix3 0 k x)
    ∧ k0_pay137 (F := Ideal) a b kt (ix2 k ⟨128 + x, by omega⟩) = if (x : ℕ) = (512 * n + k) / 64 then 1 else 0 := by
  constructor
  · pointwise [k0_pay137]
  · pointwise [k0_pay137]
    rw [onehot, shr6_ofNat _ (by omega), h, show (8#32) = BitVec.ofNat 32 8 from rfl,
      smul_ofNat, add_ofNat]
    have : (IntOp.cmpi CmpIPredicate.eq (BitVec.ofNat 32 ↑x) (BitVec.ofNat 32 (n * 8 + ↑k / 64)) = 1#1)
        ↔ (x : ℕ) = (512 * n + k) / 64 := by
      rw [eq_ofNat _ _ (by omega) (by omega)]; omega
    exact if_congr this rfl rfl

theorem bias135 (v3 : IVec S1x256 32) (a : BitVec 32) (b : BitVec 1) (n : ℕ) (hn : n < 16)
    (h : Scalar.select b (Scalar.subi a 1#32) a = BitVec.ofNat 32 n) (T : ℕ → ℕ) (hT : ∀ c, T c < 8192)
    (h3 : ∀ c : Fin 256, v3 (ix2 0 c) = BitVec.ofNat 32 (T c)) (k : Fin 512) (c : Fin 256) :
    k0_pay135 (F := Ideal) v3 a b (ix2 k c) = bias (512 * n + k ≤ T c) := by
  pointwise [k0_pay135]
  rw [h, show (512#32) = BitVec.ofNat 32 512 from rfl, smul_ofNat, add_ofNat, h3]
  have hc : (IntOp.cmpi CmpIPredicate.sle (BitVec.ofNat 32 (n * 512 + ↑k)) (BitVec.ofNat 32 (T c)) = 1#1) ↔ 512 * n + k ≤ T c := by
    have := hT c
    rw [sle_ofNat _ _ (by omega) (by omega)]; omega
  by_cases hh : 512 * n + k ≤ T c
  · rw [bias_pos hh, sel_pos _ _ _ (hc.2 hh)]
  · rw [bias_neg hh, sel_neg _ _ _ (fun e => hh (hc.1 e))]; exact mask_bot

section
variable (T : ℕ → ℕ) (sel : ℕ → ℕ → Prop) (σ : ℕ → ℕ → ℝ) (KT QP V : ℕ → ℕ → EReal) (vq : FVec Ideal S256x1024 .bf16)

/-- The score of a key in a tile: the product of the augmented rows. -/
theorem score_tile (hQ : ∀ (x : Fin 128) (c : Fin 1024), vq (ix2 ⟨x, by omega⟩ c) = QP x c)
    (hB : ∀ (x : Fin 128) (c : Fin 1024), vq (ix2 ⟨128 + x, by omega⟩ c) = bias (sel c x))
    (hS : ∀ (k : ℕ) (c : Fin 1024), k < 8192 → ∑ x : Fin 128, KT k x * QP x c = ((σ c k * (Real.log 2)⁻¹ : ℝ) : EReal))
    (A : Fin 256 → EReal) (K : ℕ) (hK : K < 8192) (hA : ∀ x : Fin 128, A ⟨x, by omega⟩ = KT K x)
    (hA' : ∀ x : Fin 128, A ⟨128 + x, by omega⟩ = if (x : ℕ) = K / 64 then 1 else 0) (c : Fin 1024) :
    ∑ x, A x * vq (ix2 x c) = ((σ c K * (Real.log 2)⁻¹ : ℝ) : EReal) + bias (sel c (K / 64)) := by
  rw [aug_sum A (fun x => vq (ix2 x c)) (K / 64) (by omega) (KT K) (fun x => QP x c) (fun x => bias (sel c x)) hA hA'
    (fun x => hQ x c) (fun x => hB x c), hS K c hK]

theorem seen_early (c K : ℕ) (h : K ≤ T c) :
    ((σ c K * (Real.log 2)⁻¹ : ℝ) : EReal) + bias (sel c (K / 64)) = sc2 (Seen T sel c) (σ c) K := by
  rw [← sc2_bias]
  congr 2
  unfold Seen
  exact propext ⟨fun e => ⟨h, e⟩, fun e => e.2⟩

theorem score54 (hQ : ∀ (x : Fin 128) (c : Fin 1024), vq (ix2 ⟨x, by omega⟩ c) = QP x c)
    (hB : ∀ (x : Fin 128) (c : Fin 1024), vq (ix2 ⟨128 + x, by omega⟩ c) = bias (sel c x))
    (hS : ∀ (k : ℕ) (c : Fin 1024), k < 8192 → ∑ x : Fin 128, KT k x * QP x c = ((σ c k * (Real.log 2)⁻¹ : ℝ) : EReal))
    (i : grid0.Coords) (t : Fin (k0_t1_loop i).trips) (ht : (t : ℕ) < 16) (kt : Vec Ideal S1x512x128 .bf16)
    (hkt : ∀ (k : Fin 512) (x : Fin 128), kt (ix3 0 k x) = KT (512 * t + k) x)
    (hT : ∀ c : Fin 1024, 512 * (t : ℕ) + 511 ≤ T c) (k : Fin 512) (c : Fin 1024) :
    k0_pay54 (F := Ideal) i vq 0#32 1#32 t kt (ix2 k c) = sc2 (Seen T sel c) (σ c) (512 * t + k) := by
  pointwise [k0_pay54]
  rw [score_tile sel σ KT QP vq hQ hB hS (fun x => k0_pay52 (F := Ideal) i 0#32 1#32 t kt (ix2 k x)) (512 * t + k) (by omega)
    (fun x => (row52 i t ht kt k x).1.trans (hkt k x)) (fun x => (row52 i t ht kt k x).2) c,
    seen_early T sel σ c (512 * t + k) (by have := hT c; omega)]

theorem score55 (hQ : ∀ (x : Fin 128) (c : Fin 1024), vq (ix2 ⟨x, by omega⟩ c) = QP x c)
    (hB : ∀ (x : Fin 128) (c : Fin 1024), vq (ix2 ⟨128 + x, by omega⟩ c) = bias (sel c x))
    (hS : ∀ (k : ℕ) (c : Fin 1024), k < 8192 → ∑ x : Fin 128, KT k x * QP x c = ((σ c k * (Real.log 2)⁻¹ : ℝ) : EReal))
    (i : grid0.Coords) (t : Fin (k0_t1_loop i).trips) (ht : (t : ℕ) < 16) (kt : Vec Ideal S1x512x128 .bf16)
    (hkt : ∀ (k : Fin 512) (x : Fin 128), kt (ix3 0 k x) = KT (512 * t + k) x)
    (hT : ∀ c : Fin 1024, 512 * (t : ℕ) + 511 ≤ T c) (k : Fin 512) (c : Fin 1024) :
    k0_pay55 (F := Ideal) i vq 0#32 1#32 t kt (ix2 k c) = sc2 (Seen T sel c) (σ c) (512 * t + k) := by
  pointwise [k0_pay55]
  rw [score_tile sel σ KT QP vq hQ hB hS (fun x => k0_pay52 (F := Ideal) i 0#32 1#32 t kt (ix2 k x)) (512 * t + k) (by omega)
    (fun x => (row52 i t ht kt k x).1.trans (hkt k x)) (fun x => (row52 i t ht kt k x).2) c,
    seen_early T sel σ c (512 * t + k) (by have := hT c; omega)]

/-- One trip of the loop over whole tiles, group 0. -/
theorem trip0 (hQ : ∀ (x : Fin 128) (c : Fin 1024), vq (ix2 ⟨x, by omega⟩ c) = QP x c)
    (hB : ∀ (x : Fin 128) (c : Fin 1024), vq (ix2 ⟨128 + x, by omega⟩ c) = bias (sel c x))
    (hS : ∀ (k : ℕ) (c : Fin 1024), k < 8192 → ∑ x : Fin 128, KT k x * QP x c = ((σ c k * (Real.log 2)⁻¹ : ℝ) : EReal))
    (hV : ∀ d k, 64 ≤ d → V d k = 1)
    (i : grid0.Coords) (t : Fin (k0_t1_loop i).trips) (ht : (t : ℕ) < 16) (kt : Vec Ideal S1x512x128 .bf16)
    (hkt : ∀ (k : Fin 512) (x : Fin 128), kt (ix3 0 k x) = KT (512 * t + k) x)
    (hT : ∀ c : Fin 1024, 512 * (t : ℕ) + 511 ≤ T c)
    (vt : Vec Ideal S1x64x512 .bf16) (hvt : ∀ (d : Fin 64) (k : Fin 512), vt (ix3 0 d k) = V d (512 * t + k))
    (a : FVec Ideal S1x1024 .f32) (b : FVec Ideal S80x1024 .f32)
    (h : ∀ (d : Fin 80) (c : Fin 1024), IsFlash (512 * t) (sc2 (Seen T sel c) (σ c)) (V d) (a (ix2 0 c)) (b (ix2 d c)))
    (d : Fin 80) (c : Fin 1024) :
    IsFlash (512 * (t + 1)) (sc2 (Seen T sel c) (σ c)) (V d) (k0_pay56 (F := Ideal) i vq 0#32 1#32 t a kt (ix2 0 c))
      (k0_pay57 (F := Ideal) i vq 0#32 1#32 t a b kt vt (ix2 d c)) := by
  have key := step_abs (512 * t) 512 (sc2 (Seen T sel c) (σ c)) (V d) (low_sc2 _ _) _ _ (h d c)
    (fun x => k0_pay54 (F := Ideal) i vq 0#32 1#32 t kt (ix2 x c)) (fun x => if h : (d : ℕ) < 64 then vt (ix3 0 ⟨d, h⟩ x) else 1)
    (fun x => score54 T sel σ KT QP vq hQ hB hS i t ht kt hkt hT x c)
    (fun x => by
      by_cases hd : (d : ℕ) < 64
      · simp only [dif_pos hd]; exact hvt ⟨d, hd⟩ x
      · simp only [dif_neg hd]; exact (hV d _ (by omega)).symm)
  have e : 512 * ((t : ℕ) + 1) = 512 * t + 512 := by ring
  rw [e]
  pointwise [k0_pay57, k0_pay51, k0_pay56]
  exact key

/-- One trip of the loop over whole tiles, group 1. -/
theorem trip1 (hQ : ∀ (x : Fin 128) (c : Fin 1024), vq (ix2 ⟨x, by omega⟩ c) = QP x c)
    (hB : ∀ (x : Fin 128) (c : Fin 1024), vq (ix2 ⟨128 + x, by omega⟩ c) = bias (sel c x))
    (hS : ∀ (k : ℕ) (c : Fin 1024), k < 8192 → ∑ x : Fin 128, KT k x * QP x c = ((σ c k * (Real.log 2)⁻¹ : ℝ) : EReal))
    (hV : ∀ d k, 64 ≤ d → V d k = 1)
    (i : grid0.Coords) (t : Fin (k0_t1_loop i).trips) (ht : (t : ℕ) < 16) (kt : Vec Ideal S1x512x128 .bf16)
    (hkt : ∀ (k : Fin 512) (x : Fin 128), kt (ix3 0 k x) = KT (512 * t + k) x)
    (hT : ∀ c : Fin 1024, 512 * (t : ℕ) + 511 ≤ T c)
    (vt : Vec Ideal S1x64x512 .bf16) (hvt : ∀ (d : Fin 64) (k : Fin 512), vt (ix3 0 d k) = V d (512 * t + k))
    (a : FVec Ideal S1x1024 .f32) (b : FVec Ideal S80x1024 .f32)
    (h : ∀ (d : Fin 80) (c : Fin 1024), IsFlash (512 * t) (sc2 (Seen T sel c) (σ c)) (V d) (a (ix2 0 c)) (b (ix2 d c)))
    (d : Fin 80) (c : Fin 1024) :
    IsFlash (512 * (t + 1)) (sc2 (Seen T sel c) (σ c)) (V d) (k0_pay58 (F := Ideal) i vq 0#32 1#32 t a kt (ix2 0 c))
      (k0_pay133 (F := Ideal) a b (k0_pay53 vt) (k0_pay55 i vq 0#32 1#32 t kt) (k0_pay58 i vq 0#32 1#32 t a kt) (ix2 d c)) := by
  have key := step_abs (512 * t) 512 (sc2 (Seen T sel c) (σ c)) (V d) (low_sc2 _ _) _ _ (h d c)
    (fun x => k0_pay55 (F := Ideal) i vq 0#32 1#32 t kt (ix2 x c)) (fun x => if h : (d : ℕ) < 64 then vt (ix3 0 ⟨d, h⟩ x) else 1)
    (fun x => score55 T sel σ KT QP vq hQ hB hS i t ht kt hkt hT x c)
    (fun x => by
      by_cases hd : (d : ℕ) < 64
      · simp only [dif_pos hd]; exact hvt ⟨d, hd⟩ x
      · simp only [dif_neg hd]; exact (hV d _ (by omega)).symm)
  have e : 512 * ((t : ℕ) + 1) = 512 * t + 512 := by ring
  rw [e]
  pointwise [k0_pay133, k0_pay53, k0_pay51, k0_pay58]
  exact key

/-- The last tile, causally masked, and the quotient: group 0's selected attention. -/
theorem slc_fin0 (hQ : ∀ (x : Fin 128) (c : Fin 1024), vq (ix2 ⟨x, by omega⟩ c) = QP x c)
    (hB : ∀ (x : Fin 128) (c : Fin 1024), vq (ix2 ⟨128 + x, by omega⟩ c) = bias (sel c x))
    (hS : ∀ (k : ℕ) (c : Fin 1024), k < 8192 → ∑ x : Fin 128, KT k x * QP x c = ((σ c k * (Real.log 2)⁻¹ : ℝ) : EReal))
    (hV : ∀ d k, 64 ≤ d → V d k = 1) (n : ℕ) (hn : n < 16) (hT : ∀ c : Fin 1024, T c < 512 * n + 512)
    (hT' : ∀ c : ℕ, T c = T (c % 256)) (hsel : ∀ c : Fin 1024, sel c (T c / 64))
    (vo : FVec Ideal S256x1024 .bf16) (m mo : FVec Ideal S1x1024 .f32) (a ao : FVec Ideal S80x1024 .f32)
    (h : ∀ (d : Fin 80) (c : Fin 1024), IsFlash (512 * n) (sc2 (Seen T sel c) (σ c)) (V d) (m (ix2 0 c)) (a (ix2 d c)))
    (v399 : FVec Ideal S512x256 .f32) (h399 : ∀ (k : Fin 512) (c : Fin 256), v399 (ix2 k c) = bias (512 * n + k ≤ T c))
    (v401 : FVec Ideal S16x512 .bf16) (h401 : ∀ k : Fin 512, v401 (ix2 0 k) = 1)
    (v415 : FVec Ideal S512x256 .bf16)
    (hA : ∀ (k : Fin 512) (x : Fin 128), v415 (ix2 k ⟨x, by omega⟩) = KT (512 * n + k) x)
    (hA' : ∀ (k : Fin 512) (x : Fin 128), v415 (ix2 k ⟨128 + x, by omega⟩) = if (x : ℕ) = (512 * n + k) / 64 then 1 else 0)
    (v419 : FVec Ideal S80x512 .bf16) (v422 : FVec Ideal S64x512 .bf16)
    (h419 : ∀ (d : Fin 80) (k : Fin 512), v419 (ix2 d k) = V d (512 * n + k))
    (d : Fin 64) (c : Fin 1024) :
    k0_pay140 (F := Ideal) vq vo m mo a ao v399 v401 v415 v419 v422 (ix2 d ⟨c, by omega⟩) = attn 8192 (Seen T sel c) (σ c) (V d) := by
  have hf : ∀ (k : Fin 512), (∑ x, v415 (ix2 k x) * vq (ix2 x c)) +
      (if h1 : (c : ℕ) < 256 then v399 (ix2 k ⟨c, by omega⟩) else
        if h2 : (c : ℕ) - 256 < 256 then v399 (ix2 k ⟨(c : ℕ) - 256, by omega⟩) else
        if h3 : (c : ℕ) - 256 - 256 < 256 then v399 (ix2 k ⟨(c : ℕ) - 256 - 256, by omega⟩) else
        v399 (ix2 k ⟨(c : ℕ) - 256 - 256 - 256, by omega⟩)) = sc2 (Seen T sel c) (σ c) (512 * n + k) := by
    intro k
    rw [score_tile sel σ KT QP vq hQ hB hS (fun x => v415 (ix2 k x)) (512 * n + k) (by omega) (hA k) (hA' k) c]
    have hb : (if h1 : (c : ℕ) < 256 then v399 (ix2 k ⟨c, by omega⟩) else
        if h2 : (c : ℕ) - 256 < 256 then v399 (ix2 k ⟨(c : ℕ) - 256, by omega⟩) else
        if h3 : (c : ℕ) - 256 - 256 < 256 then v399 (ix2 k ⟨(c : ℕ) - 256 - 256, by omega⟩) else
        v399 (ix2 k ⟨(c : ℕ) - 256 - 256 - 256, by omega⟩)) = bias (512 * n + k ≤ T c) := by
      rw [hT' c]
      split_ifs <;> rw [h399] <;> congr 2 <;> simp only [] <;> congr 1 <;> omega
    rw [hb, add_assoc, bias_and, ← sc2_bias]
    congr 2
    unfold Seen
    exact propext and_comm
  have key := fun (d : Fin 80) (v : Fin 512 → EReal) hv => step_abs (512 * n) 512 (sc2 (Seen T sel c) (σ c)) (V d) (low_sc2 _ _) _ _ (h d c) _ v hf hv
  have hfin : ∀ A L M : EReal, IsFlash (512 * n + 512) (sc2 (Seen T sel c) (σ c)) (V d) M A →
      IsFlash (512 * n + 512) (sc2 (Seen T sel c) (σ c)) (V 64) M L →
      A * Ideal.div 1 L = attn 8192 (Seen T sel c) (σ c) (V d) := by
    intro A L M hA hL
    have h64 : V 64 = fun _ => 1 := funext (fun k => hV 64 k (le_refl _))
    rw [h64] at hL
    rw [isFlash_final _ _ _ _ _ _ _ hA hL (T c) (hT c) ⟨le_refl _, hsel c⟩]
    apply attn_mono _ _ (by omega)
    intro k _ hk
    have := hT c
    have := hk.1
    omega
  have gen : ∀ C : Fin 2048, C = ⟨c, by omega⟩ → k0_pay140 (F := Ideal) vq vo m mo a ao v399 v401 v415 v419 v422 (ix2 d C)
      = attn 8192 (Seen T sel c) (σ c) (V d) := by
    intro C hC
    pointwise [k0_pay140]
    subst hC
    rw [dif_pos (show (c : ℕ) < 1024 from c.2), dif_pos (show (c : ℕ) < 1024 from c.2)]
    exact hfin _ _ _ (key ⟨d, by omega⟩ (fun x => v419 (ix2 ⟨d, by omega⟩ x)) (fun x => h419 _ x))
      (key 64 (fun x => v419 (ix2 64 x)) (fun x => h419 64 x))
  exact gen _ rfl

/-- The last tile, causally masked, and the quotient: group 1's selected attention. -/
theorem slc_fin1 (hQ : ∀ (x : Fin 128) (c : Fin 1024), vq (ix2 ⟨x, by omega⟩ c) = QP x c)
    (hB : ∀ (x : Fin 128) (c : Fin 1024), vq (ix2 ⟨128 + x, by omega⟩ c) = bias (sel c x))
    (hS : ∀ (k : ℕ) (c : Fin 1024), k < 8192 → ∑ x : Fin 128, KT k x * QP x c = ((σ c k * (Real.log 2)⁻¹ : ℝ) : EReal))
    (hV : ∀ d k, 64 ≤ d → V d k = 1) (n : ℕ) (hn : n < 16) (hT : ∀ c : Fin 1024, T c < 512 * n + 512)
    (hT' : ∀ c : ℕ, T c = T (c % 256)) (hsel : ∀ c : Fin 1024, sel c (T c / 64))
    (vo : FVec Ideal S256x1024 .bf16) (m mo : FVec Ideal S1x1024 .f32) (a ao : FVec Ideal S80x1024 .f32)
    (h : ∀ (d : Fin 80) (c : Fin 1024), IsFlash (512 * n) (sc2 (Seen T sel c) (σ c)) (V d) (m (ix2 0 c)) (a (ix2 d c)))
    (v399 : FVec Ideal S512x256 .f32) (h399 : ∀ (k : Fin 512) (c : Fin 256), v399 (ix2 k c) = bias (512 * n + k ≤ T c))
    (v401 : FVec Ideal S16x512 .bf16) (h401 : ∀ k : Fin 512, v401 (ix2 0 k) = 1)
    (v415 : FVec Ideal S512x256 .bf16)
    (hA : ∀ (k : Fin 512) (x : Fin 128), v415 (ix2 k ⟨x, by omega⟩) = KT (512 * n + k) x)
    (hA' : ∀ (k : Fin 512) (x : Fin 128), v415 (ix2 k ⟨128 + x, by omega⟩) = if (x : ℕ) = (512 * n + k) / 64 then 1 else 0)
    (v419 : FVec Ideal S80x512 .bf16) (v422 : FVec Ideal S64x512 .bf16)
    (h422 : ∀ (d : Fin 64) (k : Fin 512), v422 (ix2 d k) = V d (512 * n + k))
    (d : Fin 64) (c : Fin 1024) :
    k0_pay140 (F := Ideal) vo vq mo m ao a v399 v401 v415 v419 v422 (ix2 d ⟨1024 + c, by omega⟩) = attn 8192 (Seen T sel c) (σ c) (V d) := by
  have hf : ∀ (k : Fin 512), (∑ x, v415 (ix2 k x) * vq (ix2 x c)) +
      (if h1 : (c : ℕ) < 256 then v399 (ix2 k ⟨c, by omega⟩) else
        if h2 : (c : ℕ) - 256 < 256 then v399 (ix2 k ⟨(c : ℕ) - 256, by omega⟩) else
        if h3 : (c : ℕ) - 256 - 256 < 256 then v399 (ix2 k ⟨(c : ℕ) - 256 - 256, by omega⟩) else
        v399 (ix2 k ⟨(c : ℕ) - 256 - 256 - 256, by omega⟩)) = sc2 (Seen T sel c) (σ c) (512 * n + k) := by
    intro k
    rw [score_tile sel σ KT QP vq hQ hB hS (fun x => v415 (ix2 k x)) (512 * n + k) (by omega) (hA k) (hA' k) c]
    have hb : (if h1 : (c : ℕ) < 256 then v399 (ix2 k ⟨c, by omega⟩) else
        if h2 : (c : ℕ) - 256 < 256 then v399 (ix2 k ⟨(c : ℕ) - 256, by omega⟩) else
        if h3 : (c : ℕ) - 256 - 256 < 256 then v399 (ix2 k ⟨(c : ℕ) - 256 - 256, by omega⟩) else
        v399 (ix2 k ⟨(c : ℕ) - 256 - 256 - 256, by omega⟩)) = bias (512 * n + k ≤ T c) := by
      rw [hT' c]
      split_ifs <;> rw [h399] <;> congr 2 <;> simp only [] <;> congr 1 <;> omega
    rw [hb, add_assoc, bias_and, ← sc2_bias]
    congr 2
    unfold Seen
    exact propext and_comm
  have key := fun (d : Fin 80) (v : Fin 512 → EReal) hv => step_abs (512 * n) 512 (sc2 (Seen T sel c) (σ c)) (V d) (low_sc2 _ _) _ _ (h d c) _ v hf hv
  have hfin : ∀ A L M : EReal, IsFlash (512 * n + 512) (sc2 (Seen T sel c) (σ c)) (V d) M A →
      IsFlash (512 * n + 512) (sc2 (Seen T sel c) (σ c)) (V 64) M L →
      A * Ideal.div 1 L = attn 8192 (Seen T sel c) (σ c) (V d) := by
    intro A L M hA hL
    have h64 : V 64 = fun _ => 1 := funext (fun k => hV 64 k (le_refl _))
    rw [h64] at hL
    rw [isFlash_final _ _ _ _ _ _ _ hA hL (T c) (hT c) ⟨le_refl _, hsel c⟩]
    apply attn_mono _ _ (by omega)
    intro k _ hk
    have := hT c
    have := hk.1
    omega
  have gen : ∀ C : Fin 2048, C = ⟨1024 + c, by omega⟩ → k0_pay140 (F := Ideal) vo vq mo m ao a v399 v401 v415 v419 v422 (ix2 d C)
      = attn 8192 (Seen T sel c) (σ c) (V d) := by
    intro C hC
    pointwise [k0_pay140]
    have h1 : ¬ (C : ℕ) < 1024 := by rw [hC]; simp only []; omega
    have h2 : (C : ℕ) - 1024 = c := by rw [hC]; simp only []; omega
    simp only [dif_neg h1, h2]
    exact hfin _ _ _ (key ⟨d, by omega⟩ (fun x => v422 (ix2 d x)) (fun x => h422 _ x))
      (key 64 (fun x => v401 (ix2 0 x)) (fun x => (h401 x).trans (hV 64 _ (le_refl _)).symm))
  exact gen _ rfl

end

end Cert.Attn
-- ==== Proof.Picks.lean ====
-- The sixteen rounds in which the kernel picks its blocks.
module

public import proofs.«01_k».proof.Proof.SlcValue
public import proofs.«01_k».proof.Proof.TopK
public import Idealize.ShloMosaic.Lib.Pointwise

@[expose] public section
set_option maxRecDepth 16384

noncomputable section

namespace Cert.Attn

open Idealize Idealize.ShloMosaic Cert.KernelIdeal.Gen Cert.KernelIdeal

/-- The scores left after `n` rounds. -/
def left (v : FVec Ideal S128x512 .f32) (w : IVec S128x512 32) : ℕ → FVec Ideal S128x512 .f32
  | 0 => v
  | n + 1 => k0_pay86 (F := Ideal) (left v w n) w

/-- The marks set after `n` rounds. -/
def marks (v : FVec Ideal S128x512 .f32) (w : IVec S128x512 32) : ℕ → FVec Ideal S128x512 .f32
  | 0 => broadcast S128x512 (Scalar.ofBits .f32 0x00000000#32)
  | n + 1 => select (k0_pay85 (F := Ideal) (left v w n) w) (broadcast S128x512 (Scalar.ofBits .f32 0x3F800000#32)) (marks v w n)

/-! ## One round -/

theorem minsi_ofNat (a b : ℕ) (ha : a < 2147483648) (hb : b < 2147483648) :
    IntOp.minsi (BitVec.ofNat 32 a) (BitVec.ofNat 32 b) = BitVec.ofNat 32 (min a b) := by
  unfold IntOp.minsi
  rw [BitVec.slt_eq_decide, toInt_ofNat a ha, toInt_ofNat b hb]
  by_cases h : a < b
  · rw [Nat.min_eq_left h.le]
    simp [h]
  · rw [Nat.min_eq_right (by omega)]
    simp [h]

theorem fold_minsi (f : Fin 128 → BitVec 32) (e : Fin 128 → ℕ) (he : ∀ x, e x ≤ 128) (h : ∀ x, f x = BitVec.ofNat 32 (e x))
    (s : Finset (Fin 128)) :
    s.fold IntOp.minsi 2147483647#32 f = BitVec.ofNat 32 (s.fold min 2147483647 e) ∧ s.fold min 2147483647 e < 2147483648 := by
  classical
  induction s using Finset.induction_on with
  | empty => exact ⟨rfl, by simp⟩
  | insert a s ha ih =>
    rw [Finset.fold_insert ha, Finset.fold_insert ha, ih.1, h, minsi_ofNat _ _ (by have := he a; omega) ih.2]
    exact ⟨rfl, lt_of_le_of_lt (min_le_right _ _) ih.2⟩

/-- Among the places that hold the largest value there is a first. -/
theorem first_max (g : Fin 128 → EReal) : ∃ i : Fin 128, (∀ j, g j ≤ g i) ∧ ∀ j, g j = g i → i ≤ j := by
  classical
  obtain ⟨m, -, hm⟩ := Finset.exists_max_image Finset.univ g ⟨0, Finset.mem_univ _⟩
  have hne : (Finset.univ.filter fun x => g x = g m).Nonempty := ⟨m, by simp⟩
  refine ⟨(Finset.univ.filter fun x => g x = g m).min' hne, ?_, ?_⟩
  · have := (Finset.mem_filter.1 (Finset.min'_mem _ hne)).2
    intro j; rw [this]; exact hm j (Finset.mem_univ _)
  · have h1 := (Finset.mem_filter.1 (Finset.min'_mem _ hne)).2
    intro j hj
    exact Finset.min'_le (Finset.univ.filter fun x => g x = g m) j (Finset.mem_filter.2 ⟨Finset.mem_univ _, hj.trans h1⟩)

/-- The round's mark falls on the first place that holds the largest value. -/
theorem pick_word (f : FVec Ideal S128x512 .f32) (w : IVec S128x512 32) (hw : ∀ (k : Fin 128) (c : Fin 512), w (ix2 k c) = BitVec.ofNat 32 k)
    (c : Fin 512) (i : Fin 128) (hi : ∀ j, f (ix2 j c) ≤ f (ix2 i c)) (hi' : ∀ j, f (ix2 j c) = f (ix2 i c) → i ≤ j) (k : Fin 128) :
    k0_pay85 (F := Ideal) f w (ix2 k c) = 1#1 ↔ k = i := by
  pointwise [k0_pay85]
  have hmax : Finset.fold max (Ideal.ofBits FTy.f32 4286578688#32) (fun x => f (ix2 x c)) Finset.univ = f (ix2 i c) := by
    rw [fold_univ_sup]
    exact le_antisymm (Finset.sup_le fun j _ => hi j) (Finset.le_sup (f := fun x => f (ix2 x c)) (Finset.mem_univ i))
  rw [hmax]
  classical
  have hf := fold_minsi (fun x => if f (ix2 x c) = f (ix2 i c) then w (ix2 x c) else 128#32)
    (fun x => if f (ix2 x c) = f (ix2 i c) then (x : ℕ) else 128) (fun x => by have := x.2; show (if _ then _ else _) ≤ 128; split_ifs <;> omega)
    (fun x => by beta_reduce; split_ifs; exacts [hw x c, rfl]) Finset.univ
  have hi0 : (Finset.univ : Finset (Fin 128)).fold min 2147483647 (fun x => if f (ix2 x c) = f (ix2 i c) then (x : ℕ) else 128) = i := by
    apply le_antisymm
    · rw [Finset.fold_min_le]
      exact .inr ⟨i, Finset.mem_univ i, by simp⟩
    · rw [Finset.le_fold_min]
      refine ⟨by have := i.2; omega, fun x _ => ?_⟩
      have := i.2
      split_ifs with h
      · exact hi' x h
      · omega
  rw [hi0] at hf
  have e : Finset.fold IntOp.minsi (2147483647#32) (fun x => if f (ix2 x c) = f (ix2 i c) then w (ix2 x c) else 128#32) Finset.univ
      = BitVec.ofNat 32 i := by rw [← hf.1]
  rw [eq_word, hw]
  constructor
  · intro h
    have h2 := h.trans e
    rw [ofNat_inj _ _ (by have := k.2; omega) (by have := i.2; omega)] at h2
    exact Fin.ext h2
  · rintro rfl
    exact e.symm

theorem marks_succ (v : FVec Ideal S128x512 .f32) (w : IVec S128x512 32) (n : ℕ) (k : Fin 128) (c : Fin 512) :
    marks v w (n + 1) (ix2 k c) = Scalar.select (k0_pay85 (F := Ideal) (left v w n) w (ix2 k c)) 1 (marks v w n (ix2 k c)) := by
  rw [marks]
  pointwise

/-- After `n` rounds: what is marked, and what is left. -/
theorem rounds (v : FVec Ideal S128x512 .f32) (w : IVec S128x512 32) (hw : ∀ (k : Fin 128) (c : Fin 512), w (ix2 k c) = BitVec.ofNat 32 k)
    (c : Fin 512) (n : ℕ) :
    (∀ k : Fin 128, marks v w n (ix2 k c) = 1 ∨ marks v w n (ix2 k c) = 0) ∧
    Rounds (fun k : Fin 128 => v (ix2 k c)) (Ideal.ofBits FTy.f32 4284592614#32) n (fun k : Fin 128 => marks v w n (ix2 k c) = 1)
      (fun k => left v w n (ix2 k c)) := by
  induction n with
  | zero =>
    have h0 : ∀ k : Fin 128, marks v w 0 (ix2 k c) = 0 := by
      intro k
      unfold marks
      pointwise
    refine ⟨fun k => .inr (h0 k), rounds_zero _ _ _ fun k h => ?_⟩
    rw [h0] at h
    exact zero_ne_one h
  | succ n ih =>
    obtain ⟨i, hi, hi'⟩ := first_max fun k => left v w n (ix2 k c)
    have hp := pick_word (left v w n) w hw c i hi hi'
    have hm : ∀ k : Fin 128, marks v w (n + 1) (ix2 k c) = if k = i then 1 else marks v w n (ix2 k c) := by
      intro k
      rw [marks_succ]
      by_cases h : k = i
      · rw [if_pos h]; exact sel_pos _ _ _ ((hp k).2 h)
      · rw [if_neg h]; exact sel_neg _ _ _ (fun h' => h ((hp k).1 h'))
    have hl : ∀ k : Fin 128, left v w (n + 1) (ix2 k c) = if k = i then Ideal.ofBits FTy.f32 4284592614#32 else left v w n (ix2 k c) := by
      intro k
      rw [left]
      pointwise [k0_pay86]
      by_cases h : k = i
      · rw [if_pos h]; exact sel_pos _ _ _ ((hp k).2 h)
      · rw [if_neg h]; exact sel_neg _ _ _ (fun h' => h ((hp k).1 h'))
    refine ⟨fun k => ?_, rounds_step _ _ n _ _ _ _ ih.2 i hi hi' (fun j => ?_) hl⟩
    · rw [hm]
      split_ifs
      · exact .inl rfl
      · exact ih.1 k
    · show marks v w (n + 1) (ix2 j c) = 1 ↔ _
      rw [hm]
      split_ifs with h
      · simp [h]
      · simp [h]

/-- The selection row of block `k` at a column: open where the block is marked. -/
theorem open_word (v : FVec Ideal S128x512 .f32) (w : IVec S128x512 32) (hw : ∀ (k : Fin 128) (c : Fin 512), w (ix2 k c) = BitVec.ofNat 32 k)
    (k : Fin 128) (c : Fin 512) :
    (if Ideal.ofBits FTy.f32 1056964608#32 < Scalar.select (k0_pay85 (F := Ideal) (left v w 15) w (ix2 k c)) 1 (marks v w 15 (ix2 k c)) then (0 : EReal)
      else (Named.named κ "mask" 4048155338#32 : Ideal .f32)) = bias (marks v w 16 (ix2 k c) = 1) := by
  have h := (rounds v w hw c 16).1 k
  rw [← marks_succ v w 15 k c, lit_half]
  rcases h with h | h
  · rw [h, bias_pos rfl, if_pos]
    exact_mod_cast (by norm_num : (1 / 2 : ℝ) < 1)
  · rw [h, bias_neg (by simp), if_neg, mask_bot]
    intro h'
    have : ((1 / 2 : ℝ) : EReal) < ((0 : ℝ) : EReal) := h'
    rw [EReal.coe_lt_coe_iff] at this
    norm_num at this

set_option maxHeartbeats 2000000 in
/-- The selection rows over all columns. -/
theorem open_rows (e : FVec Ideal S128x512 .f32) (b : IVec S128x512 1) (S : ℕ → ℕ → Prop)
    (h : ∀ (k : Fin 128) (c : Fin 512), (if Ideal.ofBits FTy.f32 1056964608#32 < Scalar.select (b (ix2 k c)) 1 (e (ix2 k c)) then (0 : EReal)
      else (Named.named κ "mask" 4048155338#32 : Ideal .f32)) = bias (S c k)) (k : Fin 128) (C : Fin 2048) (G : ℕ)
    (hG : (C : ℕ) < 1024 ∧ G = C % 256 ∨ 1024 ≤ (C : ℕ) ∧ G = 256 + C % 256) :
    k0_pay124 (F := Ideal) e b (ix2 k C) = bias (S G k) := by
  pointwise [k0_pay124]
  split_ifs <;> first | (exfalso; omega) | (refine (h _ _).trans ?_; congr 2; simp only []; omega)

end Cert.Attn
-- ==== Proof.Tail.lean ====
/-
The body of the attention kernel in one form for all four branches of its switch: what it stores, from the values of the branch taken.
-/
module

public import proofs.«01_k».proof.Proof.KernelIdealFrame
public import proofs.«01_k».proof.Proof.Picks

@[expose] public section

set_option maxRecDepth 16384

noncomputable section

namespace Cert.Attn

open Cert.KernelIdeal Cert.KernelIdeal.Gen Cert.KernelIdeal.Own
open Idealize.ShloMosaic Idealize.ShloMosaic.TcCoe
open Idealize.SL.Sem

/-- The number of the last selection tile before correction, as a word. -/
def lastW (i : grid0.Coords) : BitVec 32 :=
  Scalar.divsi (Scalar.addi (Scalar.muli (BitVec.ofNat 32 (i 1).val) 256#32) 1#32) 512#32

/-- Whether the correction of floor division applies, as a word. -/
def corrW (i : grid0.Coords) : BitVec 1 :=
  let a := Scalar.addi (Scalar.muli (BitVec.ofNat 32 (i 1).val) 256#32) 1#32
  Scalar.andi (Scalar.cmpi .ne (Scalar.subi (Scalar.extui (Scalar.cmpi .sgt a 0#32)) (Scalar.extui (Scalar.cmpi .slt a 0#32))) 1#32)
    (Scalar.cmpi .ne (Scalar.remsi a 512#32) 0#32)

/-- The number of full selection tiles, as a word. -/
def fullW (i : grid0.Coords) : BitVec 32 :=
  Scalar.addi 0#32 (Scalar.muli (Scalar.divsi (Scalar.subi (Scalar.select (corrW i) (Scalar.subi (lastW i) 1#32) (lastW i)) 0#32) 1#32) 1#32)

/-- The block numbers, a row each. -/
def blockNo : IVec S128x512 32 := k0_pay84 (iota .tc S128x256 32 [0] iota_S128x256_d0_w32)

/-- The scores the picking starts from. -/
def scores (i : grid0.Coords) (im0 im1 : FVec Ideal S128x256 .f32) : FVec Ideal S128x512 .f32 :=
  k0_pay83 (k0_pay69 i) (k0_pay70 i) im0 im1

variable (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
  (x0 : Vec Ideal S1x512x256 .f32) (x1 : Vec Ideal S1x8192x256 .bf16) (x2 : Vec Ideal S1x256x8192 .bf16) (x3 : Vec Ideal S1x2x512x64 .bf16) (x4 : Vec Ideal S1x2x64x512 .bf16) (x5 : Vec Ideal S128x512 .bf16) (x6 : Vec Ideal S1x128x256 .f32) (oc0 oc1 : FVec Ideal S64x1024 .f32) (im0 im1 : FVec Ideal S128x256 .f32)

/-- Group 0's padded queries. -/
def qpad0 : FVec Ideal S128x1024 .bf16 := k0_pay77 k0_pay72 (k0_pay73 (View.readAt (Elt Ideal) arg2.view (Rect.unit (s := S1x512x256) ![0, 0, 0] S1x64x256.size inb_S1x512x256_S1x64x256_0_0_0).toLoadRect (harg2.unread x0))) (k0_pay74 (View.readAt (Elt Ideal) arg2.view (Rect.unit (s := S1x512x256) ![0, 64, 0] S1x64x256.size inb_S1x512x256_S1x64x256_0_64_0).toLoadRect (harg2.unread x0))) (View.readAt (Elt Ideal) arg2.view (Rect.unit (s := S1x512x256) ![0, 128, 0] S1x64x256.size inb_S1x512x256_S1x64x256_0_128_0).toLoadRect (harg2.unread x0)) (View.readAt (Elt Ideal) arg2.view (Rect.unit (s := S1x512x256) ![0, 192, 0] S1x64x256.size inb_S1x512x256_S1x64x256_0_192_0).toLoadRect (harg2.unread x0))

/-- Group 1's padded queries. -/
def qpad1 : FVec Ideal S128x1024 .bf16 := k0_pay78 k0_pay72 (View.readAt (Elt Ideal) arg2.view (Rect.unit (s := S1x512x256) ![0, 256, 0] S1x64x256.size inb_S1x512x256_S1x64x256_0_256_0).toLoadRect (harg2.unread x0)) (View.readAt (Elt Ideal) arg2.view (Rect.unit (s := S1x512x256) ![0, 320, 0] S1x64x256.size inb_S1x512x256_S1x64x256_0_320_0).toLoadRect (harg2.unread x0)) (View.readAt (Elt Ideal) arg2.view (Rect.unit (s := S1x512x256) ![0, 384, 0] S1x64x256.size inb_S1x512x256_S1x64x256_0_384_0).toLoadRect (harg2.unread x0)) (View.readAt (Elt Ideal) arg2.view (Rect.unit (s := S1x512x256) ![0, 448, 0] S1x64x256.size inb_S1x512x256_S1x64x256_0_448_0).toLoadRect (harg2.unread x0))

/-- Group 0's queries over its selection rows. -/
def qsel0 : FVec Ideal S256x1024 .bf16 := k0_pay127 (qpad0 arg2 harg2 x0) (qpad1 arg2 harg2 x0)
  (marks (scores i im0 im1) blockNo 15) (k0_pay85 (left (scores i im0 im1) blockNo 15) blockNo)

/-- Group 1's queries over its selection rows. -/
def qsel1 : FVec Ideal S256x1024 .bf16 := k0_pay128 (qpad0 arg2 harg2 x0) (qpad1 arg2 harg2 x0)
  (marks (scores i im0 im1) blockNo 15) (k0_pay85 (left (scores i im0 im1) blockNo 15) blockNo)

/-- The flash state after `n` full tiles. -/
def full (n : ℕ) : FVec Ideal S1x1024 .f32 × FVec Ideal S1x1024 .f32 × FVec Ideal S80x1024 .f32 × FVec Ideal S80x1024 .f32 :=
  st_k0_t1 Variants.none c none i arg2 harg2 arg3 harg3 arg4 harg4 arg5 harg5 arg6 harg6 arg7 harg7 arg8 harg8 arg9 harg9 (k0_pay67 i) (qsel0 i arg2 harg2 x0 im0 im1) (qsel1 i arg2 harg2 x0 im0 im1)
    k0_pay129 k0_pay130 k0_pay131 k0_pay132 (lastW i) (corrW i) (harg3.unread x1) (harg4.unread x2)
    (k0_pay129, k0_pay130, k0_pay131, k0_pay132) n

/-- The flash state after the full tiles, passed through the loop's remainder. -/
def state : FVec Ideal S1x1024 .f32 × FVec Ideal S1x1024 .f32 × FVec Ideal S80x1024 .f32 × FVec Ideal S80x1024 .f32 :=
  st_k0_t2 Variants.none c none i arg2 harg2 arg3 harg3 arg4 harg4 arg5 harg5 arg6 harg6 arg7 harg7 arg8 harg8 arg9 harg9 (k0_pay67 i) (qsel0 i arg2 harg2 x0 im0 im1) (qsel1 i arg2 harg2 x0 im0 im1)
    k0_pay129 k0_pay130 k0_pay131 k0_pay132 (lastW i) (corrW i) (fullW i) (harg3.unread x1) (harg4.unread x2)
    ((full c i arg2 harg2 arg3 harg3 arg4 harg4 arg5 harg5 arg6 harg6 arg7 harg7 arg8 harg8 arg9 harg9 x0 x1 x2 im0 im1 (Scf.trips (k0_t1_loop i).lb (k0_t1_loop i).ub (k0_t1_loop i).st)).1,
     (full c i arg2 harg2 arg3 harg3 arg4 harg4 arg5 harg5 arg6 harg6 arg7 harg7 arg8 harg8 arg9 harg9 x0 x1 x2 im0 im1 (Scf.trips (k0_t1_loop i).lb (k0_t1_loop i).ub (k0_t1_loop i).st)).2.1,
     (full c i arg2 harg2 arg3 harg3 arg4 harg4 arg5 harg5 arg6 harg6 arg7 harg7 arg8 harg8 arg9 harg9 x0 x1 x2 im0 im1 (Scf.trips (k0_t1_loop i).lb (k0_t1_loop i).ub (k0_t1_loop i).st)).2.2.1,
     (full c i arg2 harg2 arg3 harg3 arg4 harg4 arg5 harg5 arg6 harg6 arg7 harg7 arg8 harg8 arg9 harg9 x0 x1 x2 im0 im1 (Scf.trips (k0_t1_loop i).lb (k0_t1_loop i).ub (k0_t1_loop i).st)).2.2.2)
    (Scf.trips (k0_t2_loop i).lb (k0_t2_loop i).ub (k0_t2_loop i).st)

/-- The selected attention of both groups. -/
def outSel : FVec Ideal S64x2048 .f32 :=
  k0_pay140 (qsel0 i arg2 harg2 x0 im0 im1) (qsel1 i arg2 harg2 x0 im0 im1) (state c i arg2 harg2 arg3 harg3 arg4 harg4 arg5 harg5 arg6 harg6 arg7 harg7 arg8 harg8 arg9 harg9 x0 x1 x2 im0 im1).1
    (state c i arg2 harg2 arg3 harg3 arg4 harg4 arg5 harg5 arg6 harg6 arg7 harg7 arg8 harg8 arg9 harg9 x0 x1 x2 im0 im1).2.1 (state c i arg2 harg2 arg3 harg3 arg4 harg4 arg5 harg5 arg6 harg6 arg7 harg7 arg8 harg8 arg9 harg9 x0 x1 x2 im0 im1).2.2.1 (state c i arg2 harg2 arg3 harg3 arg4 harg4 arg5 harg5 arg6 harg6 arg7 harg7 arg8 harg8 arg9 harg9 x0 x1 x2 im0 im1).2.2.2
    (k0_pay135 (k0_pay67 i) (lastW i) (corrW i)) k0_pay136 (k0_pay137 (lastW i) (corrW i) (View.readAt (Elt Ideal) arg3.view (Rect.unit (s := S1x8192x256) (k0_off7 i) S1x512x128.size (k0_off7_inb i)).toLoadRect (harg3.unread x1)))
    (k0_pay138 (View.readAt (Elt Ideal) arg4.view (Rect.unit (s := S1x256x8192) (k0_off8 i) S1x64x512.size (k0_off8_inb i)).toLoadRect (harg4.unread x2))) (k0_pay139 (View.readAt (Elt Ideal) arg4.view (Rect.unit (s := S1x256x8192) (k0_off9 i) S1x64x512.size (k0_off9_inb i)).toLoadRect (harg4.unread x2)))

/-- The window attention of both groups. -/
def outWin : FVec Ideal S64x2048 .f32 :=
  k0_pay151 k0_pay132 (k0_pay146 (View.readAt (Elt Ideal) arg4.view (Rect.unit (s := S1x256x8192) (k0_off12 i) S1x64x768.size (k0_off12_inb i)).toLoadRect (harg4.unread x2)))
    (k0_pay147 (k0_pay67 i) (k0_pay125 (qpad0 arg2 harg2 x0) (qpad1 arg2 harg2 x0)) k0_pay129 k0_pay131 (k0_pay141 (BitVec.ofNat 32 (i 1).val)) (k0_pay142 (BitVec.ofNat 32 (i 1).val) (k0_pay67 i)) (View.readAt (Elt Ideal) arg3.view (Rect.unit (s := S1x8192x256) (k0_off10 i) S1x768x128.size (k0_off10_inb i)).toLoadRect (harg3.unread x1)) (View.readAt (Elt Ideal) arg4.view (Rect.unit (s := S1x256x8192) (k0_off11 i) S1x64x768.size (k0_off11_inb i)).toLoadRect (harg4.unread x2)))
    (k0_pay148 (k0_pay67 i) (k0_pay126 (qpad0 arg2 harg2 x0) (qpad1 arg2 harg2 x0)) (k0_pay141 (BitVec.ofNat 32 (i 1).val)) (k0_pay142 (BitVec.ofNat 32 (i 1).val) (k0_pay67 i)) (View.readAt (Elt Ideal) arg3.view (Rect.unit (s := S1x8192x256) (k0_off10 i) S1x768x128.size (k0_off10_inb i)).toLoadRect (harg3.unread x1)))
    (k0_pay149 (k0_pay67 i) (k0_pay126 (qpad0 arg2 harg2 x0) (qpad1 arg2 harg2 x0)) k0_pay130 (k0_pay141 (BitVec.ofNat 32 (i 1).val)) (k0_pay142 (BitVec.ofNat 32 (i 1).val) (k0_pay67 i)) (View.readAt (Elt Ideal) arg3.view (Rect.unit (s := S1x8192x256) (k0_off10 i) S1x768x128.size (k0_off10_inb i)).toLoadRect (harg3.unread x1)))
    (k0_pay150 (k0_pay67 i) (k0_pay126 (qpad0 arg2 harg2 x0) (qpad1 arg2 harg2 x0)) k0_pay130 (k0_pay141 (BitVec.ofNat 32 (i 1).val)) (k0_pay142 (BitVec.ofNat 32 (i 1).val) (k0_pay67 i)) (View.readAt (Elt Ideal) arg3.view (Rect.unit (s := S1x8192x256) (k0_off10 i) S1x768x128.size (k0_off10_inb i)).toLoadRect (harg3.unread x1)))

/-- The eight slabs the body stores, last first, from the gates and the three branches' values. -/
def slabs (gt : FVec Ideal S128x256 .f32) (oc0 oc1 : FVec Ideal S64x1024 .f32) (os : FVec Ideal S64x2048 .f32)
    (g : FVec Ideal S80x1024 .f32) (b : FVec Ideal S80x768 .bf16) (e : FVec Ideal S80x1024 .f32) (f : FVec Ideal S768x1024 .f32)
    (u w : FVec Ideal S1x1024 .f32) : List (View.Piece (Elt Ideal) S1x512x256 .f32) :=
  [⟨Rect.unit ![0, 448, 0] S1x64x256.size inb_S1x512x256_S1x64x256_0_448_0, k0_pay1 (k0_pay161 gt oc1 os (k0_pay151 g b e f u w))⟩,
   ⟨Rect.unit ![0, 384, 0] S1x64x256.size inb_S1x512x256_S1x64x256_0_384_0, k0_pay160 gt oc1 os (k0_pay151 g b e f u w)⟩,
   ⟨Rect.unit ![0, 320, 0] S1x64x256.size inb_S1x512x256_S1x64x256_0_320_0, k0_pay159 gt oc1 os (k0_pay151 g b e f u w)⟩,
   ⟨Rect.unit ![0, 256, 0] S1x64x256.size inb_S1x512x256_S1x64x256_0_256_0, k0_pay158 (k0_pay157 gt oc1 os (k0_pay151 g b e f u w))⟩,
   ⟨Rect.unit ![0, 192, 0] S1x64x256.size inb_S1x512x256_S1x64x256_0_192_0, k0_pay156 gt oc0 os (k0_pay151 g b e f u w)⟩,
   ⟨Rect.unit ![0, 128, 0] S1x64x256.size inb_S1x512x256_S1x64x256_0_128_0, k0_pay155 gt oc0 os (k0_pay151 g b e f u w) (k0_pay154 gt)⟩,
   ⟨Rect.unit ![0, 64, 0] S1x64x256.size inb_S1x512x256_S1x64x256_0_64_0, k0_pay153 gt oc0 g os b e f u w⟩,
   ⟨Rect.unit ![0, 0, 0] S1x64x256.size inb_S1x512x256_S1x64x256_0_0_0, k0_pay152 gt oc0 g os b e f u w⟩]

/-- What the body stores at a grid point, from its branch's values. -/
def stored : List (View.Piece (Elt Ideal) S1x512x256 .f32) :=
  slabs (k0_pay68 (View.readAt (Elt Ideal) arg8.view (Rect.unit (s := S1x128x256) ![0, 0, 0] S1x128x256.size inb_S1x128x256_S1x128x256_0_0_0).toLoadRect (harg8.unread x6))) oc0 oc1 (outSel c i arg2 harg2 arg3 harg3 arg4 harg4 arg5 harg5 arg6 harg6 arg7 harg7 arg8 harg8 arg9 harg9 x0 x1 x2 im0 im1) k0_pay132 (k0_pay146 (View.readAt (Elt Ideal) arg4.view (Rect.unit (s := S1x256x8192) (k0_off12 i) S1x64x768.size (k0_off12_inb i)).toLoadRect (harg4.unread x2)))
    (k0_pay147 (k0_pay67 i) (k0_pay125 (qpad0 arg2 harg2 x0) (qpad1 arg2 harg2 x0)) k0_pay129 k0_pay131 (k0_pay141 (BitVec.ofNat 32 (i 1).val)) (k0_pay142 (BitVec.ofNat 32 (i 1).val) (k0_pay67 i)) (View.readAt (Elt Ideal) arg3.view (Rect.unit (s := S1x8192x256) (k0_off10 i) S1x768x128.size (k0_off10_inb i)).toLoadRect (harg3.unread x1)) (View.readAt (Elt Ideal) arg4.view (Rect.unit (s := S1x256x8192) (k0_off11 i) S1x64x768.size (k0_off11_inb i)).toLoadRect (harg4.unread x2)))
    (k0_pay148 (k0_pay67 i) (k0_pay126 (qpad0 arg2 harg2 x0) (qpad1 arg2 harg2 x0)) (k0_pay141 (BitVec.ofNat 32 (i 1).val)) (k0_pay142 (BitVec.ofNat 32 (i 1).val) (k0_pay67 i)) (View.readAt (Elt Ideal) arg3.view (Rect.unit (s := S1x8192x256) (k0_off10 i) S1x768x128.size (k0_off10_inb i)).toLoadRect (harg3.unread x1)))
    (k0_pay149 (k0_pay67 i) (k0_pay126 (qpad0 arg2 harg2 x0) (qpad1 arg2 harg2 x0)) k0_pay130 (k0_pay141 (BitVec.ofNat 32 (i 1).val)) (k0_pay142 (BitVec.ofNat 32 (i 1).val) (k0_pay67 i)) (View.readAt (Elt Ideal) arg3.view (Rect.unit (s := S1x8192x256) (k0_off10 i) S1x768x128.size (k0_off10_inb i)).toLoadRect (harg3.unread x1)))
    (k0_pay150 (k0_pay67 i) (k0_pay126 (qpad0 arg2 harg2 x0) (qpad1 arg2 harg2 x0)) k0_pay130 (k0_pay141 (BitVec.ofNat 32 (i 1).val)) (k0_pay142 (BitVec.ofNat 32 (i 1).val) (k0_pay67 i)) (View.readAt (Elt Ideal) arg3.view (Rect.unit (s := S1x8192x256) (k0_off10 i) S1x768x128.size (k0_off10_inb i)).toLoadRect (harg3.unread x1)))

end Cert.Attn
-- ==== Proof.Point.lean ====
/-
What a grid point's loads, words and queries are, as numbers.
-/
module

public import proofs.«01_k».proof.Proof.Tail
public import proofs.«01_k».proof.Proof.Spec
public import proofs.«01_k».proof.Proof.Words
public import Idealize.ShloMosaic.Lib.Pointwise
public import Idealize.ShloMosaic.Lib.WholeRead

@[expose] public section

set_option maxRecDepth 16384

noncomputable section

namespace Cert.Attn

open Cert.KernelIdeal Cert.KernelIdeal.Gen Cert.KernelIdeal.Own
open Idealize.ShloMosaic Idealize.ShloMosaic.TcCoe
open Idealize.SL.Sem

/-- What the seven input blocks of a grid point with query block `n` hold. -/
structure Holds (n : ℕ) (x0 : Vec Ideal S1x512x256 .f32) (x1 : Vec Ideal S1x8192x256 .bf16) (x2 : Vec Ideal S1x256x8192 .bf16)
    (x3 : Vec Ideal S1x2x512x64 .bf16) (x4 : Vec Ideal S1x2x64x512 .bf16) (x5 : Vec Ideal S128x512 .bf16) (x6 : Vec Ideal S1x128x256 .f32)
    (q : ℕ → ℕ → ℕ → ℝ) (kc ks kw : ℕ → ℕ → ℕ → ℝ) (vc vs vw : ℕ → ℕ → ℕ → EReal) (gl : ℕ → ℕ → EReal) : Prop where
  h0 : ∀ (y : Fin 512) (r : Fin 256), x0 (ix3 0 y r) = ((q (y.val / 64) (y.val % 64) (256 * n + r.val) : ℝ) : EReal)
  h1 : ∀ (k : Fin 8192) (x : Fin 128), x1 (ix3 0 k ⟨x.val, by omega⟩) = ((ks (x.val / 64) k.val (x.val % 64) : ℝ) : EReal)
  h1' : ∀ (k : Fin 8192) (x : Fin 128), x1 (ix3 0 k ⟨128 + x.val, by omega⟩) = ((kw (x.val / 64) k.val (x.val % 64) : ℝ) : EReal)
  h2 : ∀ (x : Fin 128) (k : Fin 8192), x2 (ix3 0 ⟨x.val, by omega⟩ k) = vs (x.val / 64) (x.val % 64) k.val
  h2' : ∀ (x : Fin 128) (k : Fin 8192), x2 (ix3 0 ⟨128 + x.val, by omega⟩ k) = vw (x.val / 64) (x.val % 64) k.val
  h3 : ∀ (g : Fin 2) (k : Fin 512) (d : Fin 64), x3 (ix4 0 g k d) = ((kc g.val k.val d.val : ℝ) : EReal)
  h4 : ∀ (g : Fin 2) (d : Fin 64) (k : Fin 512), x4 (ix4 0 g d k) = vc g.val d.val k.val
  h5 : ∀ (j : Fin 128) (k : Fin 512), x5 (ix2 j k) = ((part j.val k.val : ℝ) : EReal)
  h6 : ∀ (c : Fin 128) (r : Fin 256), c.val < 24 → x6 (ix3 0 c r) = gl c.val (256 * n + r.val)

/-- A load of a unit rectangle reads its memref's contents at the shifted index. -/
theorem rd {s : Shape} {e : EltTy} (m : Memref sig .tc .vmem s e) (h : m.IsWhole) (X : Vec Ideal s e) (off size : Fin s.rank → ℕ)
    (inb : ∀ a, off a + size a ≤ s.size a) (y : (Rect.unit (s := s) off size inb).toLoadRect.shape.Idx) (z : s.Idx)
    (hz : ∀ a, (z a).val = off a + (y a).val) :
    View.readAt (Elt Ideal) m.view (Rect.unit (s := s) off size inb).toLoadRect (h.unread X) y = X z := by
  rw [Memref.IsWhole.readAt_unread]
  congr 1
  funext a
  apply Fin.ext
  rw [hz a]
  show off a + 1 * (y a).val = _
  rw [one_mul]

/-- A rank-3 load at an index. -/
theorem rd3 {a b c a' b' c' : ℕ} {e : EltTy} (m : Memref sig .tc .vmem ⟨3, ![a, b, c]⟩ e) (h : m.IsWhole) (X : Vec Ideal ⟨3, ![a, b, c]⟩ e)
    (off : Fin 3 → ℕ) (inb : ∀ x, off x + (⟨3, ![a', b', c']⟩ : Shape).size x ≤ (⟨3, ![a, b, c]⟩ : Shape).size x)
    (i : Fin a') (j : Fin b') (k : Fin c') (i' : Fin a) (j' : Fin b) (k' : Fin c)
    (hi : i'.val = off 0 + i.val) (hj : j'.val = off 1 + j.val) (hk : k'.val = off 2 + k.val) :
    View.readAt (Elt Ideal) m.view (Rect.unit (s := ⟨3, ![a, b, c]⟩) off (⟨3, ![a', b', c']⟩ : Shape).size inb).toLoadRect (h.unread X) (ix3 i j k)
      = X (ix3 i' j' k') := by
  apply rd
  intro x
  fin_cases x
  · exact hi
  · exact hj
  · exact hk

/-- A rank-4 load at an index. -/
theorem rd4 {a b c f a' b' c' f' : ℕ} {e : EltTy} (m : Memref sig .tc .vmem ⟨4, ![a, b, c, f]⟩ e) (h : m.IsWhole)
    (X : Vec Ideal ⟨4, ![a, b, c, f]⟩ e)
    (off : Fin 4 → ℕ) (inb : ∀ x, off x + (⟨4, ![a', b', c', f']⟩ : Shape).size x ≤ (⟨4, ![a, b, c, f]⟩ : Shape).size x)
    (i : Fin a') (j : Fin b') (k : Fin c') (l : Fin f') (i' : Fin a) (j' : Fin b) (k' : Fin c) (l' : Fin f)
    (hi : i'.val = off 0 + i.val) (hj : j'.val = off 1 + j.val) (hk : k'.val = off 2 + k.val) (hl : l'.val = off 3 + l.val) :
    View.readAt (Elt Ideal) m.view (Rect.unit (s := ⟨4, ![a, b, c, f]⟩) off (⟨4, ![a', b', c', f']⟩ : Shape).size inb).toLoadRect (h.unread X)
      (ix4 i j k l) = X (ix4 i' j' k' l') := by
  apply rd
  intro x
  fin_cases x
  · exact hi
  · exact hj
  · exact hk
  · exact hl

/-- A rank-2 load at an index. -/
theorem rd2 {a b a' b' : ℕ} {e : EltTy} (m : Memref sig .tc .vmem ⟨2, ![a, b]⟩ e) (h : m.IsWhole) (X : Vec Ideal ⟨2, ![a, b]⟩ e)
    (off : Fin 2 → ℕ) (inb : ∀ x, off x + (⟨2, ![a', b']⟩ : Shape).size x ≤ (⟨2, ![a, b]⟩ : Shape).size x)
    (i : Fin a') (j : Fin b') (i' : Fin a) (j' : Fin b)
    (hi : i'.val = off 0 + i.val) (hj : j'.val = off 1 + j.val) :
    View.readAt (Elt Ideal) m.view (Rect.unit (s := ⟨2, ![a, b]⟩) off (⟨2, ![a', b']⟩ : Shape).size inb).toLoadRect (h.unread X) (ix2 i j)
      = X (ix2 i' j') := by
  apply rd
  intro x
  fin_cases x
  · exact hi
  · exact hj

theorem qcongr (q : ℕ → ℕ → ℕ → ℝ) {a b r a' b' r' : ℕ} (ha : a = a') (hb : b = b') (hr : r = r') :
    ((q a b r : ℝ) : EReal) = ((q a' b' r' : ℝ) : EReal) := by rw [ha, hb, hr]

theorem col_lt (i : grid0.Coords) : (i 1).val < 32 := (i 1).isLt

/-- The query times of a grid point. -/
theorem time_val (i : grid0.Coords) (r : Fin 256) : k0_pay67 i (ix2 0 r) = BitVec.ofNat 32 (256 * (i 1).val + r.val) := by
  pointwise [k0_pay67]
  rw [show (256#32 : BitVec 32) = BitVec.ofNat 32 256 from rfl, smul_ofNat, add_ofNat]
  congr 1; omega

/-- The compressed mask: row `x` is visible to column `c`. -/
theorem vis_val (i : grid0.Coords) (x : Fin 512) (c : Fin 1024) :
    k0_pay71 i (ix2 x c) = 1#1 ↔ Vis (256 * (i 1).val + c.val % 256) x.val := by
  have hi := col_lt i
  have key : ∀ r : ℕ, r < 256 → r = c.val % 256 →
      (IntOp.cmpi .sle (IntOp.addi (IntOp.muli (BitVec.ofNat 32 x.val) 16#32) 31#32)
        (IntOp.addi (Scalar.muli (BitVec.ofNat 32 (i 1).val) 256#32) (BitVec.ofNat 32 r)) = 1#1 ↔ Vis (256 * (i 1).val + c.val % 256) x.val) := by
    intro r hr he
    rw [show (256#32 : BitVec 32) = BitVec.ofNat 32 256 from rfl, show (16#32 : BitVec 32) = BitVec.ofNat 32 16 from rfl,
      show (31#32 : BitVec 32) = BitVec.ofNat 32 31 from rfl, smul_ofNat, add_ofNat, mul_ofNat, add_ofNat, sle_ofNat _ _ (by omega) (by omega), ← he]
    unfold Vis; omega
  pointwise [k0_pay71, k0_pay67]
  have hc := c.isLt
  split_ifs
  · exact key _ (by omega) (by omega)
  · exact key _ (by omega) (by omega)
  · exact key _ (by omega) (by omega)
  · exact key _ (by omega) (by omega)

/-- The blocks that are always taken. -/
theorem forced_val (i : grid0.Coords) (j : Fin 128) (r : Fin 256) : k0_pay69 i (ix2 j r) = 1#1 ↔
    (j.val = 0 ∨ j.val = (256 * (i 1).val + r.val) / 64 ∨ j.val + 1 = (256 * (i 1).val + r.val) / 64) := by
  have hi := col_lt i
  pointwise [k0_pay69, k0_pay67]
  rw [show (256#32 : BitVec 32) = BitVec.ofNat 32 256 from rfl, smul_ofNat, add_ofNat, shr6_ofNat _ (by omega),
    ori_one, ori_one, eq_pred _ _ (by omega) (by omega), eq_ofNat _ _ (by omega) (by omega),
    eq_ofNat _ _ (by omega) (by omega)]
  rw [show (i 1).val * 256 = 256 * (i 1).val by omega]
  tauto

/-- The blocks that lie in the future. -/
theorem future_val (i : grid0.Coords) (j : Fin 128) (r : Fin 256) :
    k0_pay70 i (ix2 j r) = 1#1 ↔ 256 * (i 1).val + r.val < 64 * j.val := by
  have hi := col_lt i
  pointwise [k0_pay70, k0_pay67]
  rw [show (256#32 : BitVec 32) = BitVec.ofNat 32 256 from rfl, show (64#32 : BitVec 32) = BitVec.ofNat 32 64 from rfl,
    smul_ofNat, add_ofNat, mul_ofNat, sgt_ofNat _ _ (by omega) (by omega)]
  omega

/-- The block numbers. -/
theorem blockNo_val (k : Fin 128) (c : Fin 512) : blockNo (ix2 k c) = BitVec.ofNat 32 k.val := by
  unfold blockNo
  pointwise [k0_pay84]
  split_ifs <;> rfl

/-- Group 0's scaled queries. -/
def qs0 (arg2 : Memref sig .tc .vmem S1x512x256 .f32) (harg2 : arg2.IsWhole) (x0 : Vec Ideal S1x512x256 .f32) : FVec Ideal S64x1024 .bf16 := k0_pay75 (k0_pay73 (View.readAt (Elt Ideal) arg2.view (Rect.unit (s := S1x512x256) ![0, 0, 0] S1x64x256.size inb_S1x512x256_S1x64x256_0_0_0).toLoadRect (harg2.unread x0))) (k0_pay74 (View.readAt (Elt Ideal) arg2.view (Rect.unit (s := S1x512x256) ![0, 64, 0] S1x64x256.size inb_S1x512x256_S1x64x256_0_64_0).toLoadRect (harg2.unread x0))) (View.readAt (Elt Ideal) arg2.view (Rect.unit (s := S1x512x256) ![0, 128, 0] S1x64x256.size inb_S1x512x256_S1x64x256_0_128_0).toLoadRect (harg2.unread x0)) (View.readAt (Elt Ideal) arg2.view (Rect.unit (s := S1x512x256) ![0, 192, 0] S1x64x256.size inb_S1x512x256_S1x64x256_0_192_0).toLoadRect (harg2.unread x0))

/-- Group 1's scaled queries. -/
def qs1 (arg2 : Memref sig .tc .vmem S1x512x256 .f32) (harg2 : arg2.IsWhole) (x0 : Vec Ideal S1x512x256 .f32) : FVec Ideal S64x1024 .bf16 := k0_pay76 (View.readAt (Elt Ideal) arg2.view (Rect.unit (s := S1x512x256) ![0, 256, 0] S1x64x256.size inb_S1x512x256_S1x64x256_0_256_0).toLoadRect (harg2.unread x0)) (View.readAt (Elt Ideal) arg2.view (Rect.unit (s := S1x512x256) ![0, 320, 0] S1x64x256.size inb_S1x512x256_S1x64x256_0_320_0).toLoadRect (harg2.unread x0)) (View.readAt (Elt Ideal) arg2.view (Rect.unit (s := S1x512x256) ![0, 384, 0] S1x64x256.size inb_S1x512x256_S1x64x256_0_384_0).toLoadRect (harg2.unread x0)) (View.readAt (Elt Ideal) arg2.view (Rect.unit (s := S1x512x256) ![0, 448, 0] S1x64x256.size inb_S1x512x256_S1x64x256_0_448_0).toLoadRect (harg2.unread x0))

/-- Group 0's scaled queries at a column. -/
theorem qs0_val (n : ℕ) (q : ℕ → ℕ → ℕ → ℝ) (arg2 : Memref sig .tc .vmem S1x512x256 .f32) (harg2 : arg2.IsWhole) (x0 : Vec Ideal S1x512x256 .f32)
    (h0 : ∀ (y : Fin 512) (r : Fin 256), x0 (ix3 0 y r) = ((q (y.val / 64) (y.val % 64) (256 * n + r.val) : ℝ) : EReal))
    (d : Fin 64) (c : Fin 1024) : qs0 arg2 harg2 x0 (ix2 d c)
      = ((q (c.val / 256) d.val (256 * n + c.val % 256) * ((1 / 8) * (Real.log 2)⁻¹) : ℝ) : EReal) := by
  have key : ∀ (v : EReal), v = ((q (c.val / 256) d.val (256 * n + c.val % 256) : ℝ) : EReal) → v * Named.named (F := Ideal) (φ := .f32) κ "qscale" 1043900987#32
      = ((q (c.val / 256) d.val (256 * n + c.val % 256) * ((1 / 8) * (Real.log 2)⁻¹) : ℝ) : EReal) := by
    intro v hv
    rw [hv, EReal.coe_mul, qscale_val]
  have hc := c.isLt
  have hd := d.isLt
  unfold qs0
  pointwise [k0_pay75, k0_pay73, k0_pay74]
  apply key
  by_cases hh0 : c.val < 256
  · simp only [dif_pos hh0]
    refine (rd3 arg2 harg2 x0 _ _ 0 d ⟨c.val, by omega⟩ 0 ⟨0 + d.val, by omega⟩ ⟨c.val, by omega⟩ rfl rfl (Nat.zero_add _).symm).trans ?_
    refine (h0 _ _).trans (qcongr q (show (0 + d.val) / 64 = c.val / 256 by omega) (show (0 + d.val) % 64 = d.val by omega) ?_)
    show 256 * n + (c.val) = 256 * n + c.val % 256
    omega
  simp only [dif_neg hh0]
  by_cases hh1 : c.val - 256 < 256
  · simp only [dif_pos hh1]
    refine (rd3 arg2 harg2 x0 _ _ 0 d ⟨c.val - 256, by omega⟩ 0 ⟨64 + d.val, by omega⟩ ⟨c.val - 256, by omega⟩ rfl rfl (Nat.zero_add _).symm).trans ?_
    refine (h0 _ _).trans (qcongr q (show (64 + d.val) / 64 = c.val / 256 by omega) (show (64 + d.val) % 64 = d.val by omega) ?_)
    show 256 * n + (c.val - 256) = 256 * n + c.val % 256
    omega
  simp only [dif_neg hh1]
  by_cases hh2 : c.val - 256 - 256 < 256
  · simp only [dif_pos hh2]
    refine (rd3 arg2 harg2 x0 _ _ 0 d ⟨c.val - 256 - 256, by omega⟩ 0 ⟨128 + d.val, by omega⟩ ⟨c.val - 256 - 256, by omega⟩ rfl rfl (Nat.zero_add _).symm).trans ?_
    refine (h0 _ _).trans (qcongr q (show (128 + d.val) / 64 = c.val / 256 by omega) (show (128 + d.val) % 64 = d.val by omega) ?_)
    show 256 * n + (c.val - 256 - 256) = 256 * n + c.val % 256
    omega
  simp only [dif_neg hh2]
  refine (rd3 arg2 harg2 x0 _ _ 0 d ⟨c.val - 256 - 256 - 256, by omega⟩ 0 ⟨192 + d.val, by omega⟩ ⟨c.val - 256 - 256 - 256, by omega⟩ rfl rfl (Nat.zero_add _).symm).trans ?_
  refine (h0 _ _).trans (qcongr q (show (192 + d.val) / 64 = c.val / 256 by omega) (show (192 + d.val) % 64 = d.val by omega) ?_)
  show 256 * n + (c.val - 256 - 256 - 256) = 256 * n + c.val % 256
  omega

/-- Group 1's scaled queries at a column. -/
theorem qs1_val (n : ℕ) (q : ℕ → ℕ → ℕ → ℝ) (arg2 : Memref sig .tc .vmem S1x512x256 .f32) (harg2 : arg2.IsWhole) (x0 : Vec Ideal S1x512x256 .f32)
    (h0 : ∀ (y : Fin 512) (r : Fin 256), x0 (ix3 0 y r) = ((q (y.val / 64) (y.val % 64) (256 * n + r.val) : ℝ) : EReal))
    (d : Fin 64) (c : Fin 1024) : qs1 arg2 harg2 x0 (ix2 d c)
      = ((q (4 + c.val / 256) d.val (256 * n + c.val % 256) * ((1 / 8) * (Real.log 2)⁻¹) : ℝ) : EReal) := by
  have key : ∀ (v : EReal), v = ((q (4 + c.val / 256) d.val (256 * n + c.val % 256) : ℝ) : EReal) → v * Named.named (F := Ideal) (φ := .f32) κ "qscale" 1043900987#32
      = ((q (4 + c.val / 256) d.val (256 * n + c.val % 256) * ((1 / 8) * (Real.log 2)⁻¹) : ℝ) : EReal) := by
    intro v hv
    rw [hv, EReal.coe_mul, qscale_val]
  have hc := c.isLt
  have hd := d.isLt
  unfold qs1
  pointwise [k0_pay76, k0_pay73, k0_pay74]
  apply key
  by_cases hh0 : c.val < 256
  · simp only [dif_pos hh0]
    refine (rd3 arg2 harg2 x0 _ _ 0 d ⟨c.val, by omega⟩ 0 ⟨256 + d.val, by omega⟩ ⟨c.val, by omega⟩ rfl rfl (Nat.zero_add _).symm).trans ?_
    refine (h0 _ _).trans (qcongr q (show (256 + d.val) / 64 = 4 + c.val / 256 by omega) (show (256 + d.val) % 64 = d.val by omega) ?_)
    show 256 * n + (c.val) = 256 * n + c.val % 256
    omega
  simp only [dif_neg hh0]
  by_cases hh1 : c.val - 256 < 256
  · simp only [dif_pos hh1]
    refine (rd3 arg2 harg2 x0 _ _ 0 d ⟨c.val - 256, by omega⟩ 0 ⟨320 + d.val, by omega⟩ ⟨c.val - 256, by omega⟩ rfl rfl (Nat.zero_add _).symm).trans ?_
    refine (h0 _ _).trans (qcongr q (show (320 + d.val) / 64 = 4 + c.val / 256 by omega) (show (320 + d.val) % 64 = d.val by omega) ?_)
    show 256 * n + (c.val - 256) = 256 * n + c.val % 256
    omega
  simp only [dif_neg hh1]
  by_cases hh2 : c.val - 256 - 256 < 256
  · simp only [dif_pos hh2]
    refine (rd3 arg2 harg2 x0 _ _ 0 d ⟨c.val - 256 - 256, by omega⟩ 0 ⟨384 + d.val, by omega⟩ ⟨c.val - 256 - 256, by omega⟩ rfl rfl (Nat.zero_add _).symm).trans ?_
    refine (h0 _ _).trans (qcongr q (show (384 + d.val) / 64 = 4 + c.val / 256 by omega) (show (384 + d.val) % 64 = d.val by omega) ?_)
    show 256 * n + (c.val - 256 - 256) = 256 * n + c.val % 256
    omega
  simp only [dif_neg hh2]
  refine (rd3 arg2 harg2 x0 _ _ 0 d ⟨c.val - 256 - 256 - 256, by omega⟩ 0 ⟨448 + d.val, by omega⟩ ⟨c.val - 256 - 256 - 256, by omega⟩ rfl rfl (Nat.zero_add _).symm).trans ?_
  refine (h0 _ _).trans (qcongr q (show (448 + d.val) / 64 = 4 + c.val / 256 by omega) (show (448 + d.val) % 64 = d.val by omega) ?_)
  show 256 * n + (c.val - 256 - 256 - 256) = 256 * n + c.val % 256
  omega

/-- The padded queries' rows of group 0: the group's own rows carry the query, the others are zero. -/
def rows0 (n : ℕ) (q : ℕ → ℕ → ℕ → ℝ) (x c : ℕ) : EReal :=
  if x < 64 then ((q (c / 256) x (256 * n + c % 256) * ((1 / 8) * (Real.log 2)⁻¹) : ℝ) : EReal) else 0

/-- The padded queries' rows of group 1. -/
def rows1 (n : ℕ) (q : ℕ → ℕ → ℕ → ℝ) (x c : ℕ) : EReal :=
  if x < 64 then 0 else ((q (4 + c / 256) (x - 64) (256 * n + c % 256) * ((1 / 8) * (Real.log 2)⁻¹) : ℝ) : EReal)

/-- Group 0's padded queries at a column. -/
theorem qpad0_val (n : ℕ) (q : ℕ → ℕ → ℕ → ℝ) (arg2 : Memref sig .tc .vmem S1x512x256 .f32) (harg2 : arg2.IsWhole) (x0 : Vec Ideal S1x512x256 .f32)
    (h0 : ∀ (y : Fin 512) (r : Fin 256), x0 (ix3 0 y r) = ((q (y.val / 64) (y.val % 64) (256 * n + r.val) : ℝ) : EReal))
    (x : Fin 128) (c : Fin 1024) : qpad0 arg2 harg2 x0 (ix2 x c) = rows0 n q x.val c.val := by
  have hs : qpad0 arg2 harg2 x0 (ix2 x c) = if h : x.val < 64 then qs0 arg2 harg2 x0 (ix2 ⟨x.val, h⟩ c) else (0 : EReal) := by
    unfold qpad0 qs0
    pointwise [k0_pay77, k0_pay75, k0_pay73, k0_pay74, k0_pay72]
  rw [hs]
  unfold rows0
  split_ifs with h
  · exact qs0_val n q arg2 harg2 x0 h0 ⟨x.val, h⟩ c
  · rfl

/-- Group 1's padded queries at a column. -/
theorem qpad1_val (n : ℕ) (q : ℕ → ℕ → ℕ → ℝ) (arg2 : Memref sig .tc .vmem S1x512x256 .f32) (harg2 : arg2.IsWhole) (x0 : Vec Ideal S1x512x256 .f32)
    (h0 : ∀ (y : Fin 512) (r : Fin 256), x0 (ix3 0 y r) = ((q (y.val / 64) (y.val % 64) (256 * n + r.val) : ℝ) : EReal))
    (x : Fin 128) (c : Fin 1024) : qpad1 arg2 harg2 x0 (ix2 x c) = rows1 n q x.val c.val := by
  have hx := x.isLt
  have hs : qpad1 arg2 harg2 x0 (ix2 x c) = if h : x.val < 64 then (0 : EReal) else qs1 arg2 harg2 x0 (ix2 ⟨x.val - 64, by omega⟩ c) := by
    unfold qpad1 qs1
    pointwise [k0_pay78, k0_pay72]
  rw [hs]
  unfold rows1
  split_ifs with h
  · rfl
  · exact qs1_val n q arg2 harg2 x0 h0 ⟨x.val - 64, by omega⟩ c

/-- Sixty-four products of a key with a scaled query make a score, over `log 2`. -/
theorem dot64 (q : ℕ → ℕ → ℕ → ℝ) (kf : ℕ → ℕ → ℝ) (h t k : ℕ) :
    ∑ y : Fin 64, ((kf k y.val : ℝ) : EReal) * ((q h y.val t * ((1 / 8) * (Real.log 2)⁻¹) : ℝ) : EReal)
      = ((score q kf h t k * (Real.log 2)⁻¹ : ℝ) : EReal) := by
  simp only [← EReal.coe_mul]
  rw [← coe_sum]
  congr 1
  unfold score
  rw [← Fin.sum_univ_eq_sum_range (fun d => q h d t * kf k d) 64, Finset.sum_mul, Finset.sum_mul]
  apply Finset.sum_congr rfl
  intro y _
  ring

/-- The padded products make group 0's score. -/
theorem dot128_0 (n : ℕ) (q : ℕ → ℕ → ℕ → ℝ) (kf : ℕ → ℕ → ℕ → ℝ) (c k : ℕ) :
    ∑ x : Fin 128, ((kf (x.val / 64) k (x.val % 64) : ℝ) : EReal) * rows0 n q x.val c
      = ((score q (kf 0) (c / 256) (256 * n + c % 256) k * (Real.log 2)⁻¹ : ℝ) : EReal) := by
  rw [← dot64, Fin.sum_univ_eq_sum_range (fun x => ((kf (x / 64) k (x % 64) : ℝ) : EReal) * rows0 n q x c) 128,
    Fin.sum_univ_eq_sum_range (fun y => ((kf 0 k y : ℝ) : EReal) * ((q (c / 256) y (256 * n + c % 256) * ((1 / 8) * (Real.log 2)⁻¹) : ℝ) : EReal)) 64,
    show (128 : ℕ) = 64 + 64 from rfl, Finset.sum_range_add]
  have z : ∑ x ∈ Finset.range 64, ((kf ((64 + x) / 64) k ((64 + x) % 64) : ℝ) : EReal) * rows0 n q (64 + x) c = 0 := by
    apply Finset.sum_eq_zero
    intro x _
    unfold rows0
    rw [if_neg (by omega), mul_zero]
  rw [z, add_zero]
  apply Finset.sum_congr rfl
  intro x hx
  have := Finset.mem_range.mp hx
  unfold rows0
  rw [if_pos this, show x / 64 = 0 by omega, show x % 64 = x by omega]

/-- The padded products make group 1's score. -/
theorem dot128_1 (n : ℕ) (q : ℕ → ℕ → ℕ → ℝ) (kf : ℕ → ℕ → ℕ → ℝ) (c k : ℕ) :
    ∑ x : Fin 128, ((kf (x.val / 64) k (x.val % 64) : ℝ) : EReal) * rows1 n q x.val c
      = ((score q (kf 1) (4 + c / 256) (256 * n + c % 256) k * (Real.log 2)⁻¹ : ℝ) : EReal) := by
  rw [← dot64, Fin.sum_univ_eq_sum_range (fun x => ((kf (x / 64) k (x % 64) : ℝ) : EReal) * rows1 n q x c) 128,
    Fin.sum_univ_eq_sum_range (fun y => ((kf 1 k y : ℝ) : EReal) * ((q (4 + c / 256) y (256 * n + c % 256) * ((1 / 8) * (Real.log 2)⁻¹) : ℝ) : EReal)) 64,
    show (128 : ℕ) = 64 + 64 from rfl, Finset.sum_range_add]
  have z : ∑ x ∈ Finset.range 64, ((kf (x / 64) k (x % 64) : ℝ) : EReal) * rows1 n q x c = 0 := by
    apply Finset.sum_eq_zero
    intro x hx
    have := Finset.mem_range.mp hx
    unfold rows1
    rw [if_pos this, mul_zero]
  rw [z, zero_add]
  apply Finset.sum_congr rfl
  intro x hx
  have := Finset.mem_range.mp hx
  unfold rows1
  rw [if_neg (by omega), show (64 + x) / 64 = 1 by omega, show (64 + x) % 64 = x by omega, show 64 + x - 64 = x by omega]

end Cert.Attn
-- ==== Proof.CmpValue.lean ====
/- The compressed attention of the kernel, each tier's numbers read at an index. -/
module

public import proofs.«01_k».proof.Proof.Words
public import Idealize.ShloMosaic.Lib.Pointwise

@[expose] public section

set_option maxRecDepth 16384

noncomputable section

namespace Cert.Attn

open Idealize.ShloMosaic Cert.KernelIdeal Cert.KernelIdeal.Gen

theorem fold_sup (R : ℕ) (f : Fin R → EReal) (s : ℕ → EReal) (h : ∀ x : Fin R, f x = s x) :
    Finset.fold max (Ideal.ofBits FTy.f32 4286578688#32) f Finset.univ = (Finset.range R).sup s := by
  rw [lit_bot]
  show Finset.univ.sup f = _
  apply le_antisymm
  · apply Finset.sup_le
    intro x _
    rw [h]
    exact Finset.le_sup (f := s) (Finset.mem_range.2 x.2)
  · apply Finset.sup_le
    intro k hk
    have := Finset.le_sup (f := f) (Finset.mem_univ (⟨k, Finset.mem_range.1 hk⟩ : Fin R))
    rwa [h] at this

/-- One column of a compressed softmax, in the form the kernel computes it. -/
theorem cmp_col (R : ℕ) (P : ℕ → Prop) (σ : ℕ → ℝ) (b : Fin R → BitVec 1) (s : Fin R → EReal)
    (hb : ∀ x, b x = 1#1 ↔ P x) (hs : ∀ x, s x = ((σ x * (Real.log 2)⁻¹ : ℝ) : EReal)) (k : Fin R) :
    Scalar.select (b k) (Ideal.exp2 (Scalar.select (b k) (s k) (Named.named (F := Ideal) (φ := .f32) Cert.KernelIdeal.κ "mask" 4048155338#32)
      - Finset.fold max (Ideal.ofBits FTy.f32 4286578688#32) (fun x => Scalar.select (b x) (s x)
          (Named.named (F := Ideal) (φ := .f32) Cert.KernelIdeal.κ "mask" 4048155338#32)) Finset.univ)
      * Ideal.div 1 (max (∑ x, Scalar.select (b x) (Ideal.exp2 (Scalar.select (b x) (s x) (Named.named (F := Ideal) (φ := .f32) Cert.KernelIdeal.κ "mask" 4048155338#32)
      - Finset.fold max (Ideal.ofBits FTy.f32 4286578688#32) (fun x => Scalar.select (b x) (s x)
          (Named.named (F := Ideal) (φ := .f32) Cert.KernelIdeal.κ "mask" 4048155338#32)) Finset.univ)) 0) (Ideal.ofBits FTy.f32 228737632#32))) 0
      = (soft R P σ k : EReal) := by
  obtain ⟨ε, h0, h1, he⟩ := lit_eps
  rw [he]
  have hsel : ∀ x, Scalar.select (b x) (s x) (Named.named (F := Ideal) (φ := .f32) Cert.KernelIdeal.κ "mask" 4048155338#32)
      = sc2 P σ x := by
    intro x
    unfold sc2
    by_cases h : P x
    · rw [if_pos h, sel_pos _ _ _ ((hb x).2 h), hs]
    · rw [if_neg h, sel_neg _ _ _ (fun e => h ((hb x).1 e))]; exact mask_bot
  have hf := fold_sup R (fun x => Scalar.select (b x) (s x) (Named.named (F := Ideal) (φ := .f32) Cert.KernelIdeal.κ "mask" 4048155338#32))
    (sc2 P σ) hsel
  rw [hf]
  simp only [hsel]
  set m := (Finset.range R).sup (sc2 P σ) with hm
  classical
  have key := cmp_weight R P σ ε h0 h1 m _ hm (fun k => if P k then Ideal.exp2 (sc2 P σ k - m) else 0)
    (fun k _ h => if_pos h) (fun k _ h => if_neg h) rfl k k.2
  have hl : (∑ x : Fin R, Scalar.select (b x) (Ideal.exp2 (sc2 P σ x - m)) 0)
      = ∑ j ∈ Finset.range R, (if P j then Ideal.exp2 (sc2 P σ j - m) else 0) := by
    rw [Finset.sum_range]
    apply Finset.sum_congr rfl
    intro x _
    by_cases h : P x
    · rw [if_pos h, sel_pos _ _ _ ((hb x).2 h)]
    · rw [if_neg h, sel_neg _ _ _ (fun e => h ((hb x).1 e))]
  rw [hl, ← key]
  by_cases h : P k
  · rw [if_pos h, sel_pos _ _ _ ((hb k).2 h)]
  · rw [if_neg h, sel_neg _ _ _ (fun e => h ((hb k).1 e)), zero_mul]

theorem soft_mono (n N : ℕ) (hn : n ≤ N) (P : ℕ → Prop) (σ : ℕ → ℝ) (h : ∀ k, k < N → P k → k < n) (k : ℕ) :
    soft n P σ k = soft N P σ k := by
  unfold soft
  congr 1
  apply Finset.sum_subset
  · intro j hj; rw [Finset.mem_range] at *; omega
  · intro j hj hj'
    rw [Finset.mem_range] at *
    unfold wt
    rw [if_neg]
    exact fun e => hj' (h j hj e)

theorem soft_zero (N : ℕ) (P : ℕ → Prop) (σ : ℕ → ℝ) (k : ℕ) (h : ¬ P k) : soft N P σ k = 0 := by
  unfold soft wt
  rw [if_neg h, zero_div]

/-- The value product of a tier is the attention over all compressed rows. -/
theorem cmp_out (R : ℕ) (hR : R ≤ 512) (P : ℕ → Prop) (σ : ℕ → ℝ) (V : ℕ → EReal) (o p : Fin R → EReal)
    (hP : ∀ k, k < 512 → P k → k < R)
    (ho : ∀ x, o x = V x) (hp : ∀ x : Fin R, p x = (soft R P σ x : EReal)) :
    ∑ x, o x * p x = attn 512 P σ V := by
  rw [← attn_mono R 512 hR P σ V hP]
  unfold attn
  rw [Finset.sum_range]
  apply Finset.sum_congr rfl
  intro x _
  rw [ho, hp, mul_comm]

/-- The importance product of a tier: the sum of the four heads' weights, and the second product, of the
    rounding's remainder, is nought. -/
theorem cmp_imp (R : ℕ) (hR : R ≤ 512) (P : ℕ → Prop) (σ0 σ1 σ2 σ3 : ℕ → ℝ) (O : ℕ → ℝ) (o o' p0 p1 p2 p3 : Fin R → EReal)
    (hP : ∀ k, k < 512 → P k → k < R) (ho : ∀ x, o x = (O x : EReal)) (ho' : ∀ x, o' x = (O x : EReal))
    (h0 : ∀ x : Fin R, p0 x = (soft R P σ0 x : EReal)) (h1 : ∀ x : Fin R, p1 x = (soft R P σ1 x : EReal))
    (h2 : ∀ x : Fin R, p2 x = (soft R P σ2 x : EReal)) (h3 : ∀ x : Fin R, p3 x = (soft R P σ3 x : EReal)) :
    ∑ x, o x * (p0 x + p1 x + p2 x + p3 x)
      + ∑ x, o' x * (p0 x + p1 x + p2 x + p3 x - (p0 x + p1 x + p2 x + p3 x))
      = ((∑ k ∈ Finset.range 512, O k * (soft 512 P σ0 k + soft 512 P σ1 k + soft 512 P σ2 k + soft 512 P σ3 k) : ℝ) : EReal) := by
  have hz : ∑ x, o' x * (p0 x + p1 x + p2 x + p3 x - (p0 x + p1 x + p2 x + p3 x)) = 0 := by
    apply Finset.sum_eq_zero
    intro x _
    rw [h0, h1, h2, h3, ← EReal.coe_add, ← EReal.coe_add, ← EReal.coe_add, ← EReal.coe_sub, sub_self, EReal.coe_zero, mul_zero]
  rw [hz, add_zero]
  have hs : ∑ k ∈ Finset.range 512, O k * (soft 512 P σ0 k + soft 512 P σ1 k + soft 512 P σ2 k + soft 512 P σ3 k)
      = ∑ k ∈ Finset.range R, O k * (soft R P σ0 k + soft R P σ1 k + soft R P σ2 k + soft R P σ3 k) := by
    rw [eq_comm]
    simp only [soft_mono R 512 hR P _ hP]
    apply Finset.sum_subset
    · intro j hj; rw [Finset.mem_range] at *; omega
    · intro j hj hj'
      rw [Finset.mem_range] at *
      have : ¬ P j := fun e => hj' (hP j hj e)
      simp only [soft_zero _ _ _ _ this]; ring
  rw [hs, coe_sum, Finset.sum_range]
  apply Finset.sum_congr rfl
  intro x _
  rw [ho, h0, h1, h2, h3, ← EReal.coe_add, ← EReal.coe_add, ← EReal.coe_add, ← EReal.coe_mul]

theorem tab512_0 (v32 : IVec S512x1024 1) (v54 : FVec Ideal S64x1024 .bf16)
    (v675 : Vec Ideal S1x1x512x64 .bf16) (P : ℕ → ℕ → Prop) (σ : ℕ → ℕ → ℝ)
    (hb : ∀ (x : Fin 512) (c : Fin 1024), v32 (ix2 x c) = 1#1 ↔ P c x)
    (hs : ∀ (x : Fin 512) (c : Fin 1024), ∑ y, v675 (ix4 0 0 x y) * v54 (ix2 y c) = ((σ c x * (Real.log 2)⁻¹ : ℝ) : EReal))
    (k : Fin 512) (c : Fin 1024) :
    k0_pay2 (F := Ideal) v32 v54 v675 (ix2 k c) = (soft 512 (P c) (σ c) k : EReal) := by
  pointwise [k0_pay2]
  exact cmp_col 512 (P c) (σ c) (fun x => v32 (ix2 ⟨x, by omega⟩ c)) (fun x => ∑ y, v675 (ix4 0 0 x y) * v54 (ix2 y c))
    (fun x => hb ⟨x, by omega⟩ c) (fun x => hs x c) k

theorem out512_0 (v32 : IVec S512x1024 1) (v54 : FVec Ideal S64x1024 .bf16)
    (v675 : Vec Ideal S1x1x512x64 .bf16) (P : ℕ → ℕ → Prop) (σ : ℕ → ℕ → ℝ)
    (hb : ∀ (x : Fin 512) (c : Fin 1024), v32 (ix2 x c) = 1#1 ↔ P c x)
    (hs : ∀ (x : Fin 512) (c : Fin 1024), ∑ y, v675 (ix4 0 0 x y) * v54 (ix2 y c) = ((σ c x * (Real.log 2)⁻¹ : ℝ) : EReal))
    (hP : ∀ c k, k < 512 → P c k → k < 512)
    (o : Vec Ideal S1x1x64x512 .bf16) (V : ℕ → ℕ → EReal) (ho : ∀ (d : Fin 64) (x : Fin 512), o (ix4 0 0 d x) = V d x)
    (d : Fin 64) (c : Fin 1024) :
    k0_pay3 (F := Ideal) v32 v54 v675 o (ix2 d c) = attn 512 (P c) (σ c) (V d) := by
  pointwise [k0_pay3]
  exact cmp_out 512 (by omega) (P c) (σ c) (V d) _ _ (hP c) (ho d) (fun x => tab512_0 v32 v54 v675 P σ hb hs x c)

theorem imp512_0 (v32 : IVec S512x1024 1) (v54 : FVec Ideal S64x1024 .bf16)
    (v675 : Vec Ideal S1x1x512x64 .bf16) (P : ℕ → ℕ → Prop) (σ : ℕ → ℕ → ℝ)
    (hb : ∀ (x : Fin 512) (c : Fin 1024), v32 (ix2 x c) = 1#1 ↔ P c x)
    (hs : ∀ (x : Fin 512) (c : Fin 1024), ∑ y, v675 (ix4 0 0 x y) * v54 (ix2 y c) = ((σ c x * (Real.log 2)⁻¹ : ℝ) : EReal))
    (hP : ∀ c k, k < 512 → P c k → k < 512) (hP' : ∀ c k, P c k ↔ P (c % 256) k)
    (o : Vec Ideal S128x512 .bf16) (O : ℕ → ℕ → ℝ) (ho : ∀ (j : Fin 128) (x : Fin 512), o (ix2 j x) = (O j x : EReal))
    (j : Fin 128) (c : Fin 256) :
    k0_pay8 (F := Ideal) (k0_pay6 v32 v54 v675) (k0_pay7 v32 v54 v675 o) o (ix2 j c)
      = ((∑ k ∈ Finset.range 512, O j k * (soft 512 (P c) (σ c) k + soft 512 (P c) (σ (256 + c)) k
          + soft 512 (P c) (σ (512 + c)) k + soft 512 (P c) (σ (768 + c)) k) : ℝ) : EReal) := by
  pointwise [k0_pay8, k0_pay6, k0_pay7, k0_pay5, k0_pay4]
  have hQ : ∀ a : ℕ, a % 256 = c → P a = P c := by
    intro a ha; funext k; apply propext; rw [hP' a, ha]
  have ht := tab512_0 v32 v54 v675 P σ hb hs
  refine cmp_imp 512 (by omega) (P c) (σ c) (σ (256 + c)) (σ (512 + c)) (σ (768 + c)) (O j) _ _ _ _ _ _ (hP c) (ho j) (ho j)
    (fun x => ?_) (fun x => ?_) (fun x => ?_) (fun x => ?_)
  · exact ht x ⟨c, by omega⟩
  · exact (ht x ⟨256 + c, by omega⟩).trans (by rw [hQ (256 + c) (by omega)])
  · exact (ht x ⟨512 + c, by omega⟩).trans (by rw [hQ (512 + c) (by omega)])
  · exact (ht x ⟨768 + c, by omega⟩).trans (by rw [hQ (768 + c) (by omega)])

theorem tab512_1 (v32 : IVec S512x1024 1) (v54 : FVec Ideal S64x1024 .bf16)
    (v675 : Vec Ideal S1x1x512x64 .bf16) (P : ℕ → ℕ → Prop) (σ : ℕ → ℕ → ℝ)
    (hb : ∀ (x : Fin 512) (c : Fin 1024), v32 (ix2 x c) = 1#1 ↔ P c x)
    (hs : ∀ (x : Fin 512) (c : Fin 1024), ∑ y, v675 (ix4 0 0 x y) * v54 (ix2 y c) = ((σ c x * (Real.log 2)⁻¹ : ℝ) : EReal))
    (k : Fin 512) (c : Fin 1024) :
    k0_pay9 (F := Ideal) v32 v54 v675 (ix2 k c) = (soft 512 (P c) (σ c) k : EReal) := by
  pointwise [k0_pay9]
  exact cmp_col 512 (P c) (σ c) (fun x => v32 (ix2 ⟨x, by omega⟩ c)) (fun x => ∑ y, v675 (ix4 0 0 x y) * v54 (ix2 y c))
    (fun x => hb ⟨x, by omega⟩ c) (fun x => hs x c) k

theorem out512_1 (v32 : IVec S512x1024 1) (v54 : FVec Ideal S64x1024 .bf16)
    (v675 : Vec Ideal S1x1x512x64 .bf16) (P : ℕ → ℕ → Prop) (σ : ℕ → ℕ → ℝ)
    (hb : ∀ (x : Fin 512) (c : Fin 1024), v32 (ix2 x c) = 1#1 ↔ P c x)
    (hs : ∀ (x : Fin 512) (c : Fin 1024), ∑ y, v675 (ix4 0 0 x y) * v54 (ix2 y c) = ((σ c x * (Real.log 2)⁻¹ : ℝ) : EReal))
    (hP : ∀ c k, k < 512 → P c k → k < 512)
    (o : Vec Ideal S1x1x64x512 .bf16) (V : ℕ → ℕ → EReal) (ho : ∀ (d : Fin 64) (x : Fin 512), o (ix4 0 0 d x) = V d x)
    (d : Fin 64) (c : Fin 1024) :
    k0_pay10 (F := Ideal) v32 v54 v675 o (ix2 d c) = attn 512 (P c) (σ c) (V d) := by
  pointwise [k0_pay10]
  exact cmp_out 512 (by omega) (P c) (σ c) (V d) _ _ (hP c) (ho d) (fun x => tab512_1 v32 v54 v675 P σ hb hs x c)

theorem imp512_1 (v32 : IVec S512x1024 1) (v54 : FVec Ideal S64x1024 .bf16)
    (v675 : Vec Ideal S1x1x512x64 .bf16) (P : ℕ → ℕ → Prop) (σ : ℕ → ℕ → ℝ)
    (hb : ∀ (x : Fin 512) (c : Fin 1024), v32 (ix2 x c) = 1#1 ↔ P c x)
    (hs : ∀ (x : Fin 512) (c : Fin 1024), ∑ y, v675 (ix4 0 0 x y) * v54 (ix2 y c) = ((σ c x * (Real.log 2)⁻¹ : ℝ) : EReal))
    (hP : ∀ c k, k < 512 → P c k → k < 512) (hP' : ∀ c k, P c k ↔ P (c % 256) k)
    (o : Vec Ideal S128x512 .bf16) (O : ℕ → ℕ → ℝ) (ho : ∀ (j : Fin 128) (x : Fin 512), o (ix2 j x) = (O j x : EReal))
    (j : Fin 128) (c : Fin 256) :
    k0_pay79 (F := Ideal) (k0_pay12 v32 v54 v675) (k0_pay13 v32 v54 v675) (k0_pay14 o) (constant S128x256 .f32 0x00000000#32) o (ix2 j c)
      = ((∑ k ∈ Finset.range 512, O j k * (soft 512 (P c) (σ c) k + soft 512 (P c) (σ (256 + c)) k
          + soft 512 (P c) (σ (512 + c)) k + soft 512 (P c) (σ (768 + c)) k) : ℝ) : EReal) := by
  pointwise [k0_pay79, k0_pay12, k0_pay13, k0_pay14, k0_pay11]
  have hQ : ∀ a : ℕ, a % 256 = c → P a = P c := by
    intro a ha; funext k; apply propext; rw [hP' a, ha]
  have ht := tab512_1 v32 v54 v675 P σ hb hs
  refine cmp_imp 512 (by omega) (P c) (σ c) (σ (256 + c)) (σ (512 + c)) (σ (768 + c)) (O j) _ _ _ _ _ _ (hP c) (ho j) (ho j)
    (fun x => ?_) (fun x => ?_) (fun x => ?_) (fun x => ?_)
  · exact ht x ⟨c, by omega⟩
  · exact (ht x ⟨256 + c, by omega⟩).trans (by rw [hQ (256 + c) (by omega)])
  · exact (ht x ⟨512 + c, by omega⟩).trans (by rw [hQ (512 + c) (by omega)])
  · exact (ht x ⟨768 + c, by omega⟩).trans (by rw [hQ (768 + c) (by omega)])

theorem tab384_0 (v32 : IVec S512x1024 1) (v54 : FVec Ideal S64x1024 .bf16)
    (v675 : Vec Ideal S1x1x384x64 .bf16) (P : ℕ → ℕ → Prop) (σ : ℕ → ℕ → ℝ)
    (hb : ∀ (x : Fin 512) (c : Fin 1024), v32 (ix2 x c) = 1#1 ↔ P c x)
    (hs : ∀ (x : Fin 384) (c : Fin 1024), ∑ y, v675 (ix4 0 0 x y) * v54 (ix2 y c) = ((σ c x * (Real.log 2)⁻¹ : ℝ) : EReal))
    (k : Fin 384) (c : Fin 1024) :
    k0_pay15 (F := Ideal) v32 v54 v675 (ix2 k c) = (soft 384 (P c) (σ c) k : EReal) := by
  pointwise [k0_pay15]
  exact cmp_col 384 (P c) (σ c) (fun x => v32 (ix2 ⟨x, by omega⟩ c)) (fun x => ∑ y, v675 (ix4 0 0 x y) * v54 (ix2 y c))
    (fun x => hb ⟨x, by omega⟩ c) (fun x => hs x c) k

theorem out384_0 (v32 : IVec S512x1024 1) (v54 : FVec Ideal S64x1024 .bf16)
    (v675 : Vec Ideal S1x1x384x64 .bf16) (P : ℕ → ℕ → Prop) (σ : ℕ → ℕ → ℝ)
    (hb : ∀ (x : Fin 512) (c : Fin 1024), v32 (ix2 x c) = 1#1 ↔ P c x)
    (hs : ∀ (x : Fin 384) (c : Fin 1024), ∑ y, v675 (ix4 0 0 x y) * v54 (ix2 y c) = ((σ c x * (Real.log 2)⁻¹ : ℝ) : EReal))
    (hP : ∀ c k, k < 512 → P c k → k < 384)
    (o : Vec Ideal S1x1x64x384 .bf16) (V : ℕ → ℕ → EReal) (ho : ∀ (d : Fin 64) (x : Fin 384), o (ix4 0 0 d x) = V d x)
    (d : Fin 64) (c : Fin 1024) :
    k0_pay16 (F := Ideal) v32 v54 v675 o (ix2 d c) = attn 512 (P c) (σ c) (V d) := by
  pointwise [k0_pay16]
  exact cmp_out 384 (by omega) (P c) (σ c) (V d) _ _ (hP c) (ho d) (fun x => tab384_0 v32 v54 v675 P σ hb hs x c)

theorem imp384_0 (v32 : IVec S512x1024 1) (v54 : FVec Ideal S64x1024 .bf16)
    (v675 : Vec Ideal S1x1x384x64 .bf16) (P : ℕ → ℕ → Prop) (σ : ℕ → ℕ → ℝ)
    (hb : ∀ (x : Fin 512) (c : Fin 1024), v32 (ix2 x c) = 1#1 ↔ P c x)
    (hs : ∀ (x : Fin 384) (c : Fin 1024), ∑ y, v675 (ix4 0 0 x y) * v54 (ix2 y c) = ((σ c x * (Real.log 2)⁻¹ : ℝ) : EReal))
    (hP : ∀ c k, k < 512 → P c k → k < 384) (hP' : ∀ c k, P c k ↔ P (c % 256) k)
    (o : Vec Ideal S128x384 .bf16) (O : ℕ → ℕ → ℝ) (ho : ∀ (j : Fin 128) (x : Fin 384), o (ix2 j x) = (O j x : EReal))
    (j : Fin 128) (c : Fin 256) :
    k0_pay21 (F := Ideal) (k0_pay19 v32 v54 v675) (k0_pay20 v32 v54 v675 o) o (ix2 j c)
      = ((∑ k ∈ Finset.range 512, O j k * (soft 512 (P c) (σ c) k + soft 512 (P c) (σ (256 + c)) k
          + soft 512 (P c) (σ (512 + c)) k + soft 512 (P c) (σ (768 + c)) k) : ℝ) : EReal) := by
  pointwise [k0_pay21, k0_pay19, k0_pay20, k0_pay18, k0_pay17]
  have hQ : ∀ a : ℕ, a % 256 = c → P a = P c := by
    intro a ha; funext k; apply propext; rw [hP' a, ha]
  have ht := tab384_0 v32 v54 v675 P σ hb hs
  refine cmp_imp 384 (by omega) (P c) (σ c) (σ (256 + c)) (σ (512 + c)) (σ (768 + c)) (O j) _ _ _ _ _ _ (hP c) (ho j) (ho j)
    (fun x => ?_) (fun x => ?_) (fun x => ?_) (fun x => ?_)
  · exact ht x ⟨c, by omega⟩
  · exact (ht x ⟨256 + c, by omega⟩).trans (by rw [hQ (256 + c) (by omega)])
  · exact (ht x ⟨512 + c, by omega⟩).trans (by rw [hQ (512 + c) (by omega)])
  · exact (ht x ⟨768 + c, by omega⟩).trans (by rw [hQ (768 + c) (by omega)])

theorem tab384_1 (v32 : IVec S512x1024 1) (v54 : FVec Ideal S64x1024 .bf16)
    (v675 : Vec Ideal S1x1x384x64 .bf16) (P : ℕ → ℕ → Prop) (σ : ℕ → ℕ → ℝ)
    (hb : ∀ (x : Fin 512) (c : Fin 1024), v32 (ix2 x c) = 1#1 ↔ P c x)
    (hs : ∀ (x : Fin 384) (c : Fin 1024), ∑ y, v675 (ix4 0 0 x y) * v54 (ix2 y c) = ((σ c x * (Real.log 2)⁻¹ : ℝ) : EReal))
    (k : Fin 384) (c : Fin 1024) :
    k0_pay22 (F := Ideal) v32 v54 v675 (ix2 k c) = (soft 384 (P c) (σ c) k : EReal) := by
  pointwise [k0_pay22]
  exact cmp_col 384 (P c) (σ c) (fun x => v32 (ix2 ⟨x, by omega⟩ c)) (fun x => ∑ y, v675 (ix4 0 0 x y) * v54 (ix2 y c))
    (fun x => hb ⟨x, by omega⟩ c) (fun x => hs x c) k

theorem out384_1 (v32 : IVec S512x1024 1) (v54 : FVec Ideal S64x1024 .bf16)
    (v675 : Vec Ideal S1x1x384x64 .bf16) (P : ℕ → ℕ → Prop) (σ : ℕ → ℕ → ℝ)
    (hb : ∀ (x : Fin 512) (c : Fin 1024), v32 (ix2 x c) = 1#1 ↔ P c x)
    (hs : ∀ (x : Fin 384) (c : Fin 1024), ∑ y, v675 (ix4 0 0 x y) * v54 (ix2 y c) = ((σ c x * (Real.log 2)⁻¹ : ℝ) : EReal))
    (hP : ∀ c k, k < 512 → P c k → k < 384)
    (o : Vec Ideal S1x1x64x384 .bf16) (V : ℕ → ℕ → EReal) (ho : ∀ (d : Fin 64) (x : Fin 384), o (ix4 0 0 d x) = V d x)
    (d : Fin 64) (c : Fin 1024) :
    k0_pay23 (F := Ideal) v32 v54 v675 o (ix2 d c) = attn 512 (P c) (σ c) (V d) := by
  pointwise [k0_pay23]
  exact cmp_out 384 (by omega) (P c) (σ c) (V d) _ _ (hP c) (ho d) (fun x => tab384_1 v32 v54 v675 P σ hb hs x c)

theorem imp384_1 (v32 : IVec S512x1024 1) (v54 : FVec Ideal S64x1024 .bf16)
    (v675 : Vec Ideal S1x1x384x64 .bf16) (P : ℕ → ℕ → Prop) (σ : ℕ → ℕ → ℝ)
    (hb : ∀ (x : Fin 512) (c : Fin 1024), v32 (ix2 x c) = 1#1 ↔ P c x)
    (hs : ∀ (x : Fin 384) (c : Fin 1024), ∑ y, v675 (ix4 0 0 x y) * v54 (ix2 y c) = ((σ c x * (Real.log 2)⁻¹ : ℝ) : EReal))
    (hP : ∀ c k, k < 512 → P c k → k < 384) (hP' : ∀ c k, P c k ↔ P (c % 256) k)
    (o : Vec Ideal S128x384 .bf16) (O : ℕ → ℕ → ℝ) (ho : ∀ (j : Fin 128) (x : Fin 384), o (ix2 j x) = (O j x : EReal))
    (j : Fin 128) (c : Fin 256) :
    k0_pay80 (F := Ideal) (k0_pay25 v32 v54 v675) (k0_pay26 v32 v54 v675) o o (ix2 j c)
      = ((∑ k ∈ Finset.range 512, O j k * (soft 512 (P c) (σ c) k + soft 512 (P c) (σ (256 + c)) k
          + soft 512 (P c) (σ (512 + c)) k + soft 512 (P c) (σ (768 + c)) k) : ℝ) : EReal) := by
  pointwise [k0_pay80, k0_pay25, k0_pay26, k0_pay24]
  have hQ : ∀ a : ℕ, a % 256 = c → P a = P c := by
    intro a ha; funext k; apply propext; rw [hP' a, ha]
  have ht := tab384_1 v32 v54 v675 P σ hb hs
  refine cmp_imp 384 (by omega) (P c) (σ c) (σ (256 + c)) (σ (512 + c)) (σ (768 + c)) (O j) _ _ _ _ _ _ (hP c) (ho j) (ho j)
    (fun x => ?_) (fun x => ?_) (fun x => ?_) (fun x => ?_)
  · exact ht x ⟨c, by omega⟩
  · exact (ht x ⟨256 + c, by omega⟩).trans (by rw [hQ (256 + c) (by omega)])
  · exact (ht x ⟨512 + c, by omega⟩).trans (by rw [hQ (512 + c) (by omega)])
  · exact (ht x ⟨768 + c, by omega⟩).trans (by rw [hQ (768 + c) (by omega)])

theorem tab256_0 (v32 : IVec S512x1024 1) (v54 : FVec Ideal S64x1024 .bf16)
    (v675 : Vec Ideal S1x1x256x64 .bf16) (P : ℕ → ℕ → Prop) (σ : ℕ → ℕ → ℝ)
    (hb : ∀ (x : Fin 512) (c : Fin 1024), v32 (ix2 x c) = 1#1 ↔ P c x)
    (hs : ∀ (x : Fin 256) (c : Fin 1024), ∑ y, v675 (ix4 0 0 x y) * v54 (ix2 y c) = ((σ c x * (Real.log 2)⁻¹ : ℝ) : EReal))
    (k : Fin 256) (c : Fin 1024) :
    k0_pay27 (F := Ideal) v32 v54 v675 (ix2 k c) = (soft 256 (P c) (σ c) k : EReal) := by
  pointwise [k0_pay27]
  exact cmp_col 256 (P c) (σ c) (fun x => v32 (ix2 ⟨x, by omega⟩ c)) (fun x => ∑ y, v675 (ix4 0 0 x y) * v54 (ix2 y c))
    (fun x => hb ⟨x, by omega⟩ c) (fun x => hs x c) k

theorem out256_0 (v32 : IVec S512x1024 1) (v54 : FVec Ideal S64x1024 .bf16)
    (v675 : Vec Ideal S1x1x256x64 .bf16) (P : ℕ → ℕ → Prop) (σ : ℕ → ℕ → ℝ)
    (hb : ∀ (x : Fin 512) (c : Fin 1024), v32 (ix2 x c) = 1#1 ↔ P c x)
    (hs : ∀ (x : Fin 256) (c : Fin 1024), ∑ y, v675 (ix4 0 0 x y) * v54 (ix2 y c) = ((σ c x * (Real.log 2)⁻¹ : ℝ) : EReal))
    (hP : ∀ c k, k < 512 → P c k → k < 256)
    (o : Vec Ideal S1x1x64x256 .bf16) (V : ℕ → ℕ → EReal) (ho : ∀ (d : Fin 64) (x : Fin 256), o (ix4 0 0 d x) = V d x)
    (d : Fin 64) (c : Fin 1024) :
    k0_pay28 (F := Ideal) v32 v54 v675 o (ix2 d c) = attn 512 (P c) (σ c) (V d) := by
  pointwise [k0_pay28]
  exact cmp_out 256 (by omega) (P c) (σ c) (V d) _ _ (hP c) (ho d) (fun x => tab256_0 v32 v54 v675 P σ hb hs x c)

theorem imp256_0 (v32 : IVec S512x1024 1) (v54 : FVec Ideal S64x1024 .bf16)
    (v675 : Vec Ideal S1x1x256x64 .bf16) (P : ℕ → ℕ → Prop) (σ : ℕ → ℕ → ℝ)
    (hb : ∀ (x : Fin 512) (c : Fin 1024), v32 (ix2 x c) = 1#1 ↔ P c x)
    (hs : ∀ (x : Fin 256) (c : Fin 1024), ∑ y, v675 (ix4 0 0 x y) * v54 (ix2 y c) = ((σ c x * (Real.log 2)⁻¹ : ℝ) : EReal))
    (hP : ∀ c k, k < 512 → P c k → k < 256) (hP' : ∀ c k, P c k ↔ P (c % 256) k)
    (o : Vec Ideal S128x256 .bf16) (O : ℕ → ℕ → ℝ) (ho : ∀ (j : Fin 128) (x : Fin 256), o (ix2 j x) = (O j x : EReal))
    (j : Fin 128) (c : Fin 256) :
    k0_pay33 (F := Ideal) (k0_pay31 v32 v54 v675) (k0_pay32 v32 v54 v675 o) o (ix2 j c)
      = ((∑ k ∈ Finset.range 512, O j k * (soft 512 (P c) (σ c) k + soft 512 (P c) (σ (256 + c)) k
          + soft 512 (P c) (σ (512 + c)) k + soft 512 (P c) (σ (768 + c)) k) : ℝ) : EReal) := by
  pointwise [k0_pay33, k0_pay31, k0_pay32, k0_pay30, k0_pay29]
  have hQ : ∀ a : ℕ, a % 256 = c → P a = P c := by
    intro a ha; funext k; apply propext; rw [hP' a, ha]
  have ht := tab256_0 v32 v54 v675 P σ hb hs
  refine cmp_imp 256 (by omega) (P c) (σ c) (σ (256 + c)) (σ (512 + c)) (σ (768 + c)) (O j) _ _ _ _ _ _ (hP c) (ho j) (ho j)
    (fun x => ?_) (fun x => ?_) (fun x => ?_) (fun x => ?_)
  · exact ht x ⟨c, by omega⟩
  · exact (ht x ⟨256 + c, by omega⟩).trans (by rw [hQ (256 + c) (by omega)])
  · exact (ht x ⟨512 + c, by omega⟩).trans (by rw [hQ (512 + c) (by omega)])
  · exact (ht x ⟨768 + c, by omega⟩).trans (by rw [hQ (768 + c) (by omega)])

theorem tab256_1 (v32 : IVec S512x1024 1) (v54 : FVec Ideal S64x1024 .bf16)
    (v675 : Vec Ideal S1x1x256x64 .bf16) (P : ℕ → ℕ → Prop) (σ : ℕ → ℕ → ℝ)
    (hb : ∀ (x : Fin 512) (c : Fin 1024), v32 (ix2 x c) = 1#1 ↔ P c x)
    (hs : ∀ (x : Fin 256) (c : Fin 1024), ∑ y, v675 (ix4 0 0 x y) * v54 (ix2 y c) = ((σ c x * (Real.log 2)⁻¹ : ℝ) : EReal))
    (k : Fin 256) (c : Fin 1024) :
    k0_pay34 (F := Ideal) v32 v54 v675 (ix2 k c) = (soft 256 (P c) (σ c) k : EReal) := by
  pointwise [k0_pay34]
  exact cmp_col 256 (P c) (σ c) (fun x => v32 (ix2 ⟨x, by omega⟩ c)) (fun x => ∑ y, v675 (ix4 0 0 x y) * v54 (ix2 y c))
    (fun x => hb ⟨x, by omega⟩ c) (fun x => hs x c) k

theorem out256_1 (v32 : IVec S512x1024 1) (v54 : FVec Ideal S64x1024 .bf16)
    (v675 : Vec Ideal S1x1x256x64 .bf16) (P : ℕ → ℕ → Prop) (σ : ℕ → ℕ → ℝ)
    (hb : ∀ (x : Fin 512) (c : Fin 1024), v32 (ix2 x c) = 1#1 ↔ P c x)
    (hs : ∀ (x : Fin 256) (c : Fin 1024), ∑ y, v675 (ix4 0 0 x y) * v54 (ix2 y c) = ((σ c x * (Real.log 2)⁻¹ : ℝ) : EReal))
    (hP : ∀ c k, k < 512 → P c k → k < 256)
    (o : Vec Ideal S1x1x64x256 .bf16) (V : ℕ → ℕ → EReal) (ho : ∀ (d : Fin 64) (x : Fin 256), o (ix4 0 0 d x) = V d x)
    (d : Fin 64) (c : Fin 1024) :
    k0_pay35 (F := Ideal) v32 v54 v675 o (ix2 d c) = attn 512 (P c) (σ c) (V d) := by
  pointwise [k0_pay35]
  exact cmp_out 256 (by omega) (P c) (σ c) (V d) _ _ (hP c) (ho d) (fun x => tab256_1 v32 v54 v675 P σ hb hs x c)

theorem imp256_1 (v32 : IVec S512x1024 1) (v54 : FVec Ideal S64x1024 .bf16)
    (v675 : Vec Ideal S1x1x256x64 .bf16) (P : ℕ → ℕ → Prop) (σ : ℕ → ℕ → ℝ)
    (hb : ∀ (x : Fin 512) (c : Fin 1024), v32 (ix2 x c) = 1#1 ↔ P c x)
    (hs : ∀ (x : Fin 256) (c : Fin 1024), ∑ y, v675 (ix4 0 0 x y) * v54 (ix2 y c) = ((σ c x * (Real.log 2)⁻¹ : ℝ) : EReal))
    (hP : ∀ c k, k < 512 → P c k → k < 256) (hP' : ∀ c k, P c k ↔ P (c % 256) k)
    (o : Vec Ideal S128x256 .bf16) (O : ℕ → ℕ → ℝ) (ho : ∀ (j : Fin 128) (x : Fin 256), o (ix2 j x) = (O j x : EReal))
    (j : Fin 128) (c : Fin 256) :
    k0_pay81 (F := Ideal) (k0_pay37 v32 v54 v675) (k0_pay38 v32 v54 v675) o o (ix2 j c)
      = ((∑ k ∈ Finset.range 512, O j k * (soft 512 (P c) (σ c) k + soft 512 (P c) (σ (256 + c)) k
          + soft 512 (P c) (σ (512 + c)) k + soft 512 (P c) (σ (768 + c)) k) : ℝ) : EReal) := by
  pointwise [k0_pay81, k0_pay37, k0_pay38, k0_pay36]
  have hQ : ∀ a : ℕ, a % 256 = c → P a = P c := by
    intro a ha; funext k; apply propext; rw [hP' a, ha]
  have ht := tab256_1 v32 v54 v675 P σ hb hs
  refine cmp_imp 256 (by omega) (P c) (σ c) (σ (256 + c)) (σ (512 + c)) (σ (768 + c)) (O j) _ _ _ _ _ _ (hP c) (ho j) (ho j)
    (fun x => ?_) (fun x => ?_) (fun x => ?_) (fun x => ?_)
  · exact ht x ⟨c, by omega⟩
  · exact (ht x ⟨256 + c, by omega⟩).trans (by rw [hQ (256 + c) (by omega)])
  · exact (ht x ⟨512 + c, by omega⟩).trans (by rw [hQ (512 + c) (by omega)])
  · exact (ht x ⟨768 + c, by omega⟩).trans (by rw [hQ (768 + c) (by omega)])

theorem tab128_0 (v32 : IVec S512x1024 1) (v54 : FVec Ideal S64x1024 .bf16)
    (v675 : Vec Ideal S1x1x128x64 .bf16) (P : ℕ → ℕ → Prop) (σ : ℕ → ℕ → ℝ)
    (hb : ∀ (x : Fin 512) (c : Fin 1024), v32 (ix2 x c) = 1#1 ↔ P c x)
    (hs : ∀ (x : Fin 128) (c : Fin 1024), ∑ y, v675 (ix4 0 0 x y) * v54 (ix2 y c) = ((σ c x * (Real.log 2)⁻¹ : ℝ) : EReal))
    (k : Fin 128) (c : Fin 1024) :
    k0_pay39 (F := Ideal) v32 v54 v675 (ix2 k c) = (soft 128 (P c) (σ c) k : EReal) := by
  pointwise [k0_pay39]
  exact cmp_col 128 (P c) (σ c) (fun x => v32 (ix2 ⟨x, by omega⟩ c)) (fun x => ∑ y, v675 (ix4 0 0 x y) * v54 (ix2 y c))
    (fun x => hb ⟨x, by omega⟩ c) (fun x => hs x c) k

theorem out128_0 (v32 : IVec S512x1024 1) (v54 : FVec Ideal S64x1024 .bf16)
    (v675 : Vec Ideal S1x1x128x64 .bf16) (P : ℕ → ℕ → Prop) (σ : ℕ → ℕ → ℝ)
    (hb : ∀ (x : Fin 512) (c : Fin 1024), v32 (ix2 x c) = 1#1 ↔ P c x)
    (hs : ∀ (x : Fin 128) (c : Fin 1024), ∑ y, v675 (ix4 0 0 x y) * v54 (ix2 y c) = ((σ c x * (Real.log 2)⁻¹ : ℝ) : EReal))
    (hP : ∀ c k, k < 512 → P c k → k < 128)
    (o : Vec Ideal S1x1x64x128 .bf16) (V : ℕ → ℕ → EReal) (ho : ∀ (d : Fin 64) (x : Fin 128), o (ix4 0 0 d x) = V d x)
    (d : Fin 64) (c : Fin 1024) :
    k0_pay40 (F := Ideal) v32 v54 v675 o (ix2 d c) = attn 512 (P c) (σ c) (V d) := by
  pointwise [k0_pay40]
  exact cmp_out 128 (by omega) (P c) (σ c) (V d) _ _ (hP c) (ho d) (fun x => tab128_0 v32 v54 v675 P σ hb hs x c)

theorem imp128_0 (v32 : IVec S512x1024 1) (v54 : FVec Ideal S64x1024 .bf16)
    (v675 : Vec Ideal S1x1x128x64 .bf16) (P : ℕ → ℕ → Prop) (σ : ℕ → ℕ → ℝ)
    (hb : ∀ (x : Fin 512) (c : Fin 1024), v32 (ix2 x c) = 1#1 ↔ P c x)
    (hs : ∀ (x : Fin 128) (c : Fin 1024), ∑ y, v675 (ix4 0 0 x y) * v54 (ix2 y c) = ((σ c x * (Real.log 2)⁻¹ : ℝ) : EReal))
    (hP : ∀ c k, k < 512 → P c k → k < 128) (hP' : ∀ c k, P c k ↔ P (c % 256) k)
    (o : Vec Ideal S128x128 .bf16) (O : ℕ → ℕ → ℝ) (ho : ∀ (j : Fin 128) (x : Fin 128), o (ix2 j x) = (O j x : EReal))
    (j : Fin 128) (c : Fin 256) :
    k0_pay45 (F := Ideal) (k0_pay43 v32 v54 v675) (k0_pay44 v32 v54 v675 o) o (ix2 j c)
      = ((∑ k ∈ Finset.range 512, O j k * (soft 512 (P c) (σ c) k + soft 512 (P c) (σ (256 + c)) k
          + soft 512 (P c) (σ (512 + c)) k + soft 512 (P c) (σ (768 + c)) k) : ℝ) : EReal) := by
  pointwise [k0_pay45, k0_pay43, k0_pay44, k0_pay42, k0_pay41]
  have hQ : ∀ a : ℕ, a % 256 = c → P a = P c := by
    intro a ha; funext k; apply propext; rw [hP' a, ha]
  have ht := tab128_0 v32 v54 v675 P σ hb hs
  refine cmp_imp 128 (by omega) (P c) (σ c) (σ (256 + c)) (σ (512 + c)) (σ (768 + c)) (O j) _ _ _ _ _ _ (hP c) (ho j) (ho j)
    (fun x => ?_) (fun x => ?_) (fun x => ?_) (fun x => ?_)
  · exact ht x ⟨c, by omega⟩
  · exact (ht x ⟨256 + c, by omega⟩).trans (by rw [hQ (256 + c) (by omega)])
  · exact (ht x ⟨512 + c, by omega⟩).trans (by rw [hQ (512 + c) (by omega)])
  · exact (ht x ⟨768 + c, by omega⟩).trans (by rw [hQ (768 + c) (by omega)])

theorem tab128_1 (v32 : IVec S512x1024 1) (v54 : FVec Ideal S64x1024 .bf16)
    (v675 : Vec Ideal S1x1x128x64 .bf16) (P : ℕ → ℕ → Prop) (σ : ℕ → ℕ → ℝ)
    (hb : ∀ (x : Fin 512) (c : Fin 1024), v32 (ix2 x c) = 1#1 ↔ P c x)
    (hs : ∀ (x : Fin 128) (c : Fin 1024), ∑ y, v675 (ix4 0 0 x y) * v54 (ix2 y c) = ((σ c x * (Real.log 2)⁻¹ : ℝ) : EReal))
    (k : Fin 128) (c : Fin 1024) :
    k0_pay46 (F := Ideal) v32 v54 v675 (ix2 k c) = (soft 128 (P c) (σ c) k : EReal) := by
  pointwise [k0_pay46]
  exact cmp_col 128 (P c) (σ c) (fun x => v32 (ix2 ⟨x, by omega⟩ c)) (fun x => ∑ y, v675 (ix4 0 0 x y) * v54 (ix2 y c))
    (fun x => hb ⟨x, by omega⟩ c) (fun x => hs x c) k

theorem out128_1 (v32 : IVec S512x1024 1) (v54 : FVec Ideal S64x1024 .bf16)
    (v675 : Vec Ideal S1x1x128x64 .bf16) (P : ℕ → ℕ → Prop) (σ : ℕ → ℕ → ℝ)
    (hb : ∀ (x : Fin 512) (c : Fin 1024), v32 (ix2 x c) = 1#1 ↔ P c x)
    (hs : ∀ (x : Fin 128) (c : Fin 1024), ∑ y, v675 (ix4 0 0 x y) * v54 (ix2 y c) = ((σ c x * (Real.log 2)⁻¹ : ℝ) : EReal))
    (hP : ∀ c k, k < 512 → P c k → k < 128)
    (o : Vec Ideal S1x1x64x128 .bf16) (V : ℕ → ℕ → EReal) (ho : ∀ (d : Fin 64) (x : Fin 128), o (ix4 0 0 d x) = V d x)
    (d : Fin 64) (c : Fin 1024) :
    k0_pay47 (F := Ideal) v32 v54 v675 o (ix2 d c) = attn 512 (P c) (σ c) (V d) := by
  pointwise [k0_pay47]
  exact cmp_out 128 (by omega) (P c) (σ c) (V d) _ _ (hP c) (ho d) (fun x => tab128_1 v32 v54 v675 P σ hb hs x c)

theorem imp128_1 (v32 : IVec S512x1024 1) (v54 : FVec Ideal S64x1024 .bf16)
    (v675 : Vec Ideal S1x1x128x64 .bf16) (P : ℕ → ℕ → Prop) (σ : ℕ → ℕ → ℝ)
    (hb : ∀ (x : Fin 512) (c : Fin 1024), v32 (ix2 x c) = 1#1 ↔ P c x)
    (hs : ∀ (x : Fin 128) (c : Fin 1024), ∑ y, v675 (ix4 0 0 x y) * v54 (ix2 y c) = ((σ c x * (Real.log 2)⁻¹ : ℝ) : EReal))
    (hP : ∀ c k, k < 512 → P c k → k < 128) (hP' : ∀ c k, P c k ↔ P (c % 256) k)
    (o : Vec Ideal S128x128 .bf16) (O : ℕ → ℕ → ℝ) (ho : ∀ (j : Fin 128) (x : Fin 128), o (ix2 j x) = (O j x : EReal))
    (j : Fin 128) (c : Fin 256) :
    k0_pay82 (F := Ideal) (k0_pay49 v32 v54 v675) (k0_pay50 v32 v54 v675) o o (ix2 j c)
      = ((∑ k ∈ Finset.range 512, O j k * (soft 512 (P c) (σ c) k + soft 512 (P c) (σ (256 + c)) k
          + soft 512 (P c) (σ (512 + c)) k + soft 512 (P c) (σ (768 + c)) k) : ℝ) : EReal) := by
  pointwise [k0_pay82, k0_pay49, k0_pay50, k0_pay48]
  have hQ : ∀ a : ℕ, a % 256 = c → P a = P c := by
    intro a ha; funext k; apply propext; rw [hP' a, ha]
  have ht := tab128_1 v32 v54 v675 P σ hb hs
  refine cmp_imp 128 (by omega) (P c) (σ c) (σ (256 + c)) (σ (512 + c)) (σ (768 + c)) (O j) _ _ _ _ _ _ (hP c) (ho j) (ho j)
    (fun x => ?_) (fun x => ?_) (fun x => ?_) (fun x => ?_)
  · exact ht x ⟨c, by omega⟩
  · exact (ht x ⟨256 + c, by omega⟩).trans (by rw [hQ (256 + c) (by omega)])
  · exact (ht x ⟨512 + c, by omega⟩).trans (by rw [hQ (512 + c) (by omega)])
  · exact (ht x ⟨768 + c, by omega⟩).trans (by rw [hQ (768 + c) (by omega)])

end Cert.Attn
-- ==== Proof.Choice.lean ====
/-
The picking's scores are the importances, and what it picks is what the specification chooses.
-/
module

public import proofs.«01_k».proof.Proof.Point
public import proofs.«01_k».proof.Proof.CmpValue
public import proofs.«01_k».proof.Proof.Picks

@[expose] public section

set_option maxRecDepth 16384

noncomputable section

namespace Cert.Attn

open Cert.KernelIdeal Cert.KernelIdeal.Gen Cert.KernelIdeal.Own
open Idealize.ShloMosaic Idealize.ShloMosaic.TcCoe
open Idealize.SL.Sem

/-- The importance scores' value for the forced blocks is above every sum of softmax weights. -/
theorem lit_forced_big : ∃ r : ℝ, 2048 < r ∧ Ideal.ofBits .f32 0x4E6E6B28#32 = (r : EReal) := by
  refine ⟨_, ?_, by simp [Ideal.ofBits, Ideal.ieee]; rfl⟩; norm_num

theorem soft_nonneg (n : ℕ) (P : ℕ → Prop) (σ : ℕ → ℝ) (k : ℕ) : 0 ≤ soft n P σ k :=
  div_nonneg (wt_nonneg P σ k) (Finset.sum_nonneg fun j _ => wt_nonneg P σ j)

theorem soft_le_one (n : ℕ) (P : ℕ → Prop) (σ : ℕ → ℝ) (k : ℕ) (hk : k ∈ Finset.range n) : soft n P σ k ≤ 1 :=
  div_le_one_of_le₀ (Finset.single_le_sum (fun j _ => wt_nonneg P σ j) hk) (Finset.sum_nonneg fun j _ => wt_nonneg P σ j)

theorem part_nonneg (j k : ℕ) : 0 ≤ part j k := by unfold part; positivity

theorem part_le_one (j k : ℕ) : part j k ≤ 1 := by
  unfold part
  rw [div_le_one (by norm_num)]
  have : min (16 * k + 32) (64 * j + 64) - max (16 * k) (64 * j) ≤ 32 := by omega
  exact_mod_cast this

variable (q : ℕ → ℕ → ℕ → ℝ) (kc : ℕ → ℕ → ℕ → ℝ)

/-- The summed weights of a block are between 0 and 2048. -/
theorem sum_bounds (P : ℕ → Prop) (a b c d : ℕ → ℝ) (j : ℕ) :
    0 ≤ ∑ k ∈ Finset.range 512, part j k * (soft 512 P a k + soft 512 P b k + soft 512 P c k + soft 512 P d k) ∧
    ∑ k ∈ Finset.range 512, part j k * (soft 512 P a k + soft 512 P b k + soft 512 P c k + soft 512 P d k) ≤ 2048 := by
  constructor
  · refine Finset.sum_nonneg fun k _ => mul_nonneg (part_nonneg j k) ?_
    have := soft_nonneg 512 P a k; have := soft_nonneg 512 P b k; have := soft_nonneg 512 P c k; have := soft_nonneg 512 P d k
    linarith
  · have h : ∀ k ∈ Finset.range 512, part j k * (soft 512 P a k + soft 512 P b k + soft 512 P c k + soft 512 P d k) ≤ 4 := by
      intro k hk
      have := soft_nonneg 512 P a k; have := soft_nonneg 512 P b k; have := soft_nonneg 512 P c k; have := soft_nonneg 512 P d k
      have := soft_le_one 512 P a k hk; have := soft_le_one 512 P b k hk; have := soft_le_one 512 P c k hk; have := soft_le_one 512 P d k hk
      have h1 := part_nonneg j k; have h2 := part_le_one j k
      nlinarith
    refine (Finset.sum_le_sum h).trans ?_
    simp; norm_num

/-- A block that is not in the future has an importance above the value that marks a block taken. -/
theorem low_impt (g t j : ℕ) (h : 64 * j ≤ t) : Ideal.ofBits FTy.f32 4284592614#32 < impt q kc g t j := by
  obtain ⟨r, hr, he⟩ := lit_low
  obtain ⟨r', hr', he'⟩ := lit_forced
  unfold impt
  rw [if_neg (by omega)]
  split_ifs with h2
  · rw [show (4284592614#32 : BitVec 32) = 0xFF61B1E6#32 from rfl, he, he']; exact_mod_cast hr.trans hr'
  · rw [show (4284592614#32 : BitVec 32) = 0xFF61B1E6#32 from rfl, he]
    exact_mod_cast hr.trans_le (sum_bounds _ _ _ _ _ j).1

/-- The block of the query itself is always chosen. -/
theorem chosen_self (g t : ℕ) (ht : t < 8192) : Chosen q kc g t (t / 64) := by
  classical
  refine ⟨by omega, ?_⟩
  obtain ⟨r, hr, he⟩ := lit_forced_big
  have hself : impt q kc g t (t / 64) = (r : EReal) := by
    unfold impt; rw [if_neg (by omega), if_pos (by omega), he]
  unfold rank
  refine lt_of_le_of_lt (Finset.card_le_card (t := (Finset.univ : Finset (Fin 128)).filter fun i : Fin 128 => i.val = 0 ∨ i.val = t / 64 ∨ i.val + 1 = t / 64) ?_) ?_
  · intro i hi
    rw [Finset.mem_filter] at hi ⊢
    refine ⟨Finset.mem_univ _, ?_⟩
    by_contra hn
    have hlt : impt q kc g t i.val < (r : EReal) := by
      unfold impt
      split_ifs
      · exact EReal.bot_lt_coe r
      · exact_mod_cast lt_of_le_of_lt (sum_bounds _ _ _ _ _ i.val).2 hr
    rcases hi.2 with h | ⟨h, -⟩
    · have h' : impt q kc g t (t / 64) < impt q kc g t i.val := h
      rw [hself] at h'
      exact absurd (h'.trans hlt) (lt_irrefl _)
    · have h' : impt q kc g t i.val = impt q kc g t (t / 64) := h
      rw [hself] at h'
      rw [h'] at hlt
      exact absurd hlt (lt_irrefl _)
  · have hsub : ((Finset.univ : Finset (Fin 128)).filter fun i : Fin 128 => i.val = 0 ∨ i.val = t / 64 ∨ i.val + 1 = t / 64)
        ⊆ ({⟨0, by omega⟩, ⟨t / 64, by omega⟩, ⟨t / 64 - 1, by omega⟩} : Finset (Fin 128)) := by
      intro i hi
      rw [Finset.mem_filter] at hi
      simp only [Finset.mem_insert, Finset.mem_singleton, Fin.ext_iff]
      omega
    exact lt_of_le_of_lt ((Finset.card_le_card hsub).trans Finset.card_le_three) (by norm_num)

variable (i : grid0.Coords) (im0 im1 : FVec Ideal S128x256 .f32)

/-- What the importances of a grid point are. -/
structure Imps : Prop where
  i0 : ∀ (j : Fin 128) (c : Fin 256), im0 (ix2 j c) = ((∑ k ∈ Finset.range 512, part j.val k * (
          soft 512 (Vis (256 * (i 1).val + c.val)) (score q (kc 0) (4 * 0) (256 * (i 1).val + c.val)) k
          + soft 512 (Vis (256 * (i 1).val + c.val)) (score q (kc 0) (4 * 0 + 1) (256 * (i 1).val + c.val)) k
          + soft 512 (Vis (256 * (i 1).val + c.val)) (score q (kc 0) (4 * 0 + 2) (256 * (i 1).val + c.val)) k
          + soft 512 (Vis (256 * (i 1).val + c.val)) (score q (kc 0) (4 * 0 + 3) (256 * (i 1).val + c.val)) k) : ℝ) : EReal)
  i1 : ∀ (j : Fin 128) (c : Fin 256), im1 (ix2 j c) = ((∑ k ∈ Finset.range 512, part j.val k * (
          soft 512 (Vis (256 * (i 1).val + c.val)) (score q (kc 1) (4 * 1) (256 * (i 1).val + c.val)) k
          + soft 512 (Vis (256 * (i 1).val + c.val)) (score q (kc 1) (4 * 1 + 1) (256 * (i 1).val + c.val)) k
          + soft 512 (Vis (256 * (i 1).val + c.val)) (score q (kc 1) (4 * 1 + 2) (256 * (i 1).val + c.val)) k
          + soft 512 (Vis (256 * (i 1).val + c.val)) (score q (kc 1) (4 * 1 + 3) (256 * (i 1).val + c.val)) k) : ℝ) : EReal)

variable {q kc i im0 im1}

/-- One column of the scores. -/
theorem score_col (g : ℕ) (v : FVec Ideal S128x256 .f32) (j : Fin 128) (c : Fin 256)
    (h : v (ix2 j c) = ((∑ k ∈ Finset.range 512, part j.val k * (
          soft 512 (Vis (256 * (i 1).val + c.val)) (score q (kc g) (4 * g) (256 * (i 1).val + c.val)) k
          + soft 512 (Vis (256 * (i 1).val + c.val)) (score q (kc g) (4 * g + 1) (256 * (i 1).val + c.val)) k
          + soft 512 (Vis (256 * (i 1).val + c.val)) (score q (kc g) (4 * g + 2) (256 * (i 1).val + c.val)) k
          + soft 512 (Vis (256 * (i 1).val + c.val)) (score q (kc g) (4 * g + 3) (256 * (i 1).val + c.val)) k) : ℝ) : EReal)) :
    Scalar.select (k0_pay70 i (ix2 j c)) (Named.named (F := Ideal) (φ := .f32) κ "mask" 4048155338#32)
        (Scalar.select (k0_pay69 i (ix2 j c)) (Ideal.ofBits FTy.f32 1315859240#32) (v (ix2 j c)))
      = impt q kc g (256 * (i 1).val + c.val) j.val := by
  unfold impt
  by_cases h1 : 256 * (i 1).val + c.val < 64 * j.val
  · rw [if_pos h1, sel_pos _ _ _ ((future_val i j c).2 h1)]; exact mask_bot
  · rw [if_neg h1, sel_neg _ _ _ (fun h => h1 ((future_val i j c).1 h))]
    split_ifs with h2
    · rw [sel_pos _ _ _ ((forced_val i j c).2 h2)]
    · rw [sel_neg _ _ _ (fun h => h2 ((forced_val i j c).1 h)), h]

/-- The scores the picking starts from are the importances. -/
theorem scores_val (I : Imps q kc i im0 im1) (k : Fin 128) (C : Fin 512) :
    scores i im0 im1 (ix2 k C) = impt q kc (C.val / 256) (256 * (i 1).val + C.val % 256) k.val := by
  have hC := C.isLt
  unfold scores
  pointwise [k0_pay83]
  by_cases h : C.val < 256
  · rw [dif_pos h, score_col (q := q) (kc := kc) 0 im0 k _ (I.i0 k _), show C.val / 256 = 0 by omega]
    show impt q kc 0 (256 * (i 1).val + C.val) k.val = _
    rw [show C.val % 256 = C.val by omega]
  · rw [dif_neg h, score_col (q := q) (kc := kc) 1 im1 k _ (I.i1 k _), show C.val / 256 = 1 by omega]
    show impt q kc 1 (256 * (i 1).val + (C.val - 256)) k.val = _
    rw [show C.val % 256 = C.val - 256 by omega]

/-- Which blocks the picking takes, by column and block. -/
def Taken (i : grid0.Coords) (im0 im1 : FVec Ideal S128x256 .f32) (C j : ℕ) : Prop :=
  ∃ (hC : C < 512) (hj : j < 128), marks (scores i im0 im1) blockNo 16 (ix2 ⟨j, hj⟩ ⟨C, hC⟩) = 1

/-- Of the blocks that are not in the future, the picking takes those the specification chooses. -/
theorem taken_iff (I : Imps q kc i im0 im1) (C j : ℕ) (hC : C < 512) (hj : j < 128) (h : 64 * j ≤ 256 * (i 1).val + C % 256) :
    Taken i im0 im1 C j ↔ Chosen q kc (C / 256) (256 * (i 1).val + C % 256) j := by
  have hr := (rounds (scores i im0 im1) blockNo blockNo_val ⟨C, hC⟩ 16).2.2 ⟨j, hj⟩
  have hf : (fun k : Fin 128 => scores i im0 im1 (ix2 k ⟨C, hC⟩)) = fun k : Fin 128 => impt q kc (C / 256) (256 * (i 1).val + C % 256) k.val :=
    funext fun k => scores_val I k ⟨C, hC⟩
  rw [hf] at hr
  have hr' := hr (low_impt q kc _ _ j h)
  constructor
  · rintro ⟨_, _, hm⟩
    exact ⟨hj, hr'.1 hm⟩
  · rintro ⟨_, hm⟩
    exact ⟨hC, hj, hr'.2 hm⟩

/-- The selection rows of the queries hold zero where a block is taken and −∞ elsewhere. -/
theorem open_val (i : grid0.Coords) (im0 im1 : FVec Ideal S128x256 .f32) (k : Fin 128) (C : Fin 2048) (G : ℕ) (hG : (C : ℕ) < 1024 ∧ G = C % 256 ∨ 1024 ≤ (C : ℕ) ∧ G = 256 + C % 256) :
    k0_pay124 (F := Ideal) (marks (scores i im0 im1) blockNo 15) (k0_pay85 (left (scores i im0 im1) blockNo 15) blockNo) (ix2 k C)
      = bias (Taken i im0 im1 G k.val) := by
  refine open_rows _ _ (Taken i im0 im1) (fun k c => ?_) k C G hG
  rw [open_word _ _ blockNo_val]
  congr 1
  apply propext
  exact ⟨fun h => ⟨c.2, k.2, h⟩, fun ⟨_, _, h⟩ => h⟩

end Cert.Attn
-- ==== Proof.WinValue.lean ====
/- The window attention of the kernel: one tile of 768 keys, read at an index. -/
module

public import proofs.«01_k».proof.Proof.SlcValue

@[expose] public section

set_option maxRecDepth 16384

noncomputable section

namespace Cert.Attn

open Idealize.ShloMosaic Cert.KernelIdeal Cert.KernelIdeal.Gen

theorem sgt_sub (a t : ℕ) (ha : a < 1073741824) (ht : t < 1073741824) :
    IntOp.cmpi .sgt (BitVec.ofNat 32 a) (IntOp.subi (BitVec.ofNat 32 t) 512#32) = 1#1 ↔ t < a + 512 := by
  have h : IntOp.cmpi .sgt (BitVec.ofNat 32 a) (IntOp.subi (BitVec.ofNat 32 t) 512#32) = BitVec.ofBool (decide (t < a + 512)) := by
    show BitVec.ofBool ((BitVec.ofNat 32 t - 512#32).slt (BitVec.ofNat 32 a)) = _
    congr 1
    rw [BitVec.slt_eq_decide, toInt_ofNat a (by omega)]
    have : (BitVec.ofNat 32 t - 512#32).toInt = (t : ℤ) - 512 := by
      rw [BitVec.toInt_sub, toInt_ofNat t (by omega), show (512#32).toInt = 512 by decide]
      apply Int.bmod_eq_of_le <;> omega
    rw [this]
    apply decide_eq_decide.2
    omega
  rw [h]; by_cases hh : t < a + 512 <;> simp [hh]

/-- A key is in the window of a query if it is not later, and at most 511 before. -/
def InWin (T : ℕ → ℕ) (c k : ℕ) : Prop := k ≤ T c ∧ T c < k + 512

theorem bias143 (v3 : IVec S1x256 32) (a : BitVec 32) (s : ℕ) (hs : s < 8192)
    (h : Scalar.muli (Scalar.maxsi (Scalar.subi a 2#32) 0#32) 256#32 = BitVec.ofNat 32 s) (T : ℕ → ℕ) (hT : ∀ c, T c < 8192)
    (h3 : ∀ c : Fin 256, v3 (ix2 0 c) = BitVec.ofNat 32 (T c)) (k : Fin 768) (c : Fin 256) :
    k0_pay143 (F := Ideal) v3 (k0_pay141 a) (k0_pay142 a v3) (ix2 k c) = bias (InWin T c (s + k)) := by
  pointwise [k0_pay143, k0_pay142, k0_pay141]
  rw [h, add_ofNat, h3]
  have := hT c
  have hc : IntOp.andi (IntOp.cmpi CmpIPredicate.sle (BitVec.ofNat 32 (s + k)) (BitVec.ofNat 32 (T c)))
      (IntOp.cmpi CmpIPredicate.sgt (BitVec.ofNat 32 (s + k)) (IntOp.subi (BitVec.ofNat 32 (T c)) 512#32)) = 1#1 ↔ InWin T c (s + k) := by
    rw [andi_one, sle_ofNat _ _ (by omega) (by omega), sgt_sub _ _ (by omega) (by omega)]; rfl
  by_cases hh : InWin T c (s + k)
  · rw [bias_pos hh, sel_pos _ _ _ (hc.2 hh)]
  · rw [bias_neg hh, sel_neg _ _ _ (fun e => hh (hc.1 e))]; exact mask_bot

section
variable (T : ℕ → ℕ) (σ : ℕ → ℕ → ℝ) (KT QP V : ℕ → ℕ → EReal) (vq : FVec Ideal S128x1024 .bf16)

theorem win_score (hQ : ∀ (x : Fin 128) (c : Fin 1024), vq (ix2 x c) = QP x c)
    (hS : ∀ (k : ℕ) (c : Fin 1024), k < 8192 → ∑ x : Fin 128, KT k x * QP x c = ((σ c k * (Real.log 2)⁻¹ : ℝ) : EReal))
    (v3 : IVec S1x256 32) (a : BitVec 32) (s : ℕ) (hs : s + 768 ≤ 8192)
    (h : Scalar.muli (Scalar.maxsi (Scalar.subi a 2#32) 0#32) 256#32 = BitVec.ofNat 32 s) (hT : ∀ c, T c < 8192)
    (hT' : ∀ c : ℕ, T c = T (c % 256)) (h3 : ∀ c : Fin 256, v3 (ix2 0 c) = BitVec.ofNat 32 (T c))
    (kt : Vec Ideal S1x768x128 .bf16) (hkt : ∀ (k : Fin 768) (x : Fin 128), kt (ix3 0 k x) = KT (s + k) x)
    (k : Fin 768) (c : Fin 1024) :
    k0_pay148 (F := Ideal) v3 vq (k0_pay141 a) (k0_pay142 a v3) kt (ix2 k c) = sc2 (InWin T c) (σ c) (s + k) := by
  have hP : InWin T c = InWin T ((c : ℕ) % 256) := by funext j; unfold InWin; rw [← hT' c]
  rw [← sc2_bias, hP, ← hS (s + k) c (by omega)]
  pointwise [k0_pay148, k0_pay145]
  congr 1
  · apply Finset.sum_congr rfl
    intro x _
    rw [hkt, hQ]
  · split_ifs <;> rw [bias143 v3 a s (by omega) h T hT h3] <;> congr 2 <;> simp only [] <;> omega

theorem win_key (hQ : ∀ (x : Fin 128) (c : Fin 1024), vq (ix2 x c) = QP x c)
    (hS : ∀ (k : ℕ) (c : Fin 1024), k < 8192 → ∑ x : Fin 128, KT k x * QP x c = ((σ c k * (Real.log 2)⁻¹ : ℝ) : EReal))
    (v3 : IVec S1x256 32) (a : BitVec 32) (s : ℕ) (hs : s + 768 ≤ 8192)
    (h : Scalar.muli (Scalar.maxsi (Scalar.subi a 2#32) 0#32) 256#32 = BitVec.ofNat 32 s) (hT : ∀ c, T c < 8192)
    (hT' : ∀ c : ℕ, T c = T (c % 256)) (h3 : ∀ c : Fin 256, v3 (ix2 0 c) = BitVec.ofNat 32 (T c))
    (kt : Vec Ideal S1x768x128 .bf16) (hkt : ∀ (k : Fin 768) (x : Fin 128), kt (ix3 0 k x) = KT (s + k) x)
    (V : ℕ → EReal) (c : Fin 1024) (v : Fin 768 → EReal) (hv : ∀ x : Fin 768, v x = V (s + x)) :
    IsFlash 768 (fun k => sc2 (InWin T c) (σ c) (s + k)) (fun k => V (s + k))
      (max ⊥ (Finset.fold max (Ideal.ofBits FTy.f32 4286578688#32) (fun x => k0_pay148 (F := Ideal) v3 vq (k0_pay141 a) (k0_pay142 a v3) kt (ix2 x c)) Finset.univ))
      (Ideal.exp2 (⊥ - max ⊥ (Finset.fold max (Ideal.ofBits FTy.f32 4286578688#32) (fun x => k0_pay148 (F := Ideal) v3 vq (k0_pay141 a) (k0_pay142 a v3) kt (ix2 x c)) Finset.univ)) * 0
        + ∑ x, v x * Ideal.exp2 (k0_pay148 (F := Ideal) v3 vq (k0_pay141 a) (k0_pay142 a v3) kt (ix2 x c) - max ⊥ (Finset.fold max (Ideal.ofBits FTy.f32 4286578688#32) (fun x => k0_pay148 (F := Ideal) v3 vq (k0_pay141 a) (k0_pay142 a v3) kt (ix2 x c)) Finset.univ))) := by
  have := step_abs 0 768 (fun k => sc2 (InWin T c) (σ c) (s + k)) (fun k => V (s + k)) (fun k => low_sc2 _ _ _) ⊥ 0 (isFlash_zero _ _)
    (fun x => k0_pay148 (F := Ideal) v3 vq (k0_pay141 a) (k0_pay142 a v3) kt (ix2 x c)) v
    (fun x => by simp only [Nat.zero_add]; exact win_score T σ KT QP vq hQ hS v3 a s hs h hT hT' h3 kt hkt x c)
    (fun x => by simp only [Nat.zero_add]; exact hv x)
  exact this

theorem win_quot (hT : ∀ c, T c < 8192) (s : ℕ) (hs : s + 768 ≤ 8192) (hw : ∀ c, s ≤ T c - 511 ∧ T c < s + 768)
    (c : ℕ) (V : ℕ → EReal) (A L M : EReal)
    (hA : IsFlash 768 (fun k => sc2 (InWin T c) (σ c) (s + k)) (fun k => V (s + k)) M A)
    (hL : IsFlash 768 (fun k => sc2 (InWin T c) (σ c) (s + k)) (fun k => 1) M L) :
    A * Ideal.div 1 L = attn 8192 (InWin T c) (σ c) V := by
  have hh := hw c
  have := hT c
  rw [isFlash_final 768 (fun k => InWin T c (s + k)) (fun k => σ c (s + k)) (fun k => V (s + k)) M A L hA hL (T c - s) (by omega)
    (by show InWin T c (s + (T c - s)); unfold InWin; omega)]
  apply attn_shift s 768 8192 hs
  intro k _ hk
  unfold InWin at hk
  omega

/-- The window attention of the first group of heads. -/
theorem win_fin0 (hQ : ∀ (x : Fin 128) (c : Fin 1024), vq (ix2 x c) = QP x c)
    (hS : ∀ (k : ℕ) (c : Fin 1024), k < 8192 → ∑ x : Fin 128, KT k x * QP x c = ((σ c k * (Real.log 2)⁻¹ : ℝ) : EReal))
    (v3 : IVec S1x256 32) (a : BitVec 32) (s : ℕ) (hs : s + 768 ≤ 8192)
    (h : Scalar.muli (Scalar.maxsi (Scalar.subi a 2#32) 0#32) 256#32 = BitVec.ofNat 32 s) (hT : ∀ c, T c < 8192)
    (hw : ∀ c, s ≤ T c - 511 ∧ T c < s + 768)
    (hT' : ∀ c : ℕ, T c = T (c % 256)) (h3 : ∀ c : Fin 256, v3 (ix2 0 c) = BitVec.ofNat 32 (T c))
    (kt : Vec Ideal S1x768x128 .bf16) (hkt : ∀ (k : Fin 768) (x : Fin 128), kt (ix3 0 k x) = KT (s + k) x)
    (vt : Vec Ideal S1x64x768 .bf16) (hvt : ∀ (d : Fin 64) (k : Fin 768), vt (ix3 0 d k) = V d (s + k))
    (g : FVec Ideal S80x1024 .f32) (b : FVec Ideal S80x768 .bf16) (f : FVec Ideal S768x1024 .f32) (u w : FVec Ideal S1x1024 .f32)
    (d : Fin 64) (c : Fin 1024) :
    k0_pay151 (F := Ideal) g b (k0_pay147 v3 vq k0_pay129 k0_pay131 (k0_pay141 a) (k0_pay142 a v3) kt vt) f u w (ix2 d ⟨c, by omega⟩)
      = attn 8192 (InWin T c) (σ c) (V d) := by
  have key := win_key T σ KT QP vq hQ hS v3 a s hs h hT hT' h3 kt hkt
  have gen : ∀ C : Fin 2048, C = ⟨c, by omega⟩ →
      k0_pay151 (F := Ideal) g b (k0_pay147 v3 vq k0_pay129 k0_pay131 (k0_pay141 a) (k0_pay142 a v3) kt vt) f u w (ix2 d C)
      = attn 8192 (InWin T c) (σ c) (V d) := by
    intro C hC
    pointwise [k0_pay151]
    subst hC
    rw [dif_pos (show (c : ℕ) < 1024 from c.2), dif_pos (show (c : ℕ) < 1024 from c.2)]
    have e : ∀ (D : Fin 80) (V : ℕ → EReal),
        (∀ x : Fin 768, (if h : (D : ℕ) < 64 then vt (ix3 0 ⟨D, h⟩ x) else (1 : EReal)) = V (s + x)) →
        IsFlash 768 (fun k => sc2 (InWin T c) (σ c) (s + k)) (fun k => V (s + k))
          (max ⊥ (Finset.fold max (Ideal.ofBits FTy.f32 4286578688#32) (fun x => k0_pay148 (F := Ideal) v3 vq (k0_pay141 a) (k0_pay142 a v3) kt (ix2 x c)) Finset.univ))
          (k0_pay147 (F := Ideal) v3 vq k0_pay129 k0_pay131 (k0_pay141 a) (k0_pay142 a v3) kt vt (ix2 D c)) := by
      intro D V hv
      have := key V c (fun x => if h : (D : ℕ) < 64 then vt (ix3 0 ⟨D, h⟩ x) else 1) hv
      refine (congrArg (IsFlash 768 _ _ _) ?_).mpr this
      pointwise [k0_pay147, k0_pay144, k0_pay148, k0_pay129, k0_pay131]
      rfl
    refine win_quot T σ hT s hs hw c (V d) _ _ _ (e ⟨d, by omega⟩ (V d) ?_) (e 64 (fun _ => 1) ?_)
    · intro x
      rw [dif_pos (show (d : ℕ) < 64 from d.2)]
      exact hvt d x
    · intro x
      exact dif_neg (by decide)
  exact gen _ rfl

/-- The window attention of the second group of heads. -/
theorem win_fin1 (hQ : ∀ (x : Fin 128) (c : Fin 1024), vq (ix2 x c) = QP x c)
    (hS : ∀ (k : ℕ) (c : Fin 1024), k < 8192 → ∑ x : Fin 128, KT k x * QP x c = ((σ c k * (Real.log 2)⁻¹ : ℝ) : EReal))
    (v3 : IVec S1x256 32) (a : BitVec 32) (s : ℕ) (hs : s + 768 ≤ 8192)
    (h : Scalar.muli (Scalar.maxsi (Scalar.subi a 2#32) 0#32) 256#32 = BitVec.ofNat 32 s) (hT : ∀ c, T c < 8192)
    (hw : ∀ c, s ≤ T c - 511 ∧ T c < s + 768)
    (hT' : ∀ c : ℕ, T c = T (c % 256)) (h3 : ∀ c : Fin 256, v3 (ix2 0 c) = BitVec.ofNat 32 (T c))
    (kt : Vec Ideal S1x768x128 .bf16) (hkt : ∀ (k : Fin 768) (x : Fin 128), kt (ix3 0 k x) = KT (s + k) x)
    (vt : Vec Ideal S1x64x768 .bf16) (hvt : ∀ (d : Fin 64) (k : Fin 768), vt (ix3 0 d k) = V d (s + k))
    (g : FVec Ideal S80x1024 .f32)
    (d : Fin 64) (c : Fin 1024) :
    k0_pay151 (F := Ideal) k0_pay132 (k0_pay146 vt) g (k0_pay148 v3 vq (k0_pay141 a) (k0_pay142 a v3) kt)
      (k0_pay149 v3 vq k0_pay130 (k0_pay141 a) (k0_pay142 a v3) kt) (k0_pay150 v3 vq k0_pay130 (k0_pay141 a) (k0_pay142 a v3) kt)
      (ix2 d ⟨1024 + c, by omega⟩)
      = attn 8192 (InWin T c) (σ c) (V d) := by
  have key := win_key T σ KT QP vq hQ hS v3 a s hs h hT hT' h3 kt hkt
  have gen : ∀ C : Fin 2048, C = ⟨1024 + c, by omega⟩ → k0_pay151 (F := Ideal) k0_pay132 (k0_pay146 vt) g (k0_pay148 v3 vq (k0_pay141 a) (k0_pay142 a v3) kt)
      (k0_pay149 v3 vq k0_pay130 (k0_pay141 a) (k0_pay142 a v3) kt) (k0_pay150 v3 vq k0_pay130 (k0_pay141 a) (k0_pay142 a v3) kt)
      (ix2 d C) = attn 8192 (InWin T c) (σ c) (V d) := by
    intro C hC
    pointwise [k0_pay151]
    have h1 : ¬ (C : ℕ) < 1024 := by rw [hC]; simp only []; omega
    have h2 : (C : ℕ) - 1024 = c := by rw [hC]; simp only []; omega
    simp only [dif_neg h1, h2]
    have hm : k0_pay149 (F := Ideal) v3 vq k0_pay130 (k0_pay141 a) (k0_pay142 a v3) kt (ix2 0 c)
        = max ⊥ (Finset.fold max (Ideal.ofBits FTy.f32 4286578688#32) (fun x => k0_pay148 (F := Ideal) v3 vq (k0_pay141 a) (k0_pay142 a v3) kt (ix2 x c)) Finset.univ) := by
      pointwise [k0_pay149, k0_pay130]
      rfl
    have hx : k0_pay150 (F := Ideal) v3 vq k0_pay130 (k0_pay141 a) (k0_pay142 a v3) kt (ix2 0 c)
        = Ideal.exp2 (⊥ - max ⊥ (Finset.fold max (Ideal.ofBits FTy.f32 4286578688#32) (fun x => k0_pay148 (F := Ideal) v3 vq (k0_pay141 a) (k0_pay142 a v3) kt (ix2 x c)) Finset.univ)) := by
      rw [← hm]
      pointwise [k0_pay150, k0_pay130]
      rfl
    have hz : ∀ D : Fin 80, k0_pay132 (F := Ideal) (ix2 D c) = (0 : EReal) := by
      intro D
      pointwise [k0_pay132]
    have hb : ∀ (D : Fin 80) (x : Fin 768), k0_pay146 (F := Ideal) vt (ix2 D x) = if h : (D : ℕ) < 64 then vt (ix3 0 ⟨D, h⟩ x) else (1 : EReal) := by
      intro D x
      pointwise [k0_pay146, k0_pay144]
    refine win_quot T σ hT s hs hw c (V d) _ _
      (max ⊥ (Finset.fold max (Ideal.ofBits FTy.f32 4286578688#32) (fun x => k0_pay148 (F := Ideal) v3 vq (k0_pay141 a) (k0_pay142 a v3) kt (ix2 x c)) Finset.univ)) ?_ ?_
    · have k1 := key (V d) c (fun x => k0_pay146 (F := Ideal) vt (ix2 ⟨d, by omega⟩ x))
        (fun x => (hb _ x).trans ((dif_pos (show (d : ℕ) < 64 from d.2)).trans (hvt d x)))
      rw [← hx, ← hz ⟨d, by omega⟩] at k1
      simp only [← hm] at k1 ⊢
      exact k1
    · have k1 := key (fun _ => 1) c (fun x => k0_pay146 (F := Ideal) vt (ix2 64 x))
        (fun x => (hb _ x).trans (dif_neg (by decide)))
      rw [← hx, ← hz 64] at k1
      simp only [← hm] at k1 ⊢
      exact k1
  exact gen _ rfl

end

end Cert.Attn
-- ==== Proof.Flash.lean ====
/-
The selected and the window branch of a grid point, in the specification's words.
-/
module

public import proofs.«01_k».proof.Proof.Point
public import proofs.«01_k».proof.Proof.CmpValue
public import proofs.«01_k».proof.Proof.Choice
public import proofs.«01_k».proof.Proof.WinValue
public import proofs.«01_k».proof.Proof.SlcValue

@[expose] public section

set_option maxRecDepth 16384
set_option maxHeartbeats 1000000

noncomputable section

namespace Cert.Attn

open Cert.KernelIdeal Cert.KernelIdeal.Gen Cert.KernelIdeal.Own
open Idealize.ShloMosaic Idealize.ShloMosaic.TcCoe
open Idealize.SL.Sem

theorem trips1 (i : grid0.Coords) : (k0_t1_loop i).trips = (i 1).val / 2 := by
  have hi := col_lt i
  unfold k0_t1_loop
  generalize (i 1).val = n at hi
  interval_cases n <;> decide

theorem trips2 (i : grid0.Coords) : (k0_t2_loop i).trips = 0 := by
  have hi := col_lt i
  unfold k0_t2_loop
  generalize (i 1).val = n at hi
  interval_cases n <;> decide

theorem last_val (i : grid0.Coords) : Scalar.select (corrW i) (Scalar.subi (lastW i) 1#32) (lastW i) = BitVec.ofNat 32 ((i 1).val / 2) := by
  have hi := col_lt i
  unfold corrW lastW
  generalize (i 1).val = n at hi
  interval_cases n <;> decide

theorem winstart (i : grid0.Coords) : Scalar.muli (Scalar.maxsi (Scalar.subi (BitVec.ofNat 32 (i 1).val) 2#32) 0#32) 256#32
    = BitVec.ofNat 32 (256 * ((i 1).val - 2)) := by
  have hi := col_lt i
  generalize (i 1).val = n at hi
  interval_cases n <;> decide

theorem off1_0 (i : grid0.Coords) (t : Fin (k0_t1_loop i).trips) (ht : t.val < 16) : k0_off1 i t 0 = 0 := by
  unfold k0_off1
  generalize t.val = n at ht
  interval_cases n <;> decide

theorem off1_1 (i : grid0.Coords) (t : Fin (k0_t1_loop i).trips) (ht : t.val < 16) : k0_off1 i t 1 = 512 * t.val := by
  unfold k0_off1
  generalize t.val = n at ht
  interval_cases n <;> decide

theorem off1_2 (i : grid0.Coords) (t : Fin (k0_t1_loop i).trips) (ht : t.val < 16) : k0_off1 i t 2 = 0 := by
  unfold k0_off1
  generalize t.val = n at ht
  interval_cases n <;> decide

theorem off2_0 (i : grid0.Coords) (t : Fin (k0_t1_loop i).trips) (ht : t.val < 16) : k0_off2 i t 0 = 0 := by
  unfold k0_off2
  generalize t.val = n at ht
  interval_cases n <;> decide

theorem off2_1 (i : grid0.Coords) (t : Fin (k0_t1_loop i).trips) (ht : t.val < 16) : k0_off2 i t 1 = 0 := by
  unfold k0_off2
  generalize t.val = n at ht
  interval_cases n <;> decide

theorem off2_2 (i : grid0.Coords) (t : Fin (k0_t1_loop i).trips) (ht : t.val < 16) : k0_off2 i t 2 = 512 * t.val := by
  unfold k0_off2
  generalize t.val = n at ht
  interval_cases n <;> decide

theorem off3_0 (i : grid0.Coords) (t : Fin (k0_t1_loop i).trips) (ht : t.val < 16) : k0_off3 i t 0 = 0 := by
  unfold k0_off3
  generalize t.val = n at ht
  interval_cases n <;> decide

theorem off3_1 (i : grid0.Coords) (t : Fin (k0_t1_loop i).trips) (ht : t.val < 16) : k0_off3 i t 1 = 64 := by
  unfold k0_off3
  generalize t.val = n at ht
  interval_cases n <;> decide

theorem off3_2 (i : grid0.Coords) (t : Fin (k0_t1_loop i).trips) (ht : t.val < 16) : k0_off3 i t 2 = 512 * t.val := by
  unfold k0_off3
  generalize t.val = n at ht
  interval_cases n <;> decide

theorem off7_0 (i : grid0.Coords) : k0_off7 i 0 = 0 := by
  have hi := col_lt i
  unfold k0_off7
  generalize (i 1).val = n at hi
  interval_cases n <;> decide

theorem off7_1 (i : grid0.Coords) : k0_off7 i 1 = 512 * ((i 1).val / 2) := by
  have hi := col_lt i
  unfold k0_off7
  generalize (i 1).val = n at hi
  interval_cases n <;> decide

theorem off7_2 (i : grid0.Coords) : k0_off7 i 2 = 0 := by
  have hi := col_lt i
  unfold k0_off7
  generalize (i 1).val = n at hi
  interval_cases n <;> decide

theorem off8_0 (i : grid0.Coords) : k0_off8 i 0 = 0 := by
  have hi := col_lt i
  unfold k0_off8
  generalize (i 1).val = n at hi
  interval_cases n <;> decide

theorem off8_1 (i : grid0.Coords) : k0_off8 i 1 = 0 := by
  have hi := col_lt i
  unfold k0_off8
  generalize (i 1).val = n at hi
  interval_cases n <;> decide

theorem off8_2 (i : grid0.Coords) : k0_off8 i 2 = 512 * ((i 1).val / 2) := by
  have hi := col_lt i
  unfold k0_off8
  generalize (i 1).val = n at hi
  interval_cases n <;> decide

theorem off9_0 (i : grid0.Coords) : k0_off9 i 0 = 0 := by
  have hi := col_lt i
  unfold k0_off9
  generalize (i 1).val = n at hi
  interval_cases n <;> decide

theorem off9_1 (i : grid0.Coords) : k0_off9 i 1 = 64 := by
  have hi := col_lt i
  unfold k0_off9
  generalize (i 1).val = n at hi
  interval_cases n <;> decide

theorem off9_2 (i : grid0.Coords) : k0_off9 i 2 = 512 * ((i 1).val / 2) := by
  have hi := col_lt i
  unfold k0_off9
  generalize (i 1).val = n at hi
  interval_cases n <;> decide

theorem off10_0 (i : grid0.Coords) : k0_off10 i 0 = 0 := by
  have hi := col_lt i
  unfold k0_off10
  generalize (i 1).val = n at hi
  interval_cases n <;> decide

theorem off10_1 (i : grid0.Coords) : k0_off10 i 1 = 256 * ((i 1).val - 2) := by
  have hi := col_lt i
  unfold k0_off10
  generalize (i 1).val = n at hi
  interval_cases n <;> decide

theorem off10_2 (i : grid0.Coords) : k0_off10 i 2 = 128 := by
  have hi := col_lt i
  unfold k0_off10
  generalize (i 1).val = n at hi
  interval_cases n <;> decide

theorem off11_0 (i : grid0.Coords) : k0_off11 i 0 = 0 := by
  have hi := col_lt i
  unfold k0_off11
  generalize (i 1).val = n at hi
  interval_cases n <;> decide

theorem off11_1 (i : grid0.Coords) : k0_off11 i 1 = 128 := by
  have hi := col_lt i
  unfold k0_off11
  generalize (i 1).val = n at hi
  interval_cases n <;> decide

theorem off11_2 (i : grid0.Coords) : k0_off11 i 2 = 256 * ((i 1).val - 2) := by
  have hi := col_lt i
  unfold k0_off11
  generalize (i 1).val = n at hi
  interval_cases n <;> decide

theorem off12_0 (i : grid0.Coords) : k0_off12 i 0 = 0 := by
  have hi := col_lt i
  unfold k0_off12
  generalize (i 1).val = n at hi
  interval_cases n <;> decide

theorem off12_1 (i : grid0.Coords) : k0_off12 i 1 = 192 := by
  have hi := col_lt i
  unfold k0_off12
  generalize (i 1).val = n at hi
  interval_cases n <;> decide

theorem off12_2 (i : grid0.Coords) : k0_off12 i 2 = 256 * ((i 1).val - 2) := by
  have hi := col_lt i
  unfold k0_off12
  generalize (i 1).val = n at hi
  interval_cases n <;> decide

theorem ones_val (x : Fin 16) (k : Fin 512) : k0_pay136 (F := Ideal) (ix2 x k) = 1 := by
  pointwise [k0_pay136]

variable (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
  (x0 : Vec Ideal S1x512x256 .f32) (x1 : Vec Ideal S1x8192x256 .bf16) (x2 : Vec Ideal S1x256x8192 .bf16) (im0 im1 : FVec Ideal S128x256 .f32)

/-- One trip of the loop over full tiles. -/
theorem full_succ (t : Fin (k0_t1_loop i).trips) : (full c i arg2 harg2 arg3 harg3 arg4 harg4 arg5 harg5 arg6 harg6 arg7 harg7 arg8 harg8 arg9 harg9 x0 x1 x2 im0 im1 (t.val + 1))
    = (k0_pay56 i (qsel0 i arg2 harg2 x0 im0 im1) 0#32 1#32 t (full c i arg2 harg2 arg3 harg3 arg4 harg4 arg5 harg5 arg6 harg6 arg7 harg7 arg8 harg8 arg9 harg9 x0 x1 x2 im0 im1 t.val).1 (View.readAt (Elt Ideal) arg3.view (Rect.unit (s := S1x8192x256) (k0_off1 i t) S1x512x128.size (k0_off1_inb i t)).toLoadRect (harg3.unread x1)),
       k0_pay58 i (qsel1 i arg2 harg2 x0 im0 im1) 0#32 1#32 t (full c i arg2 harg2 arg3 harg3 arg4 harg4 arg5 harg5 arg6 harg6 arg7 harg7 arg8 harg8 arg9 harg9 x0 x1 x2 im0 im1 t.val).2.1 (View.readAt (Elt Ideal) arg3.view (Rect.unit (s := S1x8192x256) (k0_off1 i t) S1x512x128.size (k0_off1_inb i t)).toLoadRect (harg3.unread x1)),
       k0_pay57 i (qsel0 i arg2 harg2 x0 im0 im1) 0#32 1#32 t (full c i arg2 harg2 arg3 harg3 arg4 harg4 arg5 harg5 arg6 harg6 arg7 harg7 arg8 harg8 arg9 harg9 x0 x1 x2 im0 im1 t.val).1 (full c i arg2 harg2 arg3 harg3 arg4 harg4 arg5 harg5 arg6 harg6 arg7 harg7 arg8 harg8 arg9 harg9 x0 x1 x2 im0 im1 t.val).2.2.1 (View.readAt (Elt Ideal) arg3.view (Rect.unit (s := S1x8192x256) (k0_off1 i t) S1x512x128.size (k0_off1_inb i t)).toLoadRect (harg3.unread x1)) (View.readAt (Elt Ideal) arg4.view (Rect.unit (s := S1x256x8192) (k0_off2 i t) S1x64x512.size (k0_off2_inb i t)).toLoadRect (harg4.unread x2)),
       k0_pay133 (full c i arg2 harg2 arg3 harg3 arg4 harg4 arg5 harg5 arg6 harg6 arg7 harg7 arg8 harg8 arg9 harg9 x0 x1 x2 im0 im1 t.val).2.1 (full c i arg2 harg2 arg3 harg3 arg4 harg4 arg5 harg5 arg6 harg6 arg7 harg7 arg8 harg8 arg9 harg9 x0 x1 x2 im0 im1 t.val).2.2.2 (k0_pay53 (View.readAt (Elt Ideal) arg4.view (Rect.unit (s := S1x256x8192) (k0_off3 i t) S1x64x512.size (k0_off3_inb i t)).toLoadRect (harg4.unread x2))) (k0_pay55 i (qsel1 i arg2 harg2 x0 im0 im1) 0#32 1#32 t (View.readAt (Elt Ideal) arg3.view (Rect.unit (s := S1x8192x256) (k0_off1 i t) S1x512x128.size (k0_off1_inb i t)).toLoadRect (harg3.unread x1))) (k0_pay58 i (qsel1 i arg2 harg2 x0 im0 im1) 0#32 1#32 t (full c i arg2 harg2 arg3 harg3 arg4 harg4 arg5 harg5 arg6 harg6 arg7 harg7 arg8 harg8 arg9 harg9 x0 x1 x2 im0 im1 t.val).2.1 (View.readAt (Elt Ideal) arg3.view (Rect.unit (s := S1x8192x256) (k0_off1 i t) S1x512x128.size (k0_off1_inb i t)).toLoadRect (harg3.unread x1)))) := by
  have e : (full c i arg2 harg2 arg3 harg3 arg4 harg4 arg5 harg5 arg6 harg6 arg7 harg7 arg8 harg8 arg9 harg9 x0 x1 x2 im0 im1 (t.val + 1)) = tripR_k0_t1 Variants.none c none i arg2 harg2 arg3 harg3 arg4 harg4 arg5 harg5 arg6 harg6 arg7 harg7 arg8 harg8 arg9 harg9 (k0_pay67 i) (qsel0 i arg2 harg2 x0 im0 im1) (qsel1 i arg2 harg2 x0 im0 im1)
      k0_pay129 k0_pay130 k0_pay131 k0_pay132 (lastW i) (corrW i) (harg3.unread x1) (harg4.unread x2) t (full c i arg2 harg2 arg3 harg3 arg4 harg4 arg5 harg5 arg6 harg6 arg7 harg7 arg8 harg8 arg9 harg9 x0 x1 x2 im0 im1 t.val) := by
    unfold full
    exact st_k0_t1_succ ..
  rw [e]
  generalize (full c i arg2 harg2 arg3 harg3 arg4 harg4 arg5 harg5 arg6 harg6 arg7 harg7 arg8 harg8 arg9 harg9 x0 x1 x2 im0 im1 t.val) = p
  unfold tripR_k0_t1 trip_k0_t1
  rfl

/-- The loop's remainder makes no trip. -/
theorem state_eq : state c i arg2 harg2 arg3 harg3 arg4 harg4 arg5 harg5 arg6 harg6 arg7 harg7 arg8 harg8 arg9 harg9 x0 x1 x2 im0 im1 = (full c i arg2 harg2 arg3 harg3 arg4 harg4 arg5 harg5 arg6 harg6 arg7 harg7 arg8 harg8 arg9 harg9 x0 x1 x2 im0 im1 ((i 1).val / 2)) := by
  have h2 : Scf.trips (k0_t2_loop i).lb (k0_t2_loop i).ub (k0_t2_loop i).st = 0 := trips2 i
  have h1 : Scf.trips (k0_t1_loop i).lb (k0_t1_loop i).ub (k0_t1_loop i).st = (i 1).val / 2 := trips1 i
  unfold state
  rw [h2, h1]
  rfl

variable {x3 : Vec Ideal S1x2x512x64 .bf16} {x4 : Vec Ideal S1x2x64x512 .bf16} {x5 : Vec Ideal S128x512 .bf16} {x6 : Vec Ideal S1x128x256 .f32} {q : ℕ → ℕ → ℕ → ℝ} {kc ks kw : ℕ → ℕ → ℕ → ℝ} {vc vs vw : ℕ → ℕ → ℕ → EReal} {gl : ℕ → ℕ → EReal}

/-- The key rows a product reads. -/
def keyRow (kf : ℕ → ℕ → ℕ → ℝ) (k x : ℕ) : EReal := ((kf (x / 64) k (x % 64) : ℝ) : EReal)

/-- The values, with rows of ones below them. -/
def valRow (v : ℕ → ℕ → EReal) (d k : ℕ) : EReal := if d < 64 then v d k else 1

/-- Group 0's queries over its selection rows: the query part. -/
theorem qsel0_q (H : Holds (i 1).val x0 x1 x2 x3 x4 x5 x6 q kc ks kw vc vs vw gl) (x : Fin 128) (c : Fin 1024) : (qsel0 i arg2 harg2 x0 im0 im1) (ix2 ⟨x.val, by omega⟩ c) = rows0 (i 1).val q x.val c.val := by
  rw [← qpad0_val (i 1).val q arg2 harg2 x0 H.h0 x c]
  have hx := x.isLt
  unfold qsel0
  pointwise [k0_pay127, k0_pay125]

/-- Group 0's queries over its selection rows: the selection part. -/
theorem qsel0_b (x : Fin 128) (c : Fin 1024) : (qsel0 i arg2 harg2 x0 im0 im1) (ix2 ⟨128 + x.val, by omega⟩ c) = bias ((fun c j : ℕ => Taken i im0 im1 (c % 256) j) c.val x.val) := by
  have hx := x.isLt
  have hc := c.isLt
  rw [← open_val i im0 im1 x ⟨c.val, by omega⟩ (c.val % 256) (Or.inl ⟨hc, rfl⟩)]
  unfold qsel0
  have gen : ∀ X : Fin 256, X = ⟨128 + x.val, by omega⟩ → k0_pay127 (qpad0 arg2 harg2 x0) (qpad1 arg2 harg2 x0) (marks (scores i im0 im1) blockNo 15) (k0_pay85 (left (scores i im0 im1) blockNo 15) blockNo) (ix2 X c)
      = k0_pay124 (F := Ideal) (marks (scores i im0 im1) blockNo 15) (k0_pay85 (left (scores i im0 im1) blockNo 15) blockNo) (ix2 x ⟨c.val, by omega⟩) := by
    intro X hX
    pointwise [k0_pay127]
    have h1 : ¬ (X : ℕ) < 128 := by rw [hX]; simp only []; omega
    have h2 : (X : ℕ) - 128 = x := by rw [hX]; simp only []; omega
    simp only [dif_neg h1, h2]
  exact gen _ rfl

/-- Group 0's flash state after `n` full tiles. -/
theorem full0_val (H : Holds (i 1).val x0 x1 x2 x3 x4 x5 x6 q kc ks kw vc vs vw gl) (n : ℕ) (hn : n ≤ (i 1).val / 2) (d : Fin 80) (c' : Fin 1024) :
    IsFlash (512 * n) (sc2 (Seen (fun c : ℕ => 256 * (i 1).val + c % 256) (fun c j : ℕ => Taken i im0 im1 (c % 256) j) c'.val) ((fun c k : ℕ => score q (ks 0) (c / 256) (256 * (i 1).val + c % 256) k) c'.val)) (valRow (vs 0) d.val)
      ((full c i arg2 harg2 arg3 harg3 arg4 harg4 arg5 harg5 arg6 harg6 arg7 harg7 arg8 harg8 arg9 harg9 x0 x1 x2 im0 im1 n).1 (ix2 0 c')) ((full c i arg2 harg2 arg3 harg3 arg4 harg4 arg5 harg5 arg6 harg6 arg7 harg7 arg8 harg8 arg9 harg9 x0 x1 x2 im0 im1 n).2.2.1 (ix2 d c')) := by
  have hi := col_lt i
  induction n generalizing d c' with
  | zero =>
    have e : (full c i arg2 harg2 arg3 harg3 arg4 harg4 arg5 harg5 arg6 harg6 arg7 harg7 arg8 harg8 arg9 harg9 x0 x1 x2 im0 im1 0) = (k0_pay129, k0_pay130, k0_pay131, k0_pay132) := rfl
    have e1 : k0_pay129 (F := Ideal) (ix2 0 c') = ⊥ := by
      pointwise [k0_pay129]
      exact mask_bot
    have e2 : k0_pay131 (F := Ideal) (ix2 d c') = 0 := by
      pointwise [k0_pay131]
    rw [e]
    show IsFlash 0 _ _ (k0_pay129 (F := Ideal) (ix2 0 c')) (k0_pay131 (F := Ideal) (ix2 d c'))
    rw [e1, e2]
    exact isFlash_zero _ _
  | succ t ih =>
    have ht : t < (k0_t1_loop i).trips := by rw [trips1]; omega
    have h16 : t < 16 := by omega
    rw [full_succ c i arg2 harg2 arg3 harg3 arg4 harg4 arg5 harg5 arg6 harg6 arg7 harg7 arg8 harg8 arg9 harg9 x0 x1 x2 im0 im1 ⟨t, ht⟩]
    exact trip0 (fun c : ℕ => 256 * (i 1).val + c % 256) (fun c j : ℕ => Taken i im0 im1 (c % 256) j) (fun c k : ℕ => score q (ks 0) (c / 256) (256 * (i 1).val + c % 256) k) (keyRow ks) (rows0 (i 1).val q) (valRow (vs 0)) _
      (qsel0_q i arg2 harg2 x0 x1 x2 im0 im1 H) (qsel0_b i arg2 harg2 x0 im0 im1)
      (fun k c _ => dot128_0 (i 1).val q ks c.val k) (fun d k hd => if_neg (by omega)) i ⟨t, ht⟩ h16 _
      (fun k x => (rd3 arg3 harg3 x1 _ _ 0 k x 0 ⟨512 * t + k.val, by omega⟩ ⟨x.val, by omega⟩ (by rw [off1_0 i ⟨t, ht⟩ h16]; rfl)
        (by rw [off1_1 i ⟨t, ht⟩ h16]) (by rw [off1_2 i ⟨t, ht⟩ h16]; exact (Nat.zero_add _).symm)).trans (H.h1 _ x))
      (fun c => by show 512 * t + 511 ≤ 256 * (i 1).val + c.val % 256; omega) _
      (fun d k => (rd3 arg4 harg4 x2 _ _ 0 d k 0 ⟨0 + d.val, by omega⟩ ⟨512 * t + k.val, by omega⟩ (by rw [off2_0 i ⟨t, ht⟩ h16]; rfl)
        (by rw [off2_1 i ⟨t, ht⟩ h16]) (by rw [off2_2 i ⟨t, ht⟩ h16])).trans
        ((H.h2 ⟨0 + d.val, by omega⟩ _).trans (by
          have hd := d.isLt
          unfold valRow
          rw [if_pos hd]
          show vs ((0 + d.val) / 64) ((0 + d.val) % 64) _ = _
          rw [show (0 + d.val) / 64 = 0 by omega, show (0 + d.val) % 64 = d.val by omega])))
      _ _ (fun d c => ih (by omega) d c) d c'

/-- Group 0's selected attention. -/
theorem outSel0_val (H : Holds (i 1).val x0 x1 x2 x3 x4 x5 x6 q kc ks kw vc vs vw gl) (I : Imps q kc i im0 im1) (d : Fin 64) (c' : Fin 1024) :
    outSel c i arg2 harg2 arg3 harg3 arg4 harg4 arg5 harg5 arg6 harg6 arg7 harg7 arg8 harg8 arg9 harg9 x0 x1 x2 im0 im1 (ix2 d ⟨c'.val, by omega⟩)
      = outS q kc ks vs (c'.val / 256) d.val (256 * (i 1).val + c'.val % 256) := by
  have hi := col_lt i
  have hc := c'.isLt
  have hd := d.isLt
  unfold outSel
  rw [state_eq]
  refine (slc_fin0 (fun c : ℕ => 256 * (i 1).val + c % 256) (fun c j : ℕ => Taken i im0 im1 (c % 256) j) (fun c k : ℕ => score q (ks 0) (c / 256) (256 * (i 1).val + c % 256) k) (keyRow ks) (rows0 (i 1).val q) (valRow (vs 0)) _
      (qsel0_q i arg2 harg2 x0 x1 x2 im0 im1 H) (qsel0_b i arg2 harg2 x0 im0 im1)
      (fun k c _ => dot128_0 (i 1).val q ks c.val k) (fun d k hd => if_neg (by omega)) ((i 1).val / 2) (by omega)
      (fun c => by show 256 * (i 1).val + c.val % 256 < _; omega) (fun c => by show _ = 256 * (i 1).val + c % 256 % 256; rw [Nat.mod_mod])
      (fun c => by
        show Taken i im0 im1 (c.val % 256) ((256 * (i 1).val + c.val % 256) / 64)
        rw [taken_iff I _ _ (by omega) (by omega) (by omega)]
        rw [show 256 * (i 1).val + (c.val % 256) % 256 = 256 * (i 1).val + c.val % 256 by omega]
        exact chosen_self q kc _ _ (by omega))
      _ _ _ _ _ (full0_val c i arg2 harg2 arg3 harg3 arg4 harg4 arg5 harg5 arg6 harg6 arg7 harg7 arg8 harg8 arg9 harg9 x0 x1 x2 im0 im1 H ((i 1).val / 2) le_rfl) _
      (bias135 _ _ _ ((i 1).val / 2) (by omega) (last_val i) (fun c : ℕ => 256 * (i 1).val + c % 256) (fun c => by show 256 * (i 1).val + c % 256 < _; omega)
        (fun r => by rw [time_val]; show BitVec.ofNat 32 (256 * (i 1).val + r.val) = BitVec.ofNat 32 (256 * (i 1).val + r.val % 256); rw [Nat.mod_eq_of_lt r.isLt])) _
      (fun k => ones_val 0 k) _
      (fun k x => (row137 _ _ _ (by omega) (last_val i) _ k x).1.trans
        ((rd3 arg3 harg3 x1 _ _ 0 k x 0 ⟨512 * ((i 1).val / 2) + k.val, by omega⟩ ⟨x.val, by omega⟩ (by rw [off7_0 i]; rfl)
        (by rw [off7_1 i]) (by rw [off7_2 i]; exact (Nat.zero_add _).symm)).trans (H.h1 _ x)))
      (fun k x => (row137 _ _ _ (by omega) (last_val i) _ k x).2) _ _
      (fun d k => by
        pointwise [k0_pay138]
        by_cases hd : d.val < 64
        · rw [dif_pos hd]
          refine (rd3 arg4 harg4 x2 _ _ 0 ⟨d.val, hd⟩ k 0 ⟨0 + d.val, by omega⟩ ⟨512 * ((i 1).val / 2) + k.val, by omega⟩ (by rw [off8_0 i]; rfl)
            (by rw [off8_1 i]) (by rw [off8_2 i])).trans ((H.h2 ⟨0 + d.val, by omega⟩ _).trans ?_)
          have hd := d.isLt
          unfold valRow
          rw [if_pos (by omega)]
          show vs ((0 + d.val) / 64) ((0 + d.val) % 64) _ = _
          rw [show (0 + d.val) / 64 = 0 by omega, show (0 + d.val) % 64 = d.val by omega]
        · rw [dif_neg hd]; exact (ones_val _ k).trans (if_neg hd).symm)
      d c').trans ?_
  unfold outS
  rw [show (c'.val / 256) / 4 = 0 by omega]
  refine attn_congr _ _ _ _ _ _ _ (fun k hk => ?_) (fun k _ _ => rfl) (fun k _ _ => by unfold valRow; rw [if_pos hd])
  show (k ≤ 256 * (i 1).val + c'.val % 256 ∧ Taken i im0 im1 (c'.val % 256) (k / 64)) ↔ (k ≤ 256 * (i 1).val + c'.val % 256 ∧ Chosen q kc 0 (256 * (i 1).val + c'.val % 256) (k / 64))
  refine and_congr_right fun hkt => ?_
  rw [taken_iff I _ _ (by omega) (by omega) (by omega), show (c'.val % 256) / 256 = 0 by omega, show (c'.val % 256) % 256 = c'.val % 256 by omega]

/-- Group 0's window attention. -/
theorem outWin0_val (H : Holds (i 1).val x0 x1 x2 x3 x4 x5 x6 q kc ks kw vc vs vw gl) (d : Fin 64) (c' : Fin 1024) :
    outWin i arg2 harg2 arg3 harg3 arg4 harg4 x0 x1 x2 (ix2 d ⟨c'.val, by omega⟩)
      = outW q kw vw (c'.val / 256) d.val (256 * (i 1).val + c'.val % 256) := by
  have hi := col_lt i
  have hc := c'.isLt
  have hd := d.isLt
  unfold outWin
  refine (win_fin0 (fun c : ℕ => 256 * (i 1).val + c % 256) (fun c k : ℕ => score q (kw 0) (c / 256) (256 * (i 1).val + c % 256) k) (keyRow kw) (rows0 (i 1).val q) (vw 0) _
      (fun x c => by rw [← qpad0_val (i 1).val q arg2 harg2 x0 H.h0 x c]; pointwise [k0_pay125])
      (fun k c _ => dot128_0 (i 1).val q kw c.val k) _ _ (256 * ((i 1).val - 2)) (by omega) (winstart i)
      (fun c => by show 256 * (i 1).val + c % 256 < _; omega)
      (fun c => by show _ ≤ 256 * (i 1).val + c % 256 - 511 ∧ 256 * (i 1).val + c % 256 < _; omega)
      (fun c => by show _ = 256 * (i 1).val + c % 256 % 256; rw [Nat.mod_mod])
      (fun r => by rw [time_val]; show BitVec.ofNat 32 (256 * (i 1).val + r.val) = BitVec.ofNat 32 (256 * (i 1).val + r.val % 256); rw [Nat.mod_eq_of_lt r.isLt]) _
      (fun k x => (rd3 arg3 harg3 x1 _ _ 0 k x 0 ⟨256 * ((i 1).val - 2) + k.val, by omega⟩ ⟨128 + x.val, by omega⟩ (by rw [off10_0 i]; rfl)
        (by rw [off10_1 i]) (by rw [off10_2 i])).trans (H.h1' _ x)) _
      (fun d k => (rd3 arg4 harg4 x2 _ _ 0 d k 0 ⟨128 + d.val, by omega⟩ ⟨256 * ((i 1).val - 2) + k.val, by omega⟩ (by rw [off11_0 i]; rfl)
        (by rw [off11_1 i]) (by rw [off11_2 i])).trans (by
          have hd := d.isLt
          have e : (⟨128 + d.val, by omega⟩ : Fin 256) = ⟨128 + (⟨0 + d.val, by omega⟩ : Fin 128).val, by show 128 + (0 + d.val) < 256; omega⟩ := by
            apply Fin.ext; show 128 + d.val = 128 + (0 + d.val); omega
          rw [e, H.h2']
          show vw ((0 + d.val) / 64) ((0 + d.val) % 64) _ = _
          rw [show (0 + d.val) / 64 = 0 by omega, show (0 + d.val) % 64 = d.val by omega]))
      _ _ _ _ _ d c').trans ?_
  unfold outW
  rw [show (c'.val / 256) / 4 = 0 by omega]
  rfl

/-- Group 1's queries over its selection rows: the query part. -/
theorem qsel1_q (H : Holds (i 1).val x0 x1 x2 x3 x4 x5 x6 q kc ks kw vc vs vw gl) (x : Fin 128) (c : Fin 1024) : (qsel1 i arg2 harg2 x0 im0 im1) (ix2 ⟨x.val, by omega⟩ c) = rows1 (i 1).val q x.val c.val := by
  rw [← qpad1_val (i 1).val q arg2 harg2 x0 H.h0 x c]
  have hx := x.isLt
  unfold qsel1
  pointwise [k0_pay128, k0_pay126]

/-- Group 1's queries over its selection rows: the selection part. -/
theorem qsel1_b (x : Fin 128) (c : Fin 1024) : (qsel1 i arg2 harg2 x0 im0 im1) (ix2 ⟨128 + x.val, by omega⟩ c) = bias ((fun c j : ℕ => Taken i im0 im1 (256 + c % 256) j) c.val x.val) := by
  have hx := x.isLt
  have hc := c.isLt
  rw [← open_val i im0 im1 x ⟨1024 + c.val, by omega⟩ (256 + c.val % 256) (Or.inr ⟨Nat.le_add_right _ _, by show 256 + c.val % 256 = 256 + (1024 + c.val) % 256; omega⟩)]
  unfold qsel1
  have gen : ∀ X : Fin 256, X = ⟨128 + x.val, by omega⟩ → k0_pay128 (qpad0 arg2 harg2 x0) (qpad1 arg2 harg2 x0) (marks (scores i im0 im1) blockNo 15) (k0_pay85 (left (scores i im0 im1) blockNo 15) blockNo) (ix2 X c)
      = k0_pay124 (F := Ideal) (marks (scores i im0 im1) blockNo 15) (k0_pay85 (left (scores i im0 im1) blockNo 15) blockNo) (ix2 x ⟨1024 + c.val, by omega⟩) := by
    intro X hX
    pointwise [k0_pay128]
    have h1 : ¬ (X : ℕ) < 128 := by rw [hX]; simp only []; omega
    have h2 : (X : ℕ) - 128 = x := by rw [hX]; simp only []; omega
    simp only [dif_neg h1, h2]
  exact gen _ rfl

/-- Group 1's flash state after `n` full tiles. -/
theorem full1_val (H : Holds (i 1).val x0 x1 x2 x3 x4 x5 x6 q kc ks kw vc vs vw gl) (n : ℕ) (hn : n ≤ (i 1).val / 2) (d : Fin 80) (c' : Fin 1024) :
    IsFlash (512 * n) (sc2 (Seen (fun c : ℕ => 256 * (i 1).val + c % 256) (fun c j : ℕ => Taken i im0 im1 (256 + c % 256) j) c'.val) ((fun c k : ℕ => score q (ks 1) (4 + c / 256) (256 * (i 1).val + c % 256) k) c'.val)) (valRow (vs 1) d.val)
      ((full c i arg2 harg2 arg3 harg3 arg4 harg4 arg5 harg5 arg6 harg6 arg7 harg7 arg8 harg8 arg9 harg9 x0 x1 x2 im0 im1 n).2.1 (ix2 0 c')) ((full c i arg2 harg2 arg3 harg3 arg4 harg4 arg5 harg5 arg6 harg6 arg7 harg7 arg8 harg8 arg9 harg9 x0 x1 x2 im0 im1 n).2.2.2 (ix2 d c')) := by
  have hi := col_lt i
  induction n generalizing d c' with
  | zero =>
    have e : (full c i arg2 harg2 arg3 harg3 arg4 harg4 arg5 harg5 arg6 harg6 arg7 harg7 arg8 harg8 arg9 harg9 x0 x1 x2 im0 im1 0) = (k0_pay129, k0_pay130, k0_pay131, k0_pay132) := rfl
    have e1 : k0_pay130 (F := Ideal) (ix2 0 c') = ⊥ := by
      pointwise [k0_pay130]
      exact mask_bot
    have e2 : k0_pay132 (F := Ideal) (ix2 d c') = 0 := by
      pointwise [k0_pay132]
    rw [e]
    show IsFlash 0 _ _ (k0_pay130 (F := Ideal) (ix2 0 c')) (k0_pay132 (F := Ideal) (ix2 d c'))
    rw [e1, e2]
    exact isFlash_zero _ _
  | succ t ih =>
    have ht : t < (k0_t1_loop i).trips := by rw [trips1]; omega
    have h16 : t < 16 := by omega
    rw [full_succ c i arg2 harg2 arg3 harg3 arg4 harg4 arg5 harg5 arg6 harg6 arg7 harg7 arg8 harg8 arg9 harg9 x0 x1 x2 im0 im1 ⟨t, ht⟩]
    exact trip1 (fun c : ℕ => 256 * (i 1).val + c % 256) (fun c j : ℕ => Taken i im0 im1 (256 + c % 256) j) (fun c k : ℕ => score q (ks 1) (4 + c / 256) (256 * (i 1).val + c % 256) k) (keyRow ks) (rows1 (i 1).val q) (valRow (vs 1)) _
      (qsel1_q i arg2 harg2 x0 x1 x2 im0 im1 H) (qsel1_b i arg2 harg2 x0 im0 im1)
      (fun k c _ => dot128_1 (i 1).val q ks c.val k) (fun d k hd => if_neg (by omega)) i ⟨t, ht⟩ h16 _
      (fun k x => (rd3 arg3 harg3 x1 _ _ 0 k x 0 ⟨512 * t + k.val, by omega⟩ ⟨x.val, by omega⟩ (by rw [off1_0 i ⟨t, ht⟩ h16]; rfl)
        (by rw [off1_1 i ⟨t, ht⟩ h16]) (by rw [off1_2 i ⟨t, ht⟩ h16]; exact (Nat.zero_add _).symm)).trans (H.h1 _ x))
      (fun c => by show 512 * t + 511 ≤ 256 * (i 1).val + c.val % 256; omega) _
      (fun d k => (rd3 arg4 harg4 x2 _ _ 0 d k 0 ⟨64 + d.val, by omega⟩ ⟨512 * t + k.val, by omega⟩ (by rw [off3_0 i ⟨t, ht⟩ h16]; rfl)
        (by rw [off3_1 i ⟨t, ht⟩ h16]) (by rw [off3_2 i ⟨t, ht⟩ h16])).trans
        ((H.h2 ⟨64 + d.val, by omega⟩ _).trans (by
          have hd := d.isLt
          unfold valRow
          rw [if_pos hd]
          show vs ((64 + d.val) / 64) ((64 + d.val) % 64) _ = _
          rw [show (64 + d.val) / 64 = 1 by omega, show (64 + d.val) % 64 = d.val by omega])))
      _ _ (fun d c => ih (by omega) d c) d c'

/-- Group 1's selected attention. -/
theorem outSel1_val (H : Holds (i 1).val x0 x1 x2 x3 x4 x5 x6 q kc ks kw vc vs vw gl) (I : Imps q kc i im0 im1) (d : Fin 64) (c' : Fin 1024) :
    outSel c i arg2 harg2 arg3 harg3 arg4 harg4 arg5 harg5 arg6 harg6 arg7 harg7 arg8 harg8 arg9 harg9 x0 x1 x2 im0 im1 (ix2 d ⟨1024 + c'.val, by omega⟩)
      = outS q kc ks vs (4 + c'.val / 256) d.val (256 * (i 1).val + c'.val % 256) := by
  have hi := col_lt i
  have hc := c'.isLt
  have hd := d.isLt
  unfold outSel
  rw [state_eq]
  refine (slc_fin1 (fun c : ℕ => 256 * (i 1).val + c % 256) (fun c j : ℕ => Taken i im0 im1 (256 + c % 256) j) (fun c k : ℕ => score q (ks 1) (4 + c / 256) (256 * (i 1).val + c % 256) k) (keyRow ks) (rows1 (i 1).val q) (valRow (vs 1)) _
      (qsel1_q i arg2 harg2 x0 x1 x2 im0 im1 H) (qsel1_b i arg2 harg2 x0 im0 im1)
      (fun k c _ => dot128_1 (i 1).val q ks c.val k) (fun d k hd => if_neg (by omega)) ((i 1).val / 2) (by omega)
      (fun c => by show 256 * (i 1).val + c.val % 256 < _; omega) (fun c => by show _ = 256 * (i 1).val + c % 256 % 256; rw [Nat.mod_mod])
      (fun c => by
        show Taken i im0 im1 (256 + c.val % 256) ((256 * (i 1).val + c.val % 256) / 64)
        rw [taken_iff I _ _ (by omega) (by omega) (by omega)]
        rw [show 256 * (i 1).val + (256 + c.val % 256) % 256 = 256 * (i 1).val + c.val % 256 by omega]
        exact chosen_self q kc _ _ (by omega))
      _ _ _ _ _ (full1_val c i arg2 harg2 arg3 harg3 arg4 harg4 arg5 harg5 arg6 harg6 arg7 harg7 arg8 harg8 arg9 harg9 x0 x1 x2 im0 im1 H ((i 1).val / 2) le_rfl) _
      (bias135 _ _ _ ((i 1).val / 2) (by omega) (last_val i) (fun c : ℕ => 256 * (i 1).val + c % 256) (fun c => by show 256 * (i 1).val + c % 256 < _; omega)
        (fun r => by rw [time_val]; show BitVec.ofNat 32 (256 * (i 1).val + r.val) = BitVec.ofNat 32 (256 * (i 1).val + r.val % 256); rw [Nat.mod_eq_of_lt r.isLt])) _
      (fun k => ones_val 0 k) _
      (fun k x => (row137 _ _ _ (by omega) (last_val i) _ k x).1.trans
        ((rd3 arg3 harg3 x1 _ _ 0 k x 0 ⟨512 * ((i 1).val / 2) + k.val, by omega⟩ ⟨x.val, by omega⟩ (by rw [off7_0 i]; rfl)
        (by rw [off7_1 i]) (by rw [off7_2 i]; exact (Nat.zero_add _).symm)).trans (H.h1 _ x)))
      (fun k x => (row137 _ _ _ (by omega) (last_val i) _ k x).2) _ _
      (fun d k => by
        pointwise [k0_pay139]
        skip
        · skip
          refine (rd3 arg4 harg4 x2 _ _ 0 d k 0 ⟨64 + d.val, by omega⟩ ⟨512 * ((i 1).val / 2) + k.val, by omega⟩ (by rw [off9_0 i]; rfl)
            (by rw [off9_1 i]) (by rw [off9_2 i])).trans ((H.h2 ⟨64 + d.val, by omega⟩ _).trans ?_)
          have hd := d.isLt
          unfold valRow
          rw [if_pos (by omega)]
          show vs ((64 + d.val) / 64) ((64 + d.val) % 64) _ = _
          rw [show (64 + d.val) / 64 = 1 by omega, show (64 + d.val) % 64 = d.val by omega]
        )
      d c').trans ?_
  unfold outS
  rw [show (4 + c'.val / 256) / 4 = 1 by omega]
  refine attn_congr _ _ _ _ _ _ _ (fun k hk => ?_) (fun k _ _ => rfl) (fun k _ _ => by unfold valRow; rw [if_pos hd])
  show (k ≤ 256 * (i 1).val + c'.val % 256 ∧ Taken i im0 im1 (256 + c'.val % 256) (k / 64)) ↔ (k ≤ 256 * (i 1).val + c'.val % 256 ∧ Chosen q kc 1 (256 * (i 1).val + c'.val % 256) (k / 64))
  refine and_congr_right fun hkt => ?_
  rw [taken_iff I _ _ (by omega) (by omega) (by omega), show (256 + c'.val % 256) / 256 = 1 by omega, show (256 + c'.val % 256) % 256 = c'.val % 256 by omega]

/-- Group 1's window attention. -/
theorem outWin1_val (H : Holds (i 1).val x0 x1 x2 x3 x4 x5 x6 q kc ks kw vc vs vw gl) (d : Fin 64) (c' : Fin 1024) :
    outWin i arg2 harg2 arg3 harg3 arg4 harg4 x0 x1 x2 (ix2 d ⟨1024 + c'.val, by omega⟩)
      = outW q kw vw (4 + c'.val / 256) d.val (256 * (i 1).val + c'.val % 256) := by
  have hi := col_lt i
  have hc := c'.isLt
  have hd := d.isLt
  unfold outWin
  refine (win_fin1 (fun c : ℕ => 256 * (i 1).val + c % 256) (fun c k : ℕ => score q (kw 1) (4 + c / 256) (256 * (i 1).val + c % 256) k) (keyRow kw) (rows1 (i 1).val q) (vw 1) _
      (fun x c => by rw [← qpad1_val (i 1).val q arg2 harg2 x0 H.h0 x c]; pointwise [k0_pay126])
      (fun k c _ => dot128_1 (i 1).val q kw c.val k) _ _ (256 * ((i 1).val - 2)) (by omega) (winstart i)
      (fun c => by show 256 * (i 1).val + c % 256 < _; omega)
      (fun c => by show _ ≤ 256 * (i 1).val + c % 256 - 511 ∧ 256 * (i 1).val + c % 256 < _; omega)
      (fun c => by show _ = 256 * (i 1).val + c % 256 % 256; rw [Nat.mod_mod])
      (fun r => by rw [time_val]; show BitVec.ofNat 32 (256 * (i 1).val + r.val) = BitVec.ofNat 32 (256 * (i 1).val + r.val % 256); rw [Nat.mod_eq_of_lt r.isLt]) _
      (fun k x => (rd3 arg3 harg3 x1 _ _ 0 k x 0 ⟨256 * ((i 1).val - 2) + k.val, by omega⟩ ⟨128 + x.val, by omega⟩ (by rw [off10_0 i]; rfl)
        (by rw [off10_1 i]) (by rw [off10_2 i])).trans (H.h1' _ x)) _
      (fun d k => (rd3 arg4 harg4 x2 _ _ 0 d k 0 ⟨192 + d.val, by omega⟩ ⟨256 * ((i 1).val - 2) + k.val, by omega⟩ (by rw [off12_0 i]; rfl)
        (by rw [off12_1 i]) (by rw [off12_2 i])).trans (by
          have hd := d.isLt
          have e : (⟨192 + d.val, by omega⟩ : Fin 256) = ⟨128 + (⟨64 + d.val, by omega⟩ : Fin 128).val, by show 128 + (64 + d.val) < 256; omega⟩ := by
            apply Fin.ext; show 192 + d.val = 128 + (64 + d.val); omega
          rw [e, H.h2']
          show vw ((64 + d.val) / 64) ((64 + d.val) % 64) _ = _
          rw [show (64 + d.val) / 64 = 1 by omega, show (64 + d.val) % 64 = d.val by omega]))
      _ d c').trans ?_
  unfold outW
  rw [show (4 + c'.val / 256) / 4 = 1 by omega]
  rfl

end Cert.Attn
-- ==== Proof.TailA.lean ====
/-
Branch 0 of the switch: the body stores what the one form says.
-/
module

public import proofs.«01_k».proof.Proof.Tail

@[expose] public section

set_option maxRecDepth 16384

noncomputable section

namespace Cert.Attn

open Cert.KernelIdeal Cert.KernelIdeal.Gen Cert.KernelIdeal.Own
open Idealize.ShloMosaic Idealize.ShloMosaic.TcCoe
open Idealize.SL.Sem

variable (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
  (x0 : Vec Ideal S1x512x256 .f32) (x1 : Vec Ideal S1x8192x256 .bf16) (x2 : Vec Ideal S1x256x8192 .bf16) (x3 : Vec Ideal S1x2x512x64 .bf16) (x4 : Vec Ideal S1x2x64x512 .bf16) (x5 : Vec Ideal S128x512 .bf16) (x6 : Vec Ideal S1x128x256 .f32)

/-- Group 0's compressed attention in this branch. -/
def oc0A : FVec Ideal S64x1024 .f32 := k0_pay40 (k0_pay71 i) (k0_pay75 (k0_pay73 (View.readAt (Elt Ideal) arg2.view (Rect.unit (s := S1x512x256) ![0, 0, 0] S1x64x256.size inb_S1x512x256_S1x64x256_0_0_0).toLoadRect (harg2.unread x0))) (k0_pay74 (View.readAt (Elt Ideal) arg2.view (Rect.unit (s := S1x512x256) ![0, 64, 0] S1x64x256.size inb_S1x512x256_S1x64x256_0_64_0).toLoadRect (harg2.unread x0))) (View.readAt (Elt Ideal) arg2.view (Rect.unit (s := S1x512x256) ![0, 128, 0] S1x64x256.size inb_S1x512x256_S1x64x256_0_128_0).toLoadRect (harg2.unread x0)) (View.readAt (Elt Ideal) arg2.view (Rect.unit (s := S1x512x256) ![0, 192, 0] S1x64x256.size inb_S1x512x256_S1x64x256_0_192_0).toLoadRect (harg2.unread x0))) (View.readAt (Elt Ideal) arg5.view (Rect.unit (s := S1x2x512x64) ![0, 0, 0, 0] S1x1x128x64.size inb_S1x2x512x64_S1x1x128x64_0_0_0_0).toLoadRect (harg5.unread x3)) (View.readAt (Elt Ideal) arg6.view (Rect.unit (s := S1x2x64x512) ![0, 0, 0, 0] S1x1x64x128.size inb_S1x2x64x512_S1x1x64x128_0_0_0_0).toLoadRect (harg6.unread x4))
/-- Group 1's compressed attention in this branch. -/
def oc1A : FVec Ideal S64x1024 .f32 := k0_pay47 (k0_pay71 i) (k0_pay76 (View.readAt (Elt Ideal) arg2.view (Rect.unit (s := S1x512x256) ![0, 256, 0] S1x64x256.size inb_S1x512x256_S1x64x256_0_256_0).toLoadRect (harg2.unread x0)) (View.readAt (Elt Ideal) arg2.view (Rect.unit (s := S1x512x256) ![0, 320, 0] S1x64x256.size inb_S1x512x256_S1x64x256_0_320_0).toLoadRect (harg2.unread x0)) (View.readAt (Elt Ideal) arg2.view (Rect.unit (s := S1x512x256) ![0, 384, 0] S1x64x256.size inb_S1x512x256_S1x64x256_0_384_0).toLoadRect (harg2.unread x0)) (View.readAt (Elt Ideal) arg2.view (Rect.unit (s := S1x512x256) ![0, 448, 0] S1x64x256.size inb_S1x512x256_S1x64x256_0_448_0).toLoadRect (harg2.unread x0))) (View.readAt (Elt Ideal) arg5.view (Rect.unit (s := S1x2x512x64) ![0, 1, 0, 0] S1x1x128x64.size inb_S1x2x512x64_S1x1x128x64_0_1_0_0).toLoadRect (harg5.unread x3)) (View.readAt (Elt Ideal) arg6.view (Rect.unit (s := S1x2x64x512) ![0, 1, 0, 0] S1x1x64x128.size inb_S1x2x64x512_S1x1x64x128_0_1_0_0).toLoadRect (harg6.unread x4))
/-- Group 0's importances in this branch. -/
def im0A : FVec Ideal S128x256 .f32 := k0_pay45 (k0_pay43 (k0_pay71 i) (k0_pay75 (k0_pay73 (View.readAt (Elt Ideal) arg2.view (Rect.unit (s := S1x512x256) ![0, 0, 0] S1x64x256.size inb_S1x512x256_S1x64x256_0_0_0).toLoadRect (harg2.unread x0))) (k0_pay74 (View.readAt (Elt Ideal) arg2.view (Rect.unit (s := S1x512x256) ![0, 64, 0] S1x64x256.size inb_S1x512x256_S1x64x256_0_64_0).toLoadRect (harg2.unread x0))) (View.readAt (Elt Ideal) arg2.view (Rect.unit (s := S1x512x256) ![0, 128, 0] S1x64x256.size inb_S1x512x256_S1x64x256_0_128_0).toLoadRect (harg2.unread x0)) (View.readAt (Elt Ideal) arg2.view (Rect.unit (s := S1x512x256) ![0, 192, 0] S1x64x256.size inb_S1x512x256_S1x64x256_0_192_0).toLoadRect (harg2.unread x0))) (View.readAt (Elt Ideal) arg5.view (Rect.unit (s := S1x2x512x64) ![0, 0, 0, 0] S1x1x128x64.size inb_S1x2x512x64_S1x1x128x64_0_0_0_0).toLoadRect (harg5.unread x3))) (k0_pay44 (k0_pay71 i) (k0_pay75 (k0_pay73 (View.readAt (Elt Ideal) arg2.view (Rect.unit (s := S1x512x256) ![0, 0, 0] S1x64x256.size inb_S1x512x256_S1x64x256_0_0_0).toLoadRect (harg2.unread x0))) (k0_pay74 (View.readAt (Elt Ideal) arg2.view (Rect.unit (s := S1x512x256) ![0, 64, 0] S1x64x256.size inb_S1x512x256_S1x64x256_0_64_0).toLoadRect (harg2.unread x0))) (View.readAt (Elt Ideal) arg2.view (Rect.unit (s := S1x512x256) ![0, 128, 0] S1x64x256.size inb_S1x512x256_S1x64x256_0_128_0).toLoadRect (harg2.unread x0)) (View.readAt (Elt Ideal) arg2.view (Rect.unit (s := S1x512x256) ![0, 192, 0] S1x64x256.size inb_S1x512x256_S1x64x256_0_192_0).toLoadRect (harg2.unread x0))) (View.readAt (Elt Ideal) arg5.view (Rect.unit (s := S1x2x512x64) ![0, 0, 0, 0] S1x1x128x64.size inb_S1x2x512x64_S1x1x128x64_0_0_0_0).toLoadRect (harg5.unread x3)) (View.readAt (Elt Ideal) arg7.view (Rect.unit (s := S128x512) ![0, 0] S128x128.size inb_S128x512_S128x128_0_0).toLoadRect (harg7.unread x5))) (View.readAt (Elt Ideal) arg7.view (Rect.unit (s := S128x512) ![0, 0] S128x128.size inb_S128x512_S128x128_0_0).toLoadRect (harg7.unread x5))
/-- Group 1's importances in this branch. -/
def im1A : FVec Ideal S128x256 .f32 := k0_pay82 (k0_pay49 (k0_pay71 i) (k0_pay76 (View.readAt (Elt Ideal) arg2.view (Rect.unit (s := S1x512x256) ![0, 256, 0] S1x64x256.size inb_S1x512x256_S1x64x256_0_256_0).toLoadRect (harg2.unread x0)) (View.readAt (Elt Ideal) arg2.view (Rect.unit (s := S1x512x256) ![0, 320, 0] S1x64x256.size inb_S1x512x256_S1x64x256_0_320_0).toLoadRect (harg2.unread x0)) (View.readAt (Elt Ideal) arg2.view (Rect.unit (s := S1x512x256) ![0, 384, 0] S1x64x256.size inb_S1x512x256_S1x64x256_0_384_0).toLoadRect (harg2.unread x0)) (View.readAt (Elt Ideal) arg2.view (Rect.unit (s := S1x512x256) ![0, 448, 0] S1x64x256.size inb_S1x512x256_S1x64x256_0_448_0).toLoadRect (harg2.unread x0))) (View.readAt (Elt Ideal) arg5.view (Rect.unit (s := S1x2x512x64) ![0, 1, 0, 0] S1x1x128x64.size inb_S1x2x512x64_S1x1x128x64_0_1_0_0).toLoadRect (harg5.unread x3))) (k0_pay50 (k0_pay71 i) (k0_pay76 (View.readAt (Elt Ideal) arg2.view (Rect.unit (s := S1x512x256) ![0, 256, 0] S1x64x256.size inb_S1x512x256_S1x64x256_0_256_0).toLoadRect (harg2.unread x0)) (View.readAt (Elt Ideal) arg2.view (Rect.unit (s := S1x512x256) ![0, 320, 0] S1x64x256.size inb_S1x512x256_S1x64x256_0_320_0).toLoadRect (harg2.unread x0)) (View.readAt (Elt Ideal) arg2.view (Rect.unit (s := S1x512x256) ![0, 384, 0] S1x64x256.size inb_S1x512x256_S1x64x256_0_384_0).toLoadRect (harg2.unread x0)) (View.readAt (Elt Ideal) arg2.view (Rect.unit (s := S1x512x256) ![0, 448, 0] S1x64x256.size inb_S1x512x256_S1x64x256_0_448_0).toLoadRect (harg2.unread x0))) (View.readAt (Elt Ideal) arg5.view (Rect.unit (s := S1x2x512x64) ![0, 1, 0, 0] S1x1x128x64.size inb_S1x2x512x64_S1x1x128x64_0_1_0_0).toLoadRect (harg5.unread x3))) (View.readAt (Elt Ideal) arg7.view (Rect.unit (s := S128x512) ![0, 0] S128x128.size inb_S128x512_S128x128_0_0).toLoadRect (harg7.unread x5)) (View.readAt (Elt Ideal) arg7.view (Rect.unit (s := S128x512) ![0, 0] S128x128.size inb_S128x512_S128x128_0_0).toLoadRect (harg7.unread x5))

/-- What branch 0 stores. -/
theorem runA_stored (hc1 : ¬ Scalar.cmpi .ne (tierW i) 0#32 = 1#1) :
    (runA c i arg2 harg2 arg3 harg3 arg4 harg4 arg5 harg5 arg6 harg6 arg7 harg7 arg8 harg8 arg9 harg9 hc1 x0 x1 x2 x3 x4 x5 x6).1 = stored c i arg2 harg2 arg3 harg3 arg4 harg4 arg5 harg5 arg6 harg6 arg7 harg7 arg8 harg8 arg9 harg9 x0 x1 x2 x6 (oc0A i arg2 harg2 arg5 harg5 arg6 harg6 x0 x3 x4) (oc1A i arg2 harg2 arg5 harg5 arg6 harg6 x0 x3 x4)
      (im0A i arg2 harg2 arg5 harg5 arg7 harg7 x0 x3 x5) (im1A i arg2 harg2 arg5 harg5 arg7 harg7 x0 x3 x5) := by
  rfl

end Cert.Attn
-- ==== Proof.TailB.lean ====
/-
Branch 1 of the switch: the body stores what the one form says.
-/
module

public import proofs.«01_k».proof.Proof.Tail

@[expose] public section

set_option maxRecDepth 16384

noncomputable section

namespace Cert.Attn

open Cert.KernelIdeal Cert.KernelIdeal.Gen Cert.KernelIdeal.Own
open Idealize.ShloMosaic Idealize.ShloMosaic.TcCoe
open Idealize.SL.Sem

variable (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
  (x0 : Vec Ideal S1x512x256 .f32) (x1 : Vec Ideal S1x8192x256 .bf16) (x2 : Vec Ideal S1x256x8192 .bf16) (x3 : Vec Ideal S1x2x512x64 .bf16) (x4 : Vec Ideal S1x2x64x512 .bf16) (x5 : Vec Ideal S128x512 .bf16) (x6 : Vec Ideal S1x128x256 .f32)

/-- Group 0's compressed attention in this branch. -/
def oc0B : FVec Ideal S64x1024 .f32 := k0_pay28 (k0_pay71 i) (k0_pay75 (k0_pay73 (View.readAt (Elt Ideal) arg2.view (Rect.unit (s := S1x512x256) ![0, 0, 0] S1x64x256.size inb_S1x512x256_S1x64x256_0_0_0).toLoadRect (harg2.unread x0))) (k0_pay74 (View.readAt (Elt Ideal) arg2.view (Rect.unit (s := S1x512x256) ![0, 64, 0] S1x64x256.size inb_S1x512x256_S1x64x256_0_64_0).toLoadRect (harg2.unread x0))) (View.readAt (Elt Ideal) arg2.view (Rect.unit (s := S1x512x256) ![0, 128, 0] S1x64x256.size inb_S1x512x256_S1x64x256_0_128_0).toLoadRect (harg2.unread x0)) (View.readAt (Elt Ideal) arg2.view (Rect.unit (s := S1x512x256) ![0, 192, 0] S1x64x256.size inb_S1x512x256_S1x64x256_0_192_0).toLoadRect (harg2.unread x0))) (View.readAt (Elt Ideal) arg5.view (Rect.unit (s := S1x2x512x64) ![0, 0, 0, 0] S1x1x256x64.size inb_S1x2x512x64_S1x1x256x64_0_0_0_0).toLoadRect (harg5.unread x3)) (View.readAt (Elt Ideal) arg6.view (Rect.unit (s := S1x2x64x512) ![0, 0, 0, 0] S1x1x64x256.size inb_S1x2x64x512_S1x1x64x256_0_0_0_0).toLoadRect (harg6.unread x4))
/-- Group 1's compressed attention in this branch. -/
def oc1B : FVec Ideal S64x1024 .f32 := k0_pay35 (k0_pay71 i) (k0_pay76 (View.readAt (Elt Ideal) arg2.view (Rect.unit (s := S1x512x256) ![0, 256, 0] S1x64x256.size inb_S1x512x256_S1x64x256_0_256_0).toLoadRect (harg2.unread x0)) (View.readAt (Elt Ideal) arg2.view (Rect.unit (s := S1x512x256) ![0, 320, 0] S1x64x256.size inb_S1x512x256_S1x64x256_0_320_0).toLoadRect (harg2.unread x0)) (View.readAt (Elt Ideal) arg2.view (Rect.unit (s := S1x512x256) ![0, 384, 0] S1x64x256.size inb_S1x512x256_S1x64x256_0_384_0).toLoadRect (harg2.unread x0)) (View.readAt (Elt Ideal) arg2.view (Rect.unit (s := S1x512x256) ![0, 448, 0] S1x64x256.size inb_S1x512x256_S1x64x256_0_448_0).toLoadRect (harg2.unread x0))) (View.readAt (Elt Ideal) arg5.view (Rect.unit (s := S1x2x512x64) ![0, 1, 0, 0] S1x1x256x64.size inb_S1x2x512x64_S1x1x256x64_0_1_0_0).toLoadRect (harg5.unread x3)) (View.readAt (Elt Ideal) arg6.view (Rect.unit (s := S1x2x64x512) ![0, 1, 0, 0] S1x1x64x256.size inb_S1x2x64x512_S1x1x64x256_0_1_0_0).toLoadRect (harg6.unread x4))
/-- Group 0's importances in this branch. -/
def im0B : FVec Ideal S128x256 .f32 := k0_pay33 (k0_pay31 (k0_pay71 i) (k0_pay75 (k0_pay73 (View.readAt (Elt Ideal) arg2.view (Rect.unit (s := S1x512x256) ![0, 0, 0] S1x64x256.size inb_S1x512x256_S1x64x256_0_0_0).toLoadRect (harg2.unread x0))) (k0_pay74 (View.readAt (Elt Ideal) arg2.view (Rect.unit (s := S1x512x256) ![0, 64, 0] S1x64x256.size inb_S1x512x256_S1x64x256_0_64_0).toLoadRect (harg2.unread x0))) (View.readAt (Elt Ideal) arg2.view (Rect.unit (s := S1x512x256) ![0, 128, 0] S1x64x256.size inb_S1x512x256_S1x64x256_0_128_0).toLoadRect (harg2.unread x0)) (View.readAt (Elt Ideal) arg2.view (Rect.unit (s := S1x512x256) ![0, 192, 0] S1x64x256.size inb_S1x512x256_S1x64x256_0_192_0).toLoadRect (harg2.unread x0))) (View.readAt (Elt Ideal) arg5.view (Rect.unit (s := S1x2x512x64) ![0, 0, 0, 0] S1x1x256x64.size inb_S1x2x512x64_S1x1x256x64_0_0_0_0).toLoadRect (harg5.unread x3))) (k0_pay32 (k0_pay71 i) (k0_pay75 (k0_pay73 (View.readAt (Elt Ideal) arg2.view (Rect.unit (s := S1x512x256) ![0, 0, 0] S1x64x256.size inb_S1x512x256_S1x64x256_0_0_0).toLoadRect (harg2.unread x0))) (k0_pay74 (View.readAt (Elt Ideal) arg2.view (Rect.unit (s := S1x512x256) ![0, 64, 0] S1x64x256.size inb_S1x512x256_S1x64x256_0_64_0).toLoadRect (harg2.unread x0))) (View.readAt (Elt Ideal) arg2.view (Rect.unit (s := S1x512x256) ![0, 128, 0] S1x64x256.size inb_S1x512x256_S1x64x256_0_128_0).toLoadRect (harg2.unread x0)) (View.readAt (Elt Ideal) arg2.view (Rect.unit (s := S1x512x256) ![0, 192, 0] S1x64x256.size inb_S1x512x256_S1x64x256_0_192_0).toLoadRect (harg2.unread x0))) (View.readAt (Elt Ideal) arg5.view (Rect.unit (s := S1x2x512x64) ![0, 0, 0, 0] S1x1x256x64.size inb_S1x2x512x64_S1x1x256x64_0_0_0_0).toLoadRect (harg5.unread x3)) (View.readAt (Elt Ideal) arg7.view (Rect.unit (s := S128x512) ![0, 0] S128x256.size inb_S128x512_S128x256_0_0).toLoadRect (harg7.unread x5))) (View.readAt (Elt Ideal) arg7.view (Rect.unit (s := S128x512) ![0, 0] S128x256.size inb_S128x512_S128x256_0_0).toLoadRect (harg7.unread x5))
/-- Group 1's importances in this branch. -/
def im1B : FVec Ideal S128x256 .f32 := k0_pay81 (k0_pay37 (k0_pay71 i) (k0_pay76 (View.readAt (Elt Ideal) arg2.view (Rect.unit (s := S1x512x256) ![0, 256, 0] S1x64x256.size inb_S1x512x256_S1x64x256_0_256_0).toLoadRect (harg2.unread x0)) (View.readAt (Elt Ideal) arg2.view (Rect.unit (s := S1x512x256) ![0, 320, 0] S1x64x256.size inb_S1x512x256_S1x64x256_0_320_0).toLoadRect (harg2.unread x0)) (View.readAt (Elt Ideal) arg2.view (Rect.unit (s := S1x512x256) ![0, 384, 0] S1x64x256.size inb_S1x512x256_S1x64x256_0_384_0).toLoadRect (harg2.unread x0)) (View.readAt (Elt Ideal) arg2.view (Rect.unit (s := S1x512x256) ![0, 448, 0] S1x64x256.size inb_S1x512x256_S1x64x256_0_448_0).toLoadRect (harg2.unread x0))) (View.readAt (Elt Ideal) arg5.view (Rect.unit (s := S1x2x512x64) ![0, 1, 0, 0] S1x1x256x64.size inb_S1x2x512x64_S1x1x256x64_0_1_0_0).toLoadRect (harg5.unread x3))) (k0_pay38 (k0_pay71 i) (k0_pay76 (View.readAt (Elt Ideal) arg2.view (Rect.unit (s := S1x512x256) ![0, 256, 0] S1x64x256.size inb_S1x512x256_S1x64x256_0_256_0).toLoadRect (harg2.unread x0)) (View.readAt (Elt Ideal) arg2.view (Rect.unit (s := S1x512x256) ![0, 320, 0] S1x64x256.size inb_S1x512x256_S1x64x256_0_320_0).toLoadRect (harg2.unread x0)) (View.readAt (Elt Ideal) arg2.view (Rect.unit (s := S1x512x256) ![0, 384, 0] S1x64x256.size inb_S1x512x256_S1x64x256_0_384_0).toLoadRect (harg2.unread x0)) (View.readAt (Elt Ideal) arg2.view (Rect.unit (s := S1x512x256) ![0, 448, 0] S1x64x256.size inb_S1x512x256_S1x64x256_0_448_0).toLoadRect (harg2.unread x0))) (View.readAt (Elt Ideal) arg5.view (Rect.unit (s := S1x2x512x64) ![0, 1, 0, 0] S1x1x256x64.size inb_S1x2x512x64_S1x1x256x64_0_1_0_0).toLoadRect (harg5.unread x3))) (View.readAt (Elt Ideal) arg7.view (Rect.unit (s := S128x512) ![0, 0] S128x256.size inb_S128x512_S128x256_0_0).toLoadRect (harg7.unread x5)) (View.readAt (Elt Ideal) arg7.view (Rect.unit (s := S128x512) ![0, 0] S128x256.size inb_S128x512_S128x256_0_0).toLoadRect (harg7.unread x5))

/-- What branch 1 stores. -/
theorem runB_stored (hc1 : Scalar.cmpi .ne (tierW i) 0#32 = 1#1) (hc2 : ¬ Scalar.cmpi .ne (Scalar.subi (tierW i) 1#32) 0#32 = 1#1) :
    (runB c i arg2 harg2 arg3 harg3 arg4 harg4 arg5 harg5 arg6 harg6 arg7 harg7 arg8 harg8 arg9 harg9 hc1 hc2 x0 x1 x2 x3 x4 x5 x6).1 = stored c i arg2 harg2 arg3 harg3 arg4 harg4 arg5 harg5 arg6 harg6 arg7 harg7 arg8 harg8 arg9 harg9 x0 x1 x2 x6 (oc0B i arg2 harg2 arg5 harg5 arg6 harg6 x0 x3 x4) (oc1B i arg2 harg2 arg5 harg5 arg6 harg6 x0 x3 x4)
      (im0B i arg2 harg2 arg5 harg5 arg7 harg7 x0 x3 x5) (im1B i arg2 harg2 arg5 harg5 arg7 harg7 x0 x3 x5) := by
  rfl

end Cert.Attn
-- ==== Proof.TailC.lean ====
/-
Branch 2 of the switch: the body stores what the one form says.
-/
module

public import proofs.«01_k».proof.Proof.Tail

@[expose] public section

set_option maxRecDepth 16384

noncomputable section

namespace Cert.Attn

open Cert.KernelIdeal Cert.KernelIdeal.Gen Cert.KernelIdeal.Own
open Idealize.ShloMosaic Idealize.ShloMosaic.TcCoe
open Idealize.SL.Sem

variable (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
  (x0 : Vec Ideal S1x512x256 .f32) (x1 : Vec Ideal S1x8192x256 .bf16) (x2 : Vec Ideal S1x256x8192 .bf16) (x3 : Vec Ideal S1x2x512x64 .bf16) (x4 : Vec Ideal S1x2x64x512 .bf16) (x5 : Vec Ideal S128x512 .bf16) (x6 : Vec Ideal S1x128x256 .f32)

/-- Group 0's compressed attention in this branch. -/
def oc0C : FVec Ideal S64x1024 .f32 := k0_pay16 (k0_pay71 i) (k0_pay75 (k0_pay73 (View.readAt (Elt Ideal) arg2.view (Rect.unit (s := S1x512x256) ![0, 0, 0] S1x64x256.size inb_S1x512x256_S1x64x256_0_0_0).toLoadRect (harg2.unread x0))) (k0_pay74 (View.readAt (Elt Ideal) arg2.view (Rect.unit (s := S1x512x256) ![0, 64, 0] S1x64x256.size inb_S1x512x256_S1x64x256_0_64_0).toLoadRect (harg2.unread x0))) (View.readAt (Elt Ideal) arg2.view (Rect.unit (s := S1x512x256) ![0, 128, 0] S1x64x256.size inb_S1x512x256_S1x64x256_0_128_0).toLoadRect (harg2.unread x0)) (View.readAt (Elt Ideal) arg2.view (Rect.unit (s := S1x512x256) ![0, 192, 0] S1x64x256.size inb_S1x512x256_S1x64x256_0_192_0).toLoadRect (harg2.unread x0))) (View.readAt (Elt Ideal) arg5.view (Rect.unit (s := S1x2x512x64) ![0, 0, 0, 0] S1x1x384x64.size inb_S1x2x512x64_S1x1x384x64_0_0_0_0).toLoadRect (harg5.unread x3)) (View.readAt (Elt Ideal) arg6.view (Rect.unit (s := S1x2x64x512) ![0, 0, 0, 0] S1x1x64x384.size inb_S1x2x64x512_S1x1x64x384_0_0_0_0).toLoadRect (harg6.unread x4))
/-- Group 1's compressed attention in this branch. -/
def oc1C : FVec Ideal S64x1024 .f32 := k0_pay23 (k0_pay71 i) (k0_pay76 (View.readAt (Elt Ideal) arg2.view (Rect.unit (s := S1x512x256) ![0, 256, 0] S1x64x256.size inb_S1x512x256_S1x64x256_0_256_0).toLoadRect (harg2.unread x0)) (View.readAt (Elt Ideal) arg2.view (Rect.unit (s := S1x512x256) ![0, 320, 0] S1x64x256.size inb_S1x512x256_S1x64x256_0_320_0).toLoadRect (harg2.unread x0)) (View.readAt (Elt Ideal) arg2.view (Rect.unit (s := S1x512x256) ![0, 384, 0] S1x64x256.size inb_S1x512x256_S1x64x256_0_384_0).toLoadRect (harg2.unread x0)) (View.readAt (Elt Ideal) arg2.view (Rect.unit (s := S1x512x256) ![0, 448, 0] S1x64x256.size inb_S1x512x256_S1x64x256_0_448_0).toLoadRect (harg2.unread x0))) (View.readAt (Elt Ideal) arg5.view (Rect.unit (s := S1x2x512x64) ![0, 1, 0, 0] S1x1x384x64.size inb_S1x2x512x64_S1x1x384x64_0_1_0_0).toLoadRect (harg5.unread x3)) (View.readAt (Elt Ideal) arg6.view (Rect.unit (s := S1x2x64x512) ![0, 1, 0, 0] S1x1x64x384.size inb_S1x2x64x512_S1x1x64x384_0_1_0_0).toLoadRect (harg6.unread x4))
/-- Group 0's importances in this branch. -/
def im0C : FVec Ideal S128x256 .f32 := k0_pay21 (k0_pay19 (k0_pay71 i) (k0_pay75 (k0_pay73 (View.readAt (Elt Ideal) arg2.view (Rect.unit (s := S1x512x256) ![0, 0, 0] S1x64x256.size inb_S1x512x256_S1x64x256_0_0_0).toLoadRect (harg2.unread x0))) (k0_pay74 (View.readAt (Elt Ideal) arg2.view (Rect.unit (s := S1x512x256) ![0, 64, 0] S1x64x256.size inb_S1x512x256_S1x64x256_0_64_0).toLoadRect (harg2.unread x0))) (View.readAt (Elt Ideal) arg2.view (Rect.unit (s := S1x512x256) ![0, 128, 0] S1x64x256.size inb_S1x512x256_S1x64x256_0_128_0).toLoadRect (harg2.unread x0)) (View.readAt (Elt Ideal) arg2.view (Rect.unit (s := S1x512x256) ![0, 192, 0] S1x64x256.size inb_S1x512x256_S1x64x256_0_192_0).toLoadRect (harg2.unread x0))) (View.readAt (Elt Ideal) arg5.view (Rect.unit (s := S1x2x512x64) ![0, 0, 0, 0] S1x1x384x64.size inb_S1x2x512x64_S1x1x384x64_0_0_0_0).toLoadRect (harg5.unread x3))) (k0_pay20 (k0_pay71 i) (k0_pay75 (k0_pay73 (View.readAt (Elt Ideal) arg2.view (Rect.unit (s := S1x512x256) ![0, 0, 0] S1x64x256.size inb_S1x512x256_S1x64x256_0_0_0).toLoadRect (harg2.unread x0))) (k0_pay74 (View.readAt (Elt Ideal) arg2.view (Rect.unit (s := S1x512x256) ![0, 64, 0] S1x64x256.size inb_S1x512x256_S1x64x256_0_64_0).toLoadRect (harg2.unread x0))) (View.readAt (Elt Ideal) arg2.view (Rect.unit (s := S1x512x256) ![0, 128, 0] S1x64x256.size inb_S1x512x256_S1x64x256_0_128_0).toLoadRect (harg2.unread x0)) (View.readAt (Elt Ideal) arg2.view (Rect.unit (s := S1x512x256) ![0, 192, 0] S1x64x256.size inb_S1x512x256_S1x64x256_0_192_0).toLoadRect (harg2.unread x0))) (View.readAt (Elt Ideal) arg5.view (Rect.unit (s := S1x2x512x64) ![0, 0, 0, 0] S1x1x384x64.size inb_S1x2x512x64_S1x1x384x64_0_0_0_0).toLoadRect (harg5.unread x3)) (View.readAt (Elt Ideal) arg7.view (Rect.unit (s := S128x512) ![0, 0] S128x384.size inb_S128x512_S128x384_0_0).toLoadRect (harg7.unread x5))) (View.readAt (Elt Ideal) arg7.view (Rect.unit (s := S128x512) ![0, 0] S128x384.size inb_S128x512_S128x384_0_0).toLoadRect (harg7.unread x5))
/-- Group 1's importances in this branch. -/
def im1C : FVec Ideal S128x256 .f32 := k0_pay80 (k0_pay25 (k0_pay71 i) (k0_pay76 (View.readAt (Elt Ideal) arg2.view (Rect.unit (s := S1x512x256) ![0, 256, 0] S1x64x256.size inb_S1x512x256_S1x64x256_0_256_0).toLoadRect (harg2.unread x0)) (View.readAt (Elt Ideal) arg2.view (Rect.unit (s := S1x512x256) ![0, 320, 0] S1x64x256.size inb_S1x512x256_S1x64x256_0_320_0).toLoadRect (harg2.unread x0)) (View.readAt (Elt Ideal) arg2.view (Rect.unit (s := S1x512x256) ![0, 384, 0] S1x64x256.size inb_S1x512x256_S1x64x256_0_384_0).toLoadRect (harg2.unread x0)) (View.readAt (Elt Ideal) arg2.view (Rect.unit (s := S1x512x256) ![0, 448, 0] S1x64x256.size inb_S1x512x256_S1x64x256_0_448_0).toLoadRect (harg2.unread x0))) (View.readAt (Elt Ideal) arg5.view (Rect.unit (s := S1x2x512x64) ![0, 1, 0, 0] S1x1x384x64.size inb_S1x2x512x64_S1x1x384x64_0_1_0_0).toLoadRect (harg5.unread x3))) (k0_pay26 (k0_pay71 i) (k0_pay76 (View.readAt (Elt Ideal) arg2.view (Rect.unit (s := S1x512x256) ![0, 256, 0] S1x64x256.size inb_S1x512x256_S1x64x256_0_256_0).toLoadRect (harg2.unread x0)) (View.readAt (Elt Ideal) arg2.view (Rect.unit (s := S1x512x256) ![0, 320, 0] S1x64x256.size inb_S1x512x256_S1x64x256_0_320_0).toLoadRect (harg2.unread x0)) (View.readAt (Elt Ideal) arg2.view (Rect.unit (s := S1x512x256) ![0, 384, 0] S1x64x256.size inb_S1x512x256_S1x64x256_0_384_0).toLoadRect (harg2.unread x0)) (View.readAt (Elt Ideal) arg2.view (Rect.unit (s := S1x512x256) ![0, 448, 0] S1x64x256.size inb_S1x512x256_S1x64x256_0_448_0).toLoadRect (harg2.unread x0))) (View.readAt (Elt Ideal) arg5.view (Rect.unit (s := S1x2x512x64) ![0, 1, 0, 0] S1x1x384x64.size inb_S1x2x512x64_S1x1x384x64_0_1_0_0).toLoadRect (harg5.unread x3))) (View.readAt (Elt Ideal) arg7.view (Rect.unit (s := S128x512) ![0, 0] S128x384.size inb_S128x512_S128x384_0_0).toLoadRect (harg7.unread x5)) (View.readAt (Elt Ideal) arg7.view (Rect.unit (s := S128x512) ![0, 0] S128x384.size inb_S128x512_S128x384_0_0).toLoadRect (harg7.unread x5))

/-- What branch 2 stores. -/
theorem runC_stored (hc1 : Scalar.cmpi .ne (tierW i) 0#32 = 1#1) (hc2 : Scalar.cmpi .ne (Scalar.subi (tierW i) 1#32) 0#32 = 1#1) (hc3 : ¬ Scalar.cmpi .ne (Scalar.subi (Scalar.subi (tierW i) 1#32) 1#32) 0#32 = 1#1) :
    (runC c i arg2 harg2 arg3 harg3 arg4 harg4 arg5 harg5 arg6 harg6 arg7 harg7 arg8 harg8 arg9 harg9 hc1 hc2 hc3 x0 x1 x2 x3 x4 x5 x6).1 = stored c i arg2 harg2 arg3 harg3 arg4 harg4 arg5 harg5 arg6 harg6 arg7 harg7 arg8 harg8 arg9 harg9 x0 x1 x2 x6 (oc0C i arg2 harg2 arg5 harg5 arg6 harg6 x0 x3 x4) (oc1C i arg2 harg2 arg5 harg5 arg6 harg6 x0 x3 x4)
      (im0C i arg2 harg2 arg5 harg5 arg7 harg7 x0 x3 x5) (im1C i arg2 harg2 arg5 harg5 arg7 harg7 x0 x3 x5) := by
  rfl

end Cert.Attn
-- ==== Proof.TailD.lean ====
/-
Branch 3 of the switch: the body stores what the one form says.
-/
module

public import proofs.«01_k».proof.Proof.Tail

@[expose] public section

set_option maxRecDepth 16384

noncomputable section

namespace Cert.Attn

open Cert.KernelIdeal Cert.KernelIdeal.Gen Cert.KernelIdeal.Own
open Idealize.ShloMosaic Idealize.ShloMosaic.TcCoe
open Idealize.SL.Sem

variable (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
  (x0 : Vec Ideal S1x512x256 .f32) (x1 : Vec Ideal S1x8192x256 .bf16) (x2 : Vec Ideal S1x256x8192 .bf16) (x3 : Vec Ideal S1x2x512x64 .bf16) (x4 : Vec Ideal S1x2x64x512 .bf16) (x5 : Vec Ideal S128x512 .bf16) (x6 : Vec Ideal S1x128x256 .f32)

/-- Group 0's compressed attention in this branch. -/
def oc0D : FVec Ideal S64x1024 .f32 := k0_pay3 (k0_pay71 i) (k0_pay75 (k0_pay73 (View.readAt (Elt Ideal) arg2.view (Rect.unit (s := S1x512x256) ![0, 0, 0] S1x64x256.size inb_S1x512x256_S1x64x256_0_0_0).toLoadRect (harg2.unread x0))) (k0_pay74 (View.readAt (Elt Ideal) arg2.view (Rect.unit (s := S1x512x256) ![0, 64, 0] S1x64x256.size inb_S1x512x256_S1x64x256_0_64_0).toLoadRect (harg2.unread x0))) (View.readAt (Elt Ideal) arg2.view (Rect.unit (s := S1x512x256) ![0, 128, 0] S1x64x256.size inb_S1x512x256_S1x64x256_0_128_0).toLoadRect (harg2.unread x0)) (View.readAt (Elt Ideal) arg2.view (Rect.unit (s := S1x512x256) ![0, 192, 0] S1x64x256.size inb_S1x512x256_S1x64x256_0_192_0).toLoadRect (harg2.unread x0))) (View.readAt (Elt Ideal) arg5.view (Rect.unit (s := S1x2x512x64) ![0, 0, 0, 0] S1x1x512x64.size inb_S1x2x512x64_S1x1x512x64_0_0_0_0).toLoadRect (harg5.unread x3)) (View.readAt (Elt Ideal) arg6.view (Rect.unit (s := S1x2x64x512) ![0, 0, 0, 0] S1x1x64x512.size inb_S1x2x64x512_S1x1x64x512_0_0_0_0).toLoadRect (harg6.unread x4))
/-- Group 1's compressed attention in this branch. -/
def oc1D : FVec Ideal S64x1024 .f32 := k0_pay10 (k0_pay71 i) (k0_pay76 (View.readAt (Elt Ideal) arg2.view (Rect.unit (s := S1x512x256) ![0, 256, 0] S1x64x256.size inb_S1x512x256_S1x64x256_0_256_0).toLoadRect (harg2.unread x0)) (View.readAt (Elt Ideal) arg2.view (Rect.unit (s := S1x512x256) ![0, 320, 0] S1x64x256.size inb_S1x512x256_S1x64x256_0_320_0).toLoadRect (harg2.unread x0)) (View.readAt (Elt Ideal) arg2.view (Rect.unit (s := S1x512x256) ![0, 384, 0] S1x64x256.size inb_S1x512x256_S1x64x256_0_384_0).toLoadRect (harg2.unread x0)) (View.readAt (Elt Ideal) arg2.view (Rect.unit (s := S1x512x256) ![0, 448, 0] S1x64x256.size inb_S1x512x256_S1x64x256_0_448_0).toLoadRect (harg2.unread x0))) (View.readAt (Elt Ideal) arg5.view (Rect.unit (s := S1x2x512x64) ![0, 1, 0, 0] S1x1x512x64.size inb_S1x2x512x64_S1x1x512x64_0_1_0_0).toLoadRect (harg5.unread x3)) (View.readAt (Elt Ideal) arg6.view (Rect.unit (s := S1x2x64x512) ![0, 1, 0, 0] S1x1x64x512.size inb_S1x2x64x512_S1x1x64x512_0_1_0_0).toLoadRect (harg6.unread x4))
/-- Group 0's importances in this branch. -/
def im0D : FVec Ideal S128x256 .f32 := k0_pay8 (k0_pay6 (k0_pay71 i) (k0_pay75 (k0_pay73 (View.readAt (Elt Ideal) arg2.view (Rect.unit (s := S1x512x256) ![0, 0, 0] S1x64x256.size inb_S1x512x256_S1x64x256_0_0_0).toLoadRect (harg2.unread x0))) (k0_pay74 (View.readAt (Elt Ideal) arg2.view (Rect.unit (s := S1x512x256) ![0, 64, 0] S1x64x256.size inb_S1x512x256_S1x64x256_0_64_0).toLoadRect (harg2.unread x0))) (View.readAt (Elt Ideal) arg2.view (Rect.unit (s := S1x512x256) ![0, 128, 0] S1x64x256.size inb_S1x512x256_S1x64x256_0_128_0).toLoadRect (harg2.unread x0)) (View.readAt (Elt Ideal) arg2.view (Rect.unit (s := S1x512x256) ![0, 192, 0] S1x64x256.size inb_S1x512x256_S1x64x256_0_192_0).toLoadRect (harg2.unread x0))) (View.readAt (Elt Ideal) arg5.view (Rect.unit (s := S1x2x512x64) ![0, 0, 0, 0] S1x1x512x64.size inb_S1x2x512x64_S1x1x512x64_0_0_0_0).toLoadRect (harg5.unread x3))) (k0_pay7 (k0_pay71 i) (k0_pay75 (k0_pay73 (View.readAt (Elt Ideal) arg2.view (Rect.unit (s := S1x512x256) ![0, 0, 0] S1x64x256.size inb_S1x512x256_S1x64x256_0_0_0).toLoadRect (harg2.unread x0))) (k0_pay74 (View.readAt (Elt Ideal) arg2.view (Rect.unit (s := S1x512x256) ![0, 64, 0] S1x64x256.size inb_S1x512x256_S1x64x256_0_64_0).toLoadRect (harg2.unread x0))) (View.readAt (Elt Ideal) arg2.view (Rect.unit (s := S1x512x256) ![0, 128, 0] S1x64x256.size inb_S1x512x256_S1x64x256_0_128_0).toLoadRect (harg2.unread x0)) (View.readAt (Elt Ideal) arg2.view (Rect.unit (s := S1x512x256) ![0, 192, 0] S1x64x256.size inb_S1x512x256_S1x64x256_0_192_0).toLoadRect (harg2.unread x0))) (View.readAt (Elt Ideal) arg5.view (Rect.unit (s := S1x2x512x64) ![0, 0, 0, 0] S1x1x512x64.size inb_S1x2x512x64_S1x1x512x64_0_0_0_0).toLoadRect (harg5.unread x3)) (View.readAt (Elt Ideal) arg7.view (Rect.unit (s := S128x512) ![0, 0] S128x512.size inb_S128x512_S128x512_0_0).toLoadRect (harg7.unread x5))) (View.readAt (Elt Ideal) arg7.view (Rect.unit (s := S128x512) ![0, 0] S128x512.size inb_S128x512_S128x512_0_0).toLoadRect (harg7.unread x5))
/-- Group 1's importances in this branch. -/
def im1D : FVec Ideal S128x256 .f32 := k0_pay79 (k0_pay12 (k0_pay71 i) (k0_pay76 (View.readAt (Elt Ideal) arg2.view (Rect.unit (s := S1x512x256) ![0, 256, 0] S1x64x256.size inb_S1x512x256_S1x64x256_0_256_0).toLoadRect (harg2.unread x0)) (View.readAt (Elt Ideal) arg2.view (Rect.unit (s := S1x512x256) ![0, 320, 0] S1x64x256.size inb_S1x512x256_S1x64x256_0_320_0).toLoadRect (harg2.unread x0)) (View.readAt (Elt Ideal) arg2.view (Rect.unit (s := S1x512x256) ![0, 384, 0] S1x64x256.size inb_S1x512x256_S1x64x256_0_384_0).toLoadRect (harg2.unread x0)) (View.readAt (Elt Ideal) arg2.view (Rect.unit (s := S1x512x256) ![0, 448, 0] S1x64x256.size inb_S1x512x256_S1x64x256_0_448_0).toLoadRect (harg2.unread x0))) (View.readAt (Elt Ideal) arg5.view (Rect.unit (s := S1x2x512x64) ![0, 1, 0, 0] S1x1x512x64.size inb_S1x2x512x64_S1x1x512x64_0_1_0_0).toLoadRect (harg5.unread x3))) (k0_pay13 (k0_pay71 i) (k0_pay76 (View.readAt (Elt Ideal) arg2.view (Rect.unit (s := S1x512x256) ![0, 256, 0] S1x64x256.size inb_S1x512x256_S1x64x256_0_256_0).toLoadRect (harg2.unread x0)) (View.readAt (Elt Ideal) arg2.view (Rect.unit (s := S1x512x256) ![0, 320, 0] S1x64x256.size inb_S1x512x256_S1x64x256_0_320_0).toLoadRect (harg2.unread x0)) (View.readAt (Elt Ideal) arg2.view (Rect.unit (s := S1x512x256) ![0, 384, 0] S1x64x256.size inb_S1x512x256_S1x64x256_0_384_0).toLoadRect (harg2.unread x0)) (View.readAt (Elt Ideal) arg2.view (Rect.unit (s := S1x512x256) ![0, 448, 0] S1x64x256.size inb_S1x512x256_S1x64x256_0_448_0).toLoadRect (harg2.unread x0))) (View.readAt (Elt Ideal) arg5.view (Rect.unit (s := S1x2x512x64) ![0, 1, 0, 0] S1x1x512x64.size inb_S1x2x512x64_S1x1x512x64_0_1_0_0).toLoadRect (harg5.unread x3))) (k0_pay14 (View.readAt (Elt Ideal) arg7.view (Rect.unit (s := S128x512) ![0, 0] S128x512.size inb_S128x512_S128x512_0_0).toLoadRect (harg7.unread x5))) (constant S128x256 .f32 0x00000000#32) (View.readAt (Elt Ideal) arg7.view (Rect.unit (s := S128x512) ![0, 0] S128x512.size inb_S128x512_S128x512_0_0).toLoadRect (harg7.unread x5))

/-- What branch 3 stores. -/
theorem runD_stored (hc1 : Scalar.cmpi .ne (tierW i) 0#32 = 1#1) (hc2 : Scalar.cmpi .ne (Scalar.subi (tierW i) 1#32) 0#32 = 1#1) (hc3 : Scalar.cmpi .ne (Scalar.subi (Scalar.subi (tierW i) 1#32) 1#32) 0#32 = 1#1) :
    (runD c i arg2 harg2 arg3 harg3 arg4 harg4 arg5 harg5 arg6 harg6 arg7 harg7 arg8 harg8 arg9 harg9 hc1 hc2 hc3 x0 x1 x2 x3 x4 x5 x6).1 = stored c i arg2 harg2 arg3 harg3 arg4 harg4 arg5 harg5 arg6 harg6 arg7 harg7 arg8 harg8 arg9 harg9 x0 x1 x2 x6 (oc0D i arg2 harg2 arg5 harg5 arg6 harg6 x0 x3 x4) (oc1D i arg2 harg2 arg5 harg5 arg6 harg6 x0 x3 x4)
      (im0D i arg2 harg2 arg5 harg5 arg7 harg7 x0 x3 x5) (im1D i arg2 harg2 arg5 harg5 arg7 harg7 x0 x3 x5) := by
  rfl

end Cert.Attn
-- ==== Proof.Comp.lean ====
/-
The compressed branch of each tier, in the specification's words.
-/
module

public import proofs.«01_k».proof.Proof.Point
public import proofs.«01_k».proof.Proof.CmpValue
public import proofs.«01_k».proof.Proof.TailA
public import proofs.«01_k».proof.Proof.TailB
public import proofs.«01_k».proof.Proof.TailC
public import proofs.«01_k».proof.Proof.TailD

@[expose] public section

set_option maxRecDepth 16384

noncomputable section

namespace Cert.Attn

open Cert.KernelIdeal Cert.KernelIdeal.Gen Cert.KernelIdeal.Own
open Idealize.ShloMosaic Idealize.ShloMosaic.TcCoe
open Idealize.SL.Sem

variable {x0 : Vec Ideal S1x512x256 .f32} {x1 : Vec Ideal S1x8192x256 .bf16} {x2 : Vec Ideal S1x256x8192 .bf16}
    {x3 : Vec Ideal S1x2x512x64 .bf16} {x4 : Vec Ideal S1x2x64x512 .bf16} {x5 : Vec Ideal S128x512 .bf16} {x6 : Vec Ideal S1x128x256 .f32}
  {q : ℕ → ℕ → ℕ → ℝ} {kc ks kw : ℕ → ℕ → ℕ → ℝ} {vc vs vw : ℕ → ℕ → ℕ → EReal} {gl : ℕ → ℕ → EReal}

/-- Group 0's compressed attention over the first 128 rows. -/
theorem oc0A_val (i : grid0.Coords) (arg2 : Memref sig .tc .vmem S1x512x256 .f32) (harg2 : arg2.IsWhole) (arg5 : Memref sig .tc .vmem S1x2x512x64 .bf16)
    (harg5 : arg5.IsWhole) (arg6 : Memref sig .tc .vmem S1x2x64x512 .bf16) (harg6 : arg6.IsWhole)
    (H : Holds (i 1).val x0 x1 x2 x3 x4 x5 x6 q kc ks kw vc vs vw gl)
    (ht : ∀ k, 16 * k + 31 ≤ 256 * (i 1).val + 255 → k < 128) (d : Fin 64) (c : Fin 1024) :
    oc0A i arg2 harg2 arg5 harg5 arg6 harg6 x0 x3 x4 (ix2 d c)
      = attn 512 (Vis (256 * (i 1).val + c.val % 256)) (score q (kc 0) (c.val / 256) (256 * (i 1).val + c.val % 256)) (vc 0 d.val) := by
  exact out128_0 _ _ _ (fun c : ℕ => Vis (256 * (i 1).val + c % 256)) (fun c : ℕ => score q (kc 0) (c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 0 ⟨x.val, by omega⟩ y rfl rfl (Nat.zero_add _).symm (Nat.zero_add _).symm).trans (H.h3 0 _ y)) ?_
        exact qs0_val (i 1).val q arg2 harg2 x0 H.h0 y c)
      (fun c k hk hv => ht k (by unfold Vis at hv; omega)) _ (fun d => vc 0 d)
      (fun d x => (rd4 arg6 harg6 x4 _ _ 0 0 d x 0 0 d ⟨x.val, by omega⟩ rfl rfl (Nat.zero_add _).symm (Nat.zero_add _).symm).trans (H.h4 0 d _)) d c

/-- Group 0's importances over the first 128 rows. -/
theorem im0A_val (i : grid0.Coords) (arg2 : Memref sig .tc .vmem S1x512x256 .f32) (harg2 : arg2.IsWhole) (arg5 : Memref sig .tc .vmem S1x2x512x64 .bf16)
    (harg5 : arg5.IsWhole) (arg7 : Memref sig .tc .vmem S128x512 .bf16) (harg7 : arg7.IsWhole)
    (H : Holds (i 1).val x0 x1 x2 x3 x4 x5 x6 q kc ks kw vc vs vw gl)
    (ht : ∀ k, 16 * k + 31 ≤ 256 * (i 1).val + 255 → k < 128) (j : Fin 128) (c : Fin 256) :
    im0A i arg2 harg2 arg5 harg5 arg7 harg7 x0 x3 x5 (ix2 j c)
      = ((∑ k ∈ Finset.range 512, part j.val k * (
soft 512 (Vis (256 * (i 1).val + c.val)) (score q (kc 0) (4 * 0) (256 * (i 1).val + c.val)) k
          + soft 512 (Vis (256 * (i 1).val + c.val)) (score q (kc 0) (4 * 0 + 1) (256 * (i 1).val + c.val)) k
          + soft 512 (Vis (256 * (i 1).val + c.val)) (score q (kc 0) (4 * 0 + 2) (256 * (i 1).val + c.val)) k
          + soft 512 (Vis (256 * (i 1).val + c.val)) (score q (kc 0) (4 * 0 + 3) (256 * (i 1).val + c.val)) k
        ) : ℝ) : EReal) := by
  have hc := c.isLt
  refine (imp128_0 _ _ _ (fun c : ℕ => Vis (256 * (i 1).val + c % 256)) (fun c : ℕ => score q (kc 0) (c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 0 ⟨x.val, by omega⟩ y rfl rfl (Nat.zero_add _).symm (Nat.zero_add _).symm).trans (H.h3 0 _ y)) ?_
        exact qs0_val (i 1).val q arg2 harg2 x0 H.h0 y c)
      (fun c k hk hv => ht k (by unfold Vis at hv; omega)) (fun c k => by rw [Nat.mod_mod]) _ (fun j => part j)
      (fun j x => (rd2 arg7 harg7 x5 _ _ j x j ⟨x.val, by omega⟩ (Nat.zero_add _).symm (Nat.zero_add _).symm).trans (H.h5 j _)) j c).trans ?_
  beta_reduce
  rw [show c.val % 256 = c.val by omega, show (256 + c.val) % 256 = c.val by omega, show (512 + c.val) % 256 = c.val by omega, show (768 + c.val) % 256 = c.val by omega,
    show c.val / 256 = 4 * 0 by omega, show (256 + c.val) / 256 = 4 * 0 + 1 by omega, show (512 + c.val) / 256 = 4 * 0 + 2 by omega, show (768 + c.val) / 256 = 4 * 0 + 3 by omega]

/-- Group 1's compressed attention over the first 128 rows. -/
theorem oc1A_val (i : grid0.Coords) (arg2 : Memref sig .tc .vmem S1x512x256 .f32) (harg2 : arg2.IsWhole) (arg5 : Memref sig .tc .vmem S1x2x512x64 .bf16)
    (harg5 : arg5.IsWhole) (arg6 : Memref sig .tc .vmem S1x2x64x512 .bf16) (harg6 : arg6.IsWhole)
    (H : Holds (i 1).val x0 x1 x2 x3 x4 x5 x6 q kc ks kw vc vs vw gl)
    (ht : ∀ k, 16 * k + 31 ≤ 256 * (i 1).val + 255 → k < 128) (d : Fin 64) (c : Fin 1024) :
    oc1A i arg2 harg2 arg5 harg5 arg6 harg6 x0 x3 x4 (ix2 d c)
      = attn 512 (Vis (256 * (i 1).val + c.val % 256)) (score q (kc 1) (4 + c.val / 256) (256 * (i 1).val + c.val % 256)) (vc 1 d.val) := by
  exact out128_1 _ _ _ (fun c : ℕ => Vis (256 * (i 1).val + c % 256)) (fun c : ℕ => score q (kc 1) (4 + c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 1 ⟨x.val, by omega⟩ y rfl rfl (Nat.zero_add _).symm (Nat.zero_add _).symm).trans (H.h3 1 _ y)) ?_
        exact qs1_val (i 1).val q arg2 harg2 x0 H.h0 y c)
      (fun c k hk hv => ht k (by unfold Vis at hv; omega)) _ (fun d => vc 1 d)
      (fun d x => (rd4 arg6 harg6 x4 _ _ 0 0 d x 0 1 d ⟨x.val, by omega⟩ rfl rfl (Nat.zero_add _).symm (Nat.zero_add _).symm).trans (H.h4 1 d _)) d c

/-- Group 1's importances over the first 128 rows. -/
theorem im1A_val (i : grid0.Coords) (arg2 : Memref sig .tc .vmem S1x512x256 .f32) (harg2 : arg2.IsWhole) (arg5 : Memref sig .tc .vmem S1x2x512x64 .bf16)
    (harg5 : arg5.IsWhole) (arg7 : Memref sig .tc .vmem S128x512 .bf16) (harg7 : arg7.IsWhole)
    (H : Holds (i 1).val x0 x1 x2 x3 x4 x5 x6 q kc ks kw vc vs vw gl)
    (ht : ∀ k, 16 * k + 31 ≤ 256 * (i 1).val + 255 → k < 128) (j : Fin 128) (c : Fin 256) :
    im1A i arg2 harg2 arg5 harg5 arg7 harg7 x0 x3 x5 (ix2 j c)
      = ((∑ k ∈ Finset.range 512, part j.val k * (
soft 512 (Vis (256 * (i 1).val + c.val)) (score q (kc 1) (4 * 1) (256 * (i 1).val + c.val)) k
          + soft 512 (Vis (256 * (i 1).val + c.val)) (score q (kc 1) (4 * 1 + 1) (256 * (i 1).val + c.val)) k
          + soft 512 (Vis (256 * (i 1).val + c.val)) (score q (kc 1) (4 * 1 + 2) (256 * (i 1).val + c.val)) k
          + soft 512 (Vis (256 * (i 1).val + c.val)) (score q (kc 1) (4 * 1 + 3) (256 * (i 1).val + c.val)) k
        ) : ℝ) : EReal) := by
  have hc := c.isLt
  refine (imp128_1 _ _ _ (fun c : ℕ => Vis (256 * (i 1).val + c % 256)) (fun c : ℕ => score q (kc 1) (4 + c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 1 ⟨x.val, by omega⟩ y rfl rfl (Nat.zero_add _).symm (Nat.zero_add _).symm).trans (H.h3 1 _ y)) ?_
        exact qs1_val (i 1).val q arg2 harg2 x0 H.h0 y c)
      (fun c k hk hv => ht k (by unfold Vis at hv; omega)) (fun c k => by rw [Nat.mod_mod]) _ (fun j => part j)
      (fun j x => (rd2 arg7 harg7 x5 _ _ j x j ⟨x.val, by omega⟩ (Nat.zero_add _).symm (Nat.zero_add _).symm).trans (H.h5 j _)) j c).trans ?_
  beta_reduce
  rw [show c.val % 256 = c.val by omega, show (256 + c.val) % 256 = c.val by omega, show (512 + c.val) % 256 = c.val by omega, show (768 + c.val) % 256 = c.val by omega,
    show 4 + c.val / 256 = 4 * 1 by omega, show 4 + (256 + c.val) / 256 = 4 * 1 + 1 by omega, show 4 + (512 + c.val) / 256 = 4 * 1 + 2 by omega, show 4 + (768 + c.val) / 256 = 4 * 1 + 3 by omega]

/-- Group 0's compressed attention over the first 256 rows. -/
theorem oc0B_val (i : grid0.Coords) (arg2 : Memref sig .tc .vmem S1x512x256 .f32) (harg2 : arg2.IsWhole) (arg5 : Memref sig .tc .vmem S1x2x512x64 .bf16)
    (harg5 : arg5.IsWhole) (arg6 : Memref sig .tc .vmem S1x2x64x512 .bf16) (harg6 : arg6.IsWhole)
    (H : Holds (i 1).val x0 x1 x2 x3 x4 x5 x6 q kc ks kw vc vs vw gl)
    (ht : ∀ k, 16 * k + 31 ≤ 256 * (i 1).val + 255 → k < 256) (d : Fin 64) (c : Fin 1024) :
    oc0B i arg2 harg2 arg5 harg5 arg6 harg6 x0 x3 x4 (ix2 d c)
      = attn 512 (Vis (256 * (i 1).val + c.val % 256)) (score q (kc 0) (c.val / 256) (256 * (i 1).val + c.val % 256)) (vc 0 d.val) := by
  exact out256_0 _ _ _ (fun c : ℕ => Vis (256 * (i 1).val + c % 256)) (fun c : ℕ => score q (kc 0) (c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 0 ⟨x.val, by omega⟩ y rfl rfl (Nat.zero_add _).symm (Nat.zero_add _).symm).trans (H.h3 0 _ y)) ?_
        exact qs0_val (i 1).val q arg2 harg2 x0 H.h0 y c)
      (fun c k hk hv => ht k (by unfold Vis at hv; omega)) _ (fun d => vc 0 d)
      (fun d x => (rd4 arg6 harg6 x4 _ _ 0 0 d x 0 0 d ⟨x.val, by omega⟩ rfl rfl (Nat.zero_add _).symm (Nat.zero_add _).symm).trans (H.h4 0 d _)) d c

/-- Group 0's importances over the first 256 rows. -/
theorem im0B_val (i : grid0.Coords) (arg2 : Memref sig .tc .vmem S1x512x256 .f32) (harg2 : arg2.IsWhole) (arg5 : Memref sig .tc .vmem S1x2x512x64 .bf16)
    (harg5 : arg5.IsWhole) (arg7 : Memref sig .tc .vmem S128x512 .bf16) (harg7 : arg7.IsWhole)
    (H : Holds (i 1).val x0 x1 x2 x3 x4 x5 x6 q kc ks kw vc vs vw gl)
    (ht : ∀ k, 16 * k + 31 ≤ 256 * (i 1).val + 255 → k < 256) (j : Fin 128) (c : Fin 256) :
    im0B i arg2 harg2 arg5 harg5 arg7 harg7 x0 x3 x5 (ix2 j c)
      = ((∑ k ∈ Finset.range 512, part j.val k * (
soft 512 (Vis (256 * (i 1).val + c.val)) (score q (kc 0) (4 * 0) (256 * (i 1).val + c.val)) k
          + soft 512 (Vis (256 * (i 1).val + c.val)) (score q (kc 0) (4 * 0 + 1) (256 * (i 1).val + c.val)) k
          + soft 512 (Vis (256 * (i 1).val + c.val)) (score q (kc 0) (4 * 0 + 2) (256 * (i 1).val + c.val)) k
          + soft 512 (Vis (256 * (i 1).val + c.val)) (score q (kc 0) (4 * 0 + 3) (256 * (i 1).val + c.val)) k
        ) : ℝ) : EReal) := by
  have hc := c.isLt
  refine (imp256_0 _ _ _ (fun c : ℕ => Vis (256 * (i 1).val + c % 256)) (fun c : ℕ => score q (kc 0) (c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 0 ⟨x.val, by omega⟩ y rfl rfl (Nat.zero_add _).symm (Nat.zero_add _).symm).trans (H.h3 0 _ y)) ?_
        exact qs0_val (i 1).val q arg2 harg2 x0 H.h0 y c)
      (fun c k hk hv => ht k (by unfold Vis at hv; omega)) (fun c k => by rw [Nat.mod_mod]) _ (fun j => part j)
      (fun j x => (rd2 arg7 harg7 x5 _ _ j x j ⟨x.val, by omega⟩ (Nat.zero_add _).symm (Nat.zero_add _).symm).trans (H.h5 j _)) j c).trans ?_
  beta_reduce
  rw [show c.val % 256 = c.val by omega, show (256 + c.val) % 256 = c.val by omega, show (512 + c.val) % 256 = c.val by omega, show (768 + c.val) % 256 = c.val by omega,
    show c.val / 256 = 4 * 0 by omega, show (256 + c.val) / 256 = 4 * 0 + 1 by omega, show (512 + c.val) / 256 = 4 * 0 + 2 by omega, show (768 + c.val) / 256 = 4 * 0 + 3 by omega]

/-- Group 1's compressed attention over the first 256 rows. -/
theorem oc1B_val (i : grid0.Coords) (arg2 : Memref sig .tc .vmem S1x512x256 .f32) (harg2 : arg2.IsWhole) (arg5 : Memref sig .tc .vmem S1x2x512x64 .bf16)
    (harg5 : arg5.IsWhole) (arg6 : Memref sig .tc .vmem S1x2x64x512 .bf16) (harg6 : arg6.IsWhole)
    (H : Holds (i 1).val x0 x1 x2 x3 x4 x5 x6 q kc ks kw vc vs vw gl)
    (ht : ∀ k, 16 * k + 31 ≤ 256 * (i 1).val + 255 → k < 256) (d : Fin 64) (c : Fin 1024) :
    oc1B i arg2 harg2 arg5 harg5 arg6 harg6 x0 x3 x4 (ix2 d c)
      = attn 512 (Vis (256 * (i 1).val + c.val % 256)) (score q (kc 1) (4 + c.val / 256) (256 * (i 1).val + c.val % 256)) (vc 1 d.val) := by
  exact out256_1 _ _ _ (fun c : ℕ => Vis (256 * (i 1).val + c % 256)) (fun c : ℕ => score q (kc 1) (4 + c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 1 ⟨x.val, by omega⟩ y rfl rfl (Nat.zero_add _).symm (Nat.zero_add _).symm).trans (H.h3 1 _ y)) ?_
        exact qs1_val (i 1).val q arg2 harg2 x0 H.h0 y c)
      (fun c k hk hv => ht k (by unfold Vis at hv; omega)) _ (fun d => vc 1 d)
      (fun d x => (rd4 arg6 harg6 x4 _ _ 0 0 d x 0 1 d ⟨x.val, by omega⟩ rfl rfl (Nat.zero_add _).symm (Nat.zero_add _).symm).trans (H.h4 1 d _)) d c

/-- Group 1's importances over the first 256 rows. -/
theorem im1B_val (i : grid0.Coords) (arg2 : Memref sig .tc .vmem S1x512x256 .f32) (harg2 : arg2.IsWhole) (arg5 : Memref sig .tc .vmem S1x2x512x64 .bf16)
    (harg5 : arg5.IsWhole) (arg7 : Memref sig .tc .vmem S128x512 .bf16) (harg7 : arg7.IsWhole)
    (H : Holds (i 1).val x0 x1 x2 x3 x4 x5 x6 q kc ks kw vc vs vw gl)
    (ht : ∀ k, 16 * k + 31 ≤ 256 * (i 1).val + 255 → k < 256) (j : Fin 128) (c : Fin 256) :
    im1B i arg2 harg2 arg5 harg5 arg7 harg7 x0 x3 x5 (ix2 j c)
      = ((∑ k ∈ Finset.range 512, part j.val k * (
soft 512 (Vis (256 * (i 1).val + c.val)) (score q (kc 1) (4 * 1) (256 * (i 1).val + c.val)) k
          + soft 512 (Vis (256 * (i 1).val + c.val)) (score q (kc 1) (4 * 1 + 1) (256 * (i 1).val + c.val)) k
          + soft 512 (Vis (256 * (i 1).val + c.val)) (score q (kc 1) (4 * 1 + 2) (256 * (i 1).val + c.val)) k
          + soft 512 (Vis (256 * (i 1).val + c.val)) (score q (kc 1) (4 * 1 + 3) (256 * (i 1).val + c.val)) k
        ) : ℝ) : EReal) := by
  have hc := c.isLt
  refine (imp256_1 _ _ _ (fun c : ℕ => Vis (256 * (i 1).val + c % 256)) (fun c : ℕ => score q (kc 1) (4 + c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 1 ⟨x.val, by omega⟩ y rfl rfl (Nat.zero_add _).symm (Nat.zero_add _).symm).trans (H.h3 1 _ y)) ?_
        exact qs1_val (i 1).val q arg2 harg2 x0 H.h0 y c)
      (fun c k hk hv => ht k (by unfold Vis at hv; omega)) (fun c k => by rw [Nat.mod_mod]) _ (fun j => part j)
      (fun j x => (rd2 arg7 harg7 x5 _ _ j x j ⟨x.val, by omega⟩ (Nat.zero_add _).symm (Nat.zero_add _).symm).trans (H.h5 j _)) j c).trans ?_
  beta_reduce
  rw [show c.val % 256 = c.val by omega, show (256 + c.val) % 256 = c.val by omega, show (512 + c.val) % 256 = c.val by omega, show (768 + c.val) % 256 = c.val by omega,
    show 4 + c.val / 256 = 4 * 1 by omega, show 4 + (256 + c.val) / 256 = 4 * 1 + 1 by omega, show 4 + (512 + c.val) / 256 = 4 * 1 + 2 by omega, show 4 + (768 + c.val) / 256 = 4 * 1 + 3 by omega]

/-- Group 0's compressed attention over the first 384 rows. -/
theorem oc0C_val (i : grid0.Coords) (arg2 : Memref sig .tc .vmem S1x512x256 .f32) (harg2 : arg2.IsWhole) (arg5 : Memref sig .tc .vmem S1x2x512x64 .bf16)
    (harg5 : arg5.IsWhole) (arg6 : Memref sig .tc .vmem S1x2x64x512 .bf16) (harg6 : arg6.IsWhole)
    (H : Holds (i 1).val x0 x1 x2 x3 x4 x5 x6 q kc ks kw vc vs vw gl)
    (ht : ∀ k, 16 * k + 31 ≤ 256 * (i 1).val + 255 → k < 384) (d : Fin 64) (c : Fin 1024) :
    oc0C i arg2 harg2 arg5 harg5 arg6 harg6 x0 x3 x4 (ix2 d c)
      = attn 512 (Vis (256 * (i 1).val + c.val % 256)) (score q (kc 0) (c.val / 256) (256 * (i 1).val + c.val % 256)) (vc 0 d.val) := by
  exact out384_0 _ _ _ (fun c : ℕ => Vis (256 * (i 1).val + c % 256)) (fun c : ℕ => score q (kc 0) (c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 0 ⟨x.val, by omega⟩ y rfl rfl (Nat.zero_add _).symm (Nat.zero_add _).symm).trans (H.h3 0 _ y)) ?_
        exact qs0_val (i 1).val q arg2 harg2 x0 H.h0 y c)
      (fun c k hk hv => ht k (by unfold Vis at hv; omega)) _ (fun d => vc 0 d)
      (fun d x => (rd4 arg6 harg6 x4 _ _ 0 0 d x 0 0 d ⟨x.val, by omega⟩ rfl rfl (Nat.zero_add _).symm (Nat.zero_add _).symm).trans (H.h4 0 d _)) d c

/-- Group 0's importances over the first 384 rows. -/
theorem im0C_val (i : grid0.Coords) (arg2 : Memref sig .tc .vmem S1x512x256 .f32) (harg2 : arg2.IsWhole) (arg5 : Memref sig .tc .vmem S1x2x512x64 .bf16)
    (harg5 : arg5.IsWhole) (arg7 : Memref sig .tc .vmem S128x512 .bf16) (harg7 : arg7.IsWhole)
    (H : Holds (i 1).val x0 x1 x2 x3 x4 x5 x6 q kc ks kw vc vs vw gl)
    (ht : ∀ k, 16 * k + 31 ≤ 256 * (i 1).val + 255 → k < 384) (j : Fin 128) (c : Fin 256) :
    im0C i arg2 harg2 arg5 harg5 arg7 harg7 x0 x3 x5 (ix2 j c)
      = ((∑ k ∈ Finset.range 512, part j.val k * (
soft 512 (Vis (256 * (i 1).val + c.val)) (score q (kc 0) (4 * 0) (256 * (i 1).val + c.val)) k
          + soft 512 (Vis (256 * (i 1).val + c.val)) (score q (kc 0) (4 * 0 + 1) (256 * (i 1).val + c.val)) k
          + soft 512 (Vis (256 * (i 1).val + c.val)) (score q (kc 0) (4 * 0 + 2) (256 * (i 1).val + c.val)) k
          + soft 512 (Vis (256 * (i 1).val + c.val)) (score q (kc 0) (4 * 0 + 3) (256 * (i 1).val + c.val)) k
        ) : ℝ) : EReal) := by
  have hc := c.isLt
  refine (imp384_0 _ _ _ (fun c : ℕ => Vis (256 * (i 1).val + c % 256)) (fun c : ℕ => score q (kc 0) (c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 0 ⟨x.val, by omega⟩ y rfl rfl (Nat.zero_add _).symm (Nat.zero_add _).symm).trans (H.h3 0 _ y)) ?_
        exact qs0_val (i 1).val q arg2 harg2 x0 H.h0 y c)
      (fun c k hk hv => ht k (by unfold Vis at hv; omega)) (fun c k => by rw [Nat.mod_mod]) _ (fun j => part j)
      (fun j x => (rd2 arg7 harg7 x5 _ _ j x j ⟨x.val, by omega⟩ (Nat.zero_add _).symm (Nat.zero_add _).symm).trans (H.h5 j _)) j c).trans ?_
  beta_reduce
  rw [show c.val % 256 = c.val by omega, show (256 + c.val) % 256 = c.val by omega, show (512 + c.val) % 256 = c.val by omega, show (768 + c.val) % 256 = c.val by omega,
    show c.val / 256 = 4 * 0 by omega, show (256 + c.val) / 256 = 4 * 0 + 1 by omega, show (512 + c.val) / 256 = 4 * 0 + 2 by omega, show (768 + c.val) / 256 = 4 * 0 + 3 by omega]

/-- Group 1's compressed attention over the first 384 rows. -/
theorem oc1C_val (i : grid0.Coords) (arg2 : Memref sig .tc .vmem S1x512x256 .f32) (harg2 : arg2.IsWhole) (arg5 : Memref sig .tc .vmem S1x2x512x64 .bf16)
    (harg5 : arg5.IsWhole) (arg6 : Memref sig .tc .vmem S1x2x64x512 .bf16) (harg6 : arg6.IsWhole)
    (H : Holds (i 1).val x0 x1 x2 x3 x4 x5 x6 q kc ks kw vc vs vw gl)
    (ht : ∀ k, 16 * k + 31 ≤ 256 * (i 1).val + 255 → k < 384) (d : Fin 64) (c : Fin 1024) :
    oc1C i arg2 harg2 arg5 harg5 arg6 harg6 x0 x3 x4 (ix2 d c)
      = attn 512 (Vis (256 * (i 1).val + c.val % 256)) (score q (kc 1) (4 + c.val / 256) (256 * (i 1).val + c.val % 256)) (vc 1 d.val) := by
  exact out384_1 _ _ _ (fun c : ℕ => Vis (256 * (i 1).val + c % 256)) (fun c : ℕ => score q (kc 1) (4 + c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 1 ⟨x.val, by omega⟩ y rfl rfl (Nat.zero_add _).symm (Nat.zero_add _).symm).trans (H.h3 1 _ y)) ?_
        exact qs1_val (i 1).val q arg2 harg2 x0 H.h0 y c)
      (fun c k hk hv => ht k (by unfold Vis at hv; omega)) _ (fun d => vc 1 d)
      (fun d x => (rd4 arg6 harg6 x4 _ _ 0 0 d x 0 1 d ⟨x.val, by omega⟩ rfl rfl (Nat.zero_add _).symm (Nat.zero_add _).symm).trans (H.h4 1 d _)) d c

/-- Group 1's importances over the first 384 rows. -/
theorem im1C_val (i : grid0.Coords) (arg2 : Memref sig .tc .vmem S1x512x256 .f32) (harg2 : arg2.IsWhole) (arg5 : Memref sig .tc .vmem S1x2x512x64 .bf16)
    (harg5 : arg5.IsWhole) (arg7 : Memref sig .tc .vmem S128x512 .bf16) (harg7 : arg7.IsWhole)
    (H : Holds (i 1).val x0 x1 x2 x3 x4 x5 x6 q kc ks kw vc vs vw gl)
    (ht : ∀ k, 16 * k + 31 ≤ 256 * (i 1).val + 255 → k < 384) (j : Fin 128) (c : Fin 256) :
    im1C i arg2 harg2 arg5 harg5 arg7 harg7 x0 x3 x5 (ix2 j c)
      = ((∑ k ∈ Finset.range 512, part j.val k * (
soft 512 (Vis (256 * (i 1).val + c.val)) (score q (kc 1) (4 * 1) (256 * (i 1).val + c.val)) k
          + soft 512 (Vis (256 * (i 1).val + c.val)) (score q (kc 1) (4 * 1 + 1) (256 * (i 1).val + c.val)) k
          + soft 512 (Vis (256 * (i 1).val + c.val)) (score q (kc 1) (4 * 1 + 2) (256 * (i 1).val + c.val)) k
          + soft 512 (Vis (256 * (i 1).val + c.val)) (score q (kc 1) (4 * 1 + 3) (256 * (i 1).val + c.val)) k
        ) : ℝ) : EReal) := by
  have hc := c.isLt
  refine (imp384_1 _ _ _ (fun c : ℕ => Vis (256 * (i 1).val + c % 256)) (fun c : ℕ => score q (kc 1) (4 + c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 1 ⟨x.val, by omega⟩ y rfl rfl (Nat.zero_add _).symm (Nat.zero_add _).symm).trans (H.h3 1 _ y)) ?_
        exact qs1_val (i 1).val q arg2 harg2 x0 H.h0 y c)
      (fun c k hk hv => ht k (by unfold Vis at hv; omega)) (fun c k => by rw [Nat.mod_mod]) _ (fun j => part j)
      (fun j x => (rd2 arg7 harg7 x5 _ _ j x j ⟨x.val, by omega⟩ (Nat.zero_add _).symm (Nat.zero_add _).symm).trans (H.h5 j _)) j c).trans ?_
  beta_reduce
  rw [show c.val % 256 = c.val by omega, show (256 + c.val) % 256 = c.val by omega, show (512 + c.val) % 256 = c.val by omega, show (768 + c.val) % 256 = c.val by omega,
    show 4 + c.val / 256 = 4 * 1 by omega, show 4 + (256 + c.val) / 256 = 4 * 1 + 1 by omega, show 4 + (512 + c.val) / 256 = 4 * 1 + 2 by omega, show 4 + (768 + c.val) / 256 = 4 * 1 + 3 by omega]

/-- Group 0's compressed attention over the first 512 rows. -/
theorem oc0D_val (i : grid0.Coords) (arg2 : Memref sig .tc .vmem S1x512x256 .f32) (harg2 : arg2.IsWhole) (arg5 : Memref sig .tc .vmem S1x2x512x64 .bf16)
    (harg5 : arg5.IsWhole) (arg6 : Memref sig .tc .vmem S1x2x64x512 .bf16) (harg6 : arg6.IsWhole)
    (H : Holds (i 1).val x0 x1 x2 x3 x4 x5 x6 q kc ks kw vc vs vw gl) (d : Fin 64) (c : Fin 1024) :
    oc0D i arg2 harg2 arg5 harg5 arg6 harg6 x0 x3 x4 (ix2 d c)
      = attn 512 (Vis (256 * (i 1).val + c.val % 256)) (score q (kc 0) (c.val / 256) (256 * (i 1).val + c.val % 256)) (vc 0 d.val) := by
  exact out512_0 _ _ _ (fun c : ℕ => Vis (256 * (i 1).val + c % 256)) (fun c : ℕ => score q (kc 0) (c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 0 ⟨x.val, by omega⟩ y rfl rfl (Nat.zero_add _).symm (Nat.zero_add _).symm).trans (H.h3 0 _ y)) ?_
        exact qs0_val (i 1).val q arg2 harg2 x0 H.h0 y c)
      (fun c k hk _ => hk) _ (fun d => vc 0 d)
      (fun d x => (rd4 arg6 harg6 x4 _ _ 0 0 d x 0 0 d ⟨x.val, by omega⟩ rfl rfl (Nat.zero_add _).symm (Nat.zero_add _).symm).trans (H.h4 0 d _)) d c

/-- Group 0's importances over the first 512 rows. -/
theorem im0D_val (i : grid0.Coords) (arg2 : Memref sig .tc .vmem S1x512x256 .f32) (harg2 : arg2.IsWhole) (arg5 : Memref sig .tc .vmem S1x2x512x64 .bf16)
    (harg5 : arg5.IsWhole) (arg7 : Memref sig .tc .vmem S128x512 .bf16) (harg7 : arg7.IsWhole)
    (H : Holds (i 1).val x0 x1 x2 x3 x4 x5 x6 q kc ks kw vc vs vw gl) (j : Fin 128) (c : Fin 256) :
    im0D i arg2 harg2 arg5 harg5 arg7 harg7 x0 x3 x5 (ix2 j c)
      = ((∑ k ∈ Finset.range 512, part j.val k * (
soft 512 (Vis (256 * (i 1).val + c.val)) (score q (kc 0) (4 * 0) (256 * (i 1).val + c.val)) k
          + soft 512 (Vis (256 * (i 1).val + c.val)) (score q (kc 0) (4 * 0 + 1) (256 * (i 1).val + c.val)) k
          + soft 512 (Vis (256 * (i 1).val + c.val)) (score q (kc 0) (4 * 0 + 2) (256 * (i 1).val + c.val)) k
          + soft 512 (Vis (256 * (i 1).val + c.val)) (score q (kc 0) (4 * 0 + 3) (256 * (i 1).val + c.val)) k
        ) : ℝ) : EReal) := by
  have hc := c.isLt
  refine (imp512_0 _ _ _ (fun c : ℕ => Vis (256 * (i 1).val + c % 256)) (fun c : ℕ => score q (kc 0) (c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 0 ⟨x.val, by omega⟩ y rfl rfl (Nat.zero_add _).symm (Nat.zero_add _).symm).trans (H.h3 0 _ y)) ?_
        exact qs0_val (i 1).val q arg2 harg2 x0 H.h0 y c)
      (fun c k hk _ => hk) (fun c k => by rw [Nat.mod_mod]) _ (fun j => part j)
      (fun j x => (rd2 arg7 harg7 x5 _ _ j x j ⟨x.val, by omega⟩ (Nat.zero_add _).symm (Nat.zero_add _).symm).trans (H.h5 j _)) j c).trans ?_
  beta_reduce
  rw [show c.val % 256 = c.val by omega, show (256 + c.val) % 256 = c.val by omega, show (512 + c.val) % 256 = c.val by omega, show (768 + c.val) % 256 = c.val by omega,
    show c.val / 256 = 4 * 0 by omega, show (256 + c.val) / 256 = 4 * 0 + 1 by omega, show (512 + c.val) / 256 = 4 * 0 + 2 by omega, show (768 + c.val) / 256 = 4 * 0 + 3 by omega]

/-- Group 1's compressed attention over the first 512 rows. -/
theorem oc1D_val (i : grid0.Coords) (arg2 : Memref sig .tc .vmem S1x512x256 .f32) (harg2 : arg2.IsWhole) (arg5 : Memref sig .tc .vmem S1x2x512x64 .bf16)
    (harg5 : arg5.IsWhole) (arg6 : Memref sig .tc .vmem S1x2x64x512 .bf16) (harg6 : arg6.IsWhole)
    (H : Holds (i 1).val x0 x1 x2 x3 x4 x5 x6 q kc ks kw vc vs vw gl) (d : Fin 64) (c : Fin 1024) :
    oc1D i arg2 harg2 arg5 harg5 arg6 harg6 x0 x3 x4 (ix2 d c)
      = attn 512 (Vis (256 * (i 1).val + c.val % 256)) (score q (kc 1) (4 + c.val / 256) (256 * (i 1).val + c.val % 256)) (vc 1 d.val) := by
  exact out512_1 _ _ _ (fun c : ℕ => Vis (256 * (i 1).val + c % 256)) (fun c : ℕ => score q (kc 1) (4 + c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 1 ⟨x.val, by omega⟩ y rfl rfl (Nat.zero_add _).symm (Nat.zero_add _).symm).trans (H.h3 1 _ y)) ?_
        exact qs1_val (i 1).val q arg2 harg2 x0 H.h0 y c)
      (fun c k hk _ => hk) _ (fun d => vc 1 d)
      (fun d x => (rd4 arg6 harg6 x4 _ _ 0 0 d x 0 1 d ⟨x.val, by omega⟩ rfl rfl (Nat.zero_add _).symm (Nat.zero_add _).symm).trans (H.h4 1 d _)) d c

/-- Group 1's importances over the first 512 rows. -/
theorem im1D_val (i : grid0.Coords) (arg2 : Memref sig .tc .vmem S1x512x256 .f32) (harg2 : arg2.IsWhole) (arg5 : Memref sig .tc .vmem S1x2x512x64 .bf16)
    (harg5 : arg5.IsWhole) (arg7 : Memref sig .tc .vmem S128x512 .bf16) (harg7 : arg7.IsWhole)
    (H : Holds (i 1).val x0 x1 x2 x3 x4 x5 x6 q kc ks kw vc vs vw gl) (j : Fin 128) (c : Fin 256) :
    im1D i arg2 harg2 arg5 harg5 arg7 harg7 x0 x3 x5 (ix2 j c)
      = ((∑ k ∈ Finset.range 512, part j.val k * (
soft 512 (Vis (256 * (i 1).val + c.val)) (score q (kc 1) (4 * 1) (256 * (i 1).val + c.val)) k
          + soft 512 (Vis (256 * (i 1).val + c.val)) (score q (kc 1) (4 * 1 + 1) (256 * (i 1).val + c.val)) k
          + soft 512 (Vis (256 * (i 1).val + c.val)) (score q (kc 1) (4 * 1 + 2) (256 * (i 1).val + c.val)) k
          + soft 512 (Vis (256 * (i 1).val + c.val)) (score q (kc 1) (4 * 1 + 3) (256 * (i 1).val + c.val)) k
        ) : ℝ) : EReal) := by
  have hc := c.isLt
  refine (imp512_1 _ _ _ (fun c : ℕ => Vis (256 * (i 1).val + c % 256)) (fun c : ℕ => score q (kc 1) (4 + c / 256) (256 * (i 1).val + c % 256))
      (fun x c => vis_val i x c)
      (fun x c => by
        rw [← dot64]
        apply Finset.sum_congr rfl
        intro y _
        refine congrArg₂ (· * ·) ((rd4 arg5 harg5 x3 _ _ 0 0 x y 0 1 ⟨x.val, by omega⟩ y rfl rfl (Nat.zero_add _).symm (Nat.zero_add _).symm).trans (H.h3 1 _ y)) ?_
        exact qs1_val (i 1).val q arg2 harg2 x0 H.h0 y c)
      (fun c k hk _ => hk) (fun c k => by rw [Nat.mod_mod]) _ (fun j => part j)
      (fun j x => (rd2 arg7 harg7 x5 _ _ j x j ⟨x.val, by omega⟩ (Nat.zero_add _).symm (Nat.zero_add _).symm).trans (H.h5 j _)) j c).trans ?_
  beta_reduce
  rw [show c.val % 256 = c.val by omega, show (256 + c.val) % 256 = c.val by omega, show (512 + c.val) % 256 = c.val by omega, show (768 + c.val) % 256 = c.val by omega,
    show 4 + c.val / 256 = 4 * 1 by omega, show 4 + (256 + c.val) / 256 = 4 * 1 + 1 by omega, show 4 + (512 + c.val) / 256 = 4 * 1 + 2 by omega, show 4 + (768 + c.val) / 256 = 4 * 1 + 3 by omega]

end Cert.Attn
-- ==== Proof.Block.lean ====
/-
What a grid point's output block holds: the gated sum of the three branches.
-/
module

public import proofs.«01_k».proof.Proof.Flash
public import proofs.«01_k».proof.Proof.Comp
public import proofs.«01_k».proof.Proof.KernelIdealFrame
public import Idealize.ShloMosaic.Lib.WritesUnit

@[expose] public section

set_option maxRecDepth 16384
set_option maxHeartbeats 1000000

noncomputable section

namespace Cert.Attn

open Cert.KernelIdeal Cert.KernelIdeal.Gen Cert.KernelIdeal.Own
open Idealize.ShloMosaic Idealize.ShloMosaic.TcCoe
open Idealize.SL.Sem

/-- The slab of head 0. -/
theorem slab0 (gt : FVec Ideal S128x256 .f32) (oc : FVec Ideal S64x1024 .f32) (os : FVec Ideal S64x2048 .f32)
    (g : FVec Ideal S80x1024 .f32) (b : FVec Ideal S80x768 .bf16) (e : FVec Ideal S80x1024 .f32) (f : FVec Ideal S768x1024 .f32)
    (u w : FVec Ideal S1x1024 .f32) (d : Fin 64) (r : Fin 256) :
    k0_pay152 gt oc g os b e f u w (ix3 0 d r) = gt (ix2 0 r) * oc (ix2 d ⟨r.val, by omega⟩) + gt (ix2 1 r) * os (ix2 d ⟨r.val, by omega⟩)
      + gt (ix2 2 r) * (k0_pay151 g b e f u w) (ix2 d ⟨r.val, by omega⟩) := by
  pointwise [k0_pay152]

/-- The slab of head 1. -/
theorem slab1 (gt : FVec Ideal S128x256 .f32) (oc : FVec Ideal S64x1024 .f32) (os : FVec Ideal S64x2048 .f32)
    (g : FVec Ideal S80x1024 .f32) (b : FVec Ideal S80x768 .bf16) (e : FVec Ideal S80x1024 .f32) (f : FVec Ideal S768x1024 .f32)
    (u w : FVec Ideal S1x1024 .f32) (d : Fin 64) (r : Fin 256) :
    k0_pay153 gt oc g os b e f u w (ix3 0 d r) = gt (ix2 3 r) * oc (ix2 d ⟨256 + r.val, by omega⟩) + gt (ix2 4 r) * os (ix2 d ⟨256 + r.val, by omega⟩)
      + gt (ix2 5 r) * (k0_pay151 g b e f u w) (ix2 d ⟨256 + r.val, by omega⟩) := by
  pointwise [k0_pay153]

/-- The slab of head 2. -/
theorem slab2 (gt : FVec Ideal S128x256 .f32) (oc : FVec Ideal S64x1024 .f32) (os : FVec Ideal S64x2048 .f32)
    (g : FVec Ideal S80x1024 .f32) (b : FVec Ideal S80x768 .bf16) (e : FVec Ideal S80x1024 .f32) (f : FVec Ideal S768x1024 .f32)
    (u w : FVec Ideal S1x1024 .f32) (d : Fin 64) (r : Fin 256) :
    k0_pay155 gt oc os (k0_pay151 g b e f u w) (k0_pay154 gt) (ix3 0 d r) = gt (ix2 6 r) * oc (ix2 d ⟨512 + r.val, by omega⟩) + gt (ix2 7 r) * os (ix2 d ⟨512 + r.val, by omega⟩)
      + gt (ix2 8 r) * (k0_pay151 g b e f u w) (ix2 d ⟨512 + r.val, by omega⟩) := by
  pointwise [k0_pay155, k0_pay154]

/-- The slab of head 3. -/
theorem slab3 (gt : FVec Ideal S128x256 .f32) (oc : FVec Ideal S64x1024 .f32) (os : FVec Ideal S64x2048 .f32)
    (g : FVec Ideal S80x1024 .f32) (b : FVec Ideal S80x768 .bf16) (e : FVec Ideal S80x1024 .f32) (f : FVec Ideal S768x1024 .f32)
    (u w : FVec Ideal S1x1024 .f32) (d : Fin 64) (r : Fin 256) :
    k0_pay156 gt oc os (k0_pay151 g b e f u w) (ix3 0 d r) = gt (ix2 9 r) * oc (ix2 d ⟨768 + r.val, by omega⟩) + gt (ix2 10 r) * os (ix2 d ⟨768 + r.val, by omega⟩)
      + gt (ix2 11 r) * (k0_pay151 g b e f u w) (ix2 d ⟨768 + r.val, by omega⟩) := by
  pointwise [k0_pay156]

/-- The slab of head 4. -/
theorem slab4 (gt : FVec Ideal S128x256 .f32) (oc : FVec Ideal S64x1024 .f32) (os : FVec Ideal S64x2048 .f32)
    (g : FVec Ideal S80x1024 .f32) (b : FVec Ideal S80x768 .bf16) (e : FVec Ideal S80x1024 .f32) (f : FVec Ideal S768x1024 .f32)
    (u w : FVec Ideal S1x1024 .f32) (d : Fin 64) (r : Fin 256) :
    k0_pay158 (k0_pay157 gt oc os (k0_pay151 g b e f u w)) (ix3 0 d r) = gt (ix2 12 r) * oc (ix2 d ⟨r.val, by omega⟩) + gt (ix2 13 r) * os (ix2 d ⟨1024 + r.val, by omega⟩)
      + gt (ix2 14 r) * (k0_pay151 g b e f u w) (ix2 d ⟨1024 + r.val, by omega⟩) := by
  pointwise [k0_pay158, k0_pay157]

/-- The slab of head 5. -/
theorem slab5 (gt : FVec Ideal S128x256 .f32) (oc : FVec Ideal S64x1024 .f32) (os : FVec Ideal S64x2048 .f32)
    (g : FVec Ideal S80x1024 .f32) (b : FVec Ideal S80x768 .bf16) (e : FVec Ideal S80x1024 .f32) (f : FVec Ideal S768x1024 .f32)
    (u w : FVec Ideal S1x1024 .f32) (d : Fin 64) (r : Fin 256) :
    k0_pay159 gt oc os (k0_pay151 g b e f u w) (ix3 0 d r) = gt (ix2 15 r) * oc (ix2 d ⟨256 + r.val, by omega⟩) + gt (ix2 16 r) * os (ix2 d ⟨1024 + (256 + r.val), by omega⟩)
      + gt (ix2 17 r) * (k0_pay151 g b e f u w) (ix2 d ⟨1024 + (256 + r.val), by omega⟩) := by
  have e : (⟨1024 + (256 + r.val), by omega⟩ : Fin 2048) = ⟨1280 + r.val, by omega⟩ := Fin.ext (by show 1024 + (256 + r.val) = 1280 + r.val; omega)
  rw [e]
  pointwise [k0_pay159]

/-- The slab of head 6. -/
theorem slab6 (gt : FVec Ideal S128x256 .f32) (oc : FVec Ideal S64x1024 .f32) (os : FVec Ideal S64x2048 .f32)
    (g : FVec Ideal S80x1024 .f32) (b : FVec Ideal S80x768 .bf16) (e : FVec Ideal S80x1024 .f32) (f : FVec Ideal S768x1024 .f32)
    (u w : FVec Ideal S1x1024 .f32) (d : Fin 64) (r : Fin 256) :
    k0_pay160 gt oc os (k0_pay151 g b e f u w) (ix3 0 d r) = gt (ix2 18 r) * oc (ix2 d ⟨512 + r.val, by omega⟩) + gt (ix2 19 r) * os (ix2 d ⟨1024 + (512 + r.val), by omega⟩)
      + gt (ix2 20 r) * (k0_pay151 g b e f u w) (ix2 d ⟨1024 + (512 + r.val), by omega⟩) := by
  have e : (⟨1024 + (512 + r.val), by omega⟩ : Fin 2048) = ⟨1536 + r.val, by omega⟩ := Fin.ext (by show 1024 + (512 + r.val) = 1536 + r.val; omega)
  rw [e]
  pointwise [k0_pay160]

/-- The slab of head 7. -/
theorem slab7 (gt : FVec Ideal S128x256 .f32) (oc : FVec Ideal S64x1024 .f32) (os : FVec Ideal S64x2048 .f32)
    (g : FVec Ideal S80x1024 .f32) (b : FVec Ideal S80x768 .bf16) (e : FVec Ideal S80x1024 .f32) (f : FVec Ideal S768x1024 .f32)
    (u w : FVec Ideal S1x1024 .f32) (d : Fin 64) (r : Fin 256) :
    k0_pay1 (k0_pay161 gt oc os (k0_pay151 g b e f u w)) (ix3 0 d r) = gt (ix2 21 r) * oc (ix2 d ⟨768 + r.val, by omega⟩) + gt (ix2 22 r) * os (ix2 d ⟨1024 + (768 + r.val), by omega⟩)
      + gt (ix2 23 r) * (k0_pay151 g b e f u w) (ix2 d ⟨1024 + (768 + r.val), by omega⟩) := by
  have e : (⟨1024 + (768 + r.val), by omega⟩ : Fin 2048) = ⟨1792 + r.val, by omega⟩ := Fin.ext (by show 1024 + (768 + r.val) = 1792 + r.val; omega)
  rw [e]
  pointwise [k0_pay1, k0_pay161]

/-- Which query blocks take each tier. -/
theorem tierA (i : grid0.Coords) (hc1 : ¬ Scalar.cmpi .ne (tierW i) 0#32 = 1#1) : (i 1).val < 8 := by
  have hi := col_lt i
  revert hc1
  unfold tierW
  generalize (i 1).val = n at hi ⊢
  interval_cases n <;> decide

theorem tierB (i : grid0.Coords) (hc1 : Scalar.cmpi .ne (tierW i) 0#32 = 1#1) (hc2 : ¬ Scalar.cmpi .ne (Scalar.subi (tierW i) 1#32) 0#32 = 1#1) : (i 1).val < 16 := by
  have hi := col_lt i
  revert hc1 hc2
  unfold tierW
  generalize (i 1).val = n at hi ⊢
  interval_cases n <;> decide

theorem tierC (i : grid0.Coords) (hc1 : Scalar.cmpi .ne (tierW i) 0#32 = 1#1) (hc2 : Scalar.cmpi .ne (Scalar.subi (tierW i) 1#32) 0#32 = 1#1)
    (hc3 : ¬ Scalar.cmpi .ne (Scalar.subi (Scalar.subi (tierW i) 1#32) 1#32) 0#32 = 1#1) : (i 1).val < 24 := by
  have hi := col_lt i
  revert hc1 hc2 hc3
  unfold tierW
  generalize (i 1).val = n at hi ⊢
  interval_cases n <;> decide

/-- The gates, as logistics. -/
theorem gate_val (n : ℕ) (gl : ℕ → ℕ → EReal) (arg8 : Memref sig .tc .vmem S1x128x256 .f32) (harg8 : arg8.IsWhole) (x6 : Vec Ideal S1x128x256 .f32)
    (h6 : ∀ (c : Fin 128) (r : Fin 256), c.val < 24 → x6 (ix3 0 c r) = gl c.val (256 * n + r.val)) (x : Fin 128) (hx : x.val < 24) (r : Fin 256) :
    k0_pay68 (View.readAt (Elt Ideal) arg8.view (Rect.unit (s := S1x128x256) ![0, 0, 0] S1x128x256.size inb_S1x128x256_S1x128x256_0_0_0).toLoadRect (harg8.unread x6)) (ix2 x r)
      = Ideal.logistic (gl x.val (256 * n + r.val)) := by
  pointwise [k0_pay68]
  congr 1
  exact (rd3 arg8 harg8 x6 _ _ 0 x r 0 x r rfl (Nat.zero_add _).symm (Nat.zero_add _).symm).trans (h6 x r hx)

variable (c : Dev nD) (i : grid0.Coords) (arg2 : Memref sig .tc .vmem S1x512x256 .f32) (harg2 : arg2.IsWhole) (arg3 : Memref sig .tc .vmem S1x8192x256 .bf16) (harg3 : arg3.IsWhole) (arg4 : Memref sig .tc .vmem S1x256x8192 .bf16) (harg4 : arg4.IsWhole) (arg5 : Memref sig .tc .vmem S1x2x512x64 .bf16) (harg5 : arg5.IsWhole) (arg6 : Memref sig .tc .vmem S1x2x64x512 .bf16) (harg6 : arg6.IsWhole) (arg7 : Memref sig .tc .vmem S128x512 .bf16) (harg7 : arg7.IsWhole) (arg8 : Memref sig .tc .vmem S1x128x256 .f32) (harg8 : arg8.IsWhole) (arg9 : Memref sig .tc .vmem S1x512x256 .f32) (harg9 : arg9.IsWhole)
  (x0 : Vec Ideal S1x512x256 .f32) (x1 : Vec Ideal S1x8192x256 .bf16) (x2 : Vec Ideal S1x256x8192 .bf16)
  (x3 : Vec Ideal S1x2x512x64 .bf16) (x4 : Vec Ideal S1x2x64x512 .bf16) (x5 : Vec Ideal S128x512 .bf16) (x6 : Vec Ideal S1x128x256 .f32) (oc0 oc1 : FVec Ideal S64x1024 .f32) (im0 im1 : FVec Ideal S128x256 .f32)
variable {q : ℕ → ℕ → ℕ → ℝ} {kc ks kw : ℕ → ℕ → ℕ → ℝ} {vc vs vw : ℕ → ℕ → ℕ → EReal} {gl : ℕ → ℕ → EReal}

/-- What is stored at a grid point is the gated sum of the three branches, given the compressed branch's values. -/
def Good (y : S1x512x256.Idx → EReal) (q : ℕ → ℕ → ℕ → ℝ) (kc ks kw : ℕ → ℕ → ℕ → ℝ) (vc vs vw : ℕ → ℕ → ℕ → EReal) (gl : ℕ → ℕ → EReal) (n : ℕ) : Prop :=
  ∀ (h : Fin 8) (d : Fin 64) (r : Fin 256), y (ix3 0 ⟨64 * h.val + d.val, by omega⟩ r) = outAll q kc ks kw vc vs vw gl h.val d.val (256 * n + r.val)

theorem stored0 (H : Holds (i 1).val x0 x1 x2 x3 x4 x5 x6 q kc ks kw vc vs vw gl) (I : Imps q kc i im0 im1)
    (O : ∀ (d : Fin 64) (c : Fin 1024), oc0 (ix2 d c)
      = attn 512 (Vis (256 * (i 1).val + c.val % 256)) (score q (kc 0) (c.val / 256) (256 * (i 1).val + c.val % 256)) (vc 0 d.val))
    (d : Fin 64) (r : Fin 256) :
    VO0_7.read (Elt Ideal) (VO0_7.writes (Elt Ideal) VO0_7.junk (stored c i arg2 harg2 arg3 harg3 arg4 harg4 arg5 harg5 arg6 harg6 arg7 harg7 arg8 harg8 arg9 harg9 x0 x1 x2 x6 oc0 oc1 im0 im1)) (ix3 0 ⟨0 + d.val, by omega⟩ r)
      = outAll q kc ks kw vc vs vw gl 0 d.val (256 * (i 1).val + r.val) := by
  have hd := d.isLt
  have hr := r.isLt
  unfold stored slabs
  refine (View.read_writes_cons_unit_of_not_mem VO0_7 _ _ _ _ _ rfl (1 : Fin 3) (Or.inl (show 0 + d.val < 448 by omega))).trans ?_
  refine (View.read_writes_cons_unit_of_not_mem VO0_7 _ _ _ _ _ rfl (1 : Fin 3) (Or.inl (show 0 + d.val < 384 by omega))).trans ?_
  refine (View.read_writes_cons_unit_of_not_mem VO0_7 _ _ _ _ _ rfl (1 : Fin 3) (Or.inl (show 0 + d.val < 320 by omega))).trans ?_
  refine (View.read_writes_cons_unit_of_not_mem VO0_7 _ _ _ _ _ rfl (1 : Fin 3) (Or.inl (show 0 + d.val < 256 by omega))).trans ?_
  refine (View.read_writes_cons_unit_of_not_mem VO0_7 _ _ _ _ _ rfl (1 : Fin 3) (Or.inl (show 0 + d.val < 192 by omega))).trans ?_
  refine (View.read_writes_cons_unit_of_not_mem VO0_7 _ _ _ _ _ rfl (1 : Fin 3) (Or.inl (show 0 + d.val < 128 by omega))).trans ?_
  refine (View.read_writes_cons_unit_of_not_mem VO0_7 _ _ _ _ _ rfl (1 : Fin 3) (Or.inl (show 0 + d.val < 64 by omega))).trans ?_
  refine (View.read_writes_cons_unit_of_mem VO0_7 _ _ _ _ _ (ix3 0 d r) rfl (fun a => by
    fin_cases a
    · rfl
    · rfl
    · exact (Nat.zero_add _).symm)).trans ?_
  refine (slab0 _ _ _ _ _ _ _ _ _ d r).trans ?_
  refine congrArg₂ (· + ·) (congrArg₂ (· + ·) (congrArg₂ (· * ·) (gate_val (i 1).val gl arg8 harg8 x6 H.h6 0 (by decide) r) ?_)
    (congrArg₂ (· * ·) (gate_val (i 1).val gl arg8 harg8 x6 H.h6 1 (by decide) r) ?_)) (congrArg₂ (· * ·) (gate_val (i 1).val gl arg8 harg8 x6 H.h6 2 (by decide) r) ?_)
  · rw [O]
    show attn 512 (Vis (256 * (i 1).val + r.val % 256)) (score q (kc 0) (r.val / 256) (256 * (i 1).val + r.val % 256)) (vc 0 d.val) = outC q kc vc 0 d.val (256 * (i 1).val + r.val)
    rw [show r.val % 256 = r.val by omega, show r.val / 256 = 0 by omega]
    rfl
  · refine (outSel0_val c i arg2 harg2 arg3 harg3 arg4 harg4 arg5 harg5 arg6 harg6 arg7 harg7 arg8 harg8 arg9 harg9 x0 x1 x2 im0 im1 H I d ⟨r.val, by omega⟩).trans ?_
    show outS q kc ks vs (r.val / 256) d.val (256 * (i 1).val + r.val % 256) = _
    rw [show r.val % 256 = r.val by omega, show r.val / 256 = 0 by omega]
  · refine (outWin0_val i arg2 harg2 arg3 harg3 arg4 harg4 x0 x1 x2 H d ⟨r.val, by omega⟩).trans ?_
    show outW q kw vw (r.val / 256) d.val (256 * (i 1).val + r.val % 256) = _
    rw [show r.val % 256 = r.val by omega, show r.val / 256 = 0 by omega]

theorem stored1 (H : Holds (i 1).val x0 x1 x2 x3 x4 x5 x6 q kc ks kw vc vs vw gl) (I : Imps q kc i im0 im1)
    (O : ∀ (d : Fin 64) (c : Fin 1024), oc0 (ix2 d c)
      = attn 512 (Vis (256 * (i 1).val + c.val % 256)) (score q (kc 0) (c.val / 256) (256 * (i 1).val + c.val % 256)) (vc 0 d.val))
    (d : Fin 64) (r : Fin 256) :
    VO0_7.read (Elt Ideal) (VO0_7.writes (Elt Ideal) VO0_7.junk (stored c i arg2 harg2 arg3 harg3 arg4 harg4 arg5 harg5 arg6 harg6 arg7 harg7 arg8 harg8 arg9 harg9 x0 x1 x2 x6 oc0 oc1 im0 im1)) (ix3 0 ⟨64 + d.val, by omega⟩ r)
      = outAll q kc ks kw vc vs vw gl 1 d.val (256 * (i 1).val + r.val) := by
  have hd := d.isLt
  have hr := r.isLt
  unfold stored slabs
  refine (View.read_writes_cons_unit_of_not_mem VO0_7 _ _ _ _ _ rfl (1 : Fin 3) (Or.inl (show 64 + d.val < 448 by omega))).trans ?_
  refine (View.read_writes_cons_unit_of_not_mem VO0_7 _ _ _ _ _ rfl (1 : Fin 3) (Or.inl (show 64 + d.val < 384 by omega))).trans ?_
  refine (View.read_writes_cons_unit_of_not_mem VO0_7 _ _ _ _ _ rfl (1 : Fin 3) (Or.inl (show 64 + d.val < 320 by omega))).trans ?_
  refine (View.read_writes_cons_unit_of_not_mem VO0_7 _ _ _ _ _ rfl (1 : Fin 3) (Or.inl (show 64 + d.val < 256 by omega))).trans ?_
  refine (View.read_writes_cons_unit_of_not_mem VO0_7 _ _ _ _ _ rfl (1 : Fin 3) (Or.inl (show 64 + d.val < 192 by omega))).trans ?_
  refine (View.read_writes_cons_unit_of_not_mem VO0_7 _ _ _ _ _ rfl (1 : Fin 3) (Or.inl (show 64 + d.val < 128 by omega))).trans ?_
  refine (View.read_writes_cons_unit_of_mem VO0_7 _ _ _ _ _ (ix3 0 d r) rfl (fun a => by
    fin_cases a
    · rfl
    · rfl
    · exact (Nat.zero_add _).symm)).trans ?_
  refine (slab1 _ _ _ _ _ _ _ _ _ d r).trans ?_
  refine congrArg₂ (· + ·) (congrArg₂ (· + ·) (congrArg₂ (· * ·) (gate_val (i 1).val gl arg8 harg8 x6 H.h6 3 (by decide) r) ?_)
    (congrArg₂ (· * ·) (gate_val (i 1).val gl arg8 harg8 x6 H.h6 4 (by decide) r) ?_)) (congrArg₂ (· * ·) (gate_val (i 1).val gl arg8 harg8 x6 H.h6 5 (by decide) r) ?_)
  · rw [O]
    show attn 512 (Vis (256 * (i 1).val + (256 + r.val) % 256)) (score q (kc 0) ((256 + r.val) / 256) (256 * (i 1).val + (256 + r.val) % 256)) (vc 0 d.val) = outC q kc vc 1 d.val (256 * (i 1).val + r.val)
    rw [show (256 + r.val) % 256 = r.val by omega, show (256 + r.val) / 256 = 1 by omega]
    rfl
  · refine (outSel0_val c i arg2 harg2 arg3 harg3 arg4 harg4 arg5 harg5 arg6 harg6 arg7 harg7 arg8 harg8 arg9 harg9 x0 x1 x2 im0 im1 H I d ⟨256 + r.val, by omega⟩).trans ?_
    show outS q kc ks vs ((256 + r.val) / 256) d.val (256 * (i 1).val + (256 + r.val) % 256) = _
    rw [show (256 + r.val) % 256 = r.val by omega, show (256 + r.val) / 256 = 1 by omega]
  · refine (outWin0_val i arg2 harg2 arg3 harg3 arg4 harg4 x0 x1 x2 H d ⟨256 + r.val, by omega⟩).trans ?_
    show outW q kw vw ((256 + r.val) / 256) d.val (256 * (i 1).val + (256 + r.val) % 256) = _
    rw [show (256 + r.val) % 256 = r.val by omega, show (256 + r.val) / 256 = 1 by omega]

theorem stored2 (H : Holds (i 1).val x0 x1 x2 x3 x4 x5 x6 q kc ks kw vc vs vw gl) (I : Imps q kc i im0 im1)
    (O : ∀ (d : Fin 64) (c : Fin 1024), oc0 (ix2 d c)
      = attn 512 (Vis (256 * (i 1).val + c.val % 256)) (score q (kc 0) (c.val / 256) (256 * (i 1).val + c.val % 256)) (vc 0 d.val))
    (d : Fin 64) (r : Fin 256) :
    VO0_7.read (Elt Ideal) (VO0_7.writes (Elt Ideal) VO0_7.junk (stored c i arg2 harg2 arg3 harg3 arg4 harg4 arg5 harg5 arg6 harg6 arg7 harg7 arg8 harg8 arg9 harg9 x0 x1 x2 x6 oc0 oc1 im0 im1)) (ix3 0 ⟨128 + d.val, by omega⟩ r)
      = outAll q kc ks kw vc vs vw gl 2 d.val (256 * (i 1).val + r.val) := by
  have hd := d.isLt
  have hr := r.isLt
  unfold stored slabs
  refine (View.read_writes_cons_unit_of_not_mem VO0_7 _ _ _ _ _ rfl (1 : Fin 3) (Or.inl (show 128 + d.val < 448 by omega))).trans ?_
  refine (View.read_writes_cons_unit_of_not_mem VO0_7 _ _ _ _ _ rfl (1 : Fin 3) (Or.inl (show 128 + d.val < 384 by omega))).trans ?_
  refine (View.read_writes_cons_unit_of_not_mem VO0_7 _ _ _ _ _ rfl (1 : Fin 3) (Or.inl (show 128 + d.val < 320 by omega))).trans ?_
  refine (View.read_writes_cons_unit_of_not_mem VO0_7 _ _ _ _ _ rfl (1 : Fin 3) (Or.inl (show 128 + d.val < 256 by omega))).trans ?_
  refine (View.read_writes_cons_unit_of_not_mem VO0_7 _ _ _ _ _ rfl (1 : Fin 3) (Or.inl (show 128 + d.val < 192 by omega))).trans ?_
  refine (View.read_writes_cons_unit_of_mem VO0_7 _ _ _ _ _ (ix3 0 d r) rfl (fun a => by
    fin_cases a
    · rfl
    · rfl
    · exact (Nat.zero_add _).symm)).trans ?_
  refine (slab2 _ _ _ _ _ _ _ _ _ d r).trans ?_
  refine congrArg₂ (· + ·) (congrArg₂ (· + ·) (congrArg₂ (· * ·) (gate_val (i 1).val gl arg8 harg8 x6 H.h6 6 (by decide) r) ?_)
    (congrArg₂ (· * ·) (gate_val (i 1).val gl arg8 harg8 x6 H.h6 7 (by decide) r) ?_)) (congrArg₂ (· * ·) (gate_val (i 1).val gl arg8 harg8 x6 H.h6 8 (by decide) r) ?_)
  · rw [O]
    show attn 512 (Vis (256 * (i 1).val + (512 + r.val) % 256)) (score q (kc 0) ((512 + r.val) / 256) (256 * (i 1).val + (512 + r.val) % 256)) (vc 0 d.val) = outC q kc vc 2 d.val (256 * (i 1).val + r.val)
    rw [show (512 + r.val) % 256 = r.val by omega, show (512 + r.val) / 256 = 2 by omega]
    rfl
  · refine (outSel0_val c i arg2 harg2 arg3 harg3 arg4 harg4 arg5 harg5 arg6 harg6 arg7 harg7 arg8 harg8 arg9 harg9 x0 x1 x2 im0 im1 H I d ⟨512 + r.val, by omega⟩).trans ?_
    show outS q kc ks vs ((512 + r.val) / 256) d.val (256 * (i 1).val + (512 + r.val) % 256) = _
    rw [show (512 + r.val) % 256 = r.val by omega, show (512 + r.val) / 256 = 2 by omega]
  · refine (outWin0_val i arg2 harg2 arg3 harg3 arg4 harg4 x0 x1 x2 H d ⟨512 + r.val, by omega⟩).trans ?_
    show outW q kw vw ((512 + r.val) / 256) d.val (256 * (i 1).val + (512 + r.val) % 256) = _
    rw [show (512 + r.val) % 256 = r.val by omega, show (512 + r.val) / 256 = 2 by omega]

theorem stored3 (H : Holds (i 1).val x0 x1 x2 x3 x4 x5 x6 q kc ks kw vc vs vw gl) (I : Imps q kc i im0 im1)
    (O : ∀ (d : Fin 64) (c : Fin 1024), oc0 (ix2 d c)
      = attn 512 (Vis (256 * (i 1).val + c.val % 256)) (score q (kc 0) (c.val / 256) (256 * (i 1).val + c.val % 256)) (vc 0 d.val))
    (d : Fin 64) (r : Fin 256) :
    VO0_7.read (Elt Ideal) (VO0_7.writes (Elt Ideal) VO0_7.junk (stored c i arg2 harg2 arg3 harg3 arg4 harg4 arg5 harg5 arg6 harg6 arg7 harg7 arg8 harg8 arg9 harg9 x0 x1 x2 x6 oc0 oc1 im0 im1)) (ix3 0 ⟨192 + d.val, by omega⟩ r)
      = outAll q kc ks kw vc vs vw gl 3 d.val (256 * (i 1).val + r.val) := by
  have hd := d.isLt
  have hr := r.isLt
  unfold stored slabs
  refine (View.read_writes_cons_unit_of_not_mem VO0_7 _ _ _ _ _ rfl (1 : Fin 3) (Or.inl (show 192 + d.val < 448 by omega))).trans ?_
  refine (View.read_writes_cons_unit_of_not_mem VO0_7 _ _ _ _ _ rfl (1 : Fin 3) (Or.inl (show 192 + d.val < 384 by omega))).trans ?_
  refine (View.read_writes_cons_unit_of_not_mem VO0_7 _ _ _ _ _ rfl (1 : Fin 3) (Or.inl (show 192 + d.val < 320 by omega))).trans ?_
  refine (View.read_writes_cons_unit_of_not_mem VO0_7 _ _ _ _ _ rfl (1 : Fin 3) (Or.inl (show 192 + d.val < 256 by omega))).trans ?_
  refine (View.read_writes_cons_unit_of_mem VO0_7 _ _ _ _ _ (ix3 0 d r) rfl (fun a => by
    fin_cases a
    · rfl
    · rfl
    · exact (Nat.zero_add _).symm)).trans ?_
  refine (slab3 _ _ _ _ _ _ _ _ _ d r).trans ?_
  refine congrArg₂ (· + ·) (congrArg₂ (· + ·) (congrArg₂ (· * ·) (gate_val (i 1).val gl arg8 harg8 x6 H.h6 9 (by decide) r) ?_)
    (congrArg₂ (· * ·) (gate_val (i 1).val gl arg8 harg8 x6 H.h6 10 (by decide) r) ?_)) (congrArg₂ (· * ·) (gate_val (i 1).val gl arg8 harg8 x6 H.h6 11 (by decide) r) ?_)
  · rw [O]
    show attn 512 (Vis (256 * (i 1).val + (768 + r.val) % 256)) (score q (kc 0) ((768 + r.val) / 256) (256 * (i 1).val + (768 + r.val) % 256)) (vc 0 d.val) = outC q kc vc 3 d.val (256 * (i 1).val + r.val)
    rw [show (768 + r.val) % 256 = r.val by omega, show (768 + r.val) / 256 = 3 by omega]
    rfl
  · refine (outSel0_val c i arg2 harg2 arg3 harg3 arg4 harg4 arg5 harg5 arg6 harg6 arg7 harg7 arg8 harg8 arg9 harg9 x0 x1 x2 im0 im1 H I d ⟨768 + r.val, by omega⟩).trans ?_
    show outS q kc ks vs ((768 + r.val) / 256) d.val (256 * (i 1).val + (768 + r.val) % 256) = _
    rw [show (768 + r.val) % 256 = r.val by omega, show (768 + r.val) / 256 = 3 by omega]
  · refine (outWin0_val i arg2 harg2 arg3 harg3 arg4 harg4 x0 x1 x2 H d ⟨768 + r.val, by omega⟩).trans ?_
    show outW q kw vw ((768 + r.val) / 256) d.val (256 * (i 1).val + (768 + r.val) % 256) = _
    rw [show (768 + r.val) % 256 = r.val by omega, show (768 + r.val) / 256 = 3 by omega]

theorem stored4 (H : Holds (i 1).val x0 x1 x2 x3 x4 x5 x6 q kc ks kw vc vs vw gl) (I : Imps q kc i im0 im1)
    (O : ∀ (d : Fin 64) (c : Fin 1024), oc1 (ix2 d c)
      = attn 512 (Vis (256 * (i 1).val + c.val % 256)) (score q (kc 1) (4 + c.val / 256) (256 * (i 1).val + c.val % 256)) (vc 1 d.val))
    (d : Fin 64) (r : Fin 256) :
    VO0_7.read (Elt Ideal) (VO0_7.writes (Elt Ideal) VO0_7.junk (stored c i arg2 harg2 arg3 harg3 arg4 harg4 arg5 harg5 arg6 harg6 arg7 harg7 arg8 harg8 arg9 harg9 x0 x1 x2 x6 oc0 oc1 im0 im1)) (ix3 0 ⟨256 + d.val, by omega⟩ r)
      = outAll q kc ks kw vc vs vw gl 4 d.val (256 * (i 1).val + r.val) := by
  have hd := d.isLt
  have hr := r.isLt
  unfold stored slabs
  refine (View.read_writes_cons_unit_of_not_mem VO0_7 _ _ _ _ _ rfl (1 : Fin 3) (Or.inl (show 256 + d.val < 448 by omega))).trans ?_
  refine (View.read_writes_cons_unit_of_not_mem VO0_7 _ _ _ _ _ rfl (1 : Fin 3) (Or.inl (show 256 + d.val < 384 by omega))).trans ?_
  refine (View.read_writes_cons_unit_of_not_mem VO0_7 _ _ _ _ _ rfl (1 : Fin 3) (Or.inl (show 256 + d.val < 320 by omega))).trans ?_
  refine (View.read_writes_cons_unit_of_mem VO0_7 _ _ _ _ _ (ix3 0 d r) rfl (fun a => by
    fin_cases a
    · rfl
    · rfl
    · exact (Nat.zero_add _).symm)).trans ?_
  refine (slab4 _ _ _ _ _ _ _ _ _ d r).trans ?_
  refine congrArg₂ (· + ·) (congrArg₂ (· + ·) (congrArg₂ (· * ·) (gate_val (i 1).val gl arg8 harg8 x6 H.h6 12 (by decide) r) ?_)
    (congrArg₂ (· * ·) (gate_val (i 1).val gl arg8 harg8 x6 H.h6 13 (by decide) r) ?_)) (congrArg₂ (· * ·) (gate_val (i 1).val gl arg8 harg8 x6 H.h6 14 (by decide) r) ?_)
  · rw [O]
    show attn 512 (Vis (256 * (i 1).val + r.val % 256)) (score q (kc 1) (4 + r.val / 256) (256 * (i 1).val + r.val % 256)) (vc 1 d.val) = outC q kc vc 4 d.val (256 * (i 1).val + r.val)
    rw [show r.val % 256 = r.val by omega, show 4 + r.val / 256 = 4 by omega]
    rfl
  · refine (outSel1_val c i arg2 harg2 arg3 harg3 arg4 harg4 arg5 harg5 arg6 harg6 arg7 harg7 arg8 harg8 arg9 harg9 x0 x1 x2 im0 im1 H I d ⟨r.val, by omega⟩).trans ?_
    show outS q kc ks vs (4 + r.val / 256) d.val (256 * (i 1).val + r.val % 256) = _
    rw [show r.val % 256 = r.val by omega, show 4 + r.val / 256 = 4 by omega]
  · refine (outWin1_val i arg2 harg2 arg3 harg3 arg4 harg4 x0 x1 x2 H d ⟨r.val, by omega⟩).trans ?_
    show outW q kw vw (4 + r.val / 256) d.val (256 * (i 1).val + r.val % 256) = _
    rw [show r.val % 256 = r.val by omega, show 4 + r.val / 256 = 4 by omega]

theorem stored5 (H : Holds (i 1).val x0 x1 x2 x3 x4 x5 x6 q kc ks kw vc vs vw gl) (I : Imps q kc i im0 im1)
    (O : ∀ (d : Fin 64) (c : Fin 1024), oc1 (ix2 d c)
      = attn 512 (Vis (256 * (i 1).val + c.val % 256)) (score q (kc 1) (4 + c.val / 256) (256 * (i 1).val + c.val % 256)) (vc 1 d.val))
    (d : Fin 64) (r : Fin 256) :
    VO0_7.read (Elt Ideal) (VO0_7.writes (Elt Ideal) VO0_7.junk (stored c i arg2 harg2 arg3 harg3 arg4 harg4 arg5 harg5 arg6 harg6 arg7 harg7 arg8 harg8 arg9 harg9 x0 x1 x2 x6 oc0 oc1 im0 im1)) (ix3 0 ⟨320 + d.val, by omega⟩ r)
      = outAll q kc ks kw vc vs vw gl 5 d.val (256 * (i 1).val + r.val) := by
  have hd := d.isLt
  have hr := r.isLt
  unfold stored slabs
  refine (View.read_writes_cons_unit_of_not_mem VO0_7 _ _ _ _ _ rfl (1 : Fin 3) (Or.inl (show 320 + d.val < 448 by omega))).trans ?_
  refine (View.read_writes_cons_unit_of_not_mem VO0_7 _ _ _ _ _ rfl (1 : Fin 3) (Or.inl (show 320 + d.val < 384 by omega))).trans ?_
  refine (View.read_writes_cons_unit_of_mem VO0_7 _ _ _ _ _ (ix3 0 d r) rfl (fun a => by
    fin_cases a
    · rfl
    · rfl
    · exact (Nat.zero_add _).symm)).trans ?_
  refine (slab5 _ _ _ _ _ _ _ _ _ d r).trans ?_
  refine congrArg₂ (· + ·) (congrArg₂ (· + ·) (congrArg₂ (· * ·) (gate_val (i 1).val gl arg8 harg8 x6 H.h6 15 (by decide) r) ?_)
    (congrArg₂ (· * ·) (gate_val (i 1).val gl arg8 harg8 x6 H.h6 16 (by decide) r) ?_)) (congrArg₂ (· * ·) (gate_val (i 1).val gl arg8 harg8 x6 H.h6 17 (by decide) r) ?_)
  · rw [O]
    show attn 512 (Vis (256 * (i 1).val + (256 + r.val) % 256)) (score q (kc 1) (4 + (256 + r.val) / 256) (256 * (i 1).val + (256 + r.val) % 256)) (vc 1 d.val) = outC q kc vc 5 d.val (256 * (i 1).val + r.val)
    rw [show (256 + r.val) % 256 = r.val by omega, show 4 + (256 + r.val) / 256 = 5 by omega]
    rfl
  · refine (outSel1_val c i arg2 harg2 arg3 harg3 arg4 harg4 arg5 harg5 arg6 harg6 arg7 harg7 arg8 harg8 arg9 harg9 x0 x1 x2 im0 im1 H I d ⟨256 + r.val, by omega⟩).trans ?_
    show outS q kc ks vs (4 + (256 + r.val) / 256) d.val (256 * (i 1).val + (256 + r.val) % 256) = _
    rw [show (256 + r.val) % 256 = r.val by omega, show 4 + (256 + r.val) / 256 = 5 by omega]
  · refine (outWin1_val i arg2 harg2 arg3 harg3 arg4 harg4 x0 x1 x2 H d ⟨256 + r.val, by omega⟩).trans ?_
    show outW q kw vw (4 + (256 + r.val) / 256) d.val (256 * (i 1).val + (256 + r.val) % 256) = _
    rw [show (256 + r.val) % 256 = r.val by omega, show 4 + (256 + r.val) / 256 = 5 by omega]

theorem stored6 (H : Holds (i 1).val x0 x1 x2 x3 x4 x5 x6 q kc ks kw vc vs vw gl) (I : Imps q kc i im0 im1)
    (O : ∀ (d : Fin 64) (c : Fin 1024), oc1 (ix2 d c)
      = attn 512 (Vis (256 * (i 1).val + c.val % 256)) (score q (kc 1) (4 + c.val / 256) (256 * (i 1).val + c.val % 256)) (vc 1 d.val))
    (d : Fin 64) (r : Fin 256) :
    VO0_7.read (Elt Ideal) (VO0_7.writes (Elt Ideal) VO0_7.junk (stored c i arg2 harg2 arg3 harg3 arg4 harg4 arg5 harg5 arg6 harg6 arg7 harg7 arg8 harg8 arg9 harg9 x0 x1 x2 x6 oc0 oc1 im0 im1)) (ix3 0 ⟨384 + d.val, by omega⟩ r)
      = outAll q kc ks kw vc vs vw gl 6 d.val (256 * (i 1).val + r.val) := by
  have hd := d.isLt
  have hr := r.isLt
  unfold stored slabs
  refine (View.read_writes_cons_unit_of_not_mem VO0_7 _ _ _ _ _ rfl (1 : Fin 3) (Or.inl (show 384 + d.val < 448 by omega))).trans ?_
  refine (View.read_writes_cons_unit_of_mem VO0_7 _ _ _ _ _ (ix3 0 d r) rfl (fun a => by
    fin_cases a
    · rfl
    · rfl
    · exact (Nat.zero_add _).symm)).trans ?_
  refine (slab6 _ _ _ _ _ _ _ _ _ d r).trans ?_
  refine congrArg₂ (· + ·) (congrArg₂ (· + ·) (congrArg₂ (· * ·) (gate_val (i 1).val gl arg8 harg8 x6 H.h6 18 (by decide) r) ?_)
    (congrArg₂ (· * ·) (gate_val (i 1).val gl arg8 harg8 x6 H.h6 19 (by decide) r) ?_)) (congrArg₂ (· * ·) (gate_val (i 1).val gl arg8 harg8 x6 H.h6 20 (by decide) r) ?_)
  · rw [O]
    show attn 512 (Vis (256 * (i 1).val + (512 + r.val) % 256)) (score q (kc 1) (4 + (512 + r.val) / 256) (256 * (i 1).val + (512 + r.val) % 256)) (vc 1 d.val) = outC q kc vc 6 d.val (256 * (i 1).val + r.val)
    rw [show (512 + r.val) % 256 = r.val by omega, show 4 + (512 + r.val) / 256 = 6 by omega]
    rfl
  · refine (outSel1_val c i arg2 harg2 arg3 harg3 arg4 harg4 arg5 harg5 arg6 harg6 arg7 harg7 arg8 harg8 arg9 harg9 x0 x1 x2 im0 im1 H I d ⟨512 + r.val, by omega⟩).trans ?_
    show outS q kc ks vs (4 + (512 + r.val) / 256) d.val (256 * (i 1).val + (512 + r.val) % 256) = _
    rw [show (512 + r.val) % 256 = r.val by omega, show 4 + (512 + r.val) / 256 = 6 by omega]
  · refine (outWin1_val i arg2 harg2 arg3 harg3 arg4 harg4 x0 x1 x2 H d ⟨512 + r.val, by omega⟩).trans ?_
    show outW q kw vw (4 + (512 + r.val) / 256) d.val (256 * (i 1).val + (512 + r.val) % 256) = _
    rw [show (512 + r.val) % 256 = r.val by omega, show 4 + (512 + r.val) / 256 = 6 by omega]

theorem stored7 (H : Holds (i 1).val x0 x1 x2 x3 x4 x5 x6 q kc ks kw vc vs vw gl) (I : Imps q kc i im0 im1)
    (O : ∀ (d : Fin 64) (c : Fin 1024), oc1 (ix2 d c)
      = attn 512 (Vis (256 * (i 1).val + c.val % 256)) (score q (kc 1) (4 + c.val / 256) (256 * (i 1).val + c.val % 256)) (vc 1 d.val))
    (d : Fin 64) (r : Fin 256) :
    VO0_7.read (Elt Ideal) (VO0_7.writes (Elt Ideal) VO0_7.junk (stored c i arg2 harg2 arg3 harg3 arg4 harg4 arg5 harg5 arg6 harg6 arg7 harg7 arg8 harg8 arg9 harg9 x0 x1 x2 x6 oc0 oc1 im0 im1)) (ix3 0 ⟨448 + d.val, by omega⟩ r)
      = outAll q kc ks kw vc vs vw gl 7 d.val (256 * (i 1).val + r.val) := by
  have hd := d.isLt
  have hr := r.isLt
  unfold stored slabs
  refine (View.read_writes_cons_unit_of_mem VO0_7 _ _ _ _ _ (ix3 0 d r) rfl (fun a => by
    fin_cases a
    · rfl
    · rfl
    · exact (Nat.zero_add _).symm)).trans ?_
  refine (slab7 _ _ _ _ _ _ _ _ _ d r).trans ?_
  refine congrArg₂ (· + ·) (congrArg₂ (· + ·) (congrArg₂ (· * ·) (gate_val (i 1).val gl arg8 harg8 x6 H.h6 21 (by decide) r) ?_)
    (congrArg₂ (· * ·) (gate_val (i 1).val gl arg8 harg8 x6 H.h6 22 (by decide) r) ?_)) (congrArg₂ (· * ·) (gate_val (i 1).val gl arg8 harg8 x6 H.h6 23 (by decide) r) ?_)
  · rw [O]
    show attn 512 (Vis (256 * (i 1).val + (768 + r.val) % 256)) (score q (kc 1) (4 + (768 + r.val) / 256) (256 * (i 1).val + (768 + r.val) % 256)) (vc 1 d.val) = outC q kc vc 7 d.val (256 * (i 1).val + r.val)
    rw [show (768 + r.val) % 256 = r.val by omega, show 4 + (768 + r.val) / 256 = 7 by omega]
    rfl
  · refine (outSel1_val c i arg2 harg2 arg3 harg3 arg4 harg4 arg5 harg5 arg6 harg6 arg7 harg7 arg8 harg8 arg9 harg9 x0 x1 x2 im0 im1 H I d ⟨768 + r.val, by omega⟩).trans ?_
    show outS q kc ks vs (4 + (768 + r.val) / 256) d.val (256 * (i 1).val + (768 + r.val) % 256) = _
    rw [show (768 + r.val) % 256 = r.val by omega, show 4 + (768 + r.val) / 256 = 7 by omega]
  · refine (outWin1_val i arg2 harg2 arg3 harg3 arg4 harg4 x0 x1 x2 H d ⟨768 + r.val, by omega⟩).trans ?_
    show outW q kw vw (4 + (768 + r.val) / 256) d.val (256 * (i 1).val + (768 + r.val) % 256) = _
    rw [show (768 + r.val) % 256 = r.val by omega, show 4 + (768 + r.val) / 256 = 7 by omega]

theorem stored_good (H : Holds (i 1).val x0 x1 x2 x3 x4 x5 x6 q kc ks kw vc vs vw gl) (I : Imps q kc i im0 im1)
    (O0 : ∀ (d : Fin 64) (c : Fin 1024), oc0 (ix2 d c)
      = attn 512 (Vis (256 * (i 1).val + c.val % 256)) (score q (kc 0) (c.val / 256) (256 * (i 1).val + c.val % 256)) (vc 0 d.val))
    (O1 : ∀ (d : Fin 64) (c : Fin 1024), oc1 (ix2 d c)
      = attn 512 (Vis (256 * (i 1).val + c.val % 256)) (score q (kc 1) (4 + c.val / 256) (256 * (i 1).val + c.val % 256)) (vc 1 d.val)) :
    Good (VO0_7.read (Elt Ideal) (VO0_7.writes (Elt Ideal) VO0_7.junk (stored c i arg2 harg2 arg3 harg3 arg4 harg4 arg5 harg5 arg6 harg6 arg7 harg7 arg8 harg8 arg9 harg9 x0 x1 x2 x6 oc0 oc1 im0 im1))) q kc ks kw vc vs vw gl (i 1).val := by
  intro h d r
  obtain ⟨h, hh⟩ := h
  interval_cases h
  · exact stored0 c i arg2 harg2 arg3 harg3 arg4 harg4 arg5 harg5 arg6 harg6 arg7 harg7 arg8 harg8 arg9 harg9 x0 x1 x2 x3 x4 x5 x6 oc0 oc1 im0 im1 H I O0 d r
  · exact stored1 c i arg2 harg2 arg3 harg3 arg4 harg4 arg5 harg5 arg6 harg6 arg7 harg7 arg8 harg8 arg9 harg9 x0 x1 x2 x3 x4 x5 x6 oc0 oc1 im0 im1 H I O0 d r
  · exact stored2 c i arg2 harg2 arg3 harg3 arg4 harg4 arg5 harg5 arg6 harg6 arg7 harg7 arg8 harg8 arg9 harg9 x0 x1 x2 x3 x4 x5 x6 oc0 oc1 im0 im1 H I O0 d r
  · exact stored3 c i arg2 harg2 arg3 harg3 arg4 harg4 arg5 harg5 arg6 harg6 arg7 harg7 arg8 harg8 arg9 harg9 x0 x1 x2 x3 x4 x5 x6 oc0 oc1 im0 im1 H I O0 d r
  · exact stored4 c i arg2 harg2 arg3 harg3 arg4 harg4 arg5 harg5 arg6 harg6 arg7 harg7 arg8 harg8 arg9 harg9 x0 x1 x2 x3 x4 x5 x6 oc0 oc1 im0 im1 H I O1 d r
  · exact stored5 c i arg2 harg2 arg3 harg3 arg4 harg4 arg5 harg5 arg6 harg6 arg7 harg7 arg8 harg8 arg9 harg9 x0 x1 x2 x3 x4 x5 x6 oc0 oc1 im0 im1 H I O1 d r
  · exact stored6 c i arg2 harg2 arg3 harg3 arg4 harg4 arg5 harg5 arg6 harg6 arg7 harg7 arg8 harg8 arg9 harg9 x0 x1 x2 x3 x4 x5 x6 oc0 oc1 im0 im1 H I O1 d r
  · exact stored7 c i arg2 harg2 arg3 harg3 arg4 harg4 arg5 harg5 arg6 harg6 arg7 harg7 arg8 harg8 arg9 harg9 x0 x1 x2 x3 x4 x5 x6 oc0 oc1 im0 im1 H I O1 d r

/-- The output block of a grid point. -/
theorem outBlock_good (H : Holds (i 1).val x0 x1 x2 x3 x4 x5 x6 q kc ks kw vc vs vw gl) : Good (outBlock c i arg2 harg2 arg3 harg3 arg4 harg4 arg5 harg5 arg6 harg6 arg7 harg7 arg8 harg8 arg9 harg9 x0 x1 x2 x3 x4 x5 x6) q kc ks kw vc vs vw gl (i 1).val := by
  have hi := col_lt i
  unfold outBlock
  by_cases hc1 : Scalar.cmpi .ne (tierW i) 0#32 = 1#1
  · by_cases hc2 : Scalar.cmpi .ne (Scalar.subi (tierW i) 1#32) 0#32 = 1#1
    · by_cases hc3 : Scalar.cmpi .ne (Scalar.subi (Scalar.subi (tierW i) 1#32) 1#32) 0#32 = 1#1
      · rw [piecesD c i arg2 harg2 arg3 harg3 arg4 harg4 arg5 harg5 arg6 harg6 arg7 harg7 arg8 harg8 arg9 harg9 x0 x1 x2 x3 x4 x5 x6 hc1 hc2 hc3, runD_stored c i arg2 harg2 arg3 harg3 arg4 harg4 arg5 harg5 arg6 harg6 arg7 harg7 arg8 harg8 arg9 harg9 x0 x1 x2 x3 x4 x5 x6 hc1 hc2 hc3]
        exact stored_good c i arg2 harg2 arg3 harg3 arg4 harg4 arg5 harg5 arg6 harg6 arg7 harg7 arg8 harg8 arg9 harg9 x0 x1 x2 x3 x4 x5 x6 _ _ _ _ H ⟨im0D_val i arg2 harg2 arg5 harg5 arg7 harg7 H, im1D_val i arg2 harg2 arg5 harg5 arg7 harg7 H⟩ (oc0D_val i arg2 harg2 arg5 harg5 arg6 harg6 H) (oc1D_val i arg2 harg2 arg5 harg5 arg6 harg6 H)
      · rw [piecesC c i arg2 harg2 arg3 harg3 arg4 harg4 arg5 harg5 arg6 harg6 arg7 harg7 arg8 harg8 arg9 harg9 x0 x1 x2 x3 x4 x5 x6 hc1 hc2 hc3, runC_stored c i arg2 harg2 arg3 harg3 arg4 harg4 arg5 harg5 arg6 harg6 arg7 harg7 arg8 harg8 arg9 harg9 x0 x1 x2 x3 x4 x5 x6 hc1 hc2 hc3]
        have hb : (i 1).val < 24 := tierC i hc1 hc2 hc3
        have ht : ∀ k, 16 * k + 31 ≤ 256 * (i 1).val + 255 → k < 384 := fun k hk => by omega
        exact stored_good c i arg2 harg2 arg3 harg3 arg4 harg4 arg5 harg5 arg6 harg6 arg7 harg7 arg8 harg8 arg9 harg9 x0 x1 x2 x3 x4 x5 x6 _ _ _ _ H ⟨im0C_val i arg2 harg2 arg5 harg5 arg7 harg7 H ht, im1C_val i arg2 harg2 arg5 harg5 arg7 harg7 H ht⟩ (oc0C_val i arg2 harg2 arg5 harg5 arg6 harg6 H ht) (oc1C_val i arg2 harg2 arg5 harg5 arg6 harg6 H ht)
    · rw [piecesB c i arg2 harg2 arg3 harg3 arg4 harg4 arg5 harg5 arg6 harg6 arg7 harg7 arg8 harg8 arg9 harg9 x0 x1 x2 x3 x4 x5 x6 hc1 hc2, runB_stored c i arg2 harg2 arg3 harg3 arg4 harg4 arg5 harg5 arg6 harg6 arg7 harg7 arg8 harg8 arg9 harg9 x0 x1 x2 x3 x4 x5 x6 hc1 hc2]
      have hb : (i 1).val < 16 := tierB i hc1 hc2
      have ht : ∀ k, 16 * k + 31 ≤ 256 * (i 1).val + 255 → k < 256 := fun k hk => by omega
      exact stored_good c i arg2 harg2 arg3 harg3 arg4 harg4 arg5 harg5 arg6 harg6 arg7 harg7 arg8 harg8 arg9 harg9 x0 x1 x2 x3 x4 x5 x6 _ _ _ _ H ⟨im0B_val i arg2 harg2 arg5 harg5 arg7 harg7 H ht, im1B_val i arg2 harg2 arg5 harg5 arg7 harg7 H ht⟩ (oc0B_val i arg2 harg2 arg5 harg5 arg6 harg6 H ht) (oc1B_val i arg2 harg2 arg5 harg5 arg6 harg6 H ht)
  · rw [piecesA c i arg2 harg2 arg3 harg3 arg4 harg4 arg5 harg5 arg6 harg6 arg7 harg7 arg8 harg8 arg9 harg9 x0 x1 x2 x3 x4 x5 x6 hc1, runA_stored c i arg2 harg2 arg3 harg3 arg4 harg4 arg5 harg5 arg6 harg6 arg7 harg7 arg8 harg8 arg9 harg9 x0 x1 x2 x3 x4 x5 x6 hc1]
    have hb : (i 1).val < 8 := tierA i hc1
    have ht : ∀ k, 16 * k + 31 ≤ 256 * (i 1).val + 255 → k < 128 := fun k hk => by omega
    exact stored_good c i arg2 harg2 arg3 harg3 arg4 harg4 arg5 harg5 arg6 harg6 arg7 harg7 arg8 harg8 arg9 harg9 x0 x1 x2 x3 x4 x5 x6 _ _ _ _ H ⟨im0A_val i arg2 harg2 arg5 harg5 arg7 harg7 H ht, im1A_val i arg2 harg2 arg5 harg5 arg7 harg7 H ht⟩ (oc0A_val i arg2 harg2 arg5 harg5 arg6 harg6 H ht) (oc1A_val i arg2 harg2 arg5 harg5 arg6 harg6 H ht)

end Cert.Attn
-- ==== Proof.Hold.lean ====
/-
What the seven input blocks of a grid point hold, from the arguments: the host's reshapes, transposes, pads and the overlap matrix, read at an
index.
-/
module

public import proofs.«01_k».proof.Proof.Args
public import proofs.«01_k».proof.Proof.Block
public import Idealize.ShloMosaic.Lib.StableHlo.ReadAt

@[expose] public section

set_option maxRecDepth 16384

noncomputable section

namespace Cert.Attn

open Cert.KernelIdeal Cert.KernelIdeal.Gen Cert.KernelIdeal.Own
open Idealize.ShloMosaic Idealize.ShloMosaic.TcCoe
open Idealize.SL.Sem

variable (m : (ℓ : Loc nD τ sig) → Buf (Elt Ideal) ℓ) (c : Dev nD)

/-- The arguments' contents on core `c`. -/
abbrev ar0 : S4x8192x8x64.Idx → EReal := m (c, Proc.tc.devRef main_arg0)
abbrev ar1 : S4x511x2x64.Idx → EReal := m (c, Proc.tc.devRef main_arg1)
abbrev ar2 : S4x511x2x64.Idx → EReal := m (c, Proc.tc.devRef main_arg2)
abbrev ar3 : S4x8192x2x64.Idx → EReal := m (c, Proc.tc.devRef main_arg3)
abbrev ar4 : S4x8192x2x64.Idx → EReal := m (c, Proc.tc.devRef main_arg4)
abbrev ar5 : S4x8192x2x64.Idx → EReal := m (c, Proc.tc.devRef main_arg5)
abbrev ar6 : S4x8192x2x64.Idx → EReal := m (c, Proc.tc.devRef main_arg6)
abbrev ar7 : S4x8192x24.Idx → EReal := m (c, Proc.tc.devRef main_arg7)

theorem zero_conv : (FloatOps.sitofp (F := Ideal) FTy.f32 (0#32 : BitVec 32) : EReal) = 0 := by
  show (((0#32 : BitVec 32).toInt : ℝ) : EReal) = 0
  simp

theorem pre0 (b : Fin 4) (y : Fin 512) (t : Fin 8192) : (V m c main_v1 : S4x512x8192.Idx → EReal) (ix3 b y t)
    = ar0 m c (ix4 b t ⟨y.val / 64, by omega⟩ ⟨y.val % 64, by omega⟩) := by
  unfold V
  after_reads_at

theorem mid2 (b : Fin 4) (y : Fin 128) (t : Fin 8192) : (StableHlo.upto (List.flatten [hostOps0, hostOps0_1, hostOps0_2, hostOps0_3, hostOps0_4, hostOps0_5, hostOps0_6]) (fun b => m (c, b)) 4 (Proc.tc.devRef main_v2) : S4x8192x128.Idx → EReal) (ix3 b t y)
    = ar3 m c (ix4 b t ⟨y.val / 64, by omega⟩ ⟨y.val % 64, by omega⟩) := by
  after_reads_at

theorem mid3 (b : Fin 4) (y : Fin 128) (t : Fin 8192) : (StableHlo.upto (List.flatten [hostOps0, hostOps0_1, hostOps0_2, hostOps0_3, hostOps0_4, hostOps0_5, hostOps0_6]) (fun b => m (c, b)) 4 (Proc.tc.devRef main_v3) : S4x8192x128.Idx → EReal) (ix3 b t y)
    = ar5 m c (ix4 b t ⟨y.val / 64, by omega⟩ ⟨y.val % 64, by omega⟩) := by
  after_reads_at

theorem mid6 (b : Fin 4) (y : Fin 128) (t : Fin 8192) : (StableHlo.upto (List.flatten [hostOps0, hostOps0_1, hostOps0_2, hostOps0_3, hostOps0_4, hostOps0_5, hostOps0_6]) (fun b => m (c, b)) 8 (Proc.tc.devRef main_v6) : S4x8192x128.Idx → EReal) (ix3 b t y)
    = ar4 m c (ix4 b t ⟨y.val / 64, by omega⟩ ⟨y.val % 64, by omega⟩) := by
  after_reads_at

theorem mid7 (b : Fin 4) (y : Fin 128) (t : Fin 8192) : (StableHlo.upto (List.flatten [hostOps0, hostOps0_1, hostOps0_2, hostOps0_3, hostOps0_4, hostOps0_5, hostOps0_6]) (fun b => m (c, b)) 8 (Proc.tc.devRef main_v7) : S4x8192x128.Idx → EReal) (ix3 b t y)
    = ar6 m c (ix4 b t ⟨y.val / 64, by omega⟩ ⟨y.val % 64, by omega⟩) := by
  after_reads_at

theorem pre1 (b : Fin 4) (y : Fin 256) (t : Fin 8192) : (V m c main_v5 : S4x8192x256.Idx → EReal) (ix3 b t y)
    = if h : y.val < 128 then ar3 m c (ix4 b t ⟨y.val / 64, by omega⟩ ⟨y.val % 64, by omega⟩)
      else ar5 m c (ix4 b t ⟨(y.val - 128) / 64, by omega⟩ ⟨(y.val - 128) % 64, by omega⟩) := by
  unfold V
  after_reads_at
  by_cases h : y.val < 128
  · rw [dif_pos h, dif_pos h]; exact mid2 m c b ⟨y.val, h⟩ t
  · rw [dif_neg h, dif_neg h]; exact mid3 m c b ⟨y.val - 128, by omega⟩ t

theorem pre2 (b : Fin 4) (y : Fin 256) (t : Fin 8192) : (V m c main_v10 : S4x256x8192.Idx → EReal) (ix3 b y t)
    = if h : y.val < 128 then ar4 m c (ix4 b t ⟨y.val / 64, by omega⟩ ⟨y.val % 64, by omega⟩)
      else ar6 m c (ix4 b t ⟨(y.val - 128) / 64, by omega⟩ ⟨(y.val - 128) % 64, by omega⟩) := by
  unfold V
  after_reads_at
  by_cases h : y.val < 128
  · rw [dif_pos h, dif_pos h]; exact mid6 m c b ⟨y.val, h⟩ t
  · rw [dif_neg h, dif_neg h]; exact mid7 m c b ⟨y.val - 128, by omega⟩ t

theorem pre3 (b : Fin 4) (g : Fin 2) (k : Fin 512) (d : Fin 64) : (V m c main_v13 : S4x2x512x64.Idx → EReal) (ix4 b g k d)
    = if h : k.val < 511 then ar1 m c (ix4 b ⟨k.val, h⟩ g d) else 0 := by
  rw [← zero_conv]
  unfold V
  after_reads_at

theorem pre4 (b : Fin 4) (g : Fin 2) (k : Fin 512) (d : Fin 64) : (V m c main_v16 : S4x2x64x512.Idx → EReal) (ix4 b g d k)
    = if h : k.val < 511 then ar2 m c (ix4 b ⟨k.val, h⟩ g d) else 0 := by
  rw [← zero_conv]
  unfold V
  after_reads_at

theorem pre6 (b : Fin 4) (x : Fin 128) (t : Fin 8192) : (V m c main_v18 : S4x128x8192.Idx → EReal) (ix3 b x t)
    = if h : x.val < 24 then ar7 m c (ix3 b t ⟨x.val, h⟩) else 0 := by
  rw [← zero_conv]
  unfold V
  after_reads_at

/-- The larger of two small words, as signed integers. -/
theorem maxsi_ofNat (a b : ℕ) (ha : a < 2 ^ 31) (hb : b < 2 ^ 31) : IntOp.maxsi (BitVec.ofNat 32 a) (BitVec.ofNat 32 b) = BitVec.ofNat 32 (max a b) := by
  show (if (BitVec.ofNat 32 b).slt (BitVec.ofNat 32 a) then BitVec.ofNat 32 a else BitVec.ofNat 32 b) = _
  rw [BitVec.slt, toInt_ofNat _ ha, toInt_ofNat _ hb]
  by_cases h : b < a
  · rw [if_pos (by simpa using h), max_eq_left h.le]
  · rw [if_neg (by simpa using h), max_eq_right (not_lt.1 h)]

/-- The difference of two small words cut at zero is the difference of naturals. -/
theorem diff_ofNat (a b : ℕ) (ha : a < 2 ^ 30) (hb : b < 2 ^ 30) :
    IntOp.maxsi (IntOp.subi (BitVec.ofNat 32 a) (BitVec.ofNat 32 b)) 0#32 = BitVec.ofNat 32 (a - b) := by
  by_cases h : b ≤ a
  · have e : IntOp.subi (BitVec.ofNat 32 a) (BitVec.ofNat 32 b) = BitVec.ofNat 32 (a - b) := by
      show BitVec.ofNat 32 a - BitVec.ofNat 32 b = _
      apply BitVec.eq_of_toNat_eq
      simp only [BitVec.toNat_sub, BitVec.toNat_ofNat]
      omega
    rw [e]
    have := maxsi_ofNat (a - b) 0 (by omega) (by omega)
    rw [Nat.max_zero] at this
    exact this
  · have e : (IntOp.subi (BitVec.ofNat 32 a) (BitVec.ofNat 32 b)).toInt < 0 := by
      show (BitVec.ofNat 32 a - BitVec.ofNat 32 b).toInt < 0
      rw [BitVec.toInt_eq_toNat_cond]
      simp only [BitVec.toNat_sub, BitVec.toNat_ofNat]
      split <;> omega
    have e2 : a - b = 0 := by omega
    rw [e2]
    show (if (0#32 : BitVec 32).slt (IntOp.subi (BitVec.ofNat 32 a) (BitVec.ofNat 32 b)) then IntOp.subi (BitVec.ofNat 32 a) (BitVec.ofNat 32 b) else 0#32) = _
    refine if_neg ?_
    rw [BitVec.slt]
    simp only [decide_eq_true_eq, not_lt]
    exact e.le

theorem lit_32 : Ideal.ofBits FTy.f32 1107296256#32 = ((32 : ℝ) : EReal) := by
  simp [Ideal.ofBits, Ideal.ieee]
  rw [← EReal.coe_mul]
  norm_num

/-- The overlap of compressed row `k` with block `j`, computed on words. -/
theorem part_word (j k : ℕ) (hj : j < 128) (hk : k < 512) :
    Ideal.div (FloatOps.sitofp (F := Ideal) FTy.f32 (IntOp.maxsi (IntOp.subi
        (IntOp.minsi (IntOp.addi (IntOp.muli (BitVec.ofNat 32 k) 16#32) 32#32) (IntOp.addi (IntOp.muli (BitVec.ofNat 32 j) 64#32) 64#32))
        (IntOp.maxsi (IntOp.muli (BitVec.ofNat 32 k) 16#32) (IntOp.muli (BitVec.ofNat 32 j) 64#32))) 0#32)) (Ideal.ofBits FTy.f32 1107296256#32)
      = ((part j k : ℝ) : EReal) := by
  rw [mul_ofNat, mul_ofNat, add_ofNat, add_ofNat, maxsi_ofNat _ _ (by omega) (by omega), minsi_ofNat _ _ (by omega) (by omega),
    diff_ofNat _ _ (by omega) (by omega), lit_32]
  show Ideal.div (((BitVec.ofNat 32 (min (k * 16 + 32) (j * 64 + 64) - max (k * 16) (j * 64))).toInt : ℝ) : EReal) _ = _
  rw [toInt_ofNat _ (by omega), Ideal.div_coe (by norm_num), ← EReal.coe_mul, part, Int.cast_natCast, mul_comm k 16, mul_comm j 64, mul_one_div]

theorem pre5 (j : Fin 128) (k : Fin 512) : (V m c main_v43 : S128x512.Idx → EReal) (ix2 j k) = ((part j.val k.val : ℝ) : EReal) := by
  rw [← part_word j.val k.val j.2 k.2]
  unfold V
  after_reads_at

/-- The coordinates of a grid point: batch entry and query block. -/
theorem bat_lt (t : Fin cfg0.N) : (grid0.coords t 0).val < 4 := (grid0.coords t 0).2
abbrev bat (t : Fin cfg0.N) : Fin 4 := ⟨(grid0.coords t 0).val, bat_lt t⟩
theorem qb_lt (t : Fin cfg0.N) : (grid0.coords t 1).val < 32 := (grid0.coords t 1).2

theorem word_nat (n : ℕ) (h : n < 4294967296) : (BitVec.ofNat 32 n).toNat = n := by
  rw [BitVec.toNat_ofNat, Nat.mod_eq_of_lt h]

/-- The block a window's map picks, axis by axis. -/
theorem at0 (i : grid0.Coords) : cc0_transform_0 i = ![(i 0).val, 0, (i 1).val] := by
  have h0 : (i 0).val < 4 := (i 0).2
  have h1 : (i 1).val < 32 := (i 1).2
  unfold cc0_transform_0
  simp only [word_nat _ (show (i 0).val < 4294967296 by omega), word_nat _ (show (i 1).val < 4294967296 by omega)]
  rfl

theorem at1 (i : grid0.Coords) : cc0_transform_1 i = ![(i 0).val, 0, 0] := by
  have h0 : (i 0).val < 4 := (i 0).2
  have h1 : (i 1).val < 32 := (i 1).2
  unfold cc0_transform_1
  simp only [word_nat _ (show (i 0).val < 4294967296 by omega), word_nat _ (show (i 1).val < 4294967296 by omega)]
  rfl

theorem at2 (i : grid0.Coords) : cc0_transform_2 i = ![(i 0).val, 0, 0] := by
  have h0 : (i 0).val < 4 := (i 0).2
  have h1 : (i 1).val < 32 := (i 1).2
  unfold cc0_transform_2
  simp only [word_nat _ (show (i 0).val < 4294967296 by omega), word_nat _ (show (i 1).val < 4294967296 by omega)]
  rfl

theorem at3 (i : grid0.Coords) : cc0_transform_3 i = ![(i 0).val, 0, 0, 0] := by
  have h0 : (i 0).val < 4 := (i 0).2
  have h1 : (i 1).val < 32 := (i 1).2
  unfold cc0_transform_3
  simp only [word_nat _ (show (i 0).val < 4294967296 by omega), word_nat _ (show (i 1).val < 4294967296 by omega)]
  rfl

theorem at4 (i : grid0.Coords) : cc0_transform_4 i = ![(i 0).val, 0, 0, 0] := by
  have h0 : (i 0).val < 4 := (i 0).2
  have h1 : (i 1).val < 32 := (i 1).2
  unfold cc0_transform_4
  simp only [word_nat _ (show (i 0).val < 4294967296 by omega), word_nat _ (show (i 1).val < 4294967296 by omega)]
  rfl

theorem at5 (i : grid0.Coords) : cc0_transform_5 i = ![0, 0] := by
  have h0 : (i 0).val < 4 := (i 0).2
  have h1 : (i 1).val < 32 := (i 1).2
  unfold cc0_transform_5
  simp only [word_nat _ (show (i 0).val < 4294967296 by omega), word_nat _ (show (i 1).val < 4294967296 by omega)]
  rfl

theorem at6 (i : grid0.Coords) : cc0_transform_6 i = ![(i 0).val, 0, (i 1).val] := by
  have h0 : (i 0).val < 4 := (i 0).2
  have h1 : (i 1).val < 32 := (i 1).2
  unfold cc0_transform_6
  simp only [word_nat _ (show (i 0).val < 4294967296 by omega), word_nat _ (show (i 1).val < 4294967296 by omega)]
  rfl

theorem at7 (i : grid0.Coords) : cc0_transform_7 i = ![(i 0).val, 0, (i 1).val] := by
  have h0 : (i 0).val < 4 := (i 0).2
  have h1 : (i 1).val < 32 := (i 1).2
  unfold cc0_transform_7
  simp only [word_nat _ (show (i 0).val < 4294967296 by omega), word_nat _ (show (i 1).val < 4294967296 by omega)]
  rfl

theorem blk0 (t : Fin cfg0.N) (y : Fin 512) (r : Fin 256) : (iblk m c 0 t : S1x512x256.Idx → EReal) (ix3 0 y r)
    = (V m c main_v1 : S4x512x8192.Idx → EReal) (ix3 (bat t) y ⟨256 * (grid0.coords t 1).val + r.val, by have := qb_lt t; omega⟩) := by
  show (V m c main_v1 : S4x512x8192.Idx → EReal) ((win0_0.rect t).emb (ix3 0 y r)) = _
  congr 1
  funext a
  apply Fin.ext
  refine (Pipeline.Window.rect_emb_val win0_0 t _ a rfl).trans ?_
  have e : win0_0.index t = ![(grid0.coords t 0).val, 0, (grid0.coords t 1).val] := at0 _
  rw [e]
  match a with
  | ⟨0, _⟩ => show (grid0.coords t 0).val * 1 + 0 = (grid0.coords t 0).val; omega
  | ⟨1, _⟩ => show 0 * 512 + y.val = y.val; omega
  | ⟨2, _⟩ => show (grid0.coords t 1).val * 256 + r.val = 256 * (grid0.coords t 1).val + r.val; omega

theorem blk1 (t : Fin cfg0.N) (k : Fin 8192) (x : Fin 256) : (iblk m c 1 t : S1x8192x256.Idx → EReal) (ix3 0 k x)
    = (V m c main_v5 : S4x8192x256.Idx → EReal) (ix3 (bat t) k x) := by
  show (V m c main_v5 : S4x8192x256.Idx → EReal) ((win0_1.rect t).emb (ix3 0 k x)) = _
  congr 1
  funext a
  apply Fin.ext
  refine (Pipeline.Window.rect_emb_val win0_1 t _ a rfl).trans ?_
  have e : win0_1.index t = ![(grid0.coords t 0).val, 0, 0] := at1 _
  rw [e]
  match a with
  | ⟨0, _⟩ => show (grid0.coords t 0).val * 1 + 0 = (grid0.coords t 0).val; omega
  | ⟨1, _⟩ => show 0 * 8192 + k.val = k.val; omega
  | ⟨2, _⟩ => show 0 * 256 + x.val = x.val; omega

theorem blk2 (t : Fin cfg0.N) (x : Fin 256) (k : Fin 8192) : (iblk m c 2 t : S1x256x8192.Idx → EReal) (ix3 0 x k)
    = (V m c main_v10 : S4x256x8192.Idx → EReal) (ix3 (bat t) x k) := by
  show (V m c main_v10 : S4x256x8192.Idx → EReal) ((win0_2.rect t).emb (ix3 0 x k)) = _
  congr 1
  funext a
  apply Fin.ext
  refine (Pipeline.Window.rect_emb_val win0_2 t _ a rfl).trans ?_
  have e : win0_2.index t = ![(grid0.coords t 0).val, 0, 0] := at2 _
  rw [e]
  match a with
  | ⟨0, _⟩ => show (grid0.coords t 0).val * 1 + 0 = (grid0.coords t 0).val; omega
  | ⟨1, _⟩ => show 0 * 256 + x.val = x.val; omega
  | ⟨2, _⟩ => show 0 * 8192 + k.val = k.val; omega

theorem blk3 (t : Fin cfg0.N) (g : Fin 2) (k : Fin 512) (d : Fin 64) : (iblk m c 3 t : S1x2x512x64.Idx → EReal) (ix4 0 g k d)
    = (V m c main_v13 : S4x2x512x64.Idx → EReal) (ix4 (bat t) g k d) := by
  show (V m c main_v13 : S4x2x512x64.Idx → EReal) ((win0_3.rect t).emb (ix4 0 g k d)) = _
  congr 1
  funext a
  apply Fin.ext
  refine (Pipeline.Window.rect_emb_val win0_3 t _ a rfl).trans ?_
  have e : win0_3.index t = ![(grid0.coords t 0).val, 0, 0, 0] := at3 _
  rw [e]
  match a with
  | ⟨0, _⟩ => show (grid0.coords t 0).val * 1 + 0 = (grid0.coords t 0).val; omega
  | ⟨1, _⟩ => show 0 * 2 + g.val = g.val; omega
  | ⟨2, _⟩ => show 0 * 512 + k.val = k.val; omega
  | ⟨3, _⟩ => show 0 * 64 + d.val = d.val; omega

theorem blk4 (t : Fin cfg0.N) (g : Fin 2) (k : Fin 512) (d : Fin 64) : (iblk m c 4 t : S1x2x64x512.Idx → EReal) (ix4 0 g d k)
    = (V m c main_v16 : S4x2x64x512.Idx → EReal) (ix4 (bat t) g d k) := by
  show (V m c main_v16 : S4x2x64x512.Idx → EReal) ((win0_4.rect t).emb (ix4 0 g d k)) = _
  congr 1
  funext a
  apply Fin.ext
  refine (Pipeline.Window.rect_emb_val win0_4 t _ a rfl).trans ?_
  have e : win0_4.index t = ![(grid0.coords t 0).val, 0, 0, 0] := at4 _
  rw [e]
  match a with
  | ⟨0, _⟩ => show (grid0.coords t 0).val * 1 + 0 = (grid0.coords t 0).val; omega
  | ⟨1, _⟩ => show 0 * 2 + g.val = g.val; omega
  | ⟨2, _⟩ => show 0 * 64 + d.val = d.val; omega
  | ⟨3, _⟩ => show 0 * 512 + k.val = k.val; omega

theorem blk5 (t : Fin cfg0.N) (j : Fin 128) (k : Fin 512) : (iblk m c 5 t : S128x512.Idx → EReal) (ix2 j k)
    = (V m c main_v43 : S128x512.Idx → EReal) (ix2 j k) := by
  show (V m c main_v43 : S128x512.Idx → EReal) ((win0_5.rect t).emb (ix2 j k)) = _
  congr 1
  funext a
  apply Fin.ext
  refine (Pipeline.Window.rect_emb_val win0_5 t _ a rfl).trans ?_
  have e : win0_5.index t = ![0, 0] := at5 (grid0.coords t)
  rw [e]
  match a with
  | ⟨0, _⟩ => show 0 * 128 + j.val = j.val; omega
  | ⟨1, _⟩ => show 0 * 512 + k.val = k.val; omega

theorem blk6 (t : Fin cfg0.N) (x : Fin 128) (r : Fin 256) : (iblk m c 6 t : S1x128x256.Idx → EReal) (ix3 0 x r)
    = (V m c main_v18 : S4x128x8192.Idx → EReal) (ix3 (bat t) x ⟨256 * (grid0.coords t 1).val + r.val, by have := qb_lt t; omega⟩) := by
  show (V m c main_v18 : S4x128x8192.Idx → EReal) ((win0_6.rect t).emb (ix3 0 x r)) = _
  congr 1
  funext a
  apply Fin.ext
  refine (Pipeline.Window.rect_emb_val win0_6 t _ a rfl).trans ?_
  have e : win0_6.index t = ![(grid0.coords t 0).val, 0, (grid0.coords t 1).val] := at6 _
  rw [e]
  match a with
  | ⟨0, _⟩ => show (grid0.coords t 0).val * 1 + 0 = (grid0.coords t 0).val; omega
  | ⟨1, _⟩ => show 0 * 128 + x.val = x.val; omega
  | ⟨2, _⟩ => show (grid0.coords t 1).val * 256 + r.val = 256 * (grid0.coords t 1).val + r.val; omega

/-- A grid point's input blocks hold the arguments. -/
theorem holds (t : Fin cfg0.N) (h0 : Real' (ar0 m c)) (h1 : Real' (ar1 m c)) (h3 : Real' (ar3 m c)) (h5 : Real' (ar5 m c)) :
    Holds (grid0.coords t 1).val (iblk m c 0 t) (iblk m c 1 t) (iblk m c 2 t) (iblk m c 3 t) (iblk m c 4 t) (iblk m c 5 t) (iblk m c 6 t)
      (qOf (ar0 m c) (bat t)) (kcOf (ar1 m c) (bat t)) (kOf (ar3 m c) (bat t)) (kOf (ar5 m c) (bat t)) (vcOf (ar2 m c) (bat t)) (vOf (ar4 m c) (bat t))
      (vOf (ar6 m c) (bat t)) (glOf (ar7 m c) (bat t)) where
  h0 y r := by
    refine (blk0 m c t y r).trans ((pre0 m c _ _ _).trans ?_)
    exact (qOf_eq _ h0 (bat t) ⟨y.val / 64, by omega⟩ ⟨y.val % 64, by omega⟩ ⟨256 * (grid0.coords t 1).val + r.val, by have := qb_lt t; omega⟩).symm
  h1 k x := by
    refine (blk1 m c t k _).trans ((pre1 m c _ _ _).trans ?_)
    rw [dif_pos x.2]
    exact (kOf_eq _ h3 (bat t) ⟨x.val / 64, by omega⟩ k ⟨x.val % 64, by omega⟩).symm
  h1' k x := by
    refine (blk1 m c t k _).trans ((pre1 m c _ _ _).trans ?_)
    rw [dif_neg (by simp)]
    refine Eq.trans ?_ (kOf_eq _ h5 (bat t) ⟨x.val / 64, by omega⟩ k ⟨x.val % 64, by omega⟩).symm
    congr 2 <;> (apply Fin.ext; simp)
  h2 x k := by
    refine (blk2 m c t _ k).trans ((pre2 m c _ _ _).trans ?_)
    rw [dif_pos x.2]
    exact (vOf_eq _ (bat t) ⟨x.val / 64, by omega⟩ k ⟨x.val % 64, by omega⟩).symm
  h2' x k := by
    refine (blk2 m c t _ k).trans ((pre2 m c _ _ _).trans ?_)
    rw [dif_neg (by simp)]
    refine Eq.trans ?_ (vOf_eq _ (bat t) ⟨x.val / 64, by omega⟩ k ⟨x.val % 64, by omega⟩).symm
    congr 2 <;> (apply Fin.ext; simp)
  h3 g k d := by
    refine (blk3 m c t g k d).trans ((pre3 m c _ _ _ _).trans ?_)
    by_cases h : k.val < 511
    · rw [dif_pos h]
      exact (kcOf_eq _ h1 (bat t) g ⟨k.val, h⟩ d).symm
    · rw [dif_neg h, kcOf, dif_neg (fun H => h H.1)]
      rfl
  h4 g d k := by
    refine (blk4 m c t g k d).trans ((pre4 m c _ _ _ _).trans ?_)
    by_cases h : k.val < 511
    · rw [dif_pos h]
      exact (vcOf_eq _ (bat t) g ⟨k.val, h⟩ d).symm
    · rw [dif_neg h, vcOf, dif_neg (fun H => h H.1)]
  h5 j k := (blk5 m c t j k).trans (pre5 m c j k)
  h6 x r hx := by
    refine (blk6 m c t x r).trans ((pre6 m c _ _ _).trans ?_)
    rw [dif_pos hx]
    exact (glOf_eq _ (bat t) ⟨x.val, hx⟩ ⟨256 * (grid0.coords t 1).val + r.val, by have := qb_lt t; omega⟩).symm

end Cert.Attn
-- ==== Proof.KernelValue.lean ====
/-
The kernel's run: its result array ends at the attention of its arguments.
-/
module

public import proofs.«01_k».proof.Proof.Hold
public import Idealize.ShloMosaic.Lib.Pipeline.Covers
public import Idealize.ShloMosaic.Lib.Pipeline.Value
public import Idealize.ShloMosaic.Lib.Quiescent

@[expose] public section

set_option maxRecDepth 16384

noncomputable section

namespace Cert.Attn

open Cert.KernelIdeal Cert.KernelIdeal.Gen Cert.KernelIdeal.Own
open Idealize.ShloMosaic Idealize.ShloMosaic.TcCoe
open Idealize.SL.Sem

variable (m : (ℓ : Loc nD τ sig) → Buf (Elt Ideal) ℓ) (ρ : Dev nD → PrngReg) (c : Dev nD)

/-- The attention of core `c`'s arguments. -/
abbrev resAt : S4x512x8192.Idx → EReal :=
  resOf (ar0 m c) (ar1 m c) (ar2 m c) (ar3 m c) (ar4 m c) (ar5 m c) (ar6 m c) (ar7 m c)

/-- What a grid point computes is the attention at its batch entry and query block. -/
theorem out_at (h0 : Real' (ar0 m c)) (h1 : Real' (ar1 m c)) (h3 : Real' (ar3 m c)) (h5 : Real' (ar5 m c)) (t : Fin cfg0.N)
    (b : Fin 512) (r : Fin 256) : (outsAt0 m c t : S1x512x256.Idx → EReal) (ix3 0 b r)
      = resAt m c (ix3 (bat t) b ⟨256 * (grid0.coords t 1).val + r.val, by have := qb_lt t; omega⟩) := by
  have g := outBlock_good c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) _ _ _ _ _ _ _ (holds m c t h0 h1 h3 h5)
  have g' := g ⟨b.val / 64, by omega⟩ ⟨b.val % 64, by omega⟩ r
  have eb : (⟨64 * (b.val / 64) + b.val % 64, by omega⟩ : Fin 512) = b := Fin.ext (by show 64 * (b.val / 64) + b.val % 64 = b.val; omega)
  rw [eb] at g'
  unfold outsAt0 resAt resOf
  exact g'

/-- Where an element of a grid point's block lies in the result. -/
theorem emb7 (t : Fin cfg0.N) (b : Fin 512) (r : Fin 256) : ((win0_7.rect t).emb (ix3 (0 : Fin 1) b r))
    = (ix3 (bat t) b ⟨256 * (grid0.coords t 1).val + r.val, by have := qb_lt t; omega⟩ : S4x512x8192.Idx) := by
  funext a
  apply Fin.ext
  refine (Pipeline.Window.rect_emb_val win0_7 t _ a rfl).trans ?_
  have e : win0_7.index t = ![(grid0.coords t 0).val, 0, (grid0.coords t 1).val] := at7 _
  rw [e]
  match a with
  | ⟨0, _⟩ => show (grid0.coords t 0).val * 1 + 0 = (grid0.coords t 0).val; omega
  | ⟨1, _⟩ => show 0 * 512 + b.val = b.val; omega
  | ⟨2, _⟩ => show (grid0.coords t 1).val * 256 + r.val = 256 * (grid0.coords t 1).val + r.val; omega

/-- What a grid point writes back is its block of the attention. -/
theorem flushed_eq (h0 : Real' (ar0 m c)) (h1 : Real' (ar1 m c)) (h3 : Real' (ar3 m c)) (h5 : Real' (ar5 m c)) (t : Fin cfg0.N) :
    (dats m 0 c).flushed 7 t = (win0_7.blk t).view.read (Elt Ideal) (resAt m c) := by
  show (cfg0.win 7).cut (grid0.coords t) ((dats m 0 c).after 7 t) = _
  rw [after0_7]
  have key := out_at m c h0 h1 h3 h5 t
  generalize outsAt0 m c t = Y at key ⊢
  generalize resAt m c = G at key ⊢
  funext y
  show (Y : S1x512x256.Idx → EReal) y = G ((win0_7.rect t).emb y)
  have hy : y = ix3 (0 : Fin 1) (y 1) (y 2) := by
    funext a
    match a with
    | ⟨0, _⟩ => exact Subsingleton.elim (α := Fin 1) _ _
    | ⟨1, _⟩ => rfl
    | ⟨2, _⟩ => rfl
  generalize (y 1 : Fin 512) = b at hy
  generalize (y 2 : Fin 256) = r at hy
  rw [hy]
  exact (key b r).trans (congrArg G (emb7 t b r).symm)

/-- An index of the result array is in the block of the grid point at its batch entry and query block. -/
theorem cover (i : S4x512x8192.Idx) : ∃ t : Fin cfg0.N, (cfg0.win 7).flush t = true ∧ i ∈ ((cfg0.win 7).blk t).view.set := by
  have b0 : (i 0).val < 4 := (i 0).2
  have b1 : (i 1).val < 512 := (i 1).2
  have b2 : (i 2).val < 8192 := (i 2).2
  obtain ⟨t, ht⟩ := grid0.coords_surjective (fun a => match a with
    | ⟨0, _⟩ => ⟨(i 0).val, b0⟩
    | ⟨1, _⟩ => ⟨(i 2).val / 256, by show (i 2).val / 256 < 32; omega⟩)
  refine ⟨t, flush0_7 t, ?_⟩
  show i ∈ ((View.whole main_v44).slice (win0_7.rect t)).set
  rw [View.set_slice_whole, Rect.mem_set_unit]
  have c0 : (grid0.coords t 0).val = (i 0).val := by rw [ht]
  have c1 : (grid0.coords t 1).val = (i 2).val / 256 := by rw [ht]
  have e : win0_7.index t = ![(grid0.coords t 0).val, 0, (grid0.coords t 1).val] := at7 _
  have e0 : win0_7.index t 0 = (grid0.coords t 0).val := by rw [e]; rfl
  have e1 : win0_7.index t 1 = 0 := by rw [e]; rfl
  have e2 : win0_7.index t 2 = (grid0.coords t 1).val := by rw [e]; rfl
  intro a
  match a with
  | ⟨0, _⟩ => show win0_7.index t 0 * 1 ≤ (i 0).val ∧ (i 0).val < win0_7.index t 0 * 1 + 1
              rw [e0]; omega
  | ⟨1, _⟩ => show win0_7.index t 1 * 512 ≤ (i 1).val ∧ (i 1).val < win0_7.index t 1 * 512 + 512
              rw [e1]; omega
  | ⟨2, _⟩ => show win0_7.index t 2 * 256 ≤ (i 2).val ∧ (i 2).val < win0_7.index t 2 * 256 + 256
              rw [e2]; omega

/-- The kernel's run, read: the result array at the attention, the arguments unchanged. -/
theorem kernel_run (h : ∀ c : Dev nD, Real' (ar0 m c) ∧ Real' (ar1 m c) ∧ Real' (ar3 m c) ∧ Real' (ar5 m c)) :
    θ_run defs (onTc (τ := τ) (main (F := Ideal))) ⟨m, fun _ => 0, ρ⟩ (fun r => ∀ c : Dev nD,
      r.2.mem ((c.tc : Thread nD τ).loc main_v44) = resAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r hr c => ⟨?_, hr.2 c⟩) (θ_run_and (run_main m ρ) (unchanged m ρ))
  obtain ⟨h0, h1, h3, h5⟩ := h c
  exact ((hr.1 c).1 7).trans ((dats m 0 c).arrAt_eq_of_cover 7 (resAt m c) (fun t _ => flushed_eq m c h0 h1 h3 h5 t) cover)

end Cert.Attn
-- ==== Proof.RefMath.lean ====
/-
The mathematics that the reference's own form needs: its softmax over a row, its scores, and the attention over gathered blocks.
-/
module

public import proofs.«01_k».proof.Proof.Choice

@[expose] public section

set_option maxRecDepth 16384

noncomputable section

namespace Cert.Attn.Ref

open Idealize.ShloMosaic

/-- A row of the reference's softmax: exponentials against the row's maximum over their sum. -/
theorem ref_row (n : ℕ) (P : ℕ → Prop) (σ : ℕ → ℝ) (x : Fin n → EReal) (m : EReal)
    (hx : ∀ k : Fin n, P k → x k = (σ k : EReal)) (hx' : ∀ k : Fin n, ¬ P k → x k = ⊥)
    (hm : m = max (Ideal.ofBits .f32 4286578688#32) (Finset.univ.fold max (Ideal.ofBits .f32 4286578688#32) x))
    (j : Fin n) (hP : P j) (k : Fin n) :
    Ideal.div (Ideal.exp (x k - m)) (∑ i, Ideal.exp (x i - m)) = (soft n P σ k : EReal) := by
  set f : ℕ → EReal := fun i => if h : i < n then x ⟨i, h⟩ else ⊥ with hf
  have e : ∀ i : Fin n, x i = f i := fun i => by simp [hf]
  rw [fold_sup n x f e, lit_bot, max_eq_right bot_le] at hm
  rw [← ref_weight n P σ f (fun i hi h => by rw [← hx ⟨i, hi⟩ h]; simp [hf, hi])
    (fun i hi h => by rw [← hx' ⟨i, hi⟩ h]; simp [hf, hi]) m hm j j.2 hP k k.2, Finset.sum_range, e k]
  congr 1
  exact Finset.sum_congr rfl fun i _ => by rw [e i]

/-- A scaled dot product of real rows is the score. -/
theorem score_of (q : ℕ → ℕ → ℕ → ℝ) (kf : ℕ → ℕ → ℝ) (h t k : ℕ) (a b : Fin 64 → EReal)
    (ha : ∀ d : Fin 64, a d = (q h d t : EReal)) (hb : ∀ d : Fin 64, b d = (kf k d : EReal)) :
    (∑ d, a d * b d) * Ideal.ofBits .f32 1040187392#32 = (score q kf h t k : EReal) := by
  have : (∑ d, a d * b d) = ((∑ d ∈ Finset.range 64, q h d t * kf k d : ℝ) : EReal) := by
    rw [coe_sum, Finset.sum_range]
    exact Finset.sum_congr rfl fun d _ => by rw [ha, hb, EReal.coe_mul]
  rw [this, show (1040187392#32 : BitVec 32) = 0x3E000000#32 from rfl, lit_eighth, ← EReal.coe_mul]
  rfl

/-- A row of softmax weights against values is the attention. -/
theorem attn_of (n : ℕ) (P : ℕ → Prop) (σ : ℕ → ℝ) (V : ℕ → EReal) (p v : Fin n → EReal)
    (hp : ∀ k : Fin n, p k = (soft n P σ k : EReal)) (hv : ∀ k : Fin n, v k = V k) :
    ∑ k, p k * v k = attn n P σ V := by
  unfold attn
  rw [Finset.sum_range]
  exact Finset.sum_congr rfl fun k _ => by rw [hp, hv]

/-- A sum over rows is a sum over blocks of sixty-four. -/
theorem sum_by_block {M : Type*} [AddCommMonoid M] (n : ℕ) (G : ℕ → ℕ → M) :
    (∑ y ∈ Finset.range (n * 64), G (y / 64) (y % 64)) = ∑ s ∈ Finset.range n, ∑ x ∈ Finset.range 64, G s x := by
  induction n with
  | zero => rw [Nat.zero_mul, Finset.sum_range_zero, Finset.sum_range_zero]
  | succ n ih =>
    rw [Nat.succ_mul, Finset.sum_range_add, ih, Finset.sum_range_succ (fun s => ∑ x ∈ Finset.range 64, G s x) n]
    refine congrArg _ (Finset.sum_congr rfl fun x hx => ?_)
    have := Finset.mem_range.1 hx
    rw [show (n * 64 + x) / 64 = n by omega, show (n * 64 + x) % 64 = x by omega]

open Classical in
/-- A sum over the rows of the gathered blocks is a sum over all rows, of the rows in a chosen block. -/
theorem sum_gathered {M : Type*} [AddCommMonoid M] (f : Fin 128 → EReal) (sel : Fin 16 → Fin 128)
    (hs : ∀ r, rank f (sel r) = r) (C : ℕ → Prop) (hC : ∀ j : Fin 128, C j ↔ rank f j < 16) (G : ℕ → M) (L : ℕ → ℕ)
    (hL : ∀ y : Fin 1024, L y = (sel ⟨y.val / 64, by omega⟩).val * 64 + y.val % 64) :
    ∑ y ∈ Finset.range 1024, G (L y) = ∑ k ∈ Finset.range 8192, if C (k / 64) then G k else 0 := by
  have h1 : ∑ y ∈ Finset.range 1024, G (L y)
      = ∑ s ∈ Finset.range 16, ∑ x ∈ Finset.range 64, if h : s < 16 then G ((sel ⟨s, h⟩).val * 64 + x) else 0 := by
    refine Eq.trans ?_ (sum_by_block (M := M) 16 (fun s x => if h : s < 16 then G ((sel ⟨s, h⟩).val * 64 + x) else 0))
    refine Finset.sum_congr rfl fun y hy => ?_
    have hy' := Finset.mem_range.1 hy
    have h := hL ⟨y, hy'⟩
    dsimp only at h ⊢
    rw [dif_pos (by omega), h]
  have h2 : ∑ k ∈ Finset.range 8192, (if C (k / 64) then G k else 0)
      = ∑ j ∈ Finset.range 128, ∑ x ∈ Finset.range 64, if C j then G (j * 64 + x) else 0 := by
    refine Eq.trans ?_ (sum_by_block (M := M) 128 (fun j x => if C j then G (j * 64 + x) else 0))
    refine Finset.sum_congr rfl fun y hy => ?_
    rw [show y / 64 * 64 + y % 64 = y by omega]
  rw [h1, h2, Finset.sum_range, Finset.sum_range]
  have h3 : _ = _ := sum_rank f 16 (by norm_num) sel hs (M := M) (fun j => ∑ x ∈ Finset.range 64, G (j.val * 64 + x))
  refine Eq.trans ?_ (h3.trans ?_)
  · refine Finset.sum_congr rfl fun s _ => Finset.sum_congr rfl fun x _ => ?_
    rw [dif_pos s.2]
  · refine Finset.sum_congr rfl fun j _ => ?_
    by_cases h : rank f j < 16
    · rw [if_pos h]
      exact Finset.sum_congr rfl fun x _ => by rw [if_pos ((hC j).2 h)]
    · rw [if_neg h]
      exact (Finset.sum_eq_zero fun x _ => by rw [if_neg (fun e => h ((hC j).1 e))]).symm

/-- Attention over the gathered rows is attention over the rows of the chosen blocks. -/
theorem attn_gathered (f : Fin 128 → EReal) (sel : Fin 16 → Fin 128)
    (hs : ∀ r, rank f (sel r) = r) (C : ℕ → Prop) (hC : ∀ j : Fin 128, C j ↔ rank f j < 16) (L : ℕ → ℕ)
    (hL : ∀ y : Fin 1024, L y = (sel ⟨y.val / 64, by omega⟩).val * 64 + y.val % 64) (P : ℕ → Prop) (σ : ℕ → ℝ) (v : ℕ → EReal) :
    attn 1024 (fun y => P (L y)) (fun y => σ (L y)) (fun y => v (L y)) = attn 8192 (fun k => P k ∧ C (k / 64)) σ v := by
  classical
  have hw : ∀ k, wt (fun k => P k ∧ C (k / 64)) σ k = if C (k / 64) then wt P σ k else 0 := by
    intro k
    unfold wt
    by_cases h : C (k / 64) <;> simp [h]
  have hZ : ∑ j ∈ Finset.range 8192, wt (fun k => P k ∧ C (k / 64)) σ j = ∑ y ∈ Finset.range 1024, wt P σ (L y) := by
    rw [sum_gathered f sel hs C hC (wt P σ) L hL]
    exact Finset.sum_congr rfl fun k _ => hw k
  unfold attn soft
  rw [hZ]
  refine (sum_gathered f sel hs C hC (fun k => ((wt P σ k / ∑ y ∈ Finset.range 1024, wt P σ (L y) : ℝ) : EReal) * v k) L hL).trans ?_
  refine Finset.sum_congr rfl fun k _ => ?_
  rw [hw]
  by_cases h : C (k / 64) <;> simp [h]

end Cert.Attn.Ref
-- ==== Proof.RefCmp.lean ====
/-
The reference's compressed branch: scores, weights, result and importances.
-/
module

public import proofs.«01_k».proof.Proof.Args
public import proofs.«01_k».proof.Proof.Hold
public import proofs.«01_k».proof.Proof.RefMath
public import proofs.«01_k».proof.Proof.Gen.ReferenceIdeal.Read

@[expose] public section

set_option maxRecDepth 16384

noncomputable section

namespace Cert.Attn.Ref

open Cert.ReferenceIdeal Cert.ReferenceIdeal.Gen Cert.ReferenceIdeal.Read
open Idealize.ShloMosaic Idealize.ShloMosaic.TcCoe

variable (A0 : S4x8192x8x64.Idx → EReal) (A1 A2 : S4x511x2x64.Idx → EReal) (A3 A4 A5 A6 : S4x8192x2x64.Idx → EReal) (A7 : S4x8192x24.Idx → EReal)
variable (b : Fin 4) (g : Fin 2) (h : Fin 4) (t : Fin 8192)

/-- The largest of a row of 511. -/
theorem max511 (y : S4x2x4x8192x511.Idx → EReal) (z : S_.Idx → EReal) :
    Host.reduce (FloatOps.maximumf (F := Ideal) (φ := .f32)) y z reducesTo_S4x2x4x8192x511_S4x2x4x8192_d4 h_S_ (ix4 b g h t) =
      (Finset.univ : Finset (Fin 511)).fold max (z (Shape.Idx.first h_S_)) (fun k => y (ix5 b g h t k)) := by
  refine (Host.reduce_eq_fold_single (FloatOps.maximumf (F := Ideal) (φ := .f32)) y z
    reducesTo_S4x2x4x8192x511_S4x2x4x8192_d4 (by decide) h_S_ (ix4 b g h t)).trans ?_
  refine congrArg (fun f => Finset.fold max (z (Shape.Idx.first h_S_)) f Finset.univ) (funext fun k => ?_)
  exact congrArg y (funext fun a => Fin.ext (by
    match a with | ⟨0, _⟩ => rfl | ⟨1, _⟩ => rfl | ⟨2, _⟩ => rfl | ⟨3, _⟩ => rfl | ⟨4, _⟩ => rfl))

/-- The compressed scores. -/
theorem v53_val (h0 : Real' A0) (h1 : Real' A1) (k : Fin 511) :
    val_main_v53 (F := Ideal) A0 A1 (ix5 b g h t k) = (score (qOf A0 b) (kcOf A1 b g) (g.val * 4 + h.val) t k : EReal) := by
  have e : val_main_v53 (F := Ideal) A0 A1 (ix5 b g h t k)
      = (∑ x : Fin 64, A0 (ix4 b t (⟨g.val * 4 + h.val, by omega⟩ : Fin 8) x) * A1 (ix4 b k g x)) * Ideal.ofBits .f32 1040187392#32 := by
    pointwise [val_main_v53, val_main_v51, val_main_v52, val_main_v29, val_main_cst_9, val_main_v28]
  rw [e]
  exact score_of _ _ _ _ _ _ _ (fun d => (qOf_eq A0 h0 b (⟨g.val * 4 + h.val, by omega⟩ : Fin 8) d t).symm) (fun d => (kcOf_eq A1 h1 b g k d).symm)

/-- The rows visible at a time. -/
theorem v58_val (k : Fin 511) : val_main_v58 (F := Ideal) (ix2 t k) = 1#1 ↔ Vis t k := by
  have e : val_main_v58 (F := Ideal) (ix2 t k) = IntOp.cmpi .sle (IntOp.subi (IntOp.addi (IntOp.muli (BitVec.ofNat 32 k.val) 16#32) 32#32) 1#32)
      (BitVec.ofNat 32 t.val) := by
    pointwise [val_main_v58, val_main_v56, val_main_v57, val_main_v54, val_main_v55, val_main_v45, val_main_v38, val_main_v43, val_main_v44, val_main_v41, val_main_v42, val_main_c_8, val_main_v39, val_main_v40, val_main_c_7, val_main_c_6]
  rw [e, show (16#32 : BitVec 32) = BitVec.ofNat 32 16 from rfl, show (32#32 : BitVec 32) = BitVec.ofNat 32 32 from rfl,
    show (1#32 : BitVec 32) = BitVec.ofNat 32 1 from rfl, mul_ofNat, add_ofNat, sub_ofNat _ _ (by omega) (by omega), sle_ofNat _ _ (by omega) (by omega)]
  unfold Vis
  omega

/-- The masked scores. -/
theorem v59_read (k : Fin 511) : val_main_v59 (F := Ideal) A0 A1 (ix5 b g h t k)
    = Scalar.select (val_main_v58 (F := Ideal) (ix2 t k)) (val_main_v53 (F := Ideal) A0 A1 (ix5 b g h t k)) (Ideal.ofBits .f32 4286578688#32) := by
  pointwise [val_main_v59, val_main_call0_v1, val_main_call0_v2, val_main_call0_v0, val_main_cst_10]
  all_goals rfl

/-- A row's largest masked score. -/
theorem v62_read : val_main_v62 (F := Ideal) A0 A1 (ix4 b g h t)
    = max (Ideal.ofBits .f32 4286578688#32) (Finset.univ.fold max (Ideal.ofBits .f32 4286578688#32) fun k : Fin 511 => val_main_v59 (F := Ideal) A0 A1 (ix5 b g h t k)) := by
  have z1 : val_main_cst_11 (F := Ideal) (Shape.Idx.first h_S_) = Ideal.ofBits .f32 4286578688#32 := rfl
  have z2 : val_main_v61 (F := Ideal) (ix4 b g h t) = Ideal.ofBits .f32 4286578688#32 := rfl
  have e : val_main_v60 (F := Ideal) A0 A1 (ix4 b g h t)
      = Finset.univ.fold max (Ideal.ofBits .f32 4286578688#32) fun k : Fin 511 => val_main_v59 (F := Ideal) A0 A1 (ix5 b g h t k) := by
    unfold val_main_v60
    rw [← z1]
    generalize val_main_v59 (F := Ideal) A0 A1 = y
    generalize val_main_cst_11 (F := Ideal) = z
    exact max511 b g h t y z
  have e2 : val_main_v62 (F := Ideal) A0 A1 (ix4 b g h t)
      = max (val_main_v61 (F := Ideal) (ix4 b g h t)) (val_main_v60 (F := Ideal) A0 A1 (ix4 b g h t)) := by
    rw [val_main_v62_apply]
    generalize val_main_v60 (F := Ideal) A0 A1 (ix4 b g h t) = y
    rfl
  rw [e2, e, z2]

/-- A row's quotient of exponentials. -/
theorem v70_read (k : Fin 511) : val_main_v70 (F := Ideal) A0 A1 (ix5 b g h t k)
    = Ideal.div (Ideal.exp (val_main_v59 (F := Ideal) A0 A1 (ix5 b g h t k) - val_main_v62 (F := Ideal) A0 A1 (ix4 b g h t)))
        (∑ x : Fin 511, Ideal.exp (val_main_v59 (F := Ideal) A0 A1 (ix5 b g h t x) - val_main_v62 (F := Ideal) A0 A1 (ix4 b g h t))) := by
  pointwise [val_main_v70, val_main_v66, val_main_v69, val_main_v65, val_main_v68, val_main_v64, val_main_v67, val_main_v63, val_main_cst_13]

/-- The weights, nought where the row is not visible. -/
theorem v71_read (k : Fin 511) : val_main_v71 (F := Ideal) A0 A1 (ix5 b g h t k)
    = Scalar.select (val_main_v58 (F := Ideal) (ix2 t k)) (val_main_v70 (F := Ideal) A0 A1 (ix5 b g h t k)) (id (constant (F := Ideal) S_ .f32 0#32) ix0) := by
  pointwise [val_main_v71, val_main_call1_v1, val_main_call1_v2, val_main_call1_v0, val_main_cst_14]
  all_goals rfl

/-- No row past the last is visible. -/
theorem vis_511 (k : ℕ) (hk : k < 512) (hv : Vis t k) : k < 511 := by
  have := t.2
  unfold Vis at hv
  omega

/-- The weights are the softmax weights of the compressed attention. -/
theorem v71_val (h0 : Real' A0) (h1 : Real' A1) (k : Fin 511) : val_main_v71 (F := Ideal) A0 A1 (ix5 b g h t k)
    = (soft 512 (Vis t) (score (qOf A0 b) (kcOf A1 b g) (g.val * 4 + h.val) t) k : EReal) := by
  rw [v71_read]
  by_cases hv : Vis t k
  · rw [sel_pos _ _ _ ((v58_val t k).2 hv), v70_read,
      ← soft_mono 511 512 (by norm_num) (Vis t) _ (vis_511 t)]
    refine ref_row 511 (Vis t) (score (qOf A0 b) (kcOf A1 b g) (g.val * 4 + h.val) t)
      (fun x => val_main_v59 (F := Ideal) A0 A1 (ix5 b g h t x)) _ (fun x hx => ?_) (fun x hx => ?_) (v62_read A0 A1 b g h t) k hv k
    · show val_main_v59 (F := Ideal) A0 A1 (ix5 b g h t x) = _
      rw [v59_read, sel_pos _ _ _ ((v58_val t x).2 hx), v53_val A0 A1 b g h t h0 h1]
    · show val_main_v59 (F := Ideal) A0 A1 (ix5 b g h t x) = _
      rw [v59_read, sel_neg _ _ _ (fun e => hx ((v58_val t x).1 e))]
      exact lit_bot
  · rw [sel_neg _ _ _ (fun e => hv ((v58_val t k).1 e)), soft_zero _ _ _ _ hv]
    show Ideal.ofBits .f32 0#32 = _
    simp [Ideal.ofBits, Ideal.ieee]

/-- The compressed branch's result. -/
theorem v72_val (h0 : Real' A0) (h1 : Real' A1) (d : Fin 64) : val_main_v72 (F := Ideal) A0 A1 A2 (ix5 b g h t d)
    = attn 512 (Vis t) (score (qOf A0 b) (kcOf A1 b g) (g.val * 4 + h.val) t) (vcOf A2 b g d) := by
  have e : val_main_v72 (F := Ideal) A0 A1 A2 (ix5 b g h t d)
      = ∑ x : Fin 511, val_main_v71 (F := Ideal) A0 A1 (ix5 b g h t x) * A2 (ix4 b x g d) := by
    pointwise [val_main_v72]
  rw [e, ← attn_mono 511 512 (by norm_num) (Vis t) _ _ (vis_511 t)]
  refine attn_of 511 (Vis t) _ _ _ _ (fun k => ?_) (fun k => (vcOf_eq A2 b g k d).symm)
  rw [v71_val A0 A1 b g h t h0 h1, soft_mono 511 512 (by norm_num) (Vis t) _ (vis_511 t)]

/-- The importances before forcing: the four heads' weights over the rows of a block, by overlap. -/
theorem v74_val (h0 : Real' A0) (h1 : Real' A1) (j : Fin 128) : val_main_v74 (F := Ideal) A0 A1 (ix4 b g t j)
    = ((∑ k ∈ Finset.range 512, part j k * (soft 512 (Vis t) (score (qOf A0 b) (kcOf A1 b g) (4 * g.val) t) k
      + soft 512 (Vis t) (score (qOf A0 b) (kcOf A1 b g) (4 * g.val + 1) t) k
      + soft 512 (Vis t) (score (qOf A0 b) (kcOf A1 b g) (4 * g.val + 2) t) k
      + soft 512 (Vis t) (score (qOf A0 b) (kcOf A1 b g) (4 * g.val + 3) t) k) : ℝ) : EReal) := by
  have e : val_main_v74 (F := Ideal) A0 A1 (ix4 b g t j)
      = ∑ x : Fin 511, (∑ y : Fin 4, val_main_v71 (F := Ideal) A0 A1 (ix5 b g y t x)) * val_main_v23 (F := Ideal) (ix2 x j) := by
    pointwise [val_main_v74, val_main_v73, val_main_cst_15]
  have e2 : ∀ x : Fin 511, val_main_v23 (F := Ideal) (ix2 x j) = (part j x : EReal) := by
    intro x
    refine Eq.trans ?_ (part_word j.val x.val j.2 (by omega))
    pointwise [val_main_v23, val_main_v21, val_main_v22, val_main_v20, val_main_cst, val_main_v18, val_main_v19, val_main_v14, val_main_v17, val_main_c_3, val_main_v12, val_main_v13, val_main_v15, val_main_v16, val_main_v9, val_main_v11, val_main_v3, val_main_v7, val_main_v8, val_main_v10, val_main_v1, val_main_v2, val_main_v5, val_main_v6, val_main_c_1, val_main_c_2, val_main_v0, val_main_c, val_main_v4, val_main_c_0]
  rw [e, Finset.sum_range_succ, soft_zero _ _ _ 511 (fun hv => by have := vis_511 t 511 (by norm_num) hv; omega),
    soft_zero _ _ _ 511 (fun hv => by have := vis_511 t 511 (by norm_num) hv; omega),
    soft_zero _ _ _ 511 (fun hv => by have := vis_511 t 511 (by norm_num) hv; omega),
    soft_zero _ _ _ 511 (fun hv => by have := vis_511 t 511 (by norm_num) hv; omega),
    add_zero, add_zero, add_zero, mul_zero, add_zero, coe_sum, Finset.sum_range]
  refine Finset.sum_congr rfl fun x _ => ?_
  rw [e2, Fin.sum_univ_four, v71_val A0 A1 b g 0 t h0 h1, v71_val A0 A1 b g 1 t h0 h1, v71_val A0 A1 b g 2 t h0 h1, v71_val A0 A1 b g 3 t h0 h1,
    ← EReal.coe_add, ← EReal.coe_add, ← EReal.coe_add, ← EReal.coe_mul, mul_comm, mul_comm 4 g.val]
  rfl

end Cert.Attn.Ref
-- ==== Proof.RefTop.lean ====
/-
The reference's sixteen largest importances and the blocks gathered at them, at an index.
-/
module

public import proofs.«01_k».proof.Proof.Args
public import proofs.«01_k».proof.Proof.Words
public import proofs.«01_k».proof.Proof.Gen.ReferenceIdeal.Read

@[expose] public section

set_option maxRecDepth 16384

noncomputable section

namespace Cert.Attn.Ref

open Cert.ReferenceIdeal Cert.ReferenceIdeal.Gen Cert.ReferenceIdeal.Read
open Idealize.ShloMosaic Idealize.ShloMosaic.TcCoe

/-- The index half of a top-k at an index is the position the sort brings there. -/
theorem topK_snd {s : Shape} (t : Shape) (d : ℕ) (hd : d < s.rank) {α : Type} (gt : α → α → BitVec 1) (x : s.Idx → α)
    (h : s.Slices (fun _ => 0) t) (j : t.Idx) (j' : s.Idx) (hj : ∀ a, (j' a).val = 0 + (j (a.cast h.1.symm)).val) :
    (Host.topK t d gt x h).2 j = BitVec.ofNat 32 (sortedFrom (fun k k' : Fin (s.size ⟨d, hd⟩) =>
      gt (x (j'.along ⟨d, hd⟩ k)) (x (j'.along ⟨d, hd⟩ k')) == 1#1) (j' ⟨d, hd⟩)).val := by
  refine (extractStridedSlice_apply (fun _ => 0) (Host.sort2 s d (fun l r => gt l.1 r.1) x
        (fun i => if hd : d < s.rank then iotaInDim s 32 ⟨d, hd⟩ i else 0#32)).2 h j j' hj).trans ?_
  unfold Host.sort2
  rw [dif_pos hd]
  dsimp only
  rw [dif_pos hd]
  unfold iotaInDim Shape.Idx.along
  simp only [Function.update_self]

/-- The `s`-th index of the top sixteen is the block with exactly `s` before it. -/
theorem top_idx (y : S4x2x8192x128.Idx → EReal) (b : Fin 4) (g : Fin 2) (t : Fin 8192) (s : Fin 16) : ∃ p : Fin 128,
    (Host.topK S4x2x8192x16 3 (FloatOps.cmpfTotal (F := Ideal) (φ := .f32) .gt) y sliceFits_S4x2x8192x128_S4x2x8192x16).2 (ix4 b g t s)
      = BitVec.ofNat 32 p.val ∧ rank (fun j : Fin 128 => y (ix4 b g t j)) p = s.val := by
  have al : ∀ k : Fin 128, (ix4 b g t (⟨s.val, by omega⟩ : Fin 128) : S4x2x8192x128.Idx).along 3 k = ix4 b g t k := by
    intro k
    funext a
    match a with
    | ⟨0, _⟩ => rfl
    | ⟨1, _⟩ => rfl
    | ⟨2, _⟩ => rfl
    | ⟨3, _⟩ => rfl
  have e := topK_snd S4x2x8192x16 3 (by decide) (FloatOps.cmpfTotal (F := Ideal) (φ := .f32) .gt) y sliceFits_S4x2x8192x128_S4x2x8192x16
    (ix4 b g t s) (ix4 b g t (⟨s.val, by omega⟩ : Fin 128))
      (by intro a; match a with
          | ⟨0, _⟩ => exact (Nat.zero_add _).symm
          | ⟨1, _⟩ => exact (Nat.zero_add _).symm
          | ⟨2, _⟩ => exact (Nat.zero_add _).symm
          | ⟨3, _⟩ => exact (Nat.zero_add _).symm)
  have hR : (fun k k' : Fin 128 => FloatOps.cmpfTotal (F := Ideal) (φ := .f32) .gt
      (y ((ix4 b g t (⟨s.val, by omega⟩ : Fin 128) : S4x2x8192x128.Idx).along 3 k))
      (y ((ix4 b g t (⟨s.val, by omega⟩ : Fin 128) : S4x2x8192x128.Idx).along 3 k')) == 1#1)
      = fun k k' : Fin 128 => FloatOps.cmpfTotal (F := Ideal) (φ := .f32) .gt (y (ix4 b g t k)) (y (ix4 b g t k')) == 1#1 := by
    funext k k'
    rw [al, al]
  refine ⟨_, e, ?_⟩
  refine (rank_sortedFrom _ _ (fun i j => ?_) _).trans ?_
  · refine Eq.to_iff (congrArg (· = true) (congrFun (congrFun hR i) j)) |>.trans ?_
    show (Ideal.cmp .ogt (y (ix4 b g t i)) (y (ix4 b g t j)) == 1#1) = true ↔ _
    unfold Ideal.cmp
    by_cases h : y (ix4 b g t j) < y (ix4 b g t i) <;> simp [h]
  · rfl

/-- The gather of whole blocks: where the three start words are a batch entry, a group and a block,
    the result is that block's element. -/
theorem gather_at (x : S4x2x128x64x64.Idx → EReal) (idx : IVec S4x2x8192x16x3 32) (b : Fin 4) (g : Fin 2) (t : Fin 8192)
    (s : Fin 16) (k d : Fin 64) (p : Fin 128)
    (h0 : idx (ix5 b g t s 0) = BitVec.ofNat 32 b.val) (h1 : idx (ix5 b g t s 1) = BitVec.ofNat 32 g.val)
    (h2 : idx (ix5 b g t s 2) = BitVec.ofNat 32 p.val) :
    Host.gather gather_S4x2x128x64x64_S4x2x8192x16x3_S4x2x8192x16x64x64_45_012_n_n_012_4_1116464 x idx (ix6 b g t s k d) = x (ix5 b g p k d) := by
  have e : ∀ c : Fin 3, gather_S4x2x128x64x64_S4x2x8192x16x3_S4x2x8192x16x64x64_45_012_n_n_012_4_1116464.siIdx (ix6 b g t s k d) c = ix5 b g t s c := by
    intro c
    funext a
    refine Fin.ext ?_
    match a with
    | ⟨0, _⟩ => rfl
    | ⟨1, _⟩ => rfl
    | ⟨2, _⟩ => rfl
    | ⟨3, _⟩ => rfl
    | ⟨4, _⟩ => rfl
  have w : ∀ n m : ℕ, n < m → m ≤ 128 → min (BitVec.ofNat 32 n).toInt.toNat (m - 1) = n := by
    intro n m hn hm
    rw [toInt_ofNat n (by omega)]
    simp only [Int.toNat_natCast]
    omega
  refine congrArg x (funext fun a => Fin.ext ?_)
  match a with
  | ⟨0, _⟩ =>
    show min (idx (gather_S4x2x128x64x64_S4x2x8192x16x3_S4x2x8192x16x64x64_45_012_n_n_012_4_1116464.siIdx (ix6 b g t s k d) (⟨0, by decide⟩ : Fin 3))).toInt.toNat (4 - 1) + 0 + 0 = b.val
    rw [e]; show min (idx (ix5 b g t s 0)).toInt.toNat (4 - 1) + 0 + 0 = b.val; rw [h0, w _ _ b.isLt (by norm_num)]; rfl
  | ⟨1, _⟩ =>
    show min (idx (gather_S4x2x128x64x64_S4x2x8192x16x3_S4x2x8192x16x64x64_45_012_n_n_012_4_1116464.siIdx (ix6 b g t s k d) (⟨1, by decide⟩ : Fin 3))).toInt.toNat (2 - 1) + 0 + 0 = g.val
    rw [e]; show min (idx (ix5 b g t s 1)).toInt.toNat (2 - 1) + 0 + 0 = g.val; rw [h1, w _ _ g.isLt (by norm_num)]; rfl
  | ⟨2, _⟩ =>
    show min (idx (gather_S4x2x128x64x64_S4x2x8192x16x3_S4x2x8192x16x64x64_45_012_n_n_012_4_1116464.siIdx (ix6 b g t s k d) (⟨2, by decide⟩ : Fin 3))).toInt.toNat (128 - 1) + 0 + 0 = p.val
    rw [e]; show min (idx (ix5 b g t s 2)).toInt.toNat (128 - 1) + 0 + 0 = p.val; rw [h2, w _ _ p.isLt (by norm_num)]; rfl
  | ⟨3, _⟩ => exact Nat.zero_add k.val
  | ⟨4, _⟩ => exact Nat.zero_add d.val

end Cert.Attn.Ref
-- ==== Proof.RefPick.lean ====
/-
The reference's choice of blocks: importances, the top sixteen, and the rows gathered.
-/
module

public import proofs.«01_k».proof.Proof.RefCmp
public import proofs.«01_k».proof.Proof.RefTop

@[expose] public section

set_option maxRecDepth 16384

noncomputable section

namespace Cert.Attn.Ref

open Cert.ReferenceIdeal Cert.ReferenceIdeal.Gen Cert.ReferenceIdeal.Read
open Idealize.ShloMosaic Idealize.ShloMosaic.TcCoe

variable (A0 : S4x8192x8x64.Idx → EReal) (A1 A2 : S4x511x2x64.Idx → EReal) (A3 A4 A5 A6 : S4x8192x2x64.Idx → EReal) (A7 : S4x8192x24.Idx → EReal)
variable (b : Fin 4) (g : Fin 2) (h : Fin 4) (t : Fin 8192)

/-- Sixty-fourths of a time, as the reference's floor division of words has them. -/
theorem floor_div (n : ℕ) (hn : n < 8192) :
    Scalar.select (IntOp.andi
        (IntOp.cmpi .ne (if BitVec.ofNat 32 n = 0 then (0 : BitVec 32) else if (BitVec.ofNat 32 n).msb = true then -1 else 1)
          (if (64#32 : BitVec 32) = 0 then (0 : BitVec 32) else if BitVec.msb (64#32 : BitVec 32) = true then -1 else 1))
        (IntOp.cmpi .ne (IntOp.remsi ArithUnit.host (BitVec.ofNat 32 n) 64#32) 0#32))
      (IntOp.subi (IntOp.divsi ArithUnit.host (BitVec.ofNat 32 n) 64#32) 1#32)
      (IntOp.divsi ArithUnit.host (BitVec.ofNat 32 n) 64#32) = BitVec.ofNat 32 (n / 64) := by
  have hm : (BitVec.ofNat 32 n).msb = false := by
    rw [BitVec.msb_eq_decide, BitVec.toNat_ofNat, Nat.mod_eq_of_lt (by omega)]
    exact decide_eq_false (by omega)
  have hc : ¬ IntOp.SDivCorner (BitVec.ofNat 32 n) 64#32 := by
    unfold IntOp.SDivCorner
    rintro (h | ⟨-, h⟩)
    · exact absurd h (by decide)
    · exact absurd h (by decide)
  have hd : IntOp.divsi ArithUnit.host (BitVec.ofNat 32 n) 64#32 = BitVec.ofNat 32 (n / 64) := by
    unfold IntOp.divsi
    rw [if_neg hc, BitVec.sdiv_eq, hm]
    show BitVec.udiv (BitVec.ofNat 32 n) 64#32 = _
    apply BitVec.eq_of_toNat_eq
    show (BitVec.ofNat 32 n / 64#32).toNat = _
    rw [BitVec.toNat_udiv, BitVec.toNat_ofNat, BitVec.toNat_ofNat, Nat.mod_eq_of_lt (a := n) (by omega), BitVec.toNat_ofNat,
      Nat.mod_eq_of_lt (a := n / 64) (by omega)]
  rw [sel_neg]
  · exact hd
  · intro h
    rw [andi_one] at h
    obtain ⟨h1, h2⟩ := h
    by_cases h0 : n = 0
    · subst h0
      exact absurd h2 (by decide)
    · have hz : BitVec.ofNat 32 n ≠ 0 := fun e => h0 ((ofNat_inj n 0 (by omega) (by omega)).1 e)
      rw [if_neg hz, hm] at h1
      exact absurd h1 (by decide)

theorem v75_val : val_main_v75 (F := Ideal) (ix1 t) = BitVec.ofNat 32 (t.val / 64) := by
  refine Eq.trans ?_ (floor_div t.val t.2)
  pointwise [val_main_v75, val_main_call2_v11, val_main_call2_v13, val_main_call2_v2, val_main_call2_v6, val_main_call2_v10, val_main_call2_v12, val_main_v38, val_main_call2_v1, val_main_call2_v3, val_main_call2_v5, val_main_call2_v8, val_main_call2_v9, val_main_call2_c_0, val_main_call2_v0, val_main_call2_v4, val_main_call2_v7, val_main_call2_c, val_main_c_16]
  all_goals rfl

/-- The blocks forced in: the first, the query's own and the one before it. -/
theorem v93_val (j : Fin 128) : val_main_v93 (F := Ideal) (ix2 t j) = 1#1 ↔ (j.val = 0 ∨ j.val = t.val / 64 ∨ j.val + 1 = t.val / 64) := by
  have e : val_main_v93 (F := Ideal) (ix2 t j) = IntOp.ori (IntOp.ori (IntOp.cmpi .eq (BitVec.ofNat 32 j.val) 0#32)
      (IntOp.cmpi .eq (BitVec.ofNat 32 j.val) (val_main_v75 (F := Ideal) (ix1 t))))
      (IntOp.cmpi .eq (BitVec.ofNat 32 j.val) (IntOp.subi (val_main_v75 (F := Ideal) (ix1 t)) 1#32)) := by
    pointwise [val_main_v93, val_main_v85, val_main_v92, val_main_v84, val_main_v83, val_main_v90, val_main_v91, val_main_v78, val_main_v81, val_main_v82, val_main_v86, val_main_v89, val_main_v76, val_main_v77, val_main_v79, val_main_v80, val_main_v46, val_main_v87, val_main_v88, val_main_c_17, val_main_c_18]
  rw [e, v75_val, ori_one, ori_one, eq_pred _ _ (by omega) (by omega), eq_ofNat j.val 0 (by omega) (by omega),
    eq_ofNat j.val (t.val / 64) (by omega) (by omega)]
  omega

/-- The blocks of the future. -/
theorem v100_val (j : Fin 128) : val_main_v100 (F := Ideal) (ix2 t j) = 1#1 ↔ t.val < 64 * j.val := by
  have e : val_main_v100 (F := Ideal) (ix2 t j) = IntOp.cmpi .sgt (IntOp.muli (BitVec.ofNat 32 j.val) 64#32) (BitVec.ofNat 32 t.val) := by
    pointwise [val_main_v100, val_main_v98, val_main_v99, val_main_v96, val_main_v97, val_main_v94, val_main_v95, val_main_v38, val_main_v46, val_main_c_19]
  rw [e, show (64#32 : BitVec 32) = BitVec.ofNat 32 64 from rfl, mul_ofNat, sgt_ofNat _ _ (by omega) (by omega)]
  omega

/-- The importances. -/
theorem v102_val (h0 : Real' A0) (h1 : Real' A1) (j : Fin 128) : val_main_v102 (F := Ideal) A0 A1 (ix4 b g t j)
    = impt (qOf A0 b) (kcOf A1 b) g t j := by
  have e : val_main_v102 (F := Ideal) A0 A1 (ix4 b g t j)
      = Scalar.select (val_main_v100 (F := Ideal) (ix2 t j)) (Ideal.ofBits .f32 4286578688#32)
          (Scalar.select (val_main_v93 (F := Ideal) (ix2 t j)) (Ideal.ofBits .f32 1315859240#32) (val_main_v74 (F := Ideal) A0 A1 (ix4 b g t j))) := by
    pointwise [val_main_v102, val_main_call4_v1, val_main_call4_v2, val_main_v101, val_main_call4_v0, val_main_call3_v1, val_main_call3_v2, val_main_cst_21, val_main_call3_v0, val_main_cst_20]
    all_goals rfl
  rw [e]
  unfold impt
  by_cases hf : t.val < 64 * j.val
  · rw [if_pos hf, sel_pos _ _ _ ((v100_val t j).2 hf)]; exact lit_bot
  · rw [if_neg hf, sel_neg _ _ _ (fun e => hf ((v100_val t j).1 e))]
    split_ifs with h2
    · rw [sel_pos _ _ _ ((v93_val t j).2 h2)]
    · rw [sel_neg _ _ _ (fun e => h2 ((v93_val t j).1 e)), v74_val A0 A1 b g t h0 h1]

/-- The reference's sixteen blocks at a time: each is the block with that many before it. -/
theorem indices_val (h0 : Real' A0) (h1 : Real' A1) (s : Fin 16) : ∃ p : Fin 128,
    val_main_indices (F := Ideal) A0 A1 (ix4 b g t s) = BitVec.ofNat 32 p.val
      ∧ rank (fun j : Fin 128 => impt (qOf A0 b) (kcOf A1 b) g t j) p = s.val := by
  obtain ⟨p, e, hr⟩ := top_idx (val_main_v102 (F := Ideal) A0 A1) b g t s
  refine ⟨p, ?_, ?_⟩
  · unfold val_main_indices
    exact e
  · rw [← hr]
    exact congrArg (fun f => rank f p) (funext fun j => (v102_val A0 A1 b g t h0 h1 j).symm)

/-- A word that is not negative is kept by the wrap of negative indices. -/
theorem wrap_word (n : ℕ) (hn : n < 2147483648) (w : BitVec 32) :
    Scalar.select (IntOp.cmpi .slt (BitVec.ofNat 32 n) 0#32) w (BitVec.ofNat 32 n) = BitVec.ofNat 32 n := by
  apply sel_neg
  show ¬ BitVec.ofBool ((BitVec.ofNat 32 n).slt 0#32) = 1#1
  rw [BitVec.slt_eq_decide, toInt_ofNat n hn, decide_eq_false (by simp)]
  decide

/-- The rows of a block, keys. -/
theorem v25_read (j : Fin 128) (k d : Fin 64) : val_main_v25 (F := Ideal) A3 (ix5 b g j k d)
    = A3 (ix4 b (⟨j.val * 64 + k.val, by omega⟩ : Fin 8192) g d) := by
  pointwise [val_main_v25, val_main_v24]

/-- The three start words of a gathered block, keys. -/
theorem v123_read (s : Fin 16) (p : Fin 128) (hp : val_main_indices (F := Ideal) A0 A1 (ix4 b g t s) = BitVec.ofNat 32 p.val) :
    val_main_v123 (F := Ideal) A0 A1 (ix5 b g t s 0) = BitVec.ofNat 32 b.val
    ∧ val_main_v123 (F := Ideal) A0 A1 (ix5 b g t s 1) = BitVec.ofNat 32 g.val
    ∧ val_main_v123 (F := Ideal) A0 A1 (ix5 b g t s 2) = BitVec.ofNat 32 p.val := by
  refine ⟨?_, ?_, ?_⟩
  · have e : val_main_v123 (F := Ideal) A0 A1 (ix5 b g t s 0) = val_main_v118 (F := Ideal) (ix4 b g t s) := by
      pointwise [val_main_v123, val_main_v120, val_main_v121, val_main_v122]
    have e2 : val_main_v118 (F := Ideal) (ix4 b g t s) = Scalar.select (IntOp.cmpi .slt (BitVec.ofNat 32 b.val) 0#32)
        (IntOp.addi (BitVec.ofNat 32 b.val) 4#32) (BitVec.ofNat 32 b.val) := by
      pointwise [val_main_v118, val_main_v107, val_main_v104, val_main_v106, val_main_v48, val_main_v103, val_main_v105, val_main_v47, val_main_c_22, val_main_c_23]
    rw [e, e2]
    exact wrap_word _ (by omega) _
  · have e : val_main_v123 (F := Ideal) A0 A1 (ix5 b g t s 1) = val_main_v119 (F := Ideal) (ix4 b g t s) := by
      pointwise [val_main_v123, val_main_v120, val_main_v121, val_main_v122]
    have e2 : val_main_v119 (F := Ideal) (ix4 b g t s) = Scalar.select (IntOp.cmpi .slt (BitVec.ofNat 32 g.val) 0#32)
        (IntOp.addi (BitVec.ofNat 32 g.val) 2#32) (BitVec.ofNat 32 g.val) := by
      pointwise [val_main_v119, val_main_v112, val_main_v109, val_main_v111, val_main_v50, val_main_v108, val_main_v110, val_main_v49, val_main_c_24, val_main_c_25]
    rw [e, e2]
    exact wrap_word _ (by omega) _
  · have e : val_main_v123 (F := Ideal) A0 A1 (ix5 b g t s 2) = val_main_v117 (F := Ideal) A0 A1 (ix4 b g t s) := by
      pointwise [val_main_v123, val_main_v120, val_main_v121, val_main_v122]
    have e2 : val_main_v117 (F := Ideal) A0 A1 (ix4 b g t s) = Scalar.select (IntOp.cmpi .slt (val_main_indices (F := Ideal) A0 A1 (ix4 b g t s)) 0#32)
        (IntOp.addi (val_main_indices (F := Ideal) A0 A1 (ix4 b g t s)) 128#32) (val_main_indices (F := Ideal) A0 A1 (ix4 b g t s)) := by
      pointwise [val_main_v117, val_main_v114, val_main_v116, val_main_v113, val_main_v115, val_main_c_26, val_main_c_27]
    rw [e, e2, hp]
    exact wrap_word _ (by omega) _

/-- A gathered row, keys. -/
theorem v125_val (y : Fin 1024) (d : Fin 64) (p : Fin 128)
    (hp : val_main_indices (F := Ideal) A0 A1 (ix4 b g t (⟨y.val / 64, by omega⟩ : Fin 16)) = BitVec.ofNat 32 p.val) :
    val_main_v125 (F := Ideal) A0 A1 A3 (ix5 b g t y d) = A3 (ix4 b (⟨p.val * 64 + y.val % 64, by omega⟩ : Fin 8192) g d) := by
  obtain ⟨w0, w1, w2⟩ := v123_read A0 A1 b g t _ p hp
  have e : val_main_v124 (F := Ideal) A0 A1 A3 (ix6 b g t (⟨y.val / 64, by omega⟩ : Fin 16) (⟨y.val % 64, by omega⟩ : Fin 64) d)
      = val_main_v25 (F := Ideal) A3 (ix5 b g p (⟨y.val % 64, by omega⟩ : Fin 64) d) := by
    unfold val_main_v124
    exact gather_at (val_main_v25 (F := Ideal) A3) (val_main_v123 (F := Ideal) A0 A1) b g t _ _ d p w0 w1 w2
  rw [← v25_read A3 b g p (⟨y.val % 64, by omega⟩ : Fin 64) d, ← e]
  unfold val_main_v125
  generalize val_main_v124 (F := Ideal) A0 A1 A3 = z
  pointwise []

/-- The rows of a block, values. -/
theorem v27_read (j : Fin 128) (k d : Fin 64) : val_main_v27 (F := Ideal) A4 (ix5 b g j k d)
    = A4 (ix4 b (⟨j.val * 64 + k.val, by omega⟩ : Fin 8192) g d) := by
  pointwise [val_main_v27, val_main_v26]

/-- The three start words of a gathered block, values. -/
theorem v146_read (s : Fin 16) (p : Fin 128) (hp : val_main_indices (F := Ideal) A0 A1 (ix4 b g t s) = BitVec.ofNat 32 p.val) :
    val_main_v146 (F := Ideal) A0 A1 (ix5 b g t s 0) = BitVec.ofNat 32 b.val
    ∧ val_main_v146 (F := Ideal) A0 A1 (ix5 b g t s 1) = BitVec.ofNat 32 g.val
    ∧ val_main_v146 (F := Ideal) A0 A1 (ix5 b g t s 2) = BitVec.ofNat 32 p.val := by
  refine ⟨?_, ?_, ?_⟩
  · have e : val_main_v146 (F := Ideal) A0 A1 (ix5 b g t s 0) = val_main_v141 (F := Ideal) (ix4 b g t s) := by
      pointwise [val_main_v146, val_main_v143, val_main_v144, val_main_v145]
    have e2 : val_main_v141 (F := Ideal) (ix4 b g t s) = Scalar.select (IntOp.cmpi .slt (BitVec.ofNat 32 b.val) 0#32)
        (IntOp.addi (BitVec.ofNat 32 b.val) 4#32) (BitVec.ofNat 32 b.val) := by
      pointwise [val_main_v141, val_main_v130, val_main_v127, val_main_v129, val_main_v48, val_main_v126, val_main_v128, val_main_v47, val_main_c_28, val_main_c_29]
    rw [e, e2]
    exact wrap_word _ (by omega) _
  · have e : val_main_v146 (F := Ideal) A0 A1 (ix5 b g t s 1) = val_main_v142 (F := Ideal) (ix4 b g t s) := by
      pointwise [val_main_v146, val_main_v143, val_main_v144, val_main_v145]
    have e2 : val_main_v142 (F := Ideal) (ix4 b g t s) = Scalar.select (IntOp.cmpi .slt (BitVec.ofNat 32 g.val) 0#32)
        (IntOp.addi (BitVec.ofNat 32 g.val) 2#32) (BitVec.ofNat 32 g.val) := by
      pointwise [val_main_v142, val_main_v135, val_main_v132, val_main_v134, val_main_v50, val_main_v131, val_main_v133, val_main_v49, val_main_c_30, val_main_c_31]
    rw [e, e2]
    exact wrap_word _ (by omega) _
  · have e : val_main_v146 (F := Ideal) A0 A1 (ix5 b g t s 2) = val_main_v140 (F := Ideal) A0 A1 (ix4 b g t s) := by
      pointwise [val_main_v146, val_main_v143, val_main_v144, val_main_v145]
    have e2 : val_main_v140 (F := Ideal) A0 A1 (ix4 b g t s) = Scalar.select (IntOp.cmpi .slt (val_main_indices (F := Ideal) A0 A1 (ix4 b g t s)) 0#32)
        (IntOp.addi (val_main_indices (F := Ideal) A0 A1 (ix4 b g t s)) 128#32) (val_main_indices (F := Ideal) A0 A1 (ix4 b g t s)) := by
      pointwise [val_main_v140, val_main_v137, val_main_v139, val_main_v136, val_main_v138, val_main_c_32, val_main_c_33]
    rw [e, e2, hp]
    exact wrap_word _ (by omega) _

/-- A gathered row, values. -/
theorem v148_val (y : Fin 1024) (d : Fin 64) (p : Fin 128)
    (hp : val_main_indices (F := Ideal) A0 A1 (ix4 b g t (⟨y.val / 64, by omega⟩ : Fin 16)) = BitVec.ofNat 32 p.val) :
    val_main_v148 (F := Ideal) A0 A1 A4 (ix5 b g t y d) = A4 (ix4 b (⟨p.val * 64 + y.val % 64, by omega⟩ : Fin 8192) g d) := by
  obtain ⟨w0, w1, w2⟩ := v146_read A0 A1 b g t _ p hp
  have e : val_main_v147 (F := Ideal) A0 A1 A4 (ix6 b g t (⟨y.val / 64, by omega⟩ : Fin 16) (⟨y.val % 64, by omega⟩ : Fin 64) d)
      = val_main_v27 (F := Ideal) A4 (ix5 b g p (⟨y.val % 64, by omega⟩ : Fin 64) d) := by
    unfold val_main_v147
    exact gather_at (val_main_v27 (F := Ideal) A4) (val_main_v146 (F := Ideal) A0 A1) b g t _ _ d p w0 w1 w2
  rw [← v27_read A4 b g p (⟨y.val % 64, by omega⟩ : Fin 64) d, ← e]
  unfold val_main_v148
  generalize val_main_v147 (F := Ideal) A0 A1 A4 = z
  pointwise []

end Cert.Attn.Ref
-- ==== Proof.RefSel.lean ====
/-
The reference's selected branch: attention over the gathered rows.
-/
module

public import proofs.«01_k».proof.Proof.RefPick

@[expose] public section

set_option maxRecDepth 16384

noncomputable section

namespace Cert.Attn.Ref

open Cert.ReferenceIdeal Cert.ReferenceIdeal.Gen Cert.ReferenceIdeal.Read
open Idealize.ShloMosaic Idealize.ShloMosaic.TcCoe

variable (A0 : S4x8192x8x64.Idx → EReal) (A1 A2 : S4x511x2x64.Idx → EReal) (A3 A4 A5 A6 : S4x8192x2x64.Idx → EReal) (A7 : S4x8192x24.Idx → EReal)
variable (b : Fin 4) (g : Fin 2) (h : Fin 4) (t : Fin 8192)

/-- The largest of a row of 1024. -/
theorem max1024 (y : S4x2x4x8192x1024.Idx → EReal) (z : S_.Idx → EReal) :
    Host.reduce (FloatOps.maximumf (F := Ideal) (φ := .f32)) y z reducesTo_S4x2x4x8192x1024_S4x2x4x8192_d4 h_S_ (ix4 b g h t) =
      (Finset.univ : Finset (Fin 1024)).fold max (z (Shape.Idx.first h_S_)) (fun k => y (ix5 b g h t k)) := by
  refine (Host.reduce_eq_fold_single (FloatOps.maximumf (F := Ideal) (φ := .f32)) y z
    reducesTo_S4x2x4x8192x1024_S4x2x4x8192_d4 (by decide) h_S_ (ix4 b g h t)).trans ?_
  refine congrArg (fun f => Finset.fold max (z (Shape.Idx.first h_S_)) f Finset.univ) (funext fun k => ?_)
  exact congrArg y (funext fun a => Fin.ext (by
    match a with | ⟨0, _⟩ => rfl | ⟨1, _⟩ => rfl | ⟨2, _⟩ => rfl | ⟨3, _⟩ => rfl | ⟨4, _⟩ => rfl))

/-- The row of the keys that a slot of the gathered rows holds. -/
def slot (sel : Fin 16 → Fin 128) (y : ℕ) : ℕ := if hy : y < 1024 then (sel ⟨y / 64, by omega⟩).val * 64 + y % 64 else 0

theorem slot_eq (sel : Fin 16 → Fin 128) (y : Fin 1024) : slot sel y = (sel ⟨y.val / 64, by omega⟩).val * 64 + y.val % 64 := by
  unfold slot
  rw [dif_pos y.2]

theorem slot_lt (sel : Fin 16 → Fin 128) (y : Fin 1024) : slot sel y < 8192 := by
  rw [slot_eq]
  have := (sel ⟨y.val / 64, by omega⟩).isLt
  omega

/-- The masked scores of the gathered rows. -/
theorem v166_read (y : Fin 1024) : val_main_v166 (F := Ideal) A0 A1 A3 (ix5 b g h t y)
    = Scalar.select (val_main_v161 (F := Ideal) A0 A1 (ix5 b g 0 t y)) (val_main_v165 (F := Ideal) A0 A1 A3 (ix5 b g h t y)) (Ideal.ofBits .f32 4286578688#32) := by
  pointwise [val_main_v166, val_main_call5_v1, val_main_call5_v2, val_main_call5_v0, val_main_cst_36]
  all_goals rfl

/-- A row's largest masked score. -/
theorem v169_read : val_main_v169 (F := Ideal) A0 A1 A3 (ix4 b g h t)
    = max (Ideal.ofBits .f32 4286578688#32) (Finset.univ.fold max (Ideal.ofBits .f32 4286578688#32) fun k : Fin 1024 => val_main_v166 (F := Ideal) A0 A1 A3 (ix5 b g h t k)) := by
  have z1 : val_main_cst_37 (F := Ideal) (Shape.Idx.first h_S_) = Ideal.ofBits .f32 4286578688#32 := rfl
  have z2 : val_main_v168 (F := Ideal) (ix4 b g h t) = Ideal.ofBits .f32 4286578688#32 := rfl
  have e : val_main_v167 (F := Ideal) A0 A1 A3 (ix4 b g h t)
      = Finset.univ.fold max (Ideal.ofBits .f32 4286578688#32) fun k : Fin 1024 => val_main_v166 (F := Ideal) A0 A1 A3 (ix5 b g h t k) := by
    unfold val_main_v167
    rw [← z1]
    generalize val_main_v166 (F := Ideal) A0 A1 A3 = y
    generalize val_main_cst_37 (F := Ideal) = z
    exact max1024 b g h t y z
  have e2 : val_main_v169 (F := Ideal) A0 A1 A3 (ix4 b g h t)
      = max (val_main_v168 (F := Ideal) (ix4 b g h t)) (val_main_v167 (F := Ideal) A0 A1 A3 (ix4 b g h t)) := by
    rw [val_main_v169_apply]
    generalize val_main_v167 (F := Ideal) A0 A1 A3 (ix4 b g h t) = y
    rfl
  rw [e2, e, z2]

/-- A row's quotient of exponentials. -/
theorem v177_read (y : Fin 1024) : val_main_v177 (F := Ideal) A0 A1 A3 (ix5 b g h t y)
    = Ideal.div (Ideal.exp (val_main_v166 (F := Ideal) A0 A1 A3 (ix5 b g h t y) - val_main_v169 (F := Ideal) A0 A1 A3 (ix4 b g h t)))
        (∑ x : Fin 1024, Ideal.exp (val_main_v166 (F := Ideal) A0 A1 A3 (ix5 b g h t x) - val_main_v169 (F := Ideal) A0 A1 A3 (ix4 b g h t))) := by
  pointwise [val_main_v177, val_main_v173, val_main_v176, val_main_v172, val_main_v175, val_main_v171, val_main_v174, val_main_v170, val_main_cst_39]

/-- The selected branch's result, as a sum over the gathered rows. -/
theorem v179_read (d : Fin 64) : val_main_v179 (F := Ideal) A0 A1 A3 A4 (ix5 b g h t d)
    = ∑ x : Fin 1024, val_main_v148 (F := Ideal) A0 A1 A4 (ix5 b g t x d) * val_main_v177 (F := Ideal) A0 A1 A3 (ix5 b g h t x) := by
  pointwise [val_main_v179, val_main_v178]

variable (sel : Fin 16 → Fin 128) (hsel : ∀ s, val_main_indices (F := Ideal) A0 A1 (ix4 b g t s) = BitVec.ofNat 32 (sel s).val)
include hsel

/-- The slots whose key is not later than the query. -/
theorem v161_val (y : Fin 1024) : val_main_v161 (F := Ideal) A0 A1 (ix5 b g 0 t y) = 1#1 ↔ slot sel y ≤ t.val := by
  have e : val_main_v161 (F := Ideal) A0 A1 (ix5 b g 0 t y)
      = IntOp.cmpi .sle (IntOp.addi (IntOp.muli (val_main_indices (F := Ideal) A0 A1 (ix4 b g t (⟨y.val / 64, by omega⟩ : Fin 16))) 64#32)
          (BitVec.ofNat 32 (y.val % 64))) (BitVec.ofNat 32 t.val) := by
    pointwise [val_main_v161, val_main_v160, val_main_v157, val_main_v159, val_main_v156, val_main_v158, val_main_v154, val_main_v155, val_main_v38, val_main_v151, val_main_v153, val_main_v149, val_main_v150, val_main_v152, val_main_c_34]
  have := (sel ⟨y.val / 64, by omega⟩).isLt
  rw [e, hsel, show (64#32 : BitVec 32) = BitVec.ofNat 32 64 from rfl, mul_ofNat, add_ofNat, sle_ofNat _ _ (by omega) (by omega), slot_eq]

/-- The scores of the gathered rows. -/
theorem v165_val (h0 : Real' A0) (h3 : Real' A3) (y : Fin 1024) : val_main_v165 (F := Ideal) A0 A1 A3 (ix5 b g h t y)
    = (score (qOf A0 b) (kOf A3 b g) (g.val * 4 + h.val) t (slot sel y) : EReal) := by
  have e : val_main_v165 (F := Ideal) A0 A1 A3 (ix5 b g h t y)
      = (∑ x : Fin 64, val_main_v125 (F := Ideal) A0 A1 A3 (ix5 b g t y x) * A0 (ix4 b t (⟨g.val * 4 + h.val, by omega⟩ : Fin 8) x))
          * Ideal.ofBits .f32 1040187392#32 := by
    pointwise [val_main_v165, val_main_v163, val_main_v164, val_main_v162, val_main_cst_35, val_main_v29, val_main_v28]
  rw [e, Finset.sum_congr rfl fun x _ => mul_comm (val_main_v125 (F := Ideal) A0 A1 A3 (ix5 b g t y x)) _]
  refine score_of _ _ _ _ _ _ _ (fun d => (qOf_eq A0 h0 b (⟨g.val * 4 + h.val, by omega⟩ : Fin 8) d t).symm) (fun d => ?_)
  rw [v125_val A0 A1 A3 b g t y d _ (hsel _), ← kOf_eq A3 h3, slot_eq]

/-- The weights are the softmax weights over the slots. -/
theorem v177_val (h0 : Real' A0) (h3 : Real' A3) (z : Fin 1024) (hz : slot sel z ≤ t.val) (y : Fin 1024) :
    val_main_v177 (F := Ideal) A0 A1 A3 (ix5 b g h t y)
    = (soft 1024 (fun y => slot sel y ≤ t.val) (fun y => score (qOf A0 b) (kOf A3 b g) (g.val * 4 + h.val) t (slot sel y)) y : EReal) := by
  rw [v177_read]
  refine ref_row 1024 (fun y => slot sel y ≤ t.val) (fun y => score (qOf A0 b) (kOf A3 b g) (g.val * 4 + h.val) t (slot sel y))
      (fun x => val_main_v166 (F := Ideal) A0 A1 A3 (ix5 b g h t x)) _ (fun x hx => ?_) (fun x hx => ?_) (v169_read A0 A1 A3 b g h t)
      z hz y
  · show val_main_v166 (F := Ideal) A0 A1 A3 (ix5 b g h t x) = _
    rw [v166_read, sel_pos _ _ _ ((v161_val A0 A1 b g t sel hsel x).2 hx), v165_val A0 A1 A3 b g h t sel hsel h0 h3]
  · show val_main_v166 (F := Ideal) A0 A1 A3 (ix5 b g h t x) = _
    rw [v166_read, sel_neg _ _ _ (fun e => hx ((v161_val A0 A1 b g t sel hsel x).1 e))]
    exact lit_bot

omit hsel

/-- The selected branch's result is the attention over the keys of the chosen blocks. -/
theorem v179_val (h0 : Real' A0) (h1 : Real' A1) (h3 : Real' A3) (d : Fin 64) :
    val_main_v179 (F := Ideal) A0 A1 A3 A4 (ix5 b g h t d)
    = attn 8192 (fun k => k ≤ t.val ∧ Chosen (qOf A0 b) (kcOf A1 b) g t (k / 64))
        (score (qOf A0 b) (kOf A3 b g) (g.val * 4 + h.val) t) (vOf A4 b g d) := by
  choose sel hsel hrank using fun s => indices_val A0 A1 b g t h0 h1 s
  have hC : ∀ j : Fin 128, Chosen (qOf A0 b) (kcOf A1 b) g t j ↔ rank (fun j : Fin 128 => impt (qOf A0 b) (kcOf A1 b) g t j) j < 16 :=
    fun j => ⟨fun ⟨_, h⟩ => h, fun h => ⟨j.2, h⟩⟩
  obtain ⟨z, hz⟩ : ∃ z : Fin 1024, slot sel z ≤ t.val := by
    obtain ⟨hj, hr⟩ := chosen_self (qOf A0 b) (kcOf A1 b) g t t.2
    refine ⟨⟨rank (fun j : Fin 128 => impt (qOf A0 b) (kcOf A1 b) g t j) ⟨t.val / 64, hj⟩ * 64 + t.val % 64, by omega⟩, ?_⟩
    rw [slot_eq]
    have hs : sel ⟨(rank (fun j : Fin 128 => impt (qOf A0 b) (kcOf A1 b) g t j) ⟨t.val / 64, hj⟩ * 64 + t.val % 64) / 64, by omega⟩
        = ⟨t.val / 64, hj⟩ := by
      refine rank_inj (fun j : Fin 128 => impt (qOf A0 b) (kcOf A1 b) g t j) _ _ ((hrank _).trans ?_)
      show (rank (fun j : Fin 128 => impt (qOf A0 b) (kcOf A1 b) g t j) ⟨t.val / 64, hj⟩ * 64 + t.val % 64) / 64 = _
      omega
    rw [hs]
    show t.val / 64 * 64 + (rank (fun j : Fin 128 => impt (qOf A0 b) (kcOf A1 b) g t j) ⟨t.val / 64, hj⟩ * 64 + t.val % 64) % 64 ≤ t.val
    omega
  rw [v179_read, ← attn_gathered _ sel hrank (Chosen (qOf A0 b) (kcOf A1 b) g t) hC (slot sel) (slot_eq sel),
    Finset.sum_congr rfl fun x _ => mul_comm (val_main_v148 (F := Ideal) A0 A1 A4 (ix5 b g t x d)) _]
  refine attn_of 1024 _ _ _ _ _ (fun k => v177_val A0 A1 A3 b g h t sel hsel h0 h3 z hz k) (fun k => ?_)
  rw [v148_val A0 A1 A4 b g t k d _ (hsel _), ← vOf_eq A4, slot_eq]

end Cert.Attn.Ref
-- ==== Proof.RefWin.lean ====
/-
The reference's window branch.
-/
module

public import proofs.«01_k».proof.Proof.Args
public import proofs.«01_k».proof.Proof.RefMath
public import proofs.«01_k».proof.Proof.Gen.ReferenceIdeal.Read

@[expose] public section

set_option maxRecDepth 16384

noncomputable section

namespace Cert.Attn.Ref

open Cert.ReferenceIdeal Cert.ReferenceIdeal.Gen Cert.ReferenceIdeal.Read
open Idealize.ShloMosaic Idealize.ShloMosaic.TcCoe

variable (A0 : S4x8192x8x64.Idx → EReal) (A1 A2 : S4x511x2x64.Idx → EReal) (A3 A4 A5 A6 : S4x8192x2x64.Idx → EReal) (A7 : S4x8192x24.Idx → EReal)
variable (b : Fin 4) (g : Fin 2) (h : Fin 4) (t : Fin 8192)

/-- The largest of a row of 8192. -/
theorem max8192 (y : S4x2x4x8192x8192.Idx → EReal) (z : S_.Idx → EReal) :
    Host.reduce (FloatOps.maximumf (F := Ideal) (φ := .f32)) y z reducesTo_S4x2x4x8192x8192_S4x2x4x8192_d4 h_S_ (ix4 b g h t) =
      (Finset.univ : Finset (Fin 8192)).fold max (z (Shape.Idx.first h_S_)) (fun k => y (ix5 b g h t k)) := by
  refine (Host.reduce_eq_fold_single (FloatOps.maximumf (F := Ideal) (φ := .f32)) y z
    reducesTo_S4x2x4x8192x8192_S4x2x4x8192_d4 (by decide) h_S_ (ix4 b g h t)).trans ?_
  refine congrArg (fun f => Finset.fold max (z (Shape.Idx.first h_S_)) f Finset.univ) (funext fun k => ?_)
  exact congrArg y (funext fun a => Fin.ext (by
    match a with | ⟨0, _⟩ => rfl | ⟨1, _⟩ => rfl | ⟨2, _⟩ => rfl | ⟨3, _⟩ => rfl | ⟨4, _⟩ => rfl))

/-- The window's scores. -/
theorem v195_val (h0 : Real' A0) (h5 : Real' A5) (k : Fin 8192) :
    val_main_v195 (F := Ideal) A0 A5 (ix5 b g h t k) = (score (qOf A0 b) (kOf A5 b g) (g.val * 4 + h.val) t k : EReal) := by
  have e : val_main_v195 (F := Ideal) A0 A5 (ix5 b g h t k)
      = (∑ x : Fin 64, A0 (ix4 b t (⟨g.val * 4 + h.val, by omega⟩ : Fin 8) x) * A5 (ix4 b k g x)) * Ideal.ofBits .f32 1040187392#32 := by
    pointwise [val_main_v195, val_main_v193, val_main_v194, val_main_v29, val_main_cst_41, val_main_v28]
  rw [e]
  exact score_of _ _ _ _ _ _ _ (fun d => (qOf_eq A0 h0 b (⟨g.val * 4 + h.val, by omega⟩ : Fin 8) d t).symm) (fun d => (kOf_eq A5 h5 b g k d).symm)

/-- A signed compare with a difference that may be negative. -/
theorem sgt_sub (a t : ℕ) (ha : a < 8192) (ht : t < 8192) :
    IntOp.cmpi .sgt (BitVec.ofNat 32 a) (IntOp.subi (BitVec.ofNat 32 t) 512#32) = 1#1 ↔ t < a + 512 := by
  have h1 : (IntOp.subi (BitVec.ofNat 32 t) 512#32).toInt = (t : ℤ) - 512 := by
    show (BitVec.ofNat 32 t - 512#32).toInt = _
    rw [BitVec.toInt_sub, toInt_ofNat t (by omega), show (512#32 : BitVec 32).toInt = 512 from rfl]
    simp only [Int.bmod]
    omega
  have : IntOp.cmpi .sgt (BitVec.ofNat 32 a) (IntOp.subi (BitVec.ofNat 32 t) 512#32) = BitVec.ofBool (decide (t < a + 512)) := by
    show BitVec.ofBool ((IntOp.subi (BitVec.ofNat 32 t) 512#32).slt (BitVec.ofNat 32 a)) = _
    congr 1
    rw [BitVec.slt_eq_decide, toInt_ofNat a (by omega), h1]
    exact decide_eq_decide.2 (by omega)
  rw [this]; by_cases h : t < a + 512 <;> simp [h]

/-- The keys of the window. -/
theorem v192_val (k : Fin 8192) : val_main_v192 (F := Ideal) (ix2 t k) = 1#1 ↔ (k.val ≤ t.val ∧ t.val < k.val + 512) := by
  have e : val_main_v192 (F := Ideal) (ix2 t k) = IntOp.andi (IntOp.cmpi .sle (BitVec.ofNat 32 k.val) (BitVec.ofNat 32 t.val))
      (IntOp.cmpi .sgt (BitVec.ofNat 32 k.val) (IntOp.subi (BitVec.ofNat 32 t.val) 512#32)) := by
    pointwise [val_main_v192, val_main_v184, val_main_v191, val_main_v182, val_main_v183, val_main_v189, val_main_v190, val_main_v180, val_main_v181, val_main_v185, val_main_v188, val_main_v38, val_main_v186, val_main_v187, val_main_c_40]
  rw [e, andi_one, sle_ofNat _ _ (by omega) (by omega), sgt_sub _ _ k.2 t.2]

/-- The masked scores. -/
theorem v196_read (k : Fin 8192) : val_main_v196 (F := Ideal) A0 A5 (ix5 b g h t k)
    = Scalar.select (val_main_v192 (F := Ideal) (ix2 t k)) (val_main_v195 (F := Ideal) A0 A5 (ix5 b g h t k)) (Ideal.ofBits .f32 4286578688#32) := by
  pointwise [val_main_v196, val_main_call6_v1, val_main_call6_v2, val_main_call6_v0, val_main_cst_42]
  all_goals rfl

/-- A row's largest masked score. -/
theorem v199_read : val_main_v199 (F := Ideal) A0 A5 (ix4 b g h t)
    = max (Ideal.ofBits .f32 4286578688#32) (Finset.univ.fold max (Ideal.ofBits .f32 4286578688#32) fun k : Fin 8192 => val_main_v196 (F := Ideal) A0 A5 (ix5 b g h t k)) := by
  have z1 : val_main_cst_43 (F := Ideal) (Shape.Idx.first h_S_) = Ideal.ofBits .f32 4286578688#32 := rfl
  have z2 : val_main_v198 (F := Ideal) (ix4 b g h t) = Ideal.ofBits .f32 4286578688#32 := rfl
  have e : val_main_v197 (F := Ideal) A0 A5 (ix4 b g h t)
      = Finset.univ.fold max (Ideal.ofBits .f32 4286578688#32) fun k : Fin 8192 => val_main_v196 (F := Ideal) A0 A5 (ix5 b g h t k) := by
    unfold val_main_v197
    rw [← z1]
    generalize val_main_v196 (F := Ideal) A0 A5 = y
    generalize val_main_cst_43 (F := Ideal) = z
    exact max8192 b g h t y z
  have e2 : val_main_v199 (F := Ideal) A0 A5 (ix4 b g h t)
      = max (val_main_v198 (F := Ideal) (ix4 b g h t)) (val_main_v197 (F := Ideal) A0 A5 (ix4 b g h t)) := by
    rw [val_main_v199_apply]
    generalize val_main_v197 (F := Ideal) A0 A5 (ix4 b g h t) = y
    rfl
  rw [e2, e, z2]

/-- A row's quotient of exponentials. -/
theorem v207_read (k : Fin 8192) : val_main_v207 (F := Ideal) A0 A5 (ix5 b g h t k)
    = Ideal.div (Ideal.exp (val_main_v196 (F := Ideal) A0 A5 (ix5 b g h t k) - val_main_v199 (F := Ideal) A0 A5 (ix4 b g h t)))
        (∑ x : Fin 8192, Ideal.exp (val_main_v196 (F := Ideal) A0 A5 (ix5 b g h t x) - val_main_v199 (F := Ideal) A0 A5 (ix4 b g h t))) := by
  pointwise [val_main_v207, val_main_v203, val_main_v206, val_main_v202, val_main_v205, val_main_v201, val_main_v204, val_main_v200, val_main_cst_45]

/-- The weights are the softmax weights of the window. -/
theorem v207_val (h0 : Real' A0) (h5 : Real' A5) (k : Fin 8192) : val_main_v207 (F := Ideal) A0 A5 (ix5 b g h t k)
    = (soft 8192 (fun k => k ≤ t.val ∧ t.val < k + 512) (score (qOf A0 b) (kOf A5 b g) (g.val * 4 + h.val) t) k : EReal) := by
  rw [v207_read]
  refine ref_row 8192 (fun k => k ≤ t.val ∧ t.val < k + 512) (score (qOf A0 b) (kOf A5 b g) (g.val * 4 + h.val) t)
      (fun x => val_main_v196 (F := Ideal) A0 A5 (ix5 b g h t x)) _ (fun x hx => ?_) (fun x hx => ?_) (v199_read A0 A5 b g h t)
      t ⟨le_refl _, by omega⟩ k
  · show val_main_v196 (F := Ideal) A0 A5 (ix5 b g h t x) = _
    rw [v196_read, sel_pos _ _ _ ((v192_val t x).2 hx), v195_val A0 A5 b g h t h0 h5]
  · show val_main_v196 (F := Ideal) A0 A5 (ix5 b g h t x) = _
    rw [v196_read, sel_neg _ _ _ (fun e => hx ((v192_val t x).1 e))]
    exact lit_bot

/-- The window branch's result. -/
theorem v208_val (h0 : Real' A0) (h5 : Real' A5) (d : Fin 64) : val_main_v208 (F := Ideal) A0 A5 A6 (ix5 b g h t d)
    = attn 8192 (fun k => k ≤ t.val ∧ t.val < k + 512) (score (qOf A0 b) (kOf A5 b g) (g.val * 4 + h.val) t) (vOf A6 b g d) := by
  have e : val_main_v208 (F := Ideal) A0 A5 A6 (ix5 b g h t d)
      = ∑ x : Fin 8192, val_main_v207 (F := Ideal) A0 A5 (ix5 b g h t x) * A6 (ix4 b x g d) := by
    pointwise [val_main_v208]
  rw [e]
  exact attn_of 8192 _ _ _ _ _ (fun k => v207_val A0 A5 b g h t h0 h5 k) (fun k => (vOf_eq A6 b g k d).symm)

end Cert.Attn.Ref
-- ==== Proof.RefValue.lean ====
/-
The reference's result is the attention.
-/
module

public import proofs.«01_k».proof.Proof.RefSel
public import proofs.«01_k».proof.Proof.RefWin

@[expose] public section

set_option maxRecDepth 16384

noncomputable section

namespace Cert.Attn.Ref

open Cert.ReferenceIdeal Cert.ReferenceIdeal.Gen Cert.ReferenceIdeal.Read
open Idealize.ShloMosaic Idealize.ShloMosaic.TcCoe

variable (A0 : S4x8192x8x64.Idx → EReal) (A1 A2 : S4x511x2x64.Idx → EReal) (A3 A4 A5 A6 : S4x8192x2x64.Idx → EReal) (A7 : S4x8192x24.Idx → EReal)
variable (b : Fin 4) (g : Fin 2) (h : Fin 4) (t : Fin 8192)

/-- A gate: the reference's quotient is the logistic. -/
theorem v37_val (x : Fin 3) : val_main_v37 (F := Ideal) A7 (ix5 b g h t x)
    = Ideal.logistic (glOf A7 b (3 * (g.val * 4 + h.val) + x.val) t) := by
  have e : val_main_v37 (F := Ideal) A7 (ix5 b g h t x)
      = Ideal.div 1 (1 + Ideal.exp (-A7 (ix3 b t (⟨g.val * 12 + h.val * 3 + x.val, by omega⟩ : Fin 24)))) := by
    pointwise [val_main_v37, val_main_v36, val_main_v35, val_main_v34, val_main_v33, val_main_cst_5, val_main_v32, val_main_v31, val_main_cst_4, val_main_v30]
  have e2 : 3 * (g.val * 4 + h.val) + x.val = (⟨g.val * 12 + h.val * 3 + x.val, by omega⟩ : Fin 24).val := by
    show _ = g.val * 12 + h.val * 3 + x.val
    omega
  rw [e, e2, glOf_eq A7]
  rfl

/-- The reference's result at an index. -/
theorem v221_at (h0 : Real' A0) (h1 : Real' A1) (h3 : Real' A3) (h5 : Real' A5) (y : Fin 512) :
    val_main_v221 (F := Ideal) A0 A1 A2 A3 A4 A5 A6 A7 (ix3 b y t) = resOf A0 A1 A2 A3 A4 A5 A6 A7 (ix3 b y t) := by
  have e : val_main_v221 (F := Ideal) A0 A1 A2 A3 A4 A5 A6 A7 (ix3 b y t)
      = val_main_v37 (F := Ideal) A7 (ix5 b (⟨y.val / 256, by omega⟩ : Fin 2) (⟨y.val / 64 % 4, by omega⟩ : Fin 4) t 0)
          * val_main_v72 (F := Ideal) A0 A1 A2 (ix5 b (⟨y.val / 256, by omega⟩ : Fin 2) (⟨y.val / 64 % 4, by omega⟩ : Fin 4) t (⟨y.val % 64, by omega⟩ : Fin 64))
        + val_main_v37 (F := Ideal) A7 (ix5 b (⟨y.val / 256, by omega⟩ : Fin 2) (⟨y.val / 64 % 4, by omega⟩ : Fin 4) t 1)
          * val_main_v179 (F := Ideal) A0 A1 A3 A4 (ix5 b (⟨y.val / 256, by omega⟩ : Fin 2) (⟨y.val / 64 % 4, by omega⟩ : Fin 4) t (⟨y.val % 64, by omega⟩ : Fin 64))
        + val_main_v37 (F := Ideal) A7 (ix5 b (⟨y.val / 256, by omega⟩ : Fin 2) (⟨y.val / 64 % 4, by omega⟩ : Fin 4) t 2)
          * val_main_v208 (F := Ideal) A0 A5 A6 (ix5 b (⟨y.val / 256, by omega⟩ : Fin 2) (⟨y.val / 64 % 4, by omega⟩ : Fin 4) t (⟨y.val % 64, by omega⟩ : Fin 64)) := by
    pointwise [val_main_v221, val_main_v220, val_main_v219, val_main_v215, val_main_v218, val_main_v211, val_main_v214, val_main_v217, val_main_v210, val_main_v213, val_main_v216, val_main_v209, val_main_v212]
  rw [e, v37_val, v37_val, v37_val, v72_val A0 A1 A2 _ _ _ _ h0 h1, v179_val A0 A1 A3 A4 _ _ _ _ h0 h1 h3, v208_val A0 A5 A6 _ _ _ _ h0 h5]
  show _ = outAll _ _ _ _ _ _ _ _ (y.val / 64) (y.val % 64) t.val
  unfold outAll outC outS outW
  have a1 : y.val / 256 * 4 + y.val / 64 % 4 = y.val / 64 := by omega
  have a2 : y.val / 64 / 4 = y.val / 256 := by omega
  show Ideal.logistic (glOf A7 b (3 * (y.val / 256 * 4 + y.val / 64 % 4)) t) * attn 512 _ (score (qOf A0 b) _ (y.val / 256 * 4 + y.val / 64 % 4) t) _
    + Ideal.logistic (glOf A7 b (3 * (y.val / 256 * 4 + y.val / 64 % 4) + 1) t) * attn 8192 _ (score (qOf A0 b) _ (y.val / 256 * 4 + y.val / 64 % 4) t) _
    + Ideal.logistic (glOf A7 b (3 * (y.val / 256 * 4 + y.val / 64 % 4) + 2) t) * attn 8192 _ (score (qOf A0 b) _ (y.val / 256 * 4 + y.val / 64 % 4) t) _ = _
  rw [a1, a2]
  rfl

/-- The reference's result is the attention of its arguments. -/
theorem v221_val (h0 : Real' A0) (h1 : Real' A1) (h3 : Real' A3) (h5 : Real' A5) :
    val_main_v221 (F := Ideal) A0 A1 A2 A3 A4 A5 A6 A7 = resOf A0 A1 A2 A3 A4 A5 A6 A7 := by
  funext i
  rw [eq_ix3 i]
  exact v221_at A0 A1 A2 A3 A4 A5 A6 A7 (i 0) (i 2) h0 h1 h3 h5 (i 1)

end Cert.Attn.Ref
-- ==== Proof.Algebra.lean ====
/-
The algebraic claim: on the same arguments, with queries and keys of numbers, the kernel's result is the reference's.
-/
module

public import proofs.«01_k».proof.Proof.Frames
public import proofs.«01_k».proof.Proof.KernelValue
public import proofs.«01_k».proof.Proof.RefValue

@[expose] public section

set_option maxRecDepth 16384

noncomputable section

namespace Cert.Attn

open Idealize.ShloMosaic Idealize.ShloMosaic.TcCoe
open Idealize.SL.Sem Idealize.ShloMosaic.StableHlo

/-- The kernel's frame, under the precondition, which it does not need. -/
theorem frame_pi_finite : Cert.quiescent_KernelIdeal_pre_finite (hKernelIdeal := Cert.KernelIdeal.Gen.facts)
    (hPre_finite := Cert.Pre_finite.Gen.facts) := fun m ρ _ => frame_pi m ρ trivial

/-- The reference's frame, under the precondition, which it does not need. -/
theorem frame_ri_finite : Cert.quiescent_ReferenceIdeal_pre_finite (hReferenceIdeal := Cert.ReferenceIdeal.Gen.facts)
    (hPre_finite := Cert.Pre_finite.Gen.facts) := fun m ρ _ => frame_ri m ρ trivial

/-- Equal arguments, equal attention. -/
theorem resOf_congr {A0 B0 : (⟨4, ![4, 8192, 8, 64]⟩ : Shape).Idx → EReal} {A1 A2 B1 B2 : (⟨4, ![4, 511, 2, 64]⟩ : Shape).Idx → EReal}
    {A3 A4 A5 A6 B3 B4 B5 B6 : (⟨4, ![4, 8192, 2, 64]⟩ : Shape).Idx → EReal} {A7 B7 : (⟨3, ![4, 8192, 24]⟩ : Shape).Idx → EReal}
    (e0 : A0 = B0) (e1 : A1 = B1) (e2 : A2 = B2) (e3 : A3 = B3) (e4 : A4 = B4) (e5 : A5 = B5) (e6 : A6 = B6) (e7 : A7 = B7) :
    resOf A0 A1 A2 A3 A4 A5 A6 A7 = resOf B0 B1 B2 B3 B4 B5 B6 B7 := by
  subst e0 e1 e2 e3 e4 e5 e6 e7
  rfl

/-- The kernel and the reference leave the same result: both leave the attention. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  have hr : ∀ c : Dev Cert.KernelIdeal.nD, Real' (ar0 m c) ∧ Real' (ar1 m c) ∧ Real' (ar3 m c) ∧ Real' (ar5 m c) := fun c =>
    finite_real (ar0 m c) (ar1 m c) (ar2 m c) (ar3 m c) (ar4 m c) (ar5 m c) (ar6 m c) (ar7 m c) (fun a => a.elim0)
      (congrFun (hpre c) _)
  refine ⟨fun c => resAt m c, kernel_run m g hr, ?_⟩
  refine (θ_run Cert.ReferenceIdeal.defs _ _).mono (fun r h c => ⟨(h c).1.trans ?_, (h c).2⟩)
    (Cert.ReferenceIdeal.Value.run (F := Ideal) m' g')
  obtain ⟨a0, a1, a2, a3, a4, a5, a6, a7⟩ := hargs c
  obtain ⟨h0, h1, h3, h5⟩ := hr c
  refine (Cert.ReferenceIdeal.Read.val_main_v221_eq (F := Ideal) (launchContents m' c)).trans ?_
  refine (Ref.v221_val _ _ _ _ _ _ _ _ (?_ : Real' _) (?_ : Real' _) (?_ : Real' _) (?_ : Real' _)).trans
    (resOf_congr a0 a1 a2 a3 a4 a5 a6 a7)
  · exact (congrArg (Real' (s := ⟨4, ![4, 8192, 8, 64]⟩)) a0).mpr h0
  · exact (congrArg (Real' (s := ⟨4, ![4, 511, 2, 64]⟩)) a1).mpr h1
  · exact (congrArg (Real' (s := ⟨4, ![4, 8192, 2, 64]⟩)) a3).mpr h3
  · exact (congrArg (Real' (s := ⟨4, ![4, 8192, 2, 64]⟩)) a5).mpr h5

end Cert.Attn
-- ==== Proof.ExpertsIdealRun.lean ====
/-
The runs of the experts' body at one grid point.
-/
module

public import proofs.«01_k».proof.Proof.Gen.ExpertsIdeal.Launch
public import proofs.«01_k».proof.Proof.Gen.ExpertsIdeal.Skeleton
public import Idealize.ShloMosaic.Lib.Pipeline.Frame
public import Idealize.ShloMosaic.Lib.VecWindow

@[expose] public section

set_option maxRecDepth 16384

noncomputable section

namespace Cert.ExpertsIdeal.Own

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The contents type of a table's buffer on core `c`. -/
abbrev TbBuf (c : Dev nD) {S : Shape} {e : EltTy} (M : Memref sig .tc .smem S e) : Type := Buf (Elt F) (M.view.loc (c : Thread nD τ))
/-- A table's buffer held, for reading, at contents `f`. -/
abbrev tbPt (c : Dev nD) {S : Shape} {e : EltTy} (M : Memref sig .tc .smem S e) (f : TbBuf (F := F) c M) : sProp 𝕄 :=
  M.view.loc (c : Thread nD τ) ↦{fullShare.right} f

/-- The word of the second table: how many blocks of rows are in use. -/
def wordNu (c : Dev nD) (arg2 : Memref sig .tc .smem S1 .i32) (f2 : TbBuf (F := F) c arg2) : BitVec 32 :=
  View.readAt (Elt F) arg2.view (Rect.unit (s := S1) ![0] S1.size inb_S1_S1_0).toLoadRect f2 (Shape.Idx.first (numel1_S1.symm ▸ Nat.one_pos))
/-- The word of the first table at this grid point: the expert of its block of rows. -/
def wordBe (c : Dev nD) (i : grid0.Coords) (arg1 : Memref sig .tc .smem S288 .i32) (f1 : TbBuf (F := F) c arg1) : BitVec 32 :=
  View.readAt (Elt F) arg1.view (Rect.unit (s := S288) (k0_off1 i) S1.size (k0_off1_inb i)).toLoadRect f1 (Shape.Idx.first (numel1_S1.symm ▸ Nat.one_pos))
/-- The word of the first table at the grid point before. -/
def wordPrev (c : Dev nD) (i : grid0.Coords) (arg1 : Memref sig .tc .smem S288 .i32) (f1 : TbBuf (F := F) c arg1) : BitVec 32 :=
  View.readAt (Elt F) arg1.view (Rect.unit (s := S288) (k0_off2 i) S1.size (k0_off2_inb i)).toLoadRect f1 (Shape.Idx.first (numel1_S1.symm ▸ Nat.one_pos))
/-- Whether the grid point rounds an expert's weights into the scratches anew: its block is in use, and it is the first or its expert is not the
    one of the block before. -/
def newC (i : grid0.Coords) (n w w' : BitVec 32) : BitVec 1 :=
  Scalar.cmpi .ne (Scalar.extui (Scalar.andi (Scalar.cmpi .slt (BitVec.ofNat 32 (i 0).val) n) (Scalar.ori (Scalar.cmpi .eq (BitVec.ofNat 32 (i 0).val) 0#32) (Scalar.cmpi .ne w w'))) : BitVec 32) 0#32
/-- What the first scratch holds after the point. -/
def y9 (q : BitVec 1) (x4 : Vec F S1x1024x2048 .f32) (x9 : Vec F S1024x2048 .bf16) : Vec F S1024x2048 .bf16 := if q = 1#1 then k0_pay1 x4 else x9
/-- What the second scratch holds after the point. -/
def y10 (q : BitVec 1) (x6 : Vec F S1x1024x1024 .f32) (x10 : Vec F S1024x1024 .bf16) : Vec F S1024x1024 .bf16 := if q = 1#1 then k0_pay2 x6 else x10
/-- What the output block holds after the point. -/
def y8 (q : BitVec 1) (z : Vec F S512x1024 .f32) : Vec F S512x1024 .f32 := if q = 1#1 then k0_pay4 else z

set_option maxHeartbeats 1000000 in
/-- The body at one grid point: the scratches are filled anew or kept, and the output block is the expert's result from the scratches, or zero. -/
theorem runN (c : Dev nD) (i : grid0.Coords) (arg1 : Memref sig .tc .smem S288 .i32) (harg1 : arg1.IsWhole) (arg2 : Memref sig .tc .smem S1 .i32) (harg2 : arg2.IsWhole) (arg3 : Memref sig .tc .vmem S512x1024 .f32) (harg3 : arg3.IsWhole) (arg4 : Memref sig .tc .vmem S1x1024x2048 .f32) (harg4 : arg4.IsWhole) (arg5 : Memref sig .tc .vmem S1x1x2048 .f32) (harg5 : arg5.IsWhole) (arg6 : Memref sig .tc .vmem S1x1024x1024 .f32) (harg6 : arg6.IsWhole) (arg7 : Memref sig .tc .vmem S1x1x1024 .f32) (harg7 : arg7.IsWhole) (arg8 : Memref sig .tc .vmem S512x1024 .f32) (harg8 : arg8.IsWhole) (arg9 : Memref sig .tc .vmem S1024x2048 .bf16) (harg9 : arg9.IsWhole) (arg10 : Memref sig .tc .vmem S1024x1024 .bf16) (harg10 : arg10.IsWhole)
    (f1 : TbBuf (F := F) c arg1) (f2 : TbBuf (F := F) c arg2) (x3 : Vec F S512x1024 .f32) (x4 : Vec F S1x1024x2048 .f32) (x5 : Vec F S1x1x2048 .f32) (x6 : Vec F S1x1024x1024 .f32) (x7 : Vec F S1x1x1024 .f32) (x9 : Vec F S1024x2048 .bf16) (x10 : Vec F S1024x1024 .bf16) (hx : k0_cond2 i (wordNu c arg2 f2) = 1#1 ∨ k0_cond3 i (wordNu c arg2 f2) = 1#1)
    (E : Set ℕ) (K : PUnit → sProp 𝕄) :
    iprop(tbPt c arg1 f1 ∗ tbPt c arg2 f2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ owns (c : Thread nD τ) arg9 fullShare x9 ∗ owns (c : Thread nD τ) arg10 fullShare x10
        ∗ (iprop(tbPt c arg1 f1 ∗ tbPt c arg2 f2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (y8 (k0_cond3 i (wordNu c arg2 f2)) (k0_pay3 x3 (y9 (newC i (wordNu c arg2 f2) (wordBe c i arg1 f1) (wordPrev c i arg1 f1)) x4 x9) x5 (y10 (newC i (wordNu c arg2 f2) (wordBe c i arg1 f1) (wordPrev c i arg1 f1)) x6 x10) x7)) ∗ owns (c : Thread nD τ) arg9 fullShare (y9 (newC i (wordNu c arg2 f2) (wordBe c i arg1 f1) (wordPrev c i arg1 f1)) x4 x9) ∗ owns (c : Thread nD τ) arg10 fullShare (y10 (newC i (wordNu c arg2 f2) (wordBe c i arg1 f1) (wordPrev c i arg1 f1)) x6 x10)) -∗ K ⟨⟩))
      ⊢ wp frame (wpE (defs₀ (F := F)) Variants.none c none) E (cc0_experts i arg1 harg1 arg2 harg2 arg3 harg3 arg4 harg4 arg5 harg5 arg6 harg6 arg7 harg7 arg8 harg8 arg9 harg9 arg10 harg10) K := by
  simp only [cc0_experts_eq_skeleton]; unfold cc0_experts_skel
  unfold owns
  iintro ⟨HT1, HT2, ⟨%g3, %hg3, H3⟩, ⟨%g4, %hg4, H4⟩, ⟨%g5, %hg5, H5⟩, ⟨%g6, %hg6, H6⟩, ⟨%g7, %hg7, H7⟩, ⟨%d8, %g8, -, H8⟩, ⟨%g9, %hg9, H9⟩, ⟨%g10, %hg10, H10⟩, Hk⟩
  obtain rfl := harg3.eq_unread hg3; obtain rfl := harg4.eq_unread hg4; obtain rfl := harg5.eq_unread hg5; obtain rfl := harg6.eq_unread hg6; obtain rfl := harg7.eq_unread hg7; obtain rfl := harg9.eq_unread hg9; obtain rfl := harg10.eq_unread hg10
  sl_exec
  have e9 : View.read (Elt F) arg9.view (if hc : runN.sl.v13 c i arg1 arg2 f1 f2 = 1#1 then
      arg9.view.writes (Elt F) (harg9.unread x9)
        [⟨Rect.unit ![0, 0] S1024x2048.size inb_S1024x2048_S1024x2048_0_0,
            k0_pay1
              (View.readAt (Elt F) arg4.view
                (Rect.unit ![0, 0, 0] S1x1024x2048.size inb_S1x1024x2048_S1x1024x2048_0_0_0).toLoadRect
                (harg4.unread x4))⟩]
    else harg9.unread x9) = (y9 (newC i (wordNu c arg2 f2) (wordBe c i arg1 f1) (wordPrev c i arg1 f1)) x4 x9) := by
    by_cases h : (newC i (wordNu c arg2 f2) (wordBe c i arg1 f1) (wordPrev c i arg1 f1)) = 1#1
    · refine (congrArg _ (dif_pos h)).trans (Eq.trans ?_ (if_pos h).symm)
      refine (View.read_writes_full _ _ _ _ _).trans (congrArg k0_pay1 ((View.readAt_full _ _ _).trans hg4))
    · exact (congrArg _ (dif_neg h)).trans (hg9.trans (if_neg h).symm)
  have e10 : View.read (Elt F) arg10.view (if hc : runN.sl.v13 c i arg1 arg2 f1 f2 = 1#1 then
      arg10.view.writes (Elt F) (harg10.unread x10)
        [⟨Rect.unit ![0, 0] S1024x1024.size inb_S1024x1024_S1024x1024_0_0,
            k0_pay2
              (View.readAt (Elt F) arg6.view
                (Rect.unit ![0, 0, 0] S1x1024x1024.size inb_S1x1024x1024_S1x1024x1024_0_0_0).toLoadRect
                (harg6.unread x6))⟩]
    else harg10.unread x10) = (y10 (newC i (wordNu c arg2 f2) (wordBe c i arg1 f1) (wordPrev c i arg1 f1)) x6 x10) := by
    by_cases h : (newC i (wordNu c arg2 f2) (wordBe c i arg1 f1) (wordPrev c i arg1 f1)) = 1#1
    · refine (congrArg _ (dif_pos h)).trans (Eq.trans ?_ (if_pos h).symm)
      refine (View.read_writes_full _ _ _ _ _).trans (congrArg k0_pay2 ((View.readAt_full _ _ _).trans hg6))
    · exact (congrArg _ (dif_neg h)).trans (hg10.trans (if_neg h).symm)
  have e21 : runN.sl.v21 c i arg1 arg2 arg4 harg4 arg9 harg9 f1 f2 x4 x9 = (y9 (newC i (wordNu c arg2 f2) (wordBe c i arg1 f1) (wordPrev c i arg1 f1)) x4 x9) := (View.readAt_full _ _ _).trans e9
  have e43 : runN.sl.v43 c i arg1 arg2 arg6 harg6 arg10 harg10 f1 f2 x6 x10 = (y10 (newC i (wordNu c arg2 f2) (wordBe c i arg1 f1) (wordPrev c i arg1 f1)) x6 x10) := (View.readAt_full _ _ _).trans e10
  rw [wp_ret]; imodintro
  iapply Hk
  isplitl [HT1]; · iexact HT1
  isplitl [HT2]; · iexact HT2
  isplitl [H3]; · iexists _; isplitr; swap; iexact H3; ipureintro; exact hg3
  isplitl [H4]; · iexists _; isplitr; swap; iexact H4; ipureintro; exact hg4
  isplitl [H5]; · iexists _; isplitr; swap; iexact H5; ipureintro; exact hg5
  isplitl [H6]; · iexists _; isplitr; swap; iexact H6; ipureintro; exact hg6
  isplitl [H7]; · iexists _; isplitr; swap; iexact H7; ipureintro; exact hg7
  isplitl [H8]
  · iexists _; isplitr; swap; iexact H8; ipureintro
    by_cases h3 : k0_cond3 i (wordNu c arg2 f2) = 1#1
    · exact (congrArg _ (dif_pos h3)).trans ((View.read_writes_full _ _ _ _ _).trans (if_pos h3).symm)
    · refine (congrArg _ (dif_neg h3)).trans (Eq.trans ?_ (if_neg h3).symm)
      refine (congrArg _ (dif_pos (hx.resolve_right h3))).trans ((View.read_writes_full _ _ _ _ _).trans ?_)
      rw [e21, e43]
      exact congr (congrArg (fun a b => k0_pay3 a _ b _ _) ((View.readAt_full _ _ _).trans hg3)) ((View.readAt_full _ _ _).trans hg5) |>.trans
        (congrArg (fun z => k0_pay3 x3 _ x5 _ z) ((View.readAt_full _ _ _).trans hg7))
  isplitl [H9]; · iexists _; isplitr; swap; iexact H9; ipureintro; exact e9
  iexists _; isplitr; swap; iexact H10; ipureintro; exact e10

end Cert.ExpertsIdeal.Own

end
-- ==== Proof.ExpertsIdealFrame.lean ====
/-
The frame of the experts' call: the tables, the pipeline's data, the body at every grid point, the run, and the arguments it leaves as they were.
-/
module

public import proofs.«01_k».proof.Proof.ExpertsIdealRun
public import Idealize.ShloMosaic.Lib.Pipeline.FrameBody
public import Idealize.ShloMosaic.Lib.Pipeline.Value
public import Idealize.ShloMosaic.Lib.Claim

@[expose] public section

set_option maxRecDepth 16384

noncomputable section

namespace Cert.ExpertsIdeal.Own

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the call finds -/

/-- Core `c`'s buffers when the call is entered: after the two reshapes of the biases. -/
abbrev V (c : Dev nD) (b : Ref sig .tc) : Buf (Elt F) ((c : Thread nD τ).loc b) :=
  StableHlo.after hostOps0 (fun b => m (c, b)) b

/-- The reshapes allocate nothing. -/
theorem hostOps0_fresh : (hostOps0 : List (HloOp τ sig (Elt F))).Forall fun op => op.fresh = ∅ := by
  simp only [List.Forall]; repeat' constructor

set_option maxHeartbeats 800000 in
/-- The program is the reshapes and then the call. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The reshapes leave argument 0 as it was. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))

/-- The reshapes leave argument 1 as it was. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-- The reshapes leave argument 2 as it was. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    repeat' apply And.intro
    all_goals exact StableHlo.devRef_ne_of_ne (by decide)))

/-- The reshapes leave argument 3 as it was. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    repeat' apply And.intro
    all_goals exact StableHlo.devRef_ne_of_ne (by decide)))

/-- The reshapes leave argument 4 as it was. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.reshape_writes, Finset.mem_singleton]
    repeat' apply And.intro
    all_goals exact StableHlo.devRef_ne_of_ne (by decide)))

/-- The reshapes leave argument 5 as it was. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.reshape_writes, Finset.mem_singleton]
    repeat' apply And.intro
    all_goals exact StableHlo.devRef_ne_of_ne (by decide)))

/-- The reshapes leave argument 6 as it was. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.reshape_writes, Finset.mem_singleton]
    repeat' apply And.intro
    all_goals exact StableHlo.devRef_ne_of_ne (by decide)))

/-! ## The tables -/

/-- The two tables' contents. -/
def tbl : pre0.Contents (Elt F) := fun j => V m (0 : Dev nD) (pre0.ref j)
/-- Every core (there is one) finds the tables so. -/
theorem V_pre (c : Dev nD) (j : Fin 2) : V m c (pre0.ref j) = tbl m j := by
  obtain rfl : c = 0 := Subsingleton.elim _ _; rfl
/-- Every block the tables name lies in its array. -/
abbrev Ok : Prop := ok0 (F := F) (tbl m)
/-- The tables, admissible. -/
abbrev adm (hO : Ok m) : (pcfg0 (F := F)).Adm := ⟨tbl m, hO⟩
/-- The pipeline at the tables. -/
abbrev cfgM (hO : Ok m) : Pipeline.Cfg sig Λ₀ := cfg0 (adm m hO)
/-- The first table, whole. -/
abbrev tb0 : Memref sig .tc .smem S288 .i32 := Memref.whole main_arg0
/-- The second table, whole. -/
abbrev tb1 : Memref sig .tc .smem S1 .i32 := Memref.whole main_arg1
/-- The tables held, one by one. -/
theorem PhiT_eq (c : Dev nD) : (Pipeline.ΦT pre0 (tbl m) c : sProp 𝕄) = iprop(tbPt c tb0 (tbl m 0) ∗ tbPt c tb1 (tbl m 1)) := by
  unfold Pipeline.ΦT Pipeline.prefHeld
  rw [show (Finset.univ : Finset (Fin 2)) = insert 0 {1} from by decide, bigSep_insert (by decide), bigSep_singleton]
  rfl

/-- The word of the second table. -/
abbrev nu (c : Dev nD) : BitVec 32 := wordNu c tb1 (tbl m 1)
/-- The first table's word at a point, -/
abbrev be (c : Dev nD) (i : grid0.Coords) : BitVec 32 := wordBe c i tb0 (tbl m 0)
/-- and at the point before. -/
abbrev pv (c : Dev nD) (i : grid0.Coords) : BitVec 32 := wordPrev c i tb0 (tbl m 0)

/-- A block of rows is in use or it is not. -/
theorem cond_or (i : grid0.Coords) (n : BitVec 32) : k0_cond2 i n = 1#1 ∨ k0_cond3 i n = 1#1 := by
  unfold k0_cond2 k0_cond3
  dsimp only
  generalize Scalar.cmpi .slt (BitVec.ofNat 32 (i 0).val) n = b
  revert b; decide
/-- Not both. -/
theorem cond_not (i : grid0.Coords) (n : BitVec 32) (h : k0_cond3 i n ≠ 1#1) : k0_cond2 i n = 1#1 := (cond_or i n).resolve_right h
/-- In use means before the bound. -/
theorem cond2_slt (i : grid0.Coords) (n : BitVec 32) : k0_cond2 i n = Scalar.cmpi .slt (BitVec.ofNat 32 (i 0).val) n := by
  unfold k0_cond2
  dsimp only
  generalize Scalar.cmpi .slt (BitVec.ofNat 32 (i 0).val) n = b
  revert b; decide
/-- The output block is written at every point. -/
theorem idle5 (pf : pre0.Contents (Elt F)) (i : grid0.Coords) : idle0 pf 5 i = false := by
  show (!(k0_cond2 i _ == 1#1) && !(k0_cond3 i _ == 1#1)) = false
  rcases cond_or i (pf.atD 1 ![0]) with h | h
  · rw [h]; rfl
  · rw [h, Bool.and_comm]; rfl

variable (hO : Ok m)

/-- Window `w`'s block at point `t`. -/
def iblk (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- What the output block holds after point `t`. -/
def outAt (c : Dev nD) (t : Fin (cfgM m hO).N) : Vec F S512x1024 .f32 :=
  y8 (k0_cond3 (grid0.coords t) (nu m c)) (k0_pay3 (iblk m hO c 0 t) (k0_pay1 (iblk m hO c 1 t)) (iblk m hO c 2 t) (k0_pay2 (iblk m hO c 3 t)) (iblk m hO c 4 t))

/-- What is known of the scratches before point `t`: if the point before was in use, they hold its expert's weights, rounded. -/
def Known (c : Dev nD) (t : Fin ((cfgM m hO).N + 1)) (y0 : Vec F S1024x2048 .bf16) (y1 : Vec F S1024x1024 .bf16) : Prop :=
  ∀ t' : Fin (cfgM m hO).N, t'.val + 1 = t.val → k0_cond2 (grid0.coords t') (nu m c) = 1#1 →
    y0 = k0_pay1 (iblk m hO c 1 t') ∧ y1 = k0_pay2 (iblk m hO c 3 t')

/-- The first scratch, whole. -/
abbrev sc0 : Memref sig .tc .vmem S1024x2048 .bf16 := Memref.whole cc0_scratch0
/-- The second scratch, whole. -/
abbrev sc1 : Memref sig .tc .vmem S1024x1024 .bf16 := Memref.whole cc0_scratch1

/-- What the body keeps from point to point: the tables, the generator's register, and the scratches. -/
def Keep (c : Dev nD) (t : Fin ((cfgM m hO).N + 1)) : sProp 𝕄 :=
  iprop((tbPt c tb0 (tbl m 0) ∗ tbPt c tb1 (tbl m 1)) ∗ (∃ r, prngReg c r)
    ∗ ∃ y0, ∃ y1, ⌜Known m hO c t y0 y1⌝ ∗ owns (c : Thread nD τ) sc0 fullShare y0 ∗ owns (c : Thread nD τ) sc1 fullShare y1)

/-- The pipeline's data. -/
def dats (p : Fin 1) (c : Dev nD) : Dat τ (Elt F) Unit ℕ (UR sig nD τ) ℕ (Pipeline.pin (pcfgs (F := F)) (fun _ => adm m hO) p) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outAt m hO c t
  Φ t := Keep m hO c t
  q _ := fullShare
  owed _ := 0

/-- The arrays are as the call finds them. -/
theorem A_eq (c : Dev nD) (w : Fin (cfgM m hO).W) : (dats m hO 0 c).A w = V m c (Pipeline.arrRef spec0 w) := by
  dsimp only [dats]

/-- What the body leaves in window 0. -/
theorem after0_0 (c : Dev nD) (t : Fin (cfgM m hO).N) : (dats m hO 0 c).after 0 t = iblk m hO c 0 t := by dsimp only [dats]; rfl
/-- What the body leaves in window 1. -/
theorem after0_1 (c : Dev nD) (t : Fin (cfgM m hO).N) : (dats m hO 0 c).after 1 t = iblk m hO c 1 t := by dsimp only [dats]; rfl
/-- What the body leaves in window 2. -/
theorem after0_2 (c : Dev nD) (t : Fin (cfgM m hO).N) : (dats m hO 0 c).after 2 t = iblk m hO c 2 t := by dsimp only [dats]; rfl
/-- What the body leaves in window 3. -/
theorem after0_3 (c : Dev nD) (t : Fin (cfgM m hO).N) : (dats m hO 0 c).after 3 t = iblk m hO c 3 t := by dsimp only [dats]; rfl
/-- What the body leaves in window 4. -/
theorem after0_4 (c : Dev nD) (t : Fin (cfgM m hO).N) : (dats m hO 0 c).after 4 t = iblk m hO c 4 t := by dsimp only [dats]; rfl
/-- What the body leaves in window 5. -/
theorem after0_5 (c : Dev nD) (t : Fin (cfgM m hO).N) : (dats m hO 0 c).after 5 t = outAt m hO c t := by dsimp only [dats]; rfl
/-- What the body finds in window 0: its block. -/
theorem before0_0 (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- What the body finds in window 1: its block. -/
theorem before0_1 (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- What the body finds in window 2: its block. -/
theorem before0_2 (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- What the body finds in window 3: its block. -/
theorem before0_3 (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- What the body finds in window 4: its block. -/
theorem before0_4 (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)

/-! ## The body at a grid point -/

/-- The grid has one axis: a point is its coordinate. -/
theorem coord (t : Fin grid0.N) : (grid0.coords t 0).val = t.val := by
  have h := Pipeline.Grid.coords_val t (0 : Fin 1) (S := 1) (B := 288) (by decide) rfl
  have ht : t.val < 288 := lt_of_lt_of_eq t.2 N_0
  rw [h]; omega

/-- The place of the word before, for a point that is not the first. -/
theorem off_prev : ∀ n : Fin 288, n.val ≠ 0 → (Scalar.indexCast (Scalar.maxsi (Scalar.subi (BitVec.ofNat 32 n.val) 1#32) 0#32)).toNat = n.val - 1 := by decide
/-- The place of a point's word. -/
theorem off_here : ∀ n : Fin 288, (Scalar.indexCast (BitVec.ofNat 32 n.val)).toNat = n.val := by decide
/-- A later block in use puts the one before in use. -/
theorem slt_prev (n : ℕ) (h : n < 287) (b : BitVec 32) (hb : Scalar.cmpi .slt (BitVec.ofNat 32 (n + 1)) b = 1#1) : Scalar.cmpi .slt (BitVec.ofNat 32 n) b = 1#1 := by
  have e : ∀ a : BitVec 32, Scalar.cmpi .slt a b = 1#1 ↔ a.toInt < b.toInt := fun a => by
    show (BitVec.ofBool (a.slt b)) = 1#1 ↔ _
    rw [BitVec.slt]
    by_cases h : a.toInt < b.toInt <;> simp [h]
  rw [e] at hb ⊢
  have e2 : ∀ a : ℕ, a < 2147483648 → (BitVec.ofNat 32 a).toInt = a := fun a ha => by
    rw [BitVec.toInt_eq_toNat_cond, BitVec.toNat_ofNat, Nat.mod_eq_of_lt (by omega)]
    split <;> omega
  rw [e2 _ (by omega)] at hb ⊢
  omega

/-- Words read at the same place are the same. -/
theorem word_congr (c : Dev nD) (f : TbBuf (F := F) c tb0) {o o' : Fin 1 → ℕ} {h : ∀ a, o a + S1.size a ≤ S288.size a} {h' : ∀ a, o' a + S1.size a ≤ S288.size a}
    (z : (Rect.unit (s := S288) o S1.size h).shape.Idx) (e : o = o') :
    View.readAt (Elt F) tb0.view (Rect.unit (s := S288) o S1.size h).toLoadRect f z
      = View.readAt (Elt F) tb0.view (Rect.unit (s := S288) o' S1.size h').toLoadRect f z := by
  subst e; rfl

/-- Two points with the same expert have the same block of the first weights, -/
theorem block1 (c : Dev nD) (t t' : Fin (cfgM m hO).N) (h : be m c (grid0.coords t') = be m c (grid0.coords t)) :
    iblk m hO c 1 t' = iblk m hO c 1 t := by
  have e : ∀ s : Fin (cfgM m hO).N, ((cfgM m hO).win 1).index s = ![(be m c (grid0.coords s)).toNat, 0, 0] := fun s => by
    obtain rfl : c = 0 := Subsingleton.elim _ _; rfl
  unfold iblk
  funext y
  refine congrArg (V m c (Pipeline.arrRef spec0 1)) (funext fun a => Fin.ext ?_)
  refine (Pipeline.Window.rect_emb_val ((cfgM m hO).win 1) t' y a rfl).trans (Eq.trans ?_ (Pipeline.Window.rect_emb_val ((cfgM m hO).win 1) t y a rfl).symm)
  rw [e t', e t, h]
/-- and of the second. -/
theorem block3 (c : Dev nD) (t t' : Fin (cfgM m hO).N) (h : be m c (grid0.coords t') = be m c (grid0.coords t)) :
    iblk m hO c 3 t' = iblk m hO c 3 t := by
  have e : ∀ s : Fin (cfgM m hO).N, ((cfgM m hO).win 3).index s = ![(be m c (grid0.coords s)).toNat, 0, 0] := fun s => by
    obtain rfl : c = 0 := Subsingleton.elim _ _; rfl
  unfold iblk
  funext y
  refine congrArg (V m c (Pipeline.arrRef spec0 3)) (funext fun a => Fin.ext ?_)
  refine (Pipeline.Window.rect_emb_val ((cfgM m hO).win 3) t' y a rfl).trans (Eq.trans ?_ (Pipeline.Window.rect_emb_val ((cfgM m hO).win 3) t y a rfl).symm)
  rw [e t', e t, h]

/-- A point whose block is in use and whose scratches are not filled anew follows a point in use with the same expert. -/
theorem follow (c : Dev nD) (t : Fin (cfgM m hO).N) (h2 : k0_cond2 (grid0.coords t) (nu m c) = 1#1)
    (hq : newC (grid0.coords t) (nu m c) (be m c (grid0.coords t)) (pv m c (grid0.coords t)) ≠ 1#1) :
    ∃ t' : Fin (cfgM m hO).N, t'.val + 1 = t.val ∧ k0_cond2 (grid0.coords t') (nu m c) = 1#1
      ∧ iblk m hO c 1 t' = iblk m hO c 1 t ∧ iblk m hO c 3 t' = iblk m hO c 3 t := by
  have hc := coord t
  have ht : t.val < 288 := lt_of_lt_of_eq t.2 N_0
  rw [cond2_slt] at h2
  unfold newC at hq
  rw [h2, hc] at hq
  have hz : t.val ≠ 0 := fun h => hq (by
    rw [h]
    generalize Scalar.cmpi .ne (be m c (grid0.coords t)) (pv m c (grid0.coords t)) = b
    revert b; decide)
  have hw : be m c (grid0.coords t) = pv m c (grid0.coords t) := by
    by_contra hne
    refine hq ?_
    rw [show Scalar.cmpi .ne (be m c (grid0.coords t)) (pv m c (grid0.coords t)) = 1#1 from by
      show BitVec.ofBool ((be m c (grid0.coords t)) != (pv m c (grid0.coords t))) = 1#1
      rw [show ((be m c (grid0.coords t)) != (pv m c (grid0.coords t))) = true from bne_iff_ne.mpr hne]; rfl]
    generalize Scalar.cmpi .eq (BitVec.ofNat 32 t.val) 0#32 = b
    revert b; decide
  have ht' : t.val - 1 < grid0.N := lt_of_le_of_lt (Nat.sub_le _ _) t.2
  have hc' : (grid0.coords ⟨t.val - 1, ht'⟩ 0).val = t.val - 1 := coord _
  have hoff : k0_off1 (grid0.coords ⟨t.val - 1, ht'⟩) = k0_off2 (grid0.coords t) := by
    unfold k0_off1 k0_off2
    dsimp only
    rw [hc, hc', off_here ⟨t.val - 1, by omega⟩, off_prev ⟨t.val, ht⟩ hz]
  have hb : be m c (grid0.coords ⟨t.val - 1, ht'⟩) = be m c (grid0.coords t) := by
    rw [hw]
    exact word_congr c _ _ hoff
  refine ⟨⟨t.val - 1, ht'⟩, by show t.val - 1 + 1 = t.val; omega, ?_, block1 m hO c _ _ hb, block3 m hO c _ _ hb⟩
  rw [cond2_slt, hc']
  rw [hc] at h2
  exact slt_prev (t.val - 1) (by omega) _ (by rw [show t.val - 1 + 1 = t.val by omega]; exact h2)

/-- What the scratches hold once a point in use has run: its expert's weights, rounded. -/
theorem fresh (c : Dev nD) (t : Fin (cfgM m hO).N) (y0 : Vec F S1024x2048 .bf16) (y1 : Vec F S1024x1024 .bf16)
    (hk : Known m hO c t.castSucc y0 y1) (h2 : k0_cond2 (grid0.coords t) (nu m c) = 1#1) :
    y9 (newC (grid0.coords t) (nu m c) (be m c (grid0.coords t)) (pv m c (grid0.coords t))) (iblk m hO c 1 t) y0 = k0_pay1 (iblk m hO c 1 t)
      ∧ y10 (newC (grid0.coords t) (nu m c) (be m c (grid0.coords t)) (pv m c (grid0.coords t))) (iblk m hO c 3 t) y1 = k0_pay2 (iblk m hO c 3 t) := by
  by_cases hq : newC (grid0.coords t) (nu m c) (be m c (grid0.coords t)) (pv m c (grid0.coords t)) = 1#1
  · exact ⟨if_pos hq, if_pos hq⟩
  · obtain ⟨t', h1, h3, e1, e3⟩ := follow m hO c t h2 hq
    obtain ⟨k1, k3⟩ := hk t' h1 h3
    exact ⟨(if_neg hq).trans (k1.trans (congrArg k0_pay1 e1)), (if_neg hq).trans (k3.trans (congrArg k0_pay2 e3))⟩

/-- What the point leaves in the output block. -/
theorem out_eq (c : Dev nD) (t : Fin (cfgM m hO).N) (y0 : Vec F S1024x2048 .bf16) (y1 : Vec F S1024x1024 .bf16)
    (hk : Known m hO c t.castSucc y0 y1) :
    y8 (k0_cond3 (grid0.coords t) (nu m c)) (k0_pay3 (iblk m hO c 0 t)
      (y9 (newC (grid0.coords t) (nu m c) (be m c (grid0.coords t)) (pv m c (grid0.coords t))) (iblk m hO c 1 t) y0) (iblk m hO c 2 t)
      (y10 (newC (grid0.coords t) (nu m c) (be m c (grid0.coords t)) (pv m c (grid0.coords t))) (iblk m hO c 3 t) y1) (iblk m hO c 4 t)) = outAt m hO c t := by
  unfold outAt
  by_cases h3 : k0_cond3 (grid0.coords t) (nu m c) = 1#1
  · exact (if_pos h3).trans (if_pos h3).symm
  · obtain ⟨k1, k3⟩ := fresh m hO c t y0 y1 hk (cond_not _ _ h3)
    rw [k1, k3]

/-- What is known of the scratches after it. -/
theorem known_succ (c : Dev nD) (t : Fin (cfgM m hO).N) (y0 : Vec F S1024x2048 .bf16) (y1 : Vec F S1024x1024 .bf16)
    (hk : Known m hO c t.castSucc y0 y1) : Known m hO c t.succ
      (y9 (newC (grid0.coords t) (nu m c) (be m c (grid0.coords t)) (pv m c (grid0.coords t))) (iblk m hO c 1 t) y0)
      (y10 (newC (grid0.coords t) (nu m c) (be m c (grid0.coords t)) (pv m c (grid0.coords t))) (iblk m hO c 3 t) y1) := by
  intro t' h h2
  obtain rfl : t' = t := Fin.ext (by have : t'.val + 1 = t.val + 1 := h; omega)
  exact fresh m hO c t' y0 y1 hk h2

/-- The body's call at a grid point. -/
abbrev bodyAt (t : Fin (cfgM m hO).N) : Prog (TpuEff nD τ sig (Elt F) Λ₀ .tc) PUnit :=
  cc0_experts (grid0.coords t) tb0 (Memref.isWhole_whole _) tb1 (Memref.isWhole_whole _) (spec0_0.stage ((cfgM m hO).slots t 0)) (hstage0_0 (((cfgM m hO).slots t 0).cast nbuf0_0)) (spec0_1.stage ((cfgM m hO).slots t 1)) (hstage0_1 (((cfgM m hO).slots t 1).cast nbuf0_1)) (spec0_2.stage ((cfgM m hO).slots t 2)) (hstage0_2 (((cfgM m hO).slots t 2).cast nbuf0_2)) (spec0_3.stage ((cfgM m hO).slots t 3)) (hstage0_3 (((cfgM m hO).slots t 3).cast nbuf0_3)) (spec0_4.stage ((cfgM m hO).slots t 4)) (hstage0_4 (((cfgM m hO).slots t 4).cast nbuf0_4)) (spec0_5.stage ((cfgM m hO).slots t 5)) (hstage0_5 (((cfgM m hO).slots t 5).cast nbuf0_5)) sc0 (Memref.isWhole_whole _) sc1 (Memref.isWhole_whole _)

/-- What the body is called with at point `t`, -/
def bodyPre (c : Dev nD) (t : Fin (cfgM m hO).N) : sProp 𝕄 :=
  iprop((dats m hO 0 c).Φ t.castSucc ∗ (dats m hO 0 c).owesAt () t.castSucc
    ∗ (∃ d, owns (c : Thread nD τ) (spec0_0.stage ((cfgM m hO).slots t 0)) fullShare ((dats m hO 0 c).before 0 t d))
    ∗ (∃ d, owns (c : Thread nD τ) (spec0_1.stage ((cfgM m hO).slots t 1)) fullShare ((dats m hO 0 c).before 1 t d))
    ∗ (∃ d, owns (c : Thread nD τ) (spec0_2.stage ((cfgM m hO).slots t 2)) fullShare ((dats m hO 0 c).before 2 t d))
    ∗ (∃ d, owns (c : Thread nD τ) (spec0_3.stage ((cfgM m hO).slots t 3)) fullShare ((dats m hO 0 c).before 3 t d))
    ∗ (∃ d, owns (c : Thread nD τ) (spec0_4.stage ((cfgM m hO).slots t 4)) fullShare ((dats m hO 0 c).before 4 t d))
    ∗ (∃ d, owns (c : Thread nD τ) (spec0_5.stage ((cfgM m hO).slots t 5)) fullShare ((dats m hO 0 c).before 5 t d)))

/-- and what it returns. -/
def bodyPost (c : Dev nD) (t : Fin (cfgM m hO).N) : sProp 𝕄 :=
  iprop((dats m hO 0 c).Φ t.succ ∗ (dats m hO 0 c).owesAt () t.succ
    ∗ owns (c : Thread nD τ) (spec0_0.stage ((cfgM m hO).slots t 0)) fullShare ((dats m hO 0 c).after 0 t)
    ∗ owns (c : Thread nD τ) (spec0_1.stage ((cfgM m hO).slots t 1)) fullShare ((dats m hO 0 c).after 1 t)
    ∗ owns (c : Thread nD τ) (spec0_2.stage ((cfgM m hO).slots t 2)) fullShare ((dats m hO 0 c).after 2 t)
    ∗ owns (c : Thread nD τ) (spec0_3.stage ((cfgM m hO).slots t 3)) fullShare ((dats m hO 0 c).after 3 t)
    ∗ owns (c : Thread nD τ) (spec0_4.stage ((cfgM m hO).slots t 4)) fullShare ((dats m hO 0 c).after 4 t)
    ∗ owns (c : Thread nD τ) (spec0_5.stage ((cfgM m hO).slots t 5)) fullShare ((dats m hO 0 c).after 5 t))

set_option maxHeartbeats 1000000 in
/-- The body at any point. -/
theorem sound_body (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0_0, before0_1, before0_2, before0_3, before0_4]
  rw [show (dats m hO 0 c).Φ t.succ = Keep m hO c t.succ from rfl, show (dats m hO 0 c).Φ t.castSucc = Keep m hO c t.castSucc from rfl,
    show (dats m hO 0 c).owesAt () t.succ = (dats m hO 0 c).owesAt () t.castSucc from rfl,
    after0_0, after0_1, after0_2, after0_3, after0_4, after0_5]
  unfold Keep
  iintro ⟨⟨⟨HT1, HT2⟩, HR, ⟨%y0, %y1, %hk, S0, S1⟩⟩, Ho, ⟨%d0, H0⟩, ⟨%d1, H1⟩, ⟨%d2, H2⟩, ⟨%d3, H3⟩, ⟨%d4, H4⟩, ⟨%d5, H5⟩⟩
  iapply (runN c (grid0.coords t) _ _ _ _ _ _ _ _ _ _ _ _ _ _ _ _ _ _ _ _ (tbl m 0) (tbl m 1) (iblk m hO c 0 t) (iblk m hO c 1 t) (iblk m hO c 2 t) (iblk m hO c 3 t) (iblk m hO c 4 t) y0 y1 (cond_or _ _) Set.univ _)
  isplitl [HT1]; · iexact HT1
  isplitl [HT2]; · iexact HT2
  isplitl [H0]; · iexact H0
  isplitl [H1]; · iexact H1
  isplitl [H2]; · iexact H2
  isplitl [H3]; · iexact H3
  isplitl [H4]; · iexact H4
  isplitl [H5]; · iexists _; iexact H5
  isplitl [S0]; · iexact S0
  isplitl [S1]; · iexact S1
  iintro ⟨HT1, HT2, H0, H1, H2, H3, H4, H5, S0, S1⟩
  isplitl [HT1 HT2 HR S0 S1]
  · isplitl [HT1 HT2]
    · isplitl [HT1]; · iexact HT1
      iexact HT2
    isplitl [HR]; · iexact HR
    iexists _; iexists _
    isplitr; swap
    · isplitl [S0]; · iexact S0
      iexact S1
    ipureintro; exact known_succ m hO c t y0 y1 hk
  isplitl [Ho]; · iexact Ho
  isplitl [H0]; · iexact H0
  isplitl [H1]; · iexact H1
  isplitl [H2]; · iexact H2
  isplitl [H3]; · iexact H3
  isplitl [H4]; · iexact H4
  rw [← out_eq m hO c t y0 y1 hk]
  iexact H5

/-- The body table's row at a point is the body's call there. -/
theorem defs₀_row (t : Fin (cfgM m hO).N) :
    defs₀ (F := F) .tc (cfgM m hO).body ((cfgM m hO).bodyArgs t ((cfgM m hO).slots t)) = bodyAt m hO t := by
  unfold defs₀; rw [Defs.onTc_tc]

/-- The pipeline's obligation on the body, at every point. -/
theorem body_obligation (c : Dev nD) : BodyObligation (dats (F := F) m hO 0 c) (defs₀ (F := F)) Variants.none () Set.univ := fun t => by
  rw [bigSep_W0, bigSep_W0, defs₀_row]
  refine triple_restated (sound_body m hO c t) rfl .rfl fun _ => ?_
  refine sep_mono_right (sep_mono_right (sep_mono_right (sep_mono_right (sep_mono_right (sep_mono_right (sep_mono_right ?_))))))
  dsimp only
  split
  · next h => exact absurd (h.symm.trans (idle5 _ _)) (by decide)
  · exact .rfl

/-! ## The run and the frame -/

/-- Before the first point nothing is known of the scratches. -/
theorem keep_in (c : Dev nD) : iprop(Pipeline.ΦA spec0 c ∗ Pipeline.ΦT pre0 (tbl m) c) ⊢ (Keep m hO c 0 : sProp 𝕄) := by
  rw [PhiT_eq]
  unfold Pipeline.ΦA Keep
  simp only [scopedRest0_eq, owns_whole]
  iintro ⟨⟨⟨⟨%f0, S0⟩, ⟨%f1, S1⟩⟩, HR⟩, HT⟩
  isplitl [HT]; · iexact HT
  isplitl [HR]; · iexact HR
  iexists f0; iexists f1
  isplitr
  · ipureintro; intro t' h; exact absurd h (by show ¬ t'.val + 1 = 0; omega)
  isplitl [S0]; · iexact S0
  iexact S1

/-- After the last the scratches are given back. -/
theorem keep_out (c : Dev nD) : (Keep m hO c (Fin.last _) : sProp 𝕄) ⊢ Pipeline.ΦA spec0 c := by
  unfold Pipeline.ΦA Keep
  simp only [scopedRest0_eq, owns_whole]
  iintro ⟨-, HR, ⟨%y0, %y1, -, S0, S1⟩⟩
  isplitl [S0 S1]
  · isplitl [S0]
    · iexists _; iexact S0
    · iexists _; iexact S1
  iexact HR

set_option backward.isDefEq.respectTransparency.types false in
/-- The launch: every execution ends with the arrays at what the pipeline's data say and every counter at zero. -/
theorem run_main_quiescent : θ_run defs (onTc (τ := τ) (main (F := F))) (s₀ m ρ) (fun r => (Pipeline.FramePost (Pipeline.pin (pcfgs (F := F)) (fun _ => adm m hO)) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := keep_in m hO) (hout := keep_out m hO)

include hO in
/-- The frame: the run ends, every argument array as it was, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
      ((h.1 c).2 main_arg0 (Pipeline.mem_restRefs_of main_arg0 (by decide) (show ∀ w : Fin 6, (spec0 w).arr.view.ref ≠ main_arg0 by decide))).trans (V_main_arg0 m c),
      ((h.1 c).2 main_arg1 (Pipeline.mem_restRefs_of main_arg1 (by decide) (show ∀ w : Fin 6, (spec0 w).arr.view.ref ≠ main_arg1 by decide))).trans (V_main_arg1 m c),
      ((h.1 c).1 0).trans (((dats m hO 0 c).arrAt_in 0 rfl _).trans ((A_eq m hO c 0).trans (V_main_arg2 m c))),
      ((h.1 c).1 1).trans (((dats m hO 0 c).arrAt_in 1 rfl _).trans ((A_eq m hO c 1).trans (V_main_arg3 m c))),
      ((h.1 c).2 main_arg4 (Pipeline.mem_restRefs_of main_arg4 (by decide) (show ∀ w : Fin 6, (spec0 w).arr.view.ref ≠ main_arg4 by decide))).trans (V_main_arg4 m c),
      ((h.1 c).1 3).trans (((dats m hO 0 c).arrAt_in 3 rfl _).trans ((A_eq m hO c 3).trans (V_main_arg5 m c))),
      ((h.1 c).2 main_arg6 (Pipeline.mem_restRefs_of main_arg6 (by decide) (show ∀ w : Fin 6, (spec0 w).arr.view.ref ≠ main_arg6 by decide))).trans (V_main_arg6 m c)⟩, h.2⟩) (run_main_quiescent m ρ hO)

end Cert.ExpertsIdeal.Own

end
-- ==== Proof.ExpertsIdealOk.lean ====
/-
The precondition of the experts' call, unpacked: every word of the first table is an expert's number, so every block the tables name lies in its
array.
-/
module

public import proofs.«01_k».proof.Proof.ExpertsIdealFrame
public import proofs.«01_k».proof.Proof.Gen.Pre_in_range
public import Idealize.ShloMosaic.Lib.ReduceAll

@[expose] public section

set_option maxRecDepth 16384

noncomputable section

namespace Cert.ExpertsIdeal.Own

open Cert.ExpertsIdeal.Gen
open Idealize.ShloMosaic Idealize.ShloMosaic.TcCoe
open Idealize.SL.Sem

variable {F : FTy → Type} [FloatOps F]

/-- A word that is at least 0 and less than 32, read with its sign, is a number below 32. -/
theorem word_range (w : BitVec 32) (h0 : IntOp.cmpi .sge w 0#32 = 1#1) (h1 : IntOp.cmpi .slt w 32#32 = 1#1) : w.toNat < 32 := by
  have e0 : (0#32).sle w = true := by
    have h : BitVec.ofBool ((0#32).sle w) = 1#1 := h0
    cases hb : (0#32).sle w with
    | true => rfl
    | false => rw [hb] at h; exact absurd h (by decide)
  have e1 : w.slt 32#32 = true := by
    have h : BitVec.ofBool (w.slt 32#32) = 1#1 := h1
    cases hb : w.slt 32#32 with
    | true => rfl
    | false => rw [hb] at h; exact absurd h (by decide)
  rw [BitVec.sle_eq_decide, decide_eq_true_iff] at e0
  rw [BitVec.slt_eq_decide, decide_eq_true_iff] at e1
  have z0 : (0#32).toInt = 0 := by decide
  have z1 : (32#32).toInt = 32 := by decide
  rw [z0] at e0
  rw [z1] at e1
  have hl := w.isLt
  rw [BitVec.toInt_eq_toNat_cond] at e0 e1
  split at e0 <;> omega

/-- What the precondition says: every word of the first table is below 32. -/
theorem range_of (A0 : IVec S288 32) (A1 : IVec S1 32) (A2 : FVec F S147456x1024 .f32) (A3 : FVec F S32x1024x2048 .f32) (A4 : FVec F S32x2048 .f32)
    (A5 : FVec F S32x1024x1024 .f32) (A6 : FVec F S32x1024 .f32) (z : (⟨0, ![]⟩ : Shape).Idx)
    (h : Cert.Pre_in_range.fn (F := F) A0 A1 A2 A3 A4 A5 A6 z = 1#1) (i : S288.Idx) : (A0 i).toNat < 32 := by
  have hand : ∀ a b : BitVec 1, IntOp.andi a b = 1#1 → a = 1#1 ∧ b = 1#1 := by decide
  dsimp only [Cert.Pre_in_range.fn] at h
  obtain ⟨h0, h1⟩ := hand _ _ (Host.reduce_andi_all _ _ _ _ _ h i)
  exact word_range (A0 i) h0 h1

variable (m : (ℓ : Loc nD τ sig) → Buf (Elt F) ℓ)

/-- The word at a grid point is a word of the first table. -/
theorem be_mem (c : Dev nD) (i : grid0.Coords) : ∃ j : S288.Idx, be m c i = (tbl m 0 : S288.Idx → BitVec 32) j := ⟨_, rfl⟩

/-- If every word of the first table is below 32, every block the tables name lies in its array. -/
theorem ok_of (h : ∀ j : S288.Idx, ((tbl m 0 : S288.Idx → BitVec 32) j).toNat < 32) : Ok m := by
  have hb : ∀ i : grid0.Coords, (be m 0 i).toNat < 32 := fun i => by
    obtain ⟨j, e⟩ := be_mem m 0 i
    rw [e]; exact h j
  refine ⟨fun i => ⟨fun a => ?_, .inl rfl⟩, fun i => ⟨fun a => ?_, .inl rfl⟩, fun i => ⟨fun a => ?_, .inl rfl⟩, fun i => ⟨fun a => ?_, .inl rfl⟩⟩
  · match a with
    | ⟨0, _⟩ => show ((be m 0 i).toNat + 1) * 1 ≤ 32; have := hb i; omega
    | ⟨1, _⟩ => exact le_refl 1024
    | ⟨2, _⟩ => exact le_refl 2048
  · match a with
    | ⟨0, _⟩ => show ((be m 0 i).toNat + 1) * 1 ≤ 32; have := hb i; omega
    | ⟨1, _⟩ => exact le_refl 1
    | ⟨2, _⟩ => exact le_refl 2048
  · match a with
    | ⟨0, _⟩ => show ((be m 0 i).toNat + 1) * 1 ≤ 32; have := hb i; omega
    | ⟨1, _⟩ => exact le_refl 1024
    | ⟨2, _⟩ => exact le_refl 1024
  · match a with
    | ⟨0, _⟩ => show ((be m 0 i).toNat + 1) * 1 ≤ 32; have := hb i; omega
    | ⟨1, _⟩ => exact le_refl 1
    | ⟨2, _⟩ => exact le_refl 1024

/-- The first table is the first argument. -/
theorem tbl_arg0 (j : S288.Idx) : (tbl m 0 : S288.Idx → BitVec 32) j = (m (((0 : Dev nD) : Thread nD τ).loc main_arg0) : S288.Idx → BitVec 32) j :=
  congrFun (V_main_arg0 m 0) j

end Cert.ExpertsIdeal.Own

end
-- ==== Proof.ExpertsSame.lean ====
/-
The experts' call and its idealization are one program: no operation of the call is rewritten, and the two texts agree. What is proved of the
one at any numbers is so proved of the other.
-/
module

public import proofs.«01_k».proof.Proof.Gen.Experts
public import proofs.«01_k».proof.Proof.Gen.ExpertsIdeal

@[expose] public section

set_option maxRecDepth 16384
set_option maxHeartbeats 400000

noncomputable section

namespace Cert.Moe

open Idealize.ShloMosaic

variable (F : FTy → Type) [FloatOps F]

local instance : Cert.Experts.Facts := Cert.Experts.Gen.facts
local instance : Cert.ExpertsIdeal.Facts := Cert.ExpertsIdeal.Gen.facts

/-- The bodies are one. -/
theorem body_same : Cert.Experts.cc0_experts (F := F) = Cert.ExpertsIdeal.cc0_experts (F := F) := rfl

/-- The pipelines are one. -/
theorem call_same : Cert.Experts.pcfg0 (F := F) = Cert.ExpertsIdeal.pcfg0 (F := F) := rfl

/-- The tables of bodies are one. -/
theorem bodies_same : Cert.Experts.defs₀ (F := F) = Cert.ExpertsIdeal.defs₀ (F := F) := by
  unfold Cert.Experts.defs₀ Cert.ExpertsIdeal.defs₀
  refine congrArg Defs.onTc (funext fun l => funext fun a => ?_)
  match l, a with
  | 0, (t, s) => rfl

/-- The tables of bodies, regions and pipelines are one. -/
theorem defs_same : Cert.Experts.defs (F := F) = Cert.ExpertsIdeal.defs (F := F) :=
  congrArg (Pipeline.defs (Cert.ExpertsIdeal.pcfgs (F := F))) (bodies_same F)

/-- The host programs are one. -/
theorem main_same : Cert.Experts.main (F := F) = Cert.ExpertsIdeal.main (F := F) := rfl

end Cert.Moe

end
-- ==== Proof.ExpertsSpec.lean ====
/-
What the experts' call computes, as a function of its arguments.
-/
module

public import Idealize.ShloMosaic.Lib.Pointwise
public import Idealize.ShloMosaic.Lib.IdealHost
public import proofs.«01_k».proof.Proof.Gen.ExpertsIdeal.Skeleton

@[expose] public section

set_option maxRecDepth 16384

noncomputable section

namespace Cert.Moe

open Idealize.ShloMosaic Cert.ExpertsIdeal Cert.ExpertsIdeal.Gen

/-- An expert's hidden number from its gate and its linear half: both clipped, the gate times its logistic, the linear half plus one. -/
def hid (g u : EReal) : EReal :=
  (min (Ideal.ofBits .f32 0x40E00000#32) (max (Ideal.ofBits .f32 0xC0E00000#32) u) + Ideal.ofBits .f32 0x3F800000#32)
    * (min g (Ideal.ofBits .f32 0x40E00000#32) * Ideal.logistic (min g (Ideal.ofBits .f32 0x40E00000#32) * Ideal.ofBits .f32 0x3FD9DB23#32))

/-- Column `f` of a row times the first weights of an expert, plus its first bias. -/
def gu (x : Fin 1024 → EReal) (W : Fin 1024 → Fin 2048 → EReal) (b : Fin 2048 → EReal) (f : Fin 2048) : EReal := (∑ k, x k * W k f) + b f

/-- Column `d` of the expert's result for a row. -/
def row (x : Fin 1024 → EReal) (W : Fin 1024 → Fin 2048 → EReal) (b : Fin 2048 → EReal) (W' : Fin 1024 → Fin 1024 → EReal) (b' : Fin 1024 → EReal)
    (d : Fin 1024) : EReal :=
  (∑ f : Fin 1024, hid (gu x W b ⟨f.val, by omega⟩) (gu x W b ⟨1024 + f.val, by omega⟩) * W' f d) + b' d

/-- The expert a word names. -/
def ex (w : BitVec 32) : Fin 32 := ⟨w.toNat % 32, Nat.mod_lt _ (by decide)⟩

/-- What the call computes: row `r` belongs to block `r / 512`; its result is the result of that block's expert, and zero if the block is not
    in use. -/
def res (A0 : S288.Idx → BitVec 32) (A1 : S1.Idx → BitVec 32) (A2 : S147456x1024.Idx → EReal) (A3 : S32x1024x2048.Idx → EReal)
    (A4 : (⟨2, ![32, 2048]⟩ : Shape).Idx → EReal) (A5 : S32x1024x1024.Idx → EReal) (A6 : (⟨2, ![32, 1024]⟩ : Shape).Idx → EReal)
    (r : Fin 147456) (d : Fin 1024) : EReal :=
  let n : Fin 288 := ⟨r.val / 512, by omega⟩
  let e := ex (A0 (ix1 n))
  if (BitVec.ofNat 32 n.val).slt (A1 (ix1 0)) = true then
    row (fun k => A2 (ix2 r k)) (fun k f => A3 (ix3 e k f)) (fun f => A4 (ix2 e f)) (fun f d => A5 (ix3 e f d)) (fun d => A6 (ix2 e d)) d
  else Ideal.ofBits .f32 0#32

/-- The body's product is the expert's result, row by row. -/
theorem pay3_val (x : Vec Ideal S512x1024 .f32) (w : Vec Ideal S1x1024x2048 .f32) (b : Vec Ideal S1x1x2048 .f32) (w' : Vec Ideal S1x1024x1024 .f32)
    (b' : Vec Ideal S1x1x1024 .f32) (r : Fin 512) (d : Fin 1024) :
    k0_pay3 (F := Ideal) x (k0_pay1 w) b (k0_pay2 w') b' (ix2 r d)
      = row (fun k => x (ix2 r k)) (fun k f => w (ix3 0 k f)) (fun f => b (ix3 0 0 f)) (fun f d => w' (ix3 0 f d)) (fun d => b' (ix3 0 0 d)) d := by
  unfold row hid gu
  pointwise [k0_pay3, k0_pay1, k0_pay2]

end Cert.Moe

end
-- ==== Proof.ExpertsValue.lean ====
/-
The experts' run: its result array ends at the experts' results for its arguments.
-/
module

public import proofs.«01_k».proof.Proof.ExpertsSpec
public import proofs.«01_k».proof.Proof.ExpertsIdealOk
public import Idealize.ShloMosaic.Lib.StableHlo.ReadAt
public import Idealize.ShloMosaic.Lib.Pipeline.Covers
public import Idealize.ShloMosaic.Lib.Pipeline.Value

@[expose] public section

set_option maxRecDepth 16384

noncomputable section

namespace Cert.Moe

open Cert.ExpertsIdeal Cert.ExpertsIdeal.Gen Cert.ExpertsIdeal.Own
open Idealize.ShloMosaic Idealize.ShloMosaic.TcCoe
open Idealize.SL.Sem

variable (m : (ℓ : Loc nD τ sig) → Buf (Elt Ideal) ℓ) (ρ : Dev nD → PrngReg) (hO : Ok m) (c : Dev nD)

/-- The arguments' contents on core `c`. -/
abbrev ea0 : S288.Idx → BitVec 32 := m (c, Proc.tc.devRef main_arg0)
abbrev ea1 : S1.Idx → BitVec 32 := m (c, Proc.tc.devRef main_arg1)
abbrev ea2 : S147456x1024.Idx → EReal := m (c, Proc.tc.devRef main_arg2)
abbrev ea3 : S32x1024x2048.Idx → EReal := m (c, Proc.tc.devRef main_arg3)
abbrev ea4 : S32x2048.Idx → EReal := m (c, Proc.tc.devRef main_arg4)
abbrev ea5 : S32x1024x1024.Idx → EReal := m (c, Proc.tc.devRef main_arg5)
abbrev ea6 : S32x1024.Idx → EReal := m (c, Proc.tc.devRef main_arg6)

/-- The experts' results for core `c`'s arguments. -/
def resAt (i : S147456x1024.Idx) : EReal := res (ea0 m c) (ea1 m c) (ea2 m c) (ea3 m c) (ea4 m c) (ea5 m c) (ea6 m c) (i 0) (i 1)

/-! ## The tables -/

/-- The grid has a point for every block of rows. -/
theorem pt_lt (t : Fin (cfgM m hO).N) : t.val < 288 := lt_of_lt_of_eq t.2 N_0

/-- The word a point reads is its block's. -/
theorem be_eq (t : Fin (cfgM m hO).N) : be m c (grid0.coords t) = ea0 m c (ix1 ⟨t.val, pt_lt m hO t⟩) := by
  obtain rfl : c = 0 := Subsingleton.elim _ _
  have hc := coord t
  have ht := pt_lt m hO t
  refine Eq.trans ?_ (tbl_arg0 m _)
  refine congrArg (tbl m 0 : S288.Idx → BitVec 32) (funext fun a => Fin.ext ?_)
  match a with
  | ⟨0, _⟩ =>
    show (Scalar.indexCast (BitVec.ofNat 32 (grid0.coords t 0).val)).toNat + 1 * 0 = t.val
    rw [hc]
    exact off_here ⟨t.val, ht⟩

/-- The bound is the second argument's word. -/
theorem nu_eq : nu m c = ea1 m c (ix1 0) := by
  obtain rfl : c = 0 := Subsingleton.elim _ _
  refine Eq.trans ?_ (congrFun (V_main_arg1 m 0) (ix1 0))
  refine congrArg (tbl m 1 : S1.Idx → BitVec 32) (funext fun a => Fin.ext ?_)
  match a with
  | ⟨0, _⟩ => rfl

/-! ## The blocks -/

/-- The biases, reshaped by the host. -/
theorem pre_v0 (e : Fin 32) (f : Fin 2048) : (V m c main_v0 : S32x1x2048.Idx → EReal) (ix3 e 0 f) = ea4 m c (ix2 e f) := by
  unfold V
  after_reads_at
theorem pre_v1 (e : Fin 32) (f : Fin 1024) : (V m c main_v1 : S32x1x1024.Idx → EReal) (ix3 e 0 f) = ea6 m c (ix2 e f) := by
  unfold V
  after_reads_at

/-- The rows of a point. -/
theorem blk0 (t : Fin (cfgM m hO).N) (b : Fin 512) (k : Fin 1024) (r : Fin 147456) (hr : r.val = t.val * 512 + b.val) :
    (iblk m hO c 0 t : S512x1024.Idx → EReal) (ix2 b k) = ea2 m c (ix2 r k) := by
  have ht := pt_lt m hO t
  have e : ((cfgM m hO).win 0).index t = ![(BitVec.ofNat 32 (grid0.coords t 0).val).toNat, 0] := rfl
  rw [coord t] at e
  unfold iblk
  refine Eq.trans ?_ (congrFun (V_main_arg2 m c) (ix2 r k))
  refine congrArg (V m c (Pipeline.arrRef spec0 0)) (funext fun a => Fin.ext ?_)
  refine (Pipeline.Window.rect_emb_val ((cfgM m hO).win 0) t (ix2 b k) a rfl).trans ?_
  rw [e]
  match a with
  | ⟨0, _⟩ => show (BitVec.ofNat 32 t.val).toNat * 512 + b.val = r.val
              rw [BitVec.toNat_ofNat, Nat.mod_eq_of_lt (by omega)]; omega
  | ⟨1, _⟩ => show 0 * 1024 + k.val = k.val; omega

/-- The first weights of a point: its expert's. -/
theorem blk1 (t : Fin (cfgM m hO).N) (e : Fin 32) (he : (be m c (grid0.coords t)).toNat = e.val) (k : Fin 1024) (f : Fin 2048) :
    (iblk m hO c 1 t : S1x1024x2048.Idx → EReal) (ix3 0 k f) = ea3 m c (ix3 e k f) := by
  have hx : ((cfgM m hO).win 1).index t = ![(be m c (grid0.coords t)).toNat, 0, 0] := by
    obtain rfl : c = 0 := Subsingleton.elim _ _; rfl
  unfold iblk
  refine Eq.trans ?_ (congrFun (V_main_arg3 m c) (ix3 e k f))
  refine congrArg (V m c (Pipeline.arrRef spec0 1)) (funext fun a => Fin.ext ?_)
  refine (Pipeline.Window.rect_emb_val ((cfgM m hO).win 1) t (ix3 0 k f) a rfl).trans ?_
  rw [hx, he]
  match a with
  | ⟨0, _⟩ => show e.val * 1 + 0 = e.val; omega
  | ⟨1, _⟩ => show 0 * 1024 + k.val = k.val; omega
  | ⟨2, _⟩ => show 0 * 2048 + f.val = f.val; omega

/-- Its first bias. -/
theorem blk2 (t : Fin (cfgM m hO).N) (e : Fin 32) (he : (be m c (grid0.coords t)).toNat = e.val) (f : Fin 2048) :
    (iblk m hO c 2 t : S1x1x2048.Idx → EReal) (ix3 0 0 f) = ea4 m c (ix2 e f) := by
  have hx : ((cfgM m hO).win 2).index t = ![(be m c (grid0.coords t)).toNat, 0, 0] := by
    obtain rfl : c = 0 := Subsingleton.elim _ _; rfl
  unfold iblk
  refine Eq.trans ?_ (pre_v0 m c e f)
  refine congrArg (V m c (Pipeline.arrRef spec0 2)) (funext fun a => Fin.ext ?_)
  refine (Pipeline.Window.rect_emb_val ((cfgM m hO).win 2) t (ix3 0 0 f) a rfl).trans ?_
  rw [hx, he]
  match a with
  | ⟨0, _⟩ => show e.val * 1 + 0 = e.val; omega
  | ⟨1, _⟩ => rfl
  | ⟨2, _⟩ => show 0 * 2048 + f.val = f.val; omega

/-- Its second weights. -/
theorem blk3 (t : Fin (cfgM m hO).N) (e : Fin 32) (he : (be m c (grid0.coords t)).toNat = e.val) (f d : Fin 1024) :
    (iblk m hO c 3 t : S1x1024x1024.Idx → EReal) (ix3 0 f d) = ea5 m c (ix3 e f d) := by
  have hx : ((cfgM m hO).win 3).index t = ![(be m c (grid0.coords t)).toNat, 0, 0] := by
    obtain rfl : c = 0 := Subsingleton.elim _ _; rfl
  unfold iblk
  refine Eq.trans ?_ (congrFun (V_main_arg5 m c) (ix3 e f d))
  refine congrArg (V m c (Pipeline.arrRef spec0 3)) (funext fun a => Fin.ext ?_)
  refine (Pipeline.Window.rect_emb_val ((cfgM m hO).win 3) t (ix3 0 f d) a rfl).trans ?_
  rw [hx, he]
  match a with
  | ⟨0, _⟩ => show e.val * 1 + 0 = e.val; omega
  | ⟨1, _⟩ => show 0 * 1024 + f.val = f.val; omega
  | ⟨2, _⟩ => show 0 * 1024 + d.val = d.val; omega

/-- Its second bias. -/
theorem blk4 (t : Fin (cfgM m hO).N) (e : Fin 32) (he : (be m c (grid0.coords t)).toNat = e.val) (d : Fin 1024) :
    (iblk m hO c 4 t : S1x1x1024.Idx → EReal) (ix3 0 0 d) = ea6 m c (ix2 e d) := by
  have hx : ((cfgM m hO).win 4).index t = ![(be m c (grid0.coords t)).toNat, 0, 0] := by
    obtain rfl : c = 0 := Subsingleton.elim _ _; rfl
  unfold iblk
  refine Eq.trans ?_ (pre_v1 m c e d)
  refine congrArg (V m c (Pipeline.arrRef spec0 4)) (funext fun a => Fin.ext ?_)
  refine (Pipeline.Window.rect_emb_val ((cfgM m hO).win 4) t (ix3 0 0 d) a rfl).trans ?_
  rw [hx, he]
  match a with
  | ⟨0, _⟩ => show e.val * 1 + 0 = e.val; omega
  | ⟨1, _⟩ => rfl
  | ⟨2, _⟩ => show 0 * 1024 + d.val = d.val; omega

/-! ## What a point writes -/

/-- Not in use means not before the bound. -/
theorem cond3_slt (i : grid0.Coords) (n : BitVec 32) : k0_cond3 i n = 1#1 ↔ ¬ (BitVec.ofNat 32 (i 0).val).slt n = true := by
  unfold k0_cond3
  dsimp only
  rw [show Scalar.cmpi .slt (BitVec.ofNat 32 (i 0).val) n = BitVec.ofBool ((BitVec.ofNat 32 (i 0).val).slt n) from rfl]
  generalize (BitVec.ofNat 32 (i 0).val).slt n = b
  revert b; decide

/-- A block's result from blocks that hold its rows and its expert's weights and biases. -/
theorem res_of (A0 : S288.Idx → BitVec 32) (A1 : S1.Idx → BitVec 32) (A2 : S147456x1024.Idx → EReal) (A3 : S32x1024x2048.Idx → EReal)
    (A4 : S32x2048.Idx → EReal) (A5 : S32x1024x1024.Idx → EReal) (A6 : S32x1024.Idx → EReal)
    (x : Vec Ideal S512x1024 .f32) (w : Vec Ideal S1x1024x2048 .f32) (b : Vec Ideal S1x1x2048 .f32) (w' : Vec Ideal S1x1024x1024 .f32)
    (b' : Vec Ideal S1x1x1024 .f32) (q : BitVec 1) (y : Fin 512) (d : Fin 1024) (r : Fin 147456) (n : Fin 288) (hr : r.val / 512 = n.val)
    (hq : q = 1#1 ↔ ¬ (BitVec.ofNat 32 n.val).slt (A1 (ix1 0)) = true) (e : Fin 32) (he : e = ex (A0 (ix1 n)))
    (h0 : ∀ k : Fin 1024, x (ix2 y k) = A2 (ix2 r k)) (h1 : ∀ (k : Fin 1024) (f : Fin 2048), w (ix3 0 k f) = A3 (ix3 e k f))
    (h2 : ∀ f : Fin 2048, b (ix3 0 0 f) = A4 (ix2 e f)) (h3 : ∀ f d : Fin 1024, w' (ix3 0 f d) = A5 (ix3 e f d))
    (h4 : ∀ d : Fin 1024, b' (ix3 0 0 d) = A6 (ix2 e d)) :
    y8 (F := Ideal) q (k0_pay3 x (k0_pay1 w) b (k0_pay2 w') b') (ix2 y d) = res A0 A1 A2 A3 A4 A5 A6 r d := by
  have hlt : r.val / 512 < 288 := lt_of_eq_of_lt hr n.2
  obtain rfl : n = ⟨r.val / 512, hlt⟩ := Fin.ext hr.symm
  subst he
  unfold y8 res
  dsimp only
  by_cases hs : (BitVec.ofNat 32 (r.val / 512)).slt (A1 (ix1 0)) = true
  · rw [if_pos hs, if_neg (fun h => hq.mp h hs), pay3_val]
    simp only [h0, h1, h2, h3, h4]
  · rw [if_neg hs, if_pos (hq.mpr hs)]
    rfl

/-- What a point leaves in its block is the experts' result on its rows. -/
theorem out_at (hA : ∀ j, (ea0 m c j).toNat < 32) (t : Fin (cfgM m hO).N) (b : Fin 512) (d : Fin 1024) (r : Fin 147456) (hr : r.val = t.val * 512 + b.val) :
    (outAt m hO c t : S512x1024.Idx → EReal) (ix2 b d) = resAt m c (ix2 r d) := by
  have ht := pt_lt m hO t
  have he : (be m c (grid0.coords t)).toNat = (ex (ea0 m c (ix1 ⟨t.val, ht⟩))).val := by
    rw [be_eq m hO c t]
    exact (Nat.mod_eq_of_lt (hA _)).symm
  exact res_of (ea0 m c) (ea1 m c) (ea2 m c) (ea3 m c) (ea4 m c) (ea5 m c) (ea6 m c) (iblk m hO c 0 t) (iblk m hO c 1 t) (iblk m hO c 2 t)
    (iblk m hO c 3 t) (iblk m hO c 4 t) (k0_cond3 (grid0.coords t) (nu m c)) b d r ⟨t.val, ht⟩ (by show r.val / 512 = t.val; omega)
    (by rw [cond3_slt, coord t, nu_eq]) _ rfl (fun k => blk0 m hO c t b k r hr) (fun k f => blk1 m hO c t _ he k f) (fun f => blk2 m hO c t _ he f)
    (fun f d => blk3 m hO c t _ he f d) (fun d => blk4 m hO c t _ he d)

/-- The block's index. -/
theorem index5 (t : Fin (cfgM m hO).N) : ((cfgM m hO).win 5).index t = ![t.val, 0] := by
  have ht := pt_lt m hO t
  have e : ((cfgM m hO).win 5).index t = ![(BitVec.ofNat 32 (grid0.coords t 0).val).toNat, 0] := rfl
  rw [coord t] at e
  rw [e, BitVec.toNat_ofNat, Nat.mod_eq_of_lt (by omega)]

/-- Every point writes its block back. -/
theorem flush5 (t : Fin (cfgM m hO).N) : ((cfgM m hO).win 5).flush t = true := by
  unfold Pipeline.Window.flush
  rw [Bool.and_eq_true]
  refine ⟨rfl, ?_⟩
  rw [Bool.or_eq_true, decide_eq_true_iff, decide_eq_true_iff]
  by_cases h : t.val + 1 < (cfgM m hO).grid.N
  · refine .inr ⟨h, fun e => ?_⟩
    rw [index5 m hO ⟨t.val + 1, h⟩, index5 m hO t] at e
    have := congrFun e 0
    exact absurd this (Nat.succ_ne_self t.val)
  · have : t.val < (cfgM m hO).grid.N := t.2
    exact .inl (by omega)

/-- What a point writes back is its block of the result. -/
theorem flushed5 (hA : ∀ j, (ea0 m c j).toNat < 32) (t : Fin (cfgM m hO).N) :
    (dats m hO 0 c).flushed 5 t = (((cfgM m hO).win 5).blk t).view.read (Elt Ideal) (resAt m c) := by
  show ((cfgM m hO).win 5).cut ((cfgM m hO).grid.coords t) ((dats m hO 0 c).after 5 t) = _
  rw [after0_5]
  have key := out_at m hO c hA t
  generalize outAt m hO c t = Y at key ⊢
  generalize resAt m c = G at key ⊢
  have ht := pt_lt m hO t
  suffices H : ∀ y : S512x1024.Idx, (Y : S512x1024.Idx → EReal) y = G ((((cfgM m hO).win 5).rect t).emb y) from funext H
  intro y
  have hy : y = ix2 (y 0) (y 1) := by
    funext a
    match a with
    | ⟨0, _⟩ => rfl
    | ⟨1, _⟩ => rfl
  generalize (y 0 : Fin 512) = b at hy
  generalize (y 1 : Fin 1024) = d at hy
  rw [hy]
  have hb : b.val < 512 := b.2
  refine (key b d ⟨t.val * 512 + b.val, by omega⟩ rfl).trans (congrArg G ?_)
  funext a
  refine Fin.ext (Eq.symm ?_)
  refine (Pipeline.Window.rect_emb_val ((cfgM m hO).win 5) t (ix2 b d) a rfl).trans ?_
  rw [index5 m hO t]
  match a with
  | ⟨0, _⟩ => rfl
  | ⟨1, _⟩ => show 0 * 1024 + d.val = d.val; omega

/-- Every row is in the block of a point. -/
theorem cover5 (i : S147456x1024.Idx) : ∃ t : Fin (cfgM m hO).N, ((cfgM m hO).win 5).flush t = true ∧ i ∈ (((cfgM m hO).win 5).blk t).view.set := by
  have b0 : (i 0).val < 147456 := (i 0).2
  have b1 : (i 1).val < 1024 := (i 1).2
  have ht : (i 0).val / 512 < grid0.N := lt_of_lt_of_eq (by omega : (i 0).val / 512 < 288) N_0.symm
  refine ⟨⟨(i 0).val / 512, ht⟩, flush5 m hO _, ?_⟩
  show i ∈ ((View.whole main_v2).slice (((cfgM m hO).win 5).rect ⟨(i 0).val / 512, ht⟩)).set
  refine (congrArg (fun s => i ∈ s) (View.set_slice_whole main_v2 (((cfgM m hO).win 5).rect ⟨(i 0).val / 512, ht⟩))).mpr ?_
  refine Rect.mem_set_unit.mpr ?_
  have e : (((cfgM m hO).win 5).index ⟨(i 0).val / 512, ht⟩ : Fin 2 → ℕ) = ![(i 0).val / 512, 0] := index5 m hO _
  have h : ∀ a : Fin 2, (((cfgM m hO).win 5).index ⟨(i 0).val / 512, ht⟩ : Fin 2 → ℕ) a * S512x1024.size a ≤ (i a).val
      ∧ (i a).val < (((cfgM m hO).win 5).index ⟨(i 0).val / 512, ht⟩ : Fin 2 → ℕ) a * S512x1024.size a + S512x1024.size a := by
    rw [e]
    intro a
    match a with
    | ⟨0, _⟩ => show (i 0).val / 512 * 512 ≤ (i 0).val ∧ (i 0).val < (i 0).val / 512 * 512 + 512; omega
    | ⟨1, _⟩ => show 0 * 1024 ≤ (i 1).val ∧ (i 1).val < 0 * 1024 + 1024; omega
  exact h

/-- The run, read: the result array at the experts' results, the arguments unchanged. -/
theorem kernel_run (hA : ∀ (c : Dev nD) j, (ea0 m c j).toNat < 32) :
    θ_run defs (onTc (τ := τ) (main (F := Ideal))) ⟨m, fun _ => 0, ρ⟩ (fun r => ∀ c : Dev nD,
      r.2.mem ((c.tc : Thread nD τ).loc main_v2) = resAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hO : Ok m := ok_of m fun j => (tbl_arg0 m j) ▸ hA 0 j
  refine (θ_run defs _ _).mono (fun r hr c => ⟨?_, hr.2.1 c⟩) (θ_run_and (run_main_quiescent m ρ hO) (frame m ρ hO))
  exact ((hr.1.1 c).1 5).trans ((dats m hO 0 c).arrAt_eq_of_cover 5 (resAt m c) (fun t _ => flushed5 m hO c (hA c) t) (cover5 m hO))

end Cert.Moe

end
-- ==== Proof.BlocksRead.lean ====
/-
The reference's expert blocks, read at an index.
-/
module

public import proofs.«01_k».proof.Proof.ExpertsSpec
public import proofs.«01_k».proof.Proof.Gen.BlocksIdeal.Read
public import Idealize.ShloMosaic.Lib.ValueIdx

@[expose] public section

set_option maxRecDepth 16384

noncomputable section

namespace Cert.Moe

open Cert.BlocksIdeal Cert.BlocksIdeal.Gen Cert.BlocksIdeal.Read
open Idealize.ShloMosaic Idealize.ShloMosaic.TcCoe

/-- A gather of whole slices along the first axis of a rank-3 array, one per index. -/
abbrev takeSlices (N A B n : Nat) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Such a gather at an index: the slice the index names, its number cut at the last one. -/
theorem takeSlices_apply {α : Type} {N A B n : Nat} (hN : 0 < N)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (y : Fin A) (z : Fin B) :
    Host.gather (takeSlices N A B n wf) x idx (ix3 c y z) = x (ix3 ⟨min (idx (ix2 c 0)).toInt.toNat (N - 1), by omega⟩ y z) := by
  unfold Host.gather
  congr 1
  funext a
  refine Fin.ext ?_
  show (takeSlices N A B n wf).start (ix3 c y z) idx a + (takeSlices N A B n wf).batchCoord (ix3 c y z) a
    + (takeSlices N A B n wf).offCoord (ix3 c y z) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ (takeSlices N A B n wf).startIndexMap from List.mem_singleton.mpr rfl)]
    have hsi : (takeSlices N A B n wf).siIdx (ix3 c y z) ⟨List.idxOf (0 : Fin 3) (takeSlices N A B n wf).startIndexMap,
        List.idxOf_lt_length_iff.2 (List.mem_singleton.mpr rfl)⟩ = ix2 c 0 := by
      funext b; refine Fin.ext ?_
      match b with
      | ⟨0, _⟩ => rfl
      | ⟨1, _⟩ => rfl
    rw [hsi]
    rfl
  · have hs : (takeSlices N A B n wf).start (ix3 c y z) idx 1 = 0 := by
      unfold GatherDims.start
      rw [dif_neg (fun h => (by decide : (1 : ℕ) ≠ 0) (congrArg Fin.val (List.mem_singleton.mp h)))]
    rw [hs]
    unfold GatherDims.offCoord
    rw [dif_pos ((GatherDims.mem_sKept _ _).mpr ⟨fun h => (by decide : (1 : ℕ) ≠ 0) (congrArg Fin.val (List.mem_singleton.mp h)), List.not_mem_nil⟩)]
    simp only [Nat.zero_add]
    rfl
  · have hs : (takeSlices N A B n wf).start (ix3 c y z) idx 2 = 0 := by
      unfold GatherDims.start
      rw [dif_neg (fun h => (by decide : (2 : ℕ) ≠ 0) (congrArg Fin.val (List.mem_singleton.mp h)))]
    rw [hs]
    unfold GatherDims.offCoord
    rw [dif_pos ((GatherDims.mem_sKept _ _).mpr ⟨fun h => (by decide : (2 : ℕ) ≠ 0) (congrArg Fin.val (List.mem_singleton.mp h)), List.not_mem_nil⟩)]
    simp only [Nat.zero_add]
    rfl

/-- A gather of rows of a matrix, one per index. -/
abbrev takeRows (N B n : Nat) (wf : GatherDims.WF ⟨2, ![N, B]⟩ ⟨2, ![n, 1]⟩ ⟨2, ![n, B]⟩ [1] [0] [] [0] [] 1 ![1, B]) :
    GatherDims ⟨2, ![N, B]⟩ ⟨2, ![n, 1]⟩ ⟨2, ![n, B]⟩ where
  offsetDims := [1]
  collapsedSliceDims := [0]
  operandBatchingDims := []
  startIndicesBatchingDims := []
  startIndexMap := [0]
  indexVectorDim := 1
  sliceSizes := ![1, B]
  wf := wf

/-- Such a gather at an index. -/
theorem takeRows_apply {α : Type} {N B n : Nat} (hN : 0 < N)
    (wf : GatherDims.WF ⟨2, ![N, B]⟩ ⟨2, ![n, 1]⟩ ⟨2, ![n, B]⟩ [1] [0] [] [0] [] 1 ![1, B])
    (x : (⟨2, ![N, B]⟩ : Shape).Idx → α) (idx : IVec ⟨2, ![n, 1]⟩ 32) (c : Fin n) (y : Fin B) :
    Host.gather (takeRows N B n wf) x idx (ix2 c y) = x (ix2 ⟨min (idx (ix2 c 0)).toInt.toNat (N - 1), by omega⟩ y) := by
  unfold Host.gather
  congr 1
  funext a
  refine Fin.ext ?_
  show (takeRows N B n wf).start (ix2 c y) idx a + (takeRows N B n wf).batchCoord (ix2 c y) a
    + (takeRows N B n wf).offCoord (ix2 c y) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N B n wf).startIndexMap from List.mem_singleton.mpr rfl)]
    have hsi : (takeRows N B n wf).siIdx (ix2 c y) ⟨List.idxOf (0 : Fin 2) (takeRows N B n wf).startIndexMap,
        List.idxOf_lt_length_iff.2 (List.mem_singleton.mpr rfl)⟩ = ix2 c 0 := by
      funext b; refine Fin.ext ?_
      match b with
      | ⟨0, _⟩ => rfl
      | ⟨1, _⟩ => rfl
    rw [hsi]
    rfl
  · have hs : (takeRows N B n wf).start (ix2 c y) idx 1 = 0 := by
      unfold GatherDims.start
      rw [dif_neg (fun h => (by decide : (1 : ℕ) ≠ 0) (congrArg Fin.val (List.mem_singleton.mp h)))]
    rw [hs]
    unfold GatherDims.offCoord
    rw [dif_pos ((GatherDims.mem_sKept _ _).mpr ⟨fun h => (by decide : (1 : ℕ) ≠ 0) (congrArg Fin.val (List.mem_singleton.mp h)), List.not_mem_nil⟩)]
    simp only [Nat.zero_add]
    rfl

/-! ## The index of a block -/

/-- An expert's number is not negative, so it is not counted from the end. -/
theorem wrap_word (w : BitVec 32) (h : w.toNat < 32) : Scalar.select (IntOp.cmpi .slt w 0#32) (IntOp.addi w 32#32) w = w := by
  have e : IntOp.cmpi .slt w 0#32 = 0#1 := by
    show BitVec.ofBool (w.slt 0#32) = 0#1
    have : w.slt 0#32 = false := by
      rw [BitVec.slt_eq_decide, decide_eq_false_iff_not, BitVec.toInt_eq_toNat_cond]
      have z0 : (0#32).toInt = 0 := by decide
      rw [z0]
      split <;> omega
    rw [this]; rfl
  rw [e]; rfl

/-- The number it is cut at changes nothing. -/
theorem cut_word (w : BitVec 32) (h : w.toNat < 32) (hb : min w.toInt.toNat (32 - 1) < 32) : (⟨min w.toInt.toNat (32 - 1), hb⟩ : Fin 32) = ex w := by
  refine Fin.ext ?_
  show min w.toInt.toNat (32 - 1) = w.toNat % 32
  have : w.toInt = w.toNat := by rw [BitVec.toInt_eq_toNat_cond]; split <;> omega
  rw [this]
  omega

variable (A0 : S288.Idx → BitVec 32) (A1 : S1.Idx → BitVec 32) (A2 : S147456x1024.Idx → EReal) (A3 : S32x1024x2048.Idx → EReal)
  (A4 : S32x2048.Idx → EReal) (A5 : S32x1024x1024.Idx → EReal) (A6 : S32x1024.Idx → EReal) (n : Fin 288)

theorem v6_val (h : (A0 (ix1 n)).toNat < 32) : val_main_v6 (F := Ideal) A0 (ix2 n 0) = A0 (ix1 n) := by
  refine Eq.trans ?_ (wrap_word _ h)
  pointwise [val_main_v6, val_main_v5, val_main_v4, val_main_v3, val_main_v2, val_main_v1, val_main_c, val_main_c_0]
theorem v14_val (h : (A0 (ix1 n)).toNat < 32) : val_main_v14 (F := Ideal) A0 (ix2 n 0) = A0 (ix1 n) := by
  refine Eq.trans ?_ (wrap_word _ h)
  pointwise [val_main_v14, val_main_v13, val_main_v12, val_main_v11, val_main_v10, val_main_v9, val_main_c_1, val_main_c_2]
theorem v41_val (h : (A0 (ix1 n)).toNat < 32) : val_main_v41 (F := Ideal) A0 (ix2 n 0) = A0 (ix1 n) := by
  refine Eq.trans ?_ (wrap_word _ h)
  pointwise [val_main_v41, val_main_v40, val_main_v39, val_main_v38, val_main_v37, val_main_v36, val_main_c_9, val_main_c_10]
theorem v49_val (h : (A0 (ix1 n)).toNat < 32) : val_main_v49 (F := Ideal) A0 (ix2 n 0) = A0 (ix1 n) := by
  refine Eq.trans ?_ (wrap_word _ h)
  pointwise [val_main_v49, val_main_v48, val_main_v47, val_main_v46, val_main_v45, val_main_v44, val_main_c_11, val_main_c_12]

/-- The four gathered arrays: each block has its expert's. -/
theorem v7_val (h : (A0 (ix1 n)).toNat < 32) (k : Fin 1024) (f : Fin 2048) :
    val_main_v7 (F := Ideal) A0 A3 (ix3 n k f) = A3 (ix3 (ex (A0 (ix1 n))) k f) := by
  unfold val_main_v7
  refine (takeSlices_apply (N := 32) (by decide) gather_S32x1024x2048_S288x1_S288x1024x2048_12_0_n_n_0_1_110242048_wf A3 _ n k f).trans ?_
  refine congrArg A3 (congrArg (fun q => ix3 q k f) ((Fin.ext ?_).trans (cut_word (A0 (ix1 n)) h (by omega))))
  show min (val_main_v6 (F := Ideal) A0 (ix2 n 0)).toInt.toNat (32 - 1) = min (A0 (ix1 n)).toInt.toNat (32 - 1)
  rw [v6_val A0 n h]
theorem v15_val (h : (A0 (ix1 n)).toNat < 32) (f : Fin 2048) :
    val_main_v15 (F := Ideal) A0 A4 (ix2 n f) = A4 (ix2 (ex (A0 (ix1 n))) f) := by
  unfold val_main_v15
  refine (takeRows_apply (N := 32) (by decide) gather_S32x2048_S288x1_S288x2048_1_0_n_n_0_1_12048_wf A4 _ n f).trans ?_
  refine congrArg A4 (congrArg (fun q => ix2 q f) ((Fin.ext ?_).trans (cut_word (A0 (ix1 n)) h (by omega))))
  show min (val_main_v14 (F := Ideal) A0 (ix2 n 0)).toInt.toNat (32 - 1) = min (A0 (ix1 n)).toInt.toNat (32 - 1)
  rw [v14_val A0 n h]
theorem v42_val (h : (A0 (ix1 n)).toNat < 32) (f d : Fin 1024) :
    val_main_v42 (F := Ideal) A0 A5 (ix3 n f d) = A5 (ix3 (ex (A0 (ix1 n))) f d) := by
  unfold val_main_v42
  refine (takeSlices_apply (N := 32) (by decide) gather_S32x1024x1024_S288x1_S288x1024x1024_12_0_n_n_0_1_110241024_wf A5 _ n f d).trans ?_
  refine congrArg A5 (congrArg (fun q => ix3 q f d) ((Fin.ext ?_).trans (cut_word (A0 (ix1 n)) h (by omega))))
  show min (val_main_v41 (F := Ideal) A0 (ix2 n 0)).toInt.toNat (32 - 1) = min (A0 (ix1 n)).toInt.toNat (32 - 1)
  rw [v41_val A0 n h]
theorem v50_val (h : (A0 (ix1 n)).toNat < 32) (d : Fin 1024) :
    val_main_v50 (F := Ideal) A0 A6 (ix2 n d) = A6 (ix2 (ex (A0 (ix1 n))) d) := by
  unfold val_main_v50
  refine (takeRows_apply (N := 32) (by decide) gather_S32x1024_S288x1_S288x1024_1_0_n_n_0_1_11024_wf A6 _ n d).trans ?_
  refine congrArg A6 (congrArg (fun q => ix2 q d) ((Fin.ext ?_).trans (cut_word (A0 (ix1 n)) h (by omega))))
  show min (val_main_v49 (F := Ideal) A0 (ix2 n 0)).toInt.toNat (32 - 1) = min (A0 (ix1 n)).toInt.toNat (32 - 1)
  rw [v49_val A0 n h]

/-! ## The blocks -/

/-- Gates and linear halves. -/
theorem v18_val (h : (A0 (ix1 n)).toNat < 32) (b : Fin 512) (f : Fin 2048) (r : Fin 147456) (hr : r.val = n.val * 512 + b.val) :
    val_main_v18 (F := Ideal) A0 A2 A3 A4 (ix3 n b f)
      = gu (fun k => A2 (ix2 r k)) (fun k f => A3 (ix3 (ex (A0 (ix1 n))) k f)) (fun f => A4 (ix2 (ex (A0 (ix1 n))) f)) f := by
  have e : val_main_v18 (F := Ideal) A0 A2 A3 A4 (ix3 n b f)
      = (∑ k : Fin 1024, val_main_v0 (F := Ideal) A2 (ix3 n b k) * val_main_v7 (F := Ideal) A0 A3 (ix3 n k f)) + val_main_v15 (F := Ideal) A0 A4 (ix2 n f) := by
    pointwise [val_main_v18, val_main_v8, val_main_v17, val_main_v16]
  rw [e, v15_val A0 A4 n h]
  unfold gu
  refine congrArg (· + _) (Finset.sum_congr rfl fun k _ => ?_)
  rw [v7_val A0 A3 n h]
  refine congrArg (· * _) ?_
  rw [val_main_v0_apply]
  refine congrArg A2 (funext fun a => Fin.ext ?_)
  match a with
  | ⟨0, _⟩ => show ((n.val * 512 + b.val) * 1024 + k.val) / 1024 = r.val; omega
  | ⟨1, _⟩ => show ((n.val * 512 + b.val) * 1024 + k.val) % 1024 = k.val; omega

/-- One over one plus `e` to the minus `x` is the logistic. -/
theorem logi (x : EReal) : Ideal.div (Ideal.ofBits .f32 0x3F800000#32) (Ideal.ofBits .f32 0x3F800000#32 + Ideal.exp (-x)) = Ideal.logistic x := by
  rw [Ideal.ofBits_one_f32]; rfl

/-- The hidden numbers. -/
theorem v35_val (b : Fin 512) (f : Fin 1024) : val_main_v35 (F := Ideal) A0 A2 A3 A4 (ix3 n b f)
    = hid (val_main_v18 (F := Ideal) A0 A2 A3 A4 (ix3 n b ⟨f.val, by omega⟩)) (val_main_v18 (F := Ideal) A0 A2 A3 A4 (ix3 n b ⟨1024 + f.val, by omega⟩)) := by
  unfold hid
  rw [← logi]
  pointwise [val_main_v35, val_main_v34, val_main_v33, val_main_cst_8, val_main_v32, val_main_v31, val_main_v30, val_main_cst_7, val_main_v29, val_main_v28, val_main_cst_6, val_main_v27, val_main_v26, val_main_v25, val_main_v24, val_main_cst_5, val_main_v23, val_main_call0_v4, val_main_call0_v3, val_main_call0_v2, val_main_call0_v1, val_main_call0_v0, val_main_cst_4, val_main_cst_3, val_main_v22, val_main_v21, val_main_cst, val_main_v20, val_main_v19]
  rfl

/-- The experts' results. -/
theorem v53_val (h : (A0 (ix1 n)).toNat < 32) (b : Fin 512) (d : Fin 1024) (r : Fin 147456) (hr : r.val = n.val * 512 + b.val) :
    val_main_v53 (F := Ideal) A0 A2 A3 A4 A5 A6 (ix3 n b d)
      = row (fun k => A2 (ix2 r k)) (fun k f => A3 (ix3 (ex (A0 (ix1 n))) k f)) (fun f => A4 (ix2 (ex (A0 (ix1 n))) f))
          (fun f d => A5 (ix3 (ex (A0 (ix1 n))) f d)) (fun d => A6 (ix2 (ex (A0 (ix1 n))) d)) d := by
  have e : val_main_v53 (F := Ideal) A0 A2 A3 A4 A5 A6 (ix3 n b d)
      = (∑ f : Fin 1024, val_main_v35 (F := Ideal) A0 A2 A3 A4 (ix3 n b f) * val_main_v42 (F := Ideal) A0 A5 (ix3 n f d)) + val_main_v50 (F := Ideal) A0 A6 (ix2 n d) := by
    pointwise [val_main_v53, val_main_v43, val_main_v52, val_main_v51]
  rw [e, v50_val A0 A6 n h]
  unfold row
  refine congrArg (· + _) (Finset.sum_congr rfl fun f _ => ?_)
  rw [v42_val A0 A5 n h, v35_val, v18_val A0 A2 A3 A4 n h b _ r hr, v18_val A0 A2 A3 A4 n h b _ r hr]

/-- The reference's result. -/
theorem v60_val (hA : ∀ i, (A0 i).toNat < 32) (r : Fin 147456) (d : Fin 1024) :
    val_main_v60 (F := Ideal) A0 A1 A2 A3 A4 A5 A6 (ix2 r d) = res A0 A1 A2 A3 A4 A5 A6 r d := by
  have hn : r.val / 512 < 288 := by omega
  have e : val_main_v60 (F := Ideal) A0 A1 A2 A3 A4 A5 A6 (ix2 r d)
      = val_main_v59 (F := Ideal) A0 A1 A2 A3 A4 A5 A6 (ix3 ⟨r.val / 512, hn⟩ ⟨r.val % 512, Nat.mod_lt _ (by decide)⟩ d) := by
    rw [val_main_v60_apply]
    refine congrArg _ (funext fun a => Fin.ext ?_)
    match a with
    | ⟨0, _⟩ => show (r.val * 1024 + d.val) / 524288 = r.val / 512; omega
    | ⟨1, _⟩ => show (r.val * 1024 + d.val) / 1024 % 512 = r.val % 512; omega
    | ⟨2, _⟩ => show (r.val * 1024 + d.val) % 1024 = d.val; omega
  rw [e]
  have e2 : val_main_v59 (F := Ideal) A0 A1 A2 A3 A4 A5 A6 (ix3 ⟨r.val / 512, hn⟩ ⟨r.val % 512, Nat.mod_lt _ (by decide)⟩ d)
      = Scalar.select (IntOp.cmpi .slt (BitVec.ofNat 32 (r.val / 512)) (A1 (ix1 0)))
          (val_main_v53 (F := Ideal) A0 A2 A3 A4 A5 A6 (ix3 ⟨r.val / 512, hn⟩ ⟨r.val % 512, Nat.mod_lt _ (by decide)⟩ d)) (id (constant (F := Ideal) S_ .f32 0#32) ix0) := by
    pointwise [val_main_v59, val_main_call1_v2, val_main_call1_v1, val_main_call1_v0, val_main_cst_13, val_main_v58, val_main_v57, val_main_v56, val_main_v55, val_main_v54]
  rw [e2, v53_val A0 A2 A3 A4 A5 A6 ⟨r.val / 512, hn⟩ (hA _) _ d r (by show r.val = r.val / 512 * 512 + r.val % 512; omega)]
  unfold res
  dsimp only
  by_cases hs : (BitVec.ofNat 32 (r.val / 512)).slt (A1 (ix1 0)) = true
  · rw [if_pos hs]
    show Scalar.select (BitVec.ofBool ((BitVec.ofNat 32 (r.val / 512)).slt (A1 (ix1 0)))) _ _ = _
    rw [hs]; rfl
  · rw [if_neg hs]
    show Scalar.select (BitVec.ofBool ((BitVec.ofNat 32 (r.val / 512)).slt (A1 (ix1 0)))) _ _ = _
    rw [(Bool.not_eq_true _).mp hs]; rfl

end Cert.Moe

end
-- ==== Proof.ExpertsClaims.lean ====
/-
The claims about the experts' call: its frames, its idealization's and its reference's, and that it computes what its reference computes.
-/
module

public import proofs.«01_k».proof.Defs
public import proofs.«01_k».proof.Proof.ExpertsIdealOk
public import proofs.«01_k».proof.Proof.ExpertsSame
public import proofs.«01_k».proof.Proof.ExpertsValue
public import proofs.«01_k».proof.Proof.BlocksRead
public import proofs.«01_k».proof.Proof.Gen.BlocksIdeal.Run
public import proofs.«01_k».proof.Proof.Gen.BlocksIdeal.Read
public import Idealize.ShloMosaic.Lib.Quiescent

@[expose] public section

set_option maxRecDepth 16384

noncomputable section

namespace Cert.Moe

open Idealize.ShloMosaic Idealize.ShloMosaic.TcCoe
open Idealize.SL.Sem Idealize.ShloMosaic.StableHlo

/-- The experts' call, at any numbers, runs where its block numbers name experts, leaves its arguments as they were and every counter at zero:
    read over the extended reals, -/
theorem frame_expertsIdeal : Cert.quiescent_ExpertsIdeal (hExpertsIdeal := Cert.ExpertsIdeal.Gen.facts)
    (hPre_in_range := Cert.Pre_in_range.Gen.facts) :=
  fun m ρ hpre => Cert.ExpertsIdeal.Own.frame m ρ (Cert.ExpertsIdeal.Own.ok_of m fun j => (Cert.ExpertsIdeal.Own.tbl_arg0 m j) ▸
    Cert.ExpertsIdeal.Own.range_of _ _ _ _ _ _ _ (fun a => a.elim0) (congrFun (hpre 0) _) j)

/-- and as it runs, being the same program. -/
theorem frame_experts : Cert.quiescent_Experts (hExperts := Cert.Experts.Gen.facts) (hPre_in_range := Cert.Pre_in_range.Gen.facts) :=
  fun m ρ hpre => by
  have h := Cert.ExpertsIdeal.Own.frame (F := Bits) m ρ (Cert.ExpertsIdeal.Own.ok_of m fun j => (Cert.ExpertsIdeal.Own.tbl_arg0 m j) ▸
    Cert.ExpertsIdeal.Own.range_of _ _ _ _ _ _ _ (fun a => a.elim0) (congrFun (hpre 0) _) j)
  refine (congrArg (fun D => θ_run D (onTc (τ := Cert.ExpertsIdeal.τ) (Cert.ExpertsIdeal.main (F := Bits))) ⟨m, fun _ => 0, ρ⟩ _)
    (defs_same Bits)).mpr ?_
  exact h

/-- So does the reference, which has no counters, at any arguments. -/
theorem frame_blocks : Cert.quiescent_BlocksIdeal (hBlocksIdeal := Cert.BlocksIdeal.Gen.facts) :=
  fun m ρ _ => (θ_run Cert.BlocksIdeal.defs _ _).mono
    (fun r h => ⟨fun c => (h c).2, Idealize.ShloMosaic.sem_eq_zero_of_no_sems (by decide) r.2⟩)
    (Cert.BlocksIdeal.Value.run (F := Ideal) m ρ)

/-- The reference's frame, under the precondition, which it does not need. -/
theorem frame_blocks_in_range : Cert.quiescent_BlocksIdeal_pre_in_range (hBlocksIdeal := Cert.BlocksIdeal.Gen.facts)
    (hPre_in_range := Cert.Pre_in_range.Gen.facts) := fun m ρ _ => frame_blocks m ρ trivial

/-- The experts' call read at exact arithmetic has no operation rewritten. -/
theorem preserves_experts : Cert.preserves_Experts_ExpertsIdeal := trivial

/-- Equal arguments, equal results of the experts. -/
theorem res_congr {A0 B0 : (⟨1, ![288]⟩ : Shape).Idx → BitVec 32} {A1 B1 : (⟨1, ![1]⟩ : Shape).Idx → BitVec 32}
    {A2 B2 : (⟨2, ![147456, 1024]⟩ : Shape).Idx → EReal} {A3 B3 : (⟨3, ![32, 1024, 2048]⟩ : Shape).Idx → EReal}
    {A4 B4 : (⟨2, ![32, 2048]⟩ : Shape).Idx → EReal} {A5 B5 : (⟨3, ![32, 1024, 1024]⟩ : Shape).Idx → EReal}
    {A6 B6 : (⟨2, ![32, 1024]⟩ : Shape).Idx → EReal}
    (e0 : A0 = B0) (e1 : A1 = B1) (e2 : A2 = B2) (e3 : A3 = B3) (e4 : A4 = B4) (e5 : A5 = B5) (e6 : A6 = B6) (r : Fin 147456) (d : Fin 1024) :
    res A0 A1 A2 A3 A4 A5 A6 r d = res B0 B1 B2 B3 B4 B5 B6 r d := by
  subst e0 e1 e2 e3 e4 e5 e6
  rfl

/-- The call and its reference leave the same result: both leave the experts' results, block by block. -/
theorem algebraic_experts : Cert.algebraic_ExpertsIdeal_BlocksIdeal (hExpertsIdeal := Cert.ExpertsIdeal.Gen.facts)
    (hBlocksIdeal := Cert.BlocksIdeal.Gen.facts) (hPre_in_range := Cert.Pre_in_range.Gen.facts) := by
  intro m g m' g' hpre hargs
  have hA : ∀ (c : Dev Cert.ExpertsIdeal.nD) j, (ea0 m c j).toNat < 32 := fun c j =>
    Cert.ExpertsIdeal.Own.range_of (F := Ideal) (ea0 m c) (ea1 m c) (ea2 m c) (ea3 m c) (ea4 m c) (ea5 m c) (ea6 m c) (fun a => a.elim0) (congrFun (hpre c) _) j
  refine ⟨fun c => resAt m c, kernel_run m g hA, ?_⟩
  refine (θ_run Cert.BlocksIdeal.defs _ _).mono (fun r h c => ⟨(h c).1.trans ?_, (h c).2⟩) (Cert.BlocksIdeal.Value.run (F := Ideal) m' g')
  obtain ⟨a0, a1, a2, a3, a4, a5, a6⟩ := hargs c
  refine (Cert.BlocksIdeal.Read.val_main_v60_eq (F := Ideal) m' c).trans ?_
  have hA' : ∀ i : (⟨1, ![288]⟩ : Shape).Idx, ((m' ((c.tc : Thread Cert.BlocksIdeal.nD Cert.BlocksIdeal.τ).loc Cert.BlocksIdeal.main_arg0)
      : (⟨1, ![288]⟩ : Shape).Idx → BitVec 32) i).toNat < 32 := fun i => (congrArg (fun w : BitVec 32 => w.toNat < 32) (congrFun a0 i)).mpr (hA c i)
  have H := fun (r : Fin 147456) (d : Fin 1024) => (v60_val _ _ _ _ _ _ _ hA' r d).trans (res_congr a0 a1 a2 a3 a4 a5 a6 r d)
  funext i
  have hi : (i : (⟨2, ![147456, 1024]⟩ : Shape).Idx) = ix2 (i 0) (i 1) := by
    funext a
    match a with
    | ⟨0, _⟩ => rfl
    | ⟨1, _⟩ => rfl
  exact (congrArg _ hi).trans (H (i 0) (i 1))

end Cert.Moe

end
-- ==== Proof.lean ====
/- The claims of the test file, from the modules under Proof/. -/
module

public import proofs.«01_k».proof.Defs
public import proofs.«01_k».proof.Proof.Gen.Pre_finite
public import proofs.«01_k».proof.Proof.Gen.ReferenceIdeal.Run
public import proofs.«01_k».proof.Proof.Gen.ReferenceIdeal.Read
public import proofs.«01_k».proof.Proof.Gen.Pre_in_range
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.BlocksIdeal
public import proofs.«01_k».proof.Proof.Gen.BlocksIdeal.Run
public import proofs.«01_k».proof.Proof.Gen.BlocksIdeal.Read
public import proofs.«01_k».proof.Proof.Frames
public import proofs.«01_k».proof.Proof.Algebra
public import proofs.«01_k».proof.Proof.ExpertsClaims
public import Idealize.ShloMosaic.Adequacy
public import Idealize.ShloMosaic.Init

@[expose] public section

noncomputable section

namespace Cert.Proof

open Idealize.ShloMosaic Idealize.SL.Sem Cert.Kernel

/-- The claims of the test file. -/
theorem claim : Cert.Claim := ⟨Cert.Kernel.Gen.facts, Cert.KernelIdeal.Gen.facts, Cert.ReferenceIdeal.Gen.facts, Cert.Experts.Gen.facts,
  Cert.ExpertsIdeal.Gen.facts, Cert.BlocksIdeal.Gen.facts, Cert.Pre_finite.Gen.facts, Cert.Pre_in_range.Gen.facts,
  Cert.Attn.frame_p, Cert.Attn.frame_pi, Cert.Attn.frame_pi_finite, Cert.Attn.frame_ri, Cert.Attn.frame_ri_finite,
  Cert.Moe.frame_experts, Cert.Moe.frame_expertsIdeal, Cert.Moe.frame_blocks, Cert.Moe.frame_blocks_in_range,
  Cert.Attn.preserves, Cert.Attn.algebraic, Cert.Moe.preserves_experts, Cert.Moe.algebraic_experts⟩

end Cert.Proof

end
